-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x4096x8x128 : Shape := ⟨4, ![8, 4096, 8, 128]⟩
abbrev S8 : Shape := ⟨1, ![8]⟩
abbrev S8x8x8x128 : Shape := ⟨4, ![8, 8, 8, 128]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S8x4096x8x128 .f32) (main_arg1 : FVec F S8x4096x8x128 .f32) (main_arg2 : IVec S8 32) (main_arg3 : FVec F S8x8x8x128 .f32) (main_arg4 : FVec F S8x8x8x128 .f32) (main_arg5 : IVec S8 32) : IVec S_ 1 :=
  let main_c : IVec S_ 32 := constantI S_ 32 0#32
  let main_v0 : IVec S8 32 := broadcastInDim S8 ![] bcast_S_S8 main_c
  let main_v1 : IVec S8 1 := cmpi .sge main_arg2 main_v0
  let main_c_0 : IVec S_ 1 := constantI S_ 1 1#1
  let main_v2 : IVec S_ 1 := (fun x v => Host.reduce IntOp.andi x v reducesTo_S8_S_d0 h_S_) main_v1 main_c_0
  let main_c_1 : IVec S_ 32 := constantI S_ 32 8#32
  let main_v3 : IVec S8 32 := broadcastInDim S8 ![] bcast_S_S8 main_c_1
  let main_v4 : IVec S8 1 := cmpi .sle main_arg5 main_v3
  let main_c_2 : IVec S_ 1 := constantI S_ 1 1#1
  let main_v5 : IVec S_ 1 := (fun x v => Host.reduce IntOp.andi x v reducesTo_S8_S_d0 h_S_) main_v4 main_c_2
  let main_v6 : IVec S_ 1 := andi main_v2 main_v5
  main_v6
-- ==== Kernel.lean ====
abbrev S8x4096x8x128 : Shape := ⟨4, ![8, 4096, 8, 128]⟩
abbrev S8 : Shape := ⟨1, ![8]⟩
abbrev S8x8x8x128 : Shape := ⟨4, ![8, 8, 8, 128]⟩
abbrev S_ : Shape := ⟨0, ![]⟩
abbrev S4x16x8x128 : Shape := ⟨4, ![4, 16, 8, 128]⟩
abbrev S16 : Shape := ⟨1, ![16]⟩
abbrev S1x16x8x128 : Shape := ⟨4, ![1, 16, 8, 128]⟩
abbrev S16x8x128 : Shape := ⟨3, ![16, 8, 128]⟩
abbrev S1 : Shape := ⟨1, ![1]⟩
abbrev S1x1x8x128 : Shape := ⟨4, ![1, 1, 8, 128]⟩
abbrev S1x8x128 : Shape := ⟨3, ![1, 8, 128]⟩
abbrev S1x1024x8x128 : Shape := ⟨4, ![1, 1024, 8, 128]⟩
abbrev S1x8x8x128 : Shape := ⟨4, ![1, 8, 8, 128]⟩

abbrev nBuf : Table → Nat
  | .hbm => 13
  | .local .tc .vmem => 6
  | .local .tc .smem => 3
  | .local .scVector .vmem => 3
  | _ => 0

abbrev bufTy : (tb : Table) → Fin (nBuf tb) → BufTy
  | .hbm, ⟨0, _⟩ => ⟨S8x4096x8x128, .f32⟩
  | .hbm, ⟨1, _⟩ => ⟨S8x4096x8x128, .f32⟩
  | .hbm, ⟨2, _⟩ => ⟨S8x8x8x128, .f32⟩
  | .hbm, ⟨3, _⟩ => ⟨S8x8x8x128, .f32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S_, .i32⟩
  | .hbm, ⟨8, _⟩ => ⟨S8, .i32⟩
  | .hbm, ⟨9, _⟩ => ⟨S8, .i32⟩
  | .hbm, ⟨10, _⟩ => ⟨S8x4096x8x128, .f32⟩
  | .hbm, ⟨11, _⟩ => ⟨S8x4096x8x128, .f32⟩
  | .hbm, ⟨12, _⟩ => ⟨S8, .i32⟩
  | .local .tc .vmem, ⟨0, _⟩ => ⟨S1x1024x8x128, .f32⟩
  | .local .tc .vmem, ⟨1, _⟩ => ⟨S1x1024x8x128, .f32⟩
  | .local .tc .vmem, ⟨2, _⟩ => ⟨S1x8x8x128, .f32⟩
  | .local .tc .vmem, ⟨3, _⟩ => ⟨S1x8x8x128, .f32⟩
  | .local .tc .vmem, ⟨4, _⟩ => ⟨S1x1024x8x128, .f32⟩
  | .local .tc .vmem, ⟨5, _⟩ => ⟨S1x1024x8x128, .f32⟩
  | .local .tc .smem, ⟨0, _⟩ => ⟨S8, .i32⟩
  | .local .tc .smem, ⟨1, _⟩ => ⟨S8, .i32⟩
  | .local .tc .smem, ⟨2, _⟩ => ⟨S8, .i32⟩
  | .local .scVector .vmem, ⟨0, _⟩ => ⟨S4x16x8x128, .f32⟩
  | .local .scVector .vmem, ⟨1, _⟩ => ⟨S16, .i32⟩
  | .local .scVector .vmem, ⟨2, _⟩ => ⟨S16, .i32⟩
  | _, _ => ⟨S8x4096x8x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨2, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 81 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => false
  | ⟨69, _⟩ => false
  | ⟨70, _⟩ => false
  | ⟨71, _⟩ => false
  | ⟨72, _⟩ => false
  | ⟨73, _⟩ => false
  | ⟨74, _⟩ => true
  | ⟨75, _⟩ => true
  | ⟨76, _⟩ => true
  | ⟨77, _⟩ => true
  | ⟨78, _⟩ => true
  | ⟨79, _⟩ => true
  | ⟨80, _⟩ => true
  | _ => false

abbrev sig : RefSig :=
  ofTables nBuf rfl bufTy 4 81 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_arg2 : Ref sig .tc := ⟨.smem, 0, rfl⟩
abbrev main_arg5 : Ref sig .tc := ⟨.smem, 1, rfl⟩
abbrev main_arg1_scv : Ref sig .scVector := ⟨.hbm, 1, rfl⟩
abbrev main_arg4_scv : Ref sig .scVector := ⟨.hbm, 3, rfl⟩
abbrev main_v1_scv : Ref sig .scVector := ⟨.hbm, 6, rfl⟩
abbrev main_v3_scv : Ref sig .scVector := ⟨.hbm, 9, rfl⟩
abbrev main_v4_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.smem, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 74
abbrev cc1_sem0_1 : DmaSem sig := 75
abbrev cc1_sem1_0 : DmaSem sig := 76
abbrev cc1_sem1_1 : DmaSem sig := 77
abbrev cc1_sem2_0 : DmaSem sig := 78
abbrev cc1_sem2_1 : DmaSem sig := 79
abbrev cc1_sem3_0 : DmaSem sig := 80
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_10 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v30 : BitVec 32 := Scalar.addi v29 c0_i32_10
  let c0_i32_15 : BitVec 32 := 0#32
  let c0_i32_16 : BitVec 32 := 0#32
  ![v18.toNat, v30.toNat, 0, 0]
def k0_off1_at (r : Fin 6) : BitVec 32 :=
  if r.val < 3 then
    if r.val < 1 then
      0#32
    else
      if r.val < 2 then
        16#32
      else
        960#32
  else
    if r.val < 4 then
      976#32
    else
      if r.val < 5 then
        992#32
      else
        1008#32
@[reducible] def k0_t1_loop : Scf.Loop 32 :=
  let c0_i32_33 : BitVec 32 := 0#32
  let c16_i32_34 : BitVec 32 := 16#32
  let v48 : BitVec 32 := Scalar.addi c0_i32_33 c16_i32_34
  let c1_i32_35 : BitVec 32 := 1#32
  ⟨c0_i32_33, v48, c1_i32_35⟩
def k0_off2 (i : grid0.Coords) (k0_t1 : Fin k0_t1_loop.trips) (c0_i32_399 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let c4_i32_398 : BitVec 32 := 4#32
  let c0_i32_33 : BitVec 32 := 0#32
  let c1_i32_35 : BitVec 32 := 1#32
  let arg18 : BitVec 32 := Scf.iv c0_i32_33 c1_i32_35 k0_t1
  let v825 : BitVec 32 := Scalar.muli c4_i32_398 arg18
  let v826 : BitVec 32 := Scalar.addi v825 c0_i32_399
  let c16_i32_400 : BitVec 32 := 16#32
  let v827 : BitVec 32 := Scalar.muli v826 c16_i32_400
  let v828 : BitVec 32 := Scalar.addi v29 v827
  let c0_i32_405 : BitVec 32 := 0#32
  let c0_i32_406 : BitVec 32 := 0#32
  ![v18.toNat, v828.toNat, 0, 0]
def k0_cond1 (k0_t1 : Fin k0_t1_loop.trips) : BitVec 1 :=
  let c4_i32_398 : BitVec 32 := 4#32
  let c0_i32_33 : BitVec 32 := 0#32
  let c1_i32_35 : BitVec 32 := 1#32
  let arg18 : BitVec 32 := Scf.iv c0_i32_33 c1_i32_35 k0_t1
  let v825 : BitVec 32 := Scalar.muli c4_i32_398 arg18
  let c0_i32_399 : BitVec 32 := 0#32
  let v826 : BitVec 32 := Scalar.addi v825 c0_i32_399
  let c2_i32_424 : BitVec 32 := 2#32
  let v847 : BitVec 32 := Scalar.addi v826 c2_i32_424
  let c64_i32 : BitVec 32 := 64#32
  let v848 : BitVec 1 := Scalar.cmpi .slt v847 c64_i32
  let v849 : BitVec 32 := Scalar.extui v848
  let c0_i32_425 : BitVec 32 := 0#32
  let v850 : BitVec 1 := Scalar.cmpi .ne v849 c0_i32_425
  v850

def k0_cond2 (k0_t1 : Fin k0_t1_loop.trips) : BitVec 1 :=
  let c4_i32_398 : BitVec 32 := 4#32
  let c0_i32_33 : BitVec 32 := 0#32
  let c1_i32_35 : BitVec 32 := 1#32
  let arg18 : BitVec 32 := Scf.iv c0_i32_33 c1_i32_35 k0_t1
  let v825 : BitVec 32 := Scalar.muli c4_i32_398 arg18
  let c0_i32_399 : BitVec 32 := 0#32
  let v826 : BitVec 32 := Scalar.addi v825 c0_i32_399
  let c2_i32_424 : BitVec 32 := 2#32
  let v847 : BitVec 32 := Scalar.addi v826 c2_i32_424
  let c4_i32_513 : BitVec 32 := 4#32
  let v929 : BitVec 1 := Scalar.cmpi .sge v847 c4_i32_513
  let v930 : BitVec 32 := Scalar.extui v929
  let c0_i32_514 : BitVec 32 := 0#32
  let v931 : BitVec 1 := Scalar.cmpi .ne v930 c0_i32_514
  v931

def k0_off3 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let c4_i32_398 : BitVec 32 := 4#32
  let c0_i32_33 : BitVec 32 := 0#32
  let c1_i32_35 : BitVec 32 := 1#32
  let arg18 : BitVec 32 := Scf.iv c0_i32_33 c1_i32_35 k0_t1
  let v825 : BitVec 32 := Scalar.muli c4_i32_398 arg18
  let c0_i32_399 : BitVec 32 := 0#32
  let v826 : BitVec 32 := Scalar.addi v825 c0_i32_399
  let c2_i32_424 : BitVec 32 := 2#32
  let v847 : BitVec 32 := Scalar.addi v826 c2_i32_424
  let c4_i32_527 : BitVec 32 := 4#32
  let v942 : BitVec 32 := Scalar.subi v847 c4_i32_527
  let c16_i32_528 : BitVec 32 := 16#32
  let v943 : BitVec 32 := Scalar.muli v942 c16_i32_528
  let v944 : BitVec 32 := Scalar.addi v29 v943
  let c0_i32_533 : BitVec 32 := 0#32
  let c0_i32_534 : BitVec 32 := 0#32
  ![v18.toNat, v944.toNat, 0, 0]
def k0_off4 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let c4_i32_398 : BitVec 32 := 4#32
  let c0_i32_33 : BitVec 32 := 0#32
  let c1_i32_35 : BitVec 32 := 1#32
  let arg18 : BitVec 32 := Scf.iv c0_i32_33 c1_i32_35 k0_t1
  let v825 : BitVec 32 := Scalar.muli c4_i32_398 arg18
  let c0_i32_399 : BitVec 32 := 0#32
  let v826 : BitVec 32 := Scalar.addi v825 c0_i32_399
  let c2_i32_424 : BitVec 32 := 2#32
  let v847 : BitVec 32 := Scalar.addi v826 c2_i32_424
  let c16_i32_515 : BitVec 32 := 16#32
  let v932 : BitVec 32 := Scalar.muli v847 c16_i32_515
  let v933 : BitVec 32 := Scalar.addi v29 v932
  let c0_i32_520 : BitVec 32 := 0#32
  let c0_i32_521 : BitVec 32 := 0#32
  ![v18.toNat, v933.toNat, 0, 0]
def k0_cond3 (k0_t1 : Fin k0_t1_loop.trips) : BitVec 1 :=
  let c4_i32_426 : BitVec 32 := 4#32
  let c0_i32_33 : BitVec 32 := 0#32
  let c1_i32_35 : BitVec 32 := 1#32
  let arg18 : BitVec 32 := Scf.iv c0_i32_33 c1_i32_35 k0_t1
  let v851 : BitVec 32 := Scalar.muli c4_i32_426 arg18
  let c1_i32_427 : BitVec 32 := 1#32
  let v852 : BitVec 32 := Scalar.addi v851 c1_i32_427
  let c2_i32_452 : BitVec 32 := 2#32
  let v873 : BitVec 32 := Scalar.addi v852 c2_i32_452
  let c64_i32_453 : BitVec 32 := 64#32
  let v874 : BitVec 1 := Scalar.cmpi .slt v873 c64_i32_453
  let v875 : BitVec 32 := Scalar.extui v874
  let c0_i32_454 : BitVec 32 := 0#32
  let v876 : BitVec 1 := Scalar.cmpi .ne v875 c0_i32_454
  v876

def k0_cond4 (k0_t1 : Fin k0_t1_loop.trips) : BitVec 1 :=
  let c4_i32_426 : BitVec 32 := 4#32
  let c0_i32_33 : BitVec 32 := 0#32
  let c1_i32_35 : BitVec 32 := 1#32
  let arg18 : BitVec 32 := Scf.iv c0_i32_33 c1_i32_35 k0_t1
  let v851 : BitVec 32 := Scalar.muli c4_i32_426 arg18
  let c1_i32_427 : BitVec 32 := 1#32
  let v852 : BitVec 32 := Scalar.addi v851 c1_i32_427
  let c2_i32_452 : BitVec 32 := 2#32
  let v873 : BitVec 32 := Scalar.addi v852 c2_i32_452
  let c4_i32_513 : BitVec 32 := 4#32
  let v929 : BitVec 1 := Scalar.cmpi .sge v873 c4_i32_513
  let v930 : BitVec 32 := Scalar.extui v929
  let c0_i32_514 : BitVec 32 := 0#32
  let v931 : BitVec 1 := Scalar.cmpi .ne v930 c0_i32_514
  v931

def k0_off5 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let c4_i32_426 : BitVec 32 := 4#32
  let c0_i32_33 : BitVec 32 := 0#32
  let c1_i32_35 : BitVec 32 := 1#32
  let arg18 : BitVec 32 := Scf.iv c0_i32_33 c1_i32_35 k0_t1
  let v851 : BitVec 32 := Scalar.muli c4_i32_426 arg18
  let c1_i32_427 : BitVec 32 := 1#32
  let v852 : BitVec 32 := Scalar.addi v851 c1_i32_427
  let c2_i32_452 : BitVec 32 := 2#32
  let v873 : BitVec 32 := Scalar.addi v852 c2_i32_452
  let c4_i32_527 : BitVec 32 := 4#32
  let v942 : BitVec 32 := Scalar.subi v873 c4_i32_527
  let c16_i32_528 : BitVec 32 := 16#32
  let v943 : BitVec 32 := Scalar.muli v942 c16_i32_528
  let v944 : BitVec 32 := Scalar.addi v29 v943
  let c0_i32_533 : BitVec 32 := 0#32
  let c0_i32_534 : BitVec 32 := 0#32
  ![v18.toNat, v944.toNat, 0, 0]
def k0_off6 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let c4_i32_426 : BitVec 32 := 4#32
  let c0_i32_33 : BitVec 32 := 0#32
  let c1_i32_35 : BitVec 32 := 1#32
  let arg18 : BitVec 32 := Scf.iv c0_i32_33 c1_i32_35 k0_t1
  let v851 : BitVec 32 := Scalar.muli c4_i32_426 arg18
  let c1_i32_427 : BitVec 32 := 1#32
  let v852 : BitVec 32 := Scalar.addi v851 c1_i32_427
  let c2_i32_452 : BitVec 32 := 2#32
  let v873 : BitVec 32 := Scalar.addi v852 c2_i32_452
  let c16_i32_515 : BitVec 32 := 16#32
  let v932 : BitVec 32 := Scalar.muli v873 c16_i32_515
  let v933 : BitVec 32 := Scalar.addi v29 v932
  let c0_i32_520 : BitVec 32 := 0#32
  let c0_i32_521 : BitVec 32 := 0#32
  ![v18.toNat, v933.toNat, 0, 0]
def k0_cond5 (k0_t1 : Fin k0_t1_loop.trips) : BitVec 1 :=
  let c4_i32_455 : BitVec 32 := 4#32
  let c0_i32_33 : BitVec 32 := 0#32
  let c1_i32_35 : BitVec 32 := 1#32
  let arg18 : BitVec 32 := Scf.iv c0_i32_33 c1_i32_35 k0_t1
  let v877 : BitVec 32 := Scalar.muli c4_i32_455 arg18
  let c2_i32_456 : BitVec 32 := 2#32
  let v878 : BitVec 32 := Scalar.addi v877 c2_i32_456
  let c2_i32_481 : BitVec 32 := 2#32
  let v899 : BitVec 32 := Scalar.addi v878 c2_i32_481
  let c64_i32_482 : BitVec 32 := 64#32
  let v900 : BitVec 1 := Scalar.cmpi .slt v899 c64_i32_482
  let v901 : BitVec 32 := Scalar.extui v900
  let c0_i32_483 : BitVec 32 := 0#32
  let v902 : BitVec 1 := Scalar.cmpi .ne v901 c0_i32_483
  v902

def k0_cond6 (k0_t1 : Fin k0_t1_loop.trips) : BitVec 1 :=
  let c4_i32_455 : BitVec 32 := 4#32
  let c0_i32_33 : BitVec 32 := 0#32
  let c1_i32_35 : BitVec 32 := 1#32
  let arg18 : BitVec 32 := Scf.iv c0_i32_33 c1_i32_35 k0_t1
  let v877 : BitVec 32 := Scalar.muli c4_i32_455 arg18
  let c2_i32_456 : BitVec 32 := 2#32
  let v878 : BitVec 32 := Scalar.addi v877 c2_i32_456
  let c2_i32_481 : BitVec 32 := 2#32
  let v899 : BitVec 32 := Scalar.addi v878 c2_i32_481
  let c4_i32_513 : BitVec 32 := 4#32
  let v929 : BitVec 1 := Scalar.cmpi .sge v899 c4_i32_513
  let v930 : BitVec 32 := Scalar.extui v929
  let c0_i32_514 : BitVec 32 := 0#32
  let v931 : BitVec 1 := Scalar.cmpi .ne v930 c0_i32_514
  v931

def k0_off7 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let c4_i32_455 : BitVec 32 := 4#32
  let c0_i32_33 : BitVec 32 := 0#32
  let c1_i32_35 : BitVec 32 := 1#32
  let arg18 : BitVec 32 := Scf.iv c0_i32_33 c1_i32_35 k0_t1
  let v877 : BitVec 32 := Scalar.muli c4_i32_455 arg18
  let c2_i32_456 : BitVec 32 := 2#32
  let v878 : BitVec 32 := Scalar.addi v877 c2_i32_456
  let c2_i32_481 : BitVec 32 := 2#32
  let v899 : BitVec 32 := Scalar.addi v878 c2_i32_481
  let c4_i32_527 : BitVec 32 := 4#32
  let v942 : BitVec 32 := Scalar.subi v899 c4_i32_527
  let c16_i32_528 : BitVec 32 := 16#32
  let v943 : BitVec 32 := Scalar.muli v942 c16_i32_528
  let v944 : BitVec 32 := Scalar.addi v29 v943
  let c0_i32_533 : BitVec 32 := 0#32
  let c0_i32_534 : BitVec 32 := 0#32
  ![v18.toNat, v944.toNat, 0, 0]
def k0_off8 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let c4_i32_455 : BitVec 32 := 4#32
  let c0_i32_33 : BitVec 32 := 0#32
  let c1_i32_35 : BitVec 32 := 1#32
  let arg18 : BitVec 32 := Scf.iv c0_i32_33 c1_i32_35 k0_t1
  let v877 : BitVec 32 := Scalar.muli c4_i32_455 arg18
  let c2_i32_456 : BitVec 32 := 2#32
  let v878 : BitVec 32 := Scalar.addi v877 c2_i32_456
  let c2_i32_481 : BitVec 32 := 2#32
  let v899 : BitVec 32 := Scalar.addi v878 c2_i32_481
  let c16_i32_515 : BitVec 32 := 16#32
  let v932 : BitVec 32 := Scalar.muli v899 c16_i32_515
  let v933 : BitVec 32 := Scalar.addi v29 v932
  let c0_i32_520 : BitVec 32 := 0#32
  let c0_i32_521 : BitVec 32 := 0#32
  ![v18.toNat, v933.toNat, 0, 0]
def k0_cond7 (k0_t1 : Fin k0_t1_loop.trips) : BitVec 1 :=
  let c4_i32_484 : BitVec 32 := 4#32
  let c0_i32_33 : BitVec 32 := 0#32
  let c1_i32_35 : BitVec 32 := 1#32
  let arg18 : BitVec 32 := Scf.iv c0_i32_33 c1_i32_35 k0_t1
  let v903 : BitVec 32 := Scalar.muli c4_i32_484 arg18
  let c3_i32_485 : BitVec 32 := 3#32
  let v904 : BitVec 32 := Scalar.addi v903 c3_i32_485
  let c2_i32_510 : BitVec 32 := 2#32
  let v925 : BitVec 32 := Scalar.addi v904 c2_i32_510
  let c64_i32_511 : BitVec 32 := 64#32
  let v926 : BitVec 1 := Scalar.cmpi .slt v925 c64_i32_511
  let v927 : BitVec 32 := Scalar.extui v926
  let c0_i32_512 : BitVec 32 := 0#32
  let v928 : BitVec 1 := Scalar.cmpi .ne v927 c0_i32_512
  v928

def k0_cond8 (k0_t1 : Fin k0_t1_loop.trips) : BitVec 1 :=
  let c4_i32_484 : BitVec 32 := 4#32
  let c0_i32_33 : BitVec 32 := 0#32
  let c1_i32_35 : BitVec 32 := 1#32
  let arg18 : BitVec 32 := Scf.iv c0_i32_33 c1_i32_35 k0_t1
  let v903 : BitVec 32 := Scalar.muli c4_i32_484 arg18
  let c3_i32_485 : BitVec 32 := 3#32
  let v904 : BitVec 32 := Scalar.addi v903 c3_i32_485
  let c2_i32_510 : BitVec 32 := 2#32
  let v925 : BitVec 32 := Scalar.addi v904 c2_i32_510
  let c4_i32_513 : BitVec 32 := 4#32
  let v929 : BitVec 1 := Scalar.cmpi .sge v925 c4_i32_513
  let v930 : BitVec 32 := Scalar.extui v929
  let c0_i32_514 : BitVec 32 := 0#32
  let v931 : BitVec 1 := Scalar.cmpi .ne v930 c0_i32_514
  v931

def k0_off9 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let c4_i32_484 : BitVec 32 := 4#32
  let c0_i32_33 : BitVec 32 := 0#32
  let c1_i32_35 : BitVec 32 := 1#32
  let arg18 : BitVec 32 := Scf.iv c0_i32_33 c1_i32_35 k0_t1
  let v903 : BitVec 32 := Scalar.muli c4_i32_484 arg18
  let c3_i32_485 : BitVec 32 := 3#32
  let v904 : BitVec 32 := Scalar.addi v903 c3_i32_485
  let c2_i32_510 : BitVec 32 := 2#32
  let v925 : BitVec 32 := Scalar.addi v904 c2_i32_510
  let c4_i32_527 : BitVec 32 := 4#32
  let v942 : BitVec 32 := Scalar.subi v925 c4_i32_527
  let c16_i32_528 : BitVec 32 := 16#32
  let v943 : BitVec 32 := Scalar.muli v942 c16_i32_528
  let v944 : BitVec 32 := Scalar.addi v29 v943
  let c0_i32_533 : BitVec 32 := 0#32
  let c0_i32_534 : BitVec 32 := 0#32
  ![v18.toNat, v944.toNat, 0, 0]
def k0_off10 (i : grid0.Coords) (k0_t1 : Fin k0_t1_loop.trips) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let c4_i32_484 : BitVec 32 := 4#32
  let c0_i32_33 : BitVec 32 := 0#32
  let c1_i32_35 : BitVec 32 := 1#32
  let arg18 : BitVec 32 := Scf.iv c0_i32_33 c1_i32_35 k0_t1
  let v903 : BitVec 32 := Scalar.muli c4_i32_484 arg18
  let c3_i32_485 : BitVec 32 := 3#32
  let v904 : BitVec 32 := Scalar.addi v903 c3_i32_485
  let c2_i32_510 : BitVec 32 := 2#32
  let v925 : BitVec 32 := Scalar.addi v904 c2_i32_510
  let c16_i32_515 : BitVec 32 := 16#32
  let v932 : BitVec 32 := Scalar.muli v925 c16_i32_515
  let v933 : BitVec 32 := Scalar.addi v29 v932
  let c0_i32_520 : BitVec 32 := 0#32
  let c0_i32_521 : BitVec 32 := 0#32
  ![v18.toNat, v933.toNat, 0, 0]
def k0_off11 (v90 : BitVec 32) : Fin 4 → Nat :=
  let c0_i32_399 : BitVec 32 := 0#32
  let c0_i32_81 : BitVec 32 := 0#32
  let v93 : BitVec 32 := Scalar.addi v90 c0_i32_81
  let c0_i32_400_r2 : BitVec 32 := 0#32
  let c0_i32_401_r2 : BitVec 32 := 0#32
  ![0, v93.toNat, 0, 0]
def k0_cond9 (i : grid0.Coords) (v90 : BitVec 32) (v92 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_82 : BitVec 32 := 0#32
  let v94 : BitVec 1 := Scalar.cmpi .eq v18 c0_i32_82
  let c0_i32_83 : BitVec 32 := 0#32
  let v95 : BitVec 1 := Scalar.cmpi .sgt v92 c0_i32_83
  let v96 : BitVec 1 := Scalar.andi v94 v95
  let c0_i32_81 : BitVec 32 := 0#32
  let v93 : BitVec 32 := Scalar.addi v90 c0_i32_81
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v97 : BitVec 1 := Scalar.cmpi .sge v93 v29
  let v98 : BitVec 1 := Scalar.andi v96 v97
  let c1024_i32_84 : BitVec 32 := 1024#32
  let v99 : BitVec 32 := Scalar.addi v29 c1024_i32_84
  let v100 : BitVec 1 := Scalar.cmpi .slt v93 v99
  let v101 : BitVec 1 := Scalar.andi v98 v100
  let v102 : BitVec 32 := Scalar.extui v101
  let c0_i32_85 : BitVec 32 := 0#32
  let v103 : BitVec 1 := Scalar.cmpi .ne v102 c0_i32_85
  v103

def k0_off12 (v90 : BitVec 32) : Fin 4 → Nat :=
  let c0_i32_399 : BitVec 32 := 0#32
  let c1_i32_86 : BitVec 32 := 1#32
  let v104 : BitVec 32 := Scalar.addi v90 c1_i32_86
  let c0_i32_400_r3 : BitVec 32 := 0#32
  let c0_i32_401_r3 : BitVec 32 := 0#32
  ![0, v104.toNat, 0, 0]
def k0_cond10 (i : grid0.Coords) (v90 : BitVec 32) (v92 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_87 : BitVec 32 := 0#32
  let v105 : BitVec 1 := Scalar.cmpi .eq v18 c0_i32_87
  let c1_i32_88 : BitVec 32 := 1#32
  let v106 : BitVec 1 := Scalar.cmpi .sgt v92 c1_i32_88
  let v107 : BitVec 1 := Scalar.andi v105 v106
  let c1_i32_86 : BitVec 32 := 1#32
  let v104 : BitVec 32 := Scalar.addi v90 c1_i32_86
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v108 : BitVec 1 := Scalar.cmpi .sge v104 v29
  let v109 : BitVec 1 := Scalar.andi v107 v108
  let c1024_i32_89 : BitVec 32 := 1024#32
  let v110 : BitVec 32 := Scalar.addi v29 c1024_i32_89
  let v111 : BitVec 1 := Scalar.cmpi .slt v104 v110
  let v112 : BitVec 1 := Scalar.andi v109 v111
  let v113 : BitVec 32 := Scalar.extui v112
  let c0_i32_90 : BitVec 32 := 0#32
  let v114 : BitVec 1 := Scalar.cmpi .ne v113 c0_i32_90
  v114

def k0_off13 (v90 : BitVec 32) : Fin 4 → Nat :=
  let c0_i32_399 : BitVec 32 := 0#32
  let c2_i32_91 : BitVec 32 := 2#32
  let v115 : BitVec 32 := Scalar.addi v90 c2_i32_91
  let c0_i32_400_r4 : BitVec 32 := 0#32
  let c0_i32_401_r4 : BitVec 32 := 0#32
  ![0, v115.toNat, 0, 0]
def k0_cond11 (i : grid0.Coords) (v90 : BitVec 32) (v92 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_92 : BitVec 32 := 0#32
  let v116 : BitVec 1 := Scalar.cmpi .eq v18 c0_i32_92
  let c2_i32_93 : BitVec 32 := 2#32
  let v117 : BitVec 1 := Scalar.cmpi .sgt v92 c2_i32_93
  let v118 : BitVec 1 := Scalar.andi v116 v117
  let c2_i32_91 : BitVec 32 := 2#32
  let v115 : BitVec 32 := Scalar.addi v90 c2_i32_91
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v119 : BitVec 1 := Scalar.cmpi .sge v115 v29
  let v120 : BitVec 1 := Scalar.andi v118 v119
  let c1024_i32_94 : BitVec 32 := 1024#32
  let v121 : BitVec 32 := Scalar.addi v29 c1024_i32_94
  let v122 : BitVec 1 := Scalar.cmpi .slt v115 v121
  let v123 : BitVec 1 := Scalar.andi v120 v122
  let v124 : BitVec 32 := Scalar.extui v123
  let c0_i32_95 : BitVec 32 := 0#32
  let v125 : BitVec 1 := Scalar.cmpi .ne v124 c0_i32_95
  v125

def k0_off14 (v90 : BitVec 32) : Fin 4 → Nat :=
  let c0_i32_399 : BitVec 32 := 0#32
  let c3_i32_96 : BitVec 32 := 3#32
  let v126 : BitVec 32 := Scalar.addi v90 c3_i32_96
  let c0_i32_400_r5 : BitVec 32 := 0#32
  let c0_i32_401_r5 : BitVec 32 := 0#32
  ![0, v126.toNat, 0, 0]
def k0_cond12 (i : grid0.Coords) (v90 : BitVec 32) (v92 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_97 : BitVec 32 := 0#32
  let v127 : BitVec 1 := Scalar.cmpi .eq v18 c0_i32_97
  let c3_i32_98 : BitVec 32 := 3#32
  let v128 : BitVec 1 := Scalar.cmpi .sgt v92 c3_i32_98
  let v129 : BitVec 1 := Scalar.andi v127 v128
  let c3_i32_96 : BitVec 32 := 3#32
  let v126 : BitVec 32 := Scalar.addi v90 c3_i32_96
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v130 : BitVec 1 := Scalar.cmpi .sge v126 v29
  let v131 : BitVec 1 := Scalar.andi v129 v130
  let c1024_i32_99 : BitVec 32 := 1024#32
  let v132 : BitVec 32 := Scalar.addi v29 c1024_i32_99
  let v133 : BitVec 1 := Scalar.cmpi .slt v126 v132
  let v134 : BitVec 1 := Scalar.andi v131 v133
  let v135 : BitVec 32 := Scalar.extui v134
  let c0_i32_100 : BitVec 32 := 0#32
  let v136 : BitVec 1 := Scalar.cmpi .ne v135 c0_i32_100
  v136

def k0_off15 (v90 : BitVec 32) : Fin 4 → Nat :=
  let c0_i32_399 : BitVec 32 := 0#32
  let c4_i32_101 : BitVec 32 := 4#32
  let v137 : BitVec 32 := Scalar.addi v90 c4_i32_101
  let c0_i32_400_r6 : BitVec 32 := 0#32
  let c0_i32_401_r6 : BitVec 32 := 0#32
  ![0, v137.toNat, 0, 0]
def k0_cond13 (i : grid0.Coords) (v90 : BitVec 32) (v92 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_102 : BitVec 32 := 0#32
  let v138 : BitVec 1 := Scalar.cmpi .eq v18 c0_i32_102
  let c4_i32_103 : BitVec 32 := 4#32
  let v139 : BitVec 1 := Scalar.cmpi .sgt v92 c4_i32_103
  let v140 : BitVec 1 := Scalar.andi v138 v139
  let c4_i32_101 : BitVec 32 := 4#32
  let v137 : BitVec 32 := Scalar.addi v90 c4_i32_101
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v141 : BitVec 1 := Scalar.cmpi .sge v137 v29
  let v142 : BitVec 1 := Scalar.andi v140 v141
  let c1024_i32_104 : BitVec 32 := 1024#32
  let v143 : BitVec 32 := Scalar.addi v29 c1024_i32_104
  let v144 : BitVec 1 := Scalar.cmpi .slt v137 v143
  let v145 : BitVec 1 := Scalar.andi v142 v144
  let v146 : BitVec 32 := Scalar.extui v145
  let c0_i32_105 : BitVec 32 := 0#32
  let v147 : BitVec 1 := Scalar.cmpi .ne v146 c0_i32_105
  v147

def k0_off16 (v90 : BitVec 32) : Fin 4 → Nat :=
  let c0_i32_399 : BitVec 32 := 0#32
  let c5_i32 : BitVec 32 := 5#32
  let v148 : BitVec 32 := Scalar.addi v90 c5_i32
  let c0_i32_400_r7 : BitVec 32 := 0#32
  let c0_i32_401_r7 : BitVec 32 := 0#32
  ![0, v148.toNat, 0, 0]
def k0_cond14 (i : grid0.Coords) (v90 : BitVec 32) (v92 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_106 : BitVec 32 := 0#32
  let v149 : BitVec 1 := Scalar.cmpi .eq v18 c0_i32_106
  let c5_i32_107 : BitVec 32 := 5#32
  let v150 : BitVec 1 := Scalar.cmpi .sgt v92 c5_i32_107
  let v151 : BitVec 1 := Scalar.andi v149 v150
  let c5_i32 : BitVec 32 := 5#32
  let v148 : BitVec 32 := Scalar.addi v90 c5_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v152 : BitVec 1 := Scalar.cmpi .sge v148 v29
  let v153 : BitVec 1 := Scalar.andi v151 v152
  let c1024_i32_108 : BitVec 32 := 1024#32
  let v154 : BitVec 32 := Scalar.addi v29 c1024_i32_108
  let v155 : BitVec 1 := Scalar.cmpi .slt v148 v154
  let v156 : BitVec 1 := Scalar.andi v153 v155
  let v157 : BitVec 32 := Scalar.extui v156
  let c0_i32_109 : BitVec 32 := 0#32
  let v158 : BitVec 1 := Scalar.cmpi .ne v157 c0_i32_109
  v158

def k0_off17 (v90 : BitVec 32) : Fin 4 → Nat :=
  let c0_i32_399 : BitVec 32 := 0#32
  let c6_i32 : BitVec 32 := 6#32
  let v159 : BitVec 32 := Scalar.addi v90 c6_i32
  let c0_i32_400_r8 : BitVec 32 := 0#32
  let c0_i32_401_r8 : BitVec 32 := 0#32
  ![0, v159.toNat, 0, 0]
def k0_cond15 (i : grid0.Coords) (v90 : BitVec 32) (v92 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_110 : BitVec 32 := 0#32
  let v160 : BitVec 1 := Scalar.cmpi .eq v18 c0_i32_110
  let c6_i32_111 : BitVec 32 := 6#32
  let v161 : BitVec 1 := Scalar.cmpi .sgt v92 c6_i32_111
  let v162 : BitVec 1 := Scalar.andi v160 v161
  let c6_i32 : BitVec 32 := 6#32
  let v159 : BitVec 32 := Scalar.addi v90 c6_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v163 : BitVec 1 := Scalar.cmpi .sge v159 v29
  let v164 : BitVec 1 := Scalar.andi v162 v163
  let c1024_i32_112 : BitVec 32 := 1024#32
  let v165 : BitVec 32 := Scalar.addi v29 c1024_i32_112
  let v166 : BitVec 1 := Scalar.cmpi .slt v159 v165
  let v167 : BitVec 1 := Scalar.andi v164 v166
  let v168 : BitVec 32 := Scalar.extui v167
  let c0_i32_113 : BitVec 32 := 0#32
  let v169 : BitVec 1 := Scalar.cmpi .ne v168 c0_i32_113
  v169

def k0_off18 (v90 : BitVec 32) : Fin 4 → Nat :=
  let c0_i32_399 : BitVec 32 := 0#32
  let c7_i32 : BitVec 32 := 7#32
  let v170 : BitVec 32 := Scalar.addi v90 c7_i32
  let c0_i32_400_r9 : BitVec 32 := 0#32
  let c0_i32_401_r9 : BitVec 32 := 0#32
  ![0, v170.toNat, 0, 0]
def k0_cond16 (i : grid0.Coords) (v90 : BitVec 32) (v92 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c0_i32_114 : BitVec 32 := 0#32
  let v171 : BitVec 1 := Scalar.cmpi .eq v18 c0_i32_114
  let c7_i32_115 : BitVec 32 := 7#32
  let v172 : BitVec 1 := Scalar.cmpi .sgt v92 c7_i32_115
  let v173 : BitVec 1 := Scalar.andi v171 v172
  let c7_i32 : BitVec 32 := 7#32
  let v170 : BitVec 32 := Scalar.addi v90 c7_i32
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v174 : BitVec 1 := Scalar.cmpi .sge v170 v29
  let v175 : BitVec 1 := Scalar.andi v173 v174
  let c1024_i32_116 : BitVec 32 := 1024#32
  let v176 : BitVec 32 := Scalar.addi v29 c1024_i32_116
  let v177 : BitVec 1 := Scalar.cmpi .slt v170 v176
  let v178 : BitVec 1 := Scalar.andi v175 v177
  let v179 : BitVec 32 := Scalar.extui v178
  let c0_i32_117 : BitVec 32 := 0#32
  let v180 : BitVec 1 := Scalar.cmpi .ne v179 c0_i32_117
  v180

def k0_chk1 (i : grid0.Coords) (v90 : BitVec 32) (v92 : BitVec 32) : Prop :=
  (∀ (k0_h9 : k0_cond9 i v90 v92 = 1#1), ∀ a, (k0_off11 v90) a + S1x1x8x128.size a ≤ S8x4096x8x128.size a) ∧
  (∀ (k0_h10 : k0_cond10 i v90 v92 = 1#1), ∀ a, (k0_off12 v90) a + S1x1x8x128.size a ≤ S8x4096x8x128.size a) ∧
  (∀ (k0_h11 : k0_cond11 i v90 v92 = 1#1), ∀ a, (k0_off13 v90) a + S1x1x8x128.size a ≤ S8x4096x8x128.size a) ∧
  (∀ (k0_h12 : k0_cond12 i v90 v92 = 1#1), ∀ a, (k0_off14 v90) a + S1x1x8x128.size a ≤ S8x4096x8x128.size a) ∧
  (∀ (k0_h13 : k0_cond13 i v90 v92 = 1#1), ∀ a, (k0_off15 v90) a + S1x1x8x128.size a ≤ S8x4096x8x128.size a) ∧
  (∀ (k0_h14 : k0_cond14 i v90 v92 = 1#1), ∀ a, (k0_off16 v90) a + S1x1x8x128.size a ≤ S8x4096x8x128.size a) ∧
  (∀ (k0_h15 : k0_cond15 i v90 v92 = 1#1), ∀ a, (k0_off17 v90) a + S1x1x8x128.size a ≤ S8x4096x8x128.size a) ∧
  (∀ (k0_h16 : k0_cond16 i v90 v92 = 1#1), ∀ a, (k0_off18 v90) a + S1x1x8x128.size a ≤ S8x4096x8x128.size a)
theorem k0_off11_inb : ∀ (i : grid0.Coords) (v90 : BitVec 32) (v92 : BitVec 32) (k0_hw1 : k0_chk1 i v90 v92), ∀ (k0_h9 : k0_cond9 i v90 v92 = 1#1), ∀ a, (k0_off11 v90) a + S1x1x8x128.size a ≤ S8x4096x8x128.size a := fun i v90 v92 k0_hw1 k0_h9 => k0_hw1.1 k0_h9
theorem k0_off12_inb : ∀ (i : grid0.Coords) (v90 : BitVec 32) (v92 : BitVec 32) (k0_hw1 : k0_chk1 i v90 v92), ∀ (k0_h10 : k0_cond10 i v90 v92 = 1#1), ∀ a, (k0_off12 v90) a + S1x1x8x128.size a ≤ S8x4096x8x128.size a := fun i v90 v92 k0_hw1 k0_h10 => k0_hw1.2.1 k0_h10
theorem k0_off13_inb : ∀ (i : grid0.Coords) (v90 : BitVec 32) (v92 : BitVec 32) (k0_hw1 : k0_chk1 i v90 v92), ∀ (k0_h11 : k0_cond11 i v90 v92 = 1#1), ∀ a, (k0_off13 v90) a + S1x1x8x128.size a ≤ S8x4096x8x128.size a := fun i v90 v92 k0_hw1 k0_h11 => k0_hw1.2.2.1 k0_h11
theorem k0_off14_inb : ∀ (i : grid0.Coords) (v90 : BitVec 32) (v92 : BitVec 32) (k0_hw1 : k0_chk1 i v90 v92), ∀ (k0_h12 : k0_cond12 i v90 v92 = 1#1), ∀ a, (k0_off14 v90) a + S1x1x8x128.size a ≤ S8x4096x8x128.size a := fun i v90 v92 k0_hw1 k0_h12 => k0_hw1.2.2.2.1 k0_h12
theorem k0_off15_inb : ∀ (i : grid0.Coords) (v90 : BitVec 32) (v92 : BitVec 32) (k0_hw1 : k0_chk1 i v90 v92), ∀ (k0_h13 : k0_cond13 i v90 v92 = 1#1), ∀ a, (k0_off15 v90) a + S1x1x8x128.size a ≤ S8x4096x8x128.size a := fun i v90 v92 k0_hw1 k0_h13 => k0_hw1.2.2.2.2.1 k0_h13
theorem k0_off16_inb : ∀ (i : grid0.Coords) (v90 : BitVec 32) (v92 : BitVec 32) (k0_hw1 : k0_chk1 i v90 v92), ∀ (k0_h14 : k0_cond14 i v90 v92 = 1#1), ∀ a, (k0_off16 v90) a + S1x1x8x128.size a ≤ S8x4096x8x128.size a := fun i v90 v92 k0_hw1 k0_h14 => k0_hw1.2.2.2.2.2.1 k0_h14
theorem k0_off17_inb : ∀ (i : grid0.Coords) (v90 : BitVec 32) (v92 : BitVec 32) (k0_hw1 : k0_chk1 i v90 v92), ∀ (k0_h15 : k0_cond15 i v90 v92 = 1#1), ∀ a, (k0_off17 v90) a + S1x1x8x128.size a ≤ S8x4096x8x128.size a := fun i v90 v92 k0_hw1 k0_h15 => k0_hw1.2.2.2.2.2.2.1 k0_h15
theorem k0_off18_inb : ∀ (i : grid0.Coords) (v90 : BitVec 32) (v92 : BitVec 32) (k0_hw1 : k0_chk1 i v90 v92), ∀ (k0_h16 : k0_cond16 i v90 v92 = 1#1), ∀ a, (k0_off18 v90) a + S1x1x8x128.size a ≤ S8x4096x8x128.size a := fun i v90 v92 k0_hw1 k0_h16 => k0_hw1.2.2.2.2.2.2.2 k0_h16

def k0_off19 (v182 : BitVec 32) : Fin 4 → Nat :=
  let c1_i32_399 : BitVec 32 := 1#32
  let c0_i32_118 : BitVec 32 := 0#32
  let v185 : BitVec 32 := Scalar.addi v182 c0_i32_118
  let c0_i32_400_r10 : BitVec 32 := 0#32
  let c0_i32_401_r10 : BitVec 32 := 0#32
  ![1, v185.toNat, 0, 0]
def k0_cond17 (i : grid0.Coords) (v182 : BitVec 32) (v184 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_119 : BitVec 32 := 1#32
  let v186 : BitVec 1 := Scalar.cmpi .eq v18 c1_i32_119
  let c0_i32_120 : BitVec 32 := 0#32
  let v187 : BitVec 1 := Scalar.cmpi .sgt v184 c0_i32_120
  let v188 : BitVec 1 := Scalar.andi v186 v187
  let c0_i32_118 : BitVec 32 := 0#32
  let v185 : BitVec 32 := Scalar.addi v182 c0_i32_118
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v189 : BitVec 1 := Scalar.cmpi .sge v185 v29
  let v190 : BitVec 1 := Scalar.andi v188 v189
  let c1024_i32_121 : BitVec 32 := 1024#32
  let v191 : BitVec 32 := Scalar.addi v29 c1024_i32_121
  let v192 : BitVec 1 := Scalar.cmpi .slt v185 v191
  let v193 : BitVec 1 := Scalar.andi v190 v192
  let v194 : BitVec 32 := Scalar.extui v193
  let c0_i32_122 : BitVec 32 := 0#32
  let v195 : BitVec 1 := Scalar.cmpi .ne v194 c0_i32_122
  v195

def k0_off20 (v182 : BitVec 32) : Fin 4 → Nat :=
  let c1_i32_399 : BitVec 32 := 1#32
  let c1_i32_123 : BitVec 32 := 1#32
  let v196 : BitVec 32 := Scalar.addi v182 c1_i32_123
  let c0_i32_400_r11 : BitVec 32 := 0#32
  let c0_i32_401_r11 : BitVec 32 := 0#32
  ![1, v196.toNat, 0, 0]
def k0_cond18 (i : grid0.Coords) (v182 : BitVec 32) (v184 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_124 : BitVec 32 := 1#32
  let v197 : BitVec 1 := Scalar.cmpi .eq v18 c1_i32_124
  let c1_i32_125 : BitVec 32 := 1#32
  let v198 : BitVec 1 := Scalar.cmpi .sgt v184 c1_i32_125
  let v199 : BitVec 1 := Scalar.andi v197 v198
  let c1_i32_123 : BitVec 32 := 1#32
  let v196 : BitVec 32 := Scalar.addi v182 c1_i32_123
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v200 : BitVec 1 := Scalar.cmpi .sge v196 v29
  let v201 : BitVec 1 := Scalar.andi v199 v200
  let c1024_i32_126 : BitVec 32 := 1024#32
  let v202 : BitVec 32 := Scalar.addi v29 c1024_i32_126
  let v203 : BitVec 1 := Scalar.cmpi .slt v196 v202
  let v204 : BitVec 1 := Scalar.andi v201 v203
  let v205 : BitVec 32 := Scalar.extui v204
  let c0_i32_127 : BitVec 32 := 0#32
  let v206 : BitVec 1 := Scalar.cmpi .ne v205 c0_i32_127
  v206

def k0_off21 (v182 : BitVec 32) : Fin 4 → Nat :=
  let c1_i32_399 : BitVec 32 := 1#32
  let c2_i32_128 : BitVec 32 := 2#32
  let v207 : BitVec 32 := Scalar.addi v182 c2_i32_128
  let c0_i32_400_r12 : BitVec 32 := 0#32
  let c0_i32_401_r12 : BitVec 32 := 0#32
  ![1, v207.toNat, 0, 0]
def k0_cond19 (i : grid0.Coords) (v182 : BitVec 32) (v184 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_129 : BitVec 32 := 1#32
  let v208 : BitVec 1 := Scalar.cmpi .eq v18 c1_i32_129
  let c2_i32_130 : BitVec 32 := 2#32
  let v209 : BitVec 1 := Scalar.cmpi .sgt v184 c2_i32_130
  let v210 : BitVec 1 := Scalar.andi v208 v209
  let c2_i32_128 : BitVec 32 := 2#32
  let v207 : BitVec 32 := Scalar.addi v182 c2_i32_128
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v211 : BitVec 1 := Scalar.cmpi .sge v207 v29
  let v212 : BitVec 1 := Scalar.andi v210 v211
  let c1024_i32_131 : BitVec 32 := 1024#32
  let v213 : BitVec 32 := Scalar.addi v29 c1024_i32_131
  let v214 : BitVec 1 := Scalar.cmpi .slt v207 v213
  let v215 : BitVec 1 := Scalar.andi v212 v214
  let v216 : BitVec 32 := Scalar.extui v215
  let c0_i32_132 : BitVec 32 := 0#32
  let v217 : BitVec 1 := Scalar.cmpi .ne v216 c0_i32_132
  v217

def k0_off22 (v182 : BitVec 32) : Fin 4 → Nat :=
  let c1_i32_399 : BitVec 32 := 1#32
  let c3_i32_133 : BitVec 32 := 3#32
  let v218 : BitVec 32 := Scalar.addi v182 c3_i32_133
  let c0_i32_400_r13 : BitVec 32 := 0#32
  let c0_i32_401_r13 : BitVec 32 := 0#32
  ![1, v218.toNat, 0, 0]
def k0_cond20 (i : grid0.Coords) (v182 : BitVec 32) (v184 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_134 : BitVec 32 := 1#32
  let v219 : BitVec 1 := Scalar.cmpi .eq v18 c1_i32_134
  let c3_i32_135 : BitVec 32 := 3#32
  let v220 : BitVec 1 := Scalar.cmpi .sgt v184 c3_i32_135
  let v221 : BitVec 1 := Scalar.andi v219 v220
  let c3_i32_133 : BitVec 32 := 3#32
  let v218 : BitVec 32 := Scalar.addi v182 c3_i32_133
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v222 : BitVec 1 := Scalar.cmpi .sge v218 v29
  let v223 : BitVec 1 := Scalar.andi v221 v222
  let c1024_i32_136 : BitVec 32 := 1024#32
  let v224 : BitVec 32 := Scalar.addi v29 c1024_i32_136
  let v225 : BitVec 1 := Scalar.cmpi .slt v218 v224
  let v226 : BitVec 1 := Scalar.andi v223 v225
  let v227 : BitVec 32 := Scalar.extui v226
  let c0_i32_137 : BitVec 32 := 0#32
  let v228 : BitVec 1 := Scalar.cmpi .ne v227 c0_i32_137
  v228

def k0_off23 (v182 : BitVec 32) : Fin 4 → Nat :=
  let c1_i32_399 : BitVec 32 := 1#32
  let c4_i32_138 : BitVec 32 := 4#32
  let v229 : BitVec 32 := Scalar.addi v182 c4_i32_138
  let c0_i32_400_r14 : BitVec 32 := 0#32
  let c0_i32_401_r14 : BitVec 32 := 0#32
  ![1, v229.toNat, 0, 0]
def k0_cond21 (i : grid0.Coords) (v182 : BitVec 32) (v184 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_139 : BitVec 32 := 1#32
  let v230 : BitVec 1 := Scalar.cmpi .eq v18 c1_i32_139
  let c4_i32_140 : BitVec 32 := 4#32
  let v231 : BitVec 1 := Scalar.cmpi .sgt v184 c4_i32_140
  let v232 : BitVec 1 := Scalar.andi v230 v231
  let c4_i32_138 : BitVec 32 := 4#32
  let v229 : BitVec 32 := Scalar.addi v182 c4_i32_138
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v233 : BitVec 1 := Scalar.cmpi .sge v229 v29
  let v234 : BitVec 1 := Scalar.andi v232 v233
  let c1024_i32_141 : BitVec 32 := 1024#32
  let v235 : BitVec 32 := Scalar.addi v29 c1024_i32_141
  let v236 : BitVec 1 := Scalar.cmpi .slt v229 v235
  let v237 : BitVec 1 := Scalar.andi v234 v236
  let v238 : BitVec 32 := Scalar.extui v237
  let c0_i32_142 : BitVec 32 := 0#32
  let v239 : BitVec 1 := Scalar.cmpi .ne v238 c0_i32_142
  v239

def k0_off24 (v182 : BitVec 32) : Fin 4 → Nat :=
  let c1_i32_399 : BitVec 32 := 1#32
  let c5_i32_143 : BitVec 32 := 5#32
  let v240 : BitVec 32 := Scalar.addi v182 c5_i32_143
  let c0_i32_400_r15 : BitVec 32 := 0#32
  let c0_i32_401_r15 : BitVec 32 := 0#32
  ![1, v240.toNat, 0, 0]
def k0_cond22 (i : grid0.Coords) (v182 : BitVec 32) (v184 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_144 : BitVec 32 := 1#32
  let v241 : BitVec 1 := Scalar.cmpi .eq v18 c1_i32_144
  let c5_i32_145 : BitVec 32 := 5#32
  let v242 : BitVec 1 := Scalar.cmpi .sgt v184 c5_i32_145
  let v243 : BitVec 1 := Scalar.andi v241 v242
  let c5_i32_143 : BitVec 32 := 5#32
  let v240 : BitVec 32 := Scalar.addi v182 c5_i32_143
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v244 : BitVec 1 := Scalar.cmpi .sge v240 v29
  let v245 : BitVec 1 := Scalar.andi v243 v244
  let c1024_i32_146 : BitVec 32 := 1024#32
  let v246 : BitVec 32 := Scalar.addi v29 c1024_i32_146
  let v247 : BitVec 1 := Scalar.cmpi .slt v240 v246
  let v248 : BitVec 1 := Scalar.andi v245 v247
  let v249 : BitVec 32 := Scalar.extui v248
  let c0_i32_147 : BitVec 32 := 0#32
  let v250 : BitVec 1 := Scalar.cmpi .ne v249 c0_i32_147
  v250

def k0_off25 (v182 : BitVec 32) : Fin 4 → Nat :=
  let c1_i32_399 : BitVec 32 := 1#32
  let c6_i32_148 : BitVec 32 := 6#32
  let v251 : BitVec 32 := Scalar.addi v182 c6_i32_148
  let c0_i32_400_r16 : BitVec 32 := 0#32
  let c0_i32_401_r16 : BitVec 32 := 0#32
  ![1, v251.toNat, 0, 0]
def k0_cond23 (i : grid0.Coords) (v182 : BitVec 32) (v184 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_149 : BitVec 32 := 1#32
  let v252 : BitVec 1 := Scalar.cmpi .eq v18 c1_i32_149
  let c6_i32_150 : BitVec 32 := 6#32
  let v253 : BitVec 1 := Scalar.cmpi .sgt v184 c6_i32_150
  let v254 : BitVec 1 := Scalar.andi v252 v253
  let c6_i32_148 : BitVec 32 := 6#32
  let v251 : BitVec 32 := Scalar.addi v182 c6_i32_148
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v255 : BitVec 1 := Scalar.cmpi .sge v251 v29
  let v256 : BitVec 1 := Scalar.andi v254 v255
  let c1024_i32_151 : BitVec 32 := 1024#32
  let v257 : BitVec 32 := Scalar.addi v29 c1024_i32_151
  let v258 : BitVec 1 := Scalar.cmpi .slt v251 v257
  let v259 : BitVec 1 := Scalar.andi v256 v258
  let v260 : BitVec 32 := Scalar.extui v259
  let c0_i32_152 : BitVec 32 := 0#32
  let v261 : BitVec 1 := Scalar.cmpi .ne v260 c0_i32_152
  v261

def k0_off26 (v182 : BitVec 32) : Fin 4 → Nat :=
  let c1_i32_399 : BitVec 32 := 1#32
  let c7_i32_153 : BitVec 32 := 7#32
  let v262 : BitVec 32 := Scalar.addi v182 c7_i32_153
  let c0_i32_400_r17 : BitVec 32 := 0#32
  let c0_i32_401_r17 : BitVec 32 := 0#32
  ![1, v262.toNat, 0, 0]
def k0_cond24 (i : grid0.Coords) (v182 : BitVec 32) (v184 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c1_i32_154 : BitVec 32 := 1#32
  let v263 : BitVec 1 := Scalar.cmpi .eq v18 c1_i32_154
  let c7_i32_155 : BitVec 32 := 7#32
  let v264 : BitVec 1 := Scalar.cmpi .sgt v184 c7_i32_155
  let v265 : BitVec 1 := Scalar.andi v263 v264
  let c7_i32_153 : BitVec 32 := 7#32
  let v262 : BitVec 32 := Scalar.addi v182 c7_i32_153
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v266 : BitVec 1 := Scalar.cmpi .sge v262 v29
  let v267 : BitVec 1 := Scalar.andi v265 v266
  let c1024_i32_156 : BitVec 32 := 1024#32
  let v268 : BitVec 32 := Scalar.addi v29 c1024_i32_156
  let v269 : BitVec 1 := Scalar.cmpi .slt v262 v268
  let v270 : BitVec 1 := Scalar.andi v267 v269
  let v271 : BitVec 32 := Scalar.extui v270
  let c0_i32_157 : BitVec 32 := 0#32
  let v272 : BitVec 1 := Scalar.cmpi .ne v271 c0_i32_157
  v272

def k0_chk2 (i : grid0.Coords) (v182 : BitVec 32) (v184 : BitVec 32) : Prop :=
  (∀ (k0_h17 : k0_cond17 i v182 v184 = 1#1), ∀ a, (k0_off19 v182) a + S1x1x8x128.size a ≤ S8x4096x8x128.size a) ∧
  (∀ (k0_h18 : k0_cond18 i v182 v184 = 1#1), ∀ a, (k0_off20 v182) a + S1x1x8x128.size a ≤ S8x4096x8x128.size a) ∧
  (∀ (k0_h19 : k0_cond19 i v182 v184 = 1#1), ∀ a, (k0_off21 v182) a + S1x1x8x128.size a ≤ S8x4096x8x128.size a) ∧
  (∀ (k0_h20 : k0_cond20 i v182 v184 = 1#1), ∀ a, (k0_off22 v182) a + S1x1x8x128.size a ≤ S8x4096x8x128.size a) ∧
  (∀ (k0_h21 : k0_cond21 i v182 v184 = 1#1), ∀ a, (k0_off23 v182) a + S1x1x8x128.size a ≤ S8x4096x8x128.size a) ∧
  (∀ (k0_h22 : k0_cond22 i v182 v184 = 1#1), ∀ a, (k0_off24 v182) a + S1x1x8x128.size a ≤ S8x4096x8x128.size a) ∧
  (∀ (k0_h23 : k0_cond23 i v182 v184 = 1#1), ∀ a, (k0_off25 v182) a + S1x1x8x128.size a ≤ S8x4096x8x128.size a) ∧
  (∀ (k0_h24 : k0_cond24 i v182 v184 = 1#1), ∀ a, (k0_off26 v182) a + S1x1x8x128.size a ≤ S8x4096x8x128.size a)
theorem k0_off19_inb : ∀ (i : grid0.Coords) (v182 : BitVec 32) (v184 : BitVec 32) (k0_hw2 : k0_chk2 i v182 v184), ∀ (k0_h17 : k0_cond17 i v182 v184 = 1#1), ∀ a, (k0_off19 v182) a + S1x1x8x128.size a ≤ S8x4096x8x128.size a := fun i v182 v184 k0_hw2 k0_h17 => k0_hw2.1 k0_h17
theorem k0_off20_inb : ∀ (i : grid0.Coords) (v182 : BitVec 32) (v184 : BitVec 32) (k0_hw2 : k0_chk2 i v182 v184), ∀ (k0_h18 : k0_cond18 i v182 v184 = 1#1), ∀ a, (k0_off20 v182) a + S1x1x8x128.size a ≤ S8x4096x8x128.size a := fun i v182 v184 k0_hw2 k0_h18 => k0_hw2.2.1 k0_h18
theorem k0_off21_inb : ∀ (i : grid0.Coords) (v182 : BitVec 32) (v184 : BitVec 32) (k0_hw2 : k0_chk2 i v182 v184), ∀ (k0_h19 : k0_cond19 i v182 v184 = 1#1), ∀ a, (k0_off21 v182) a + S1x1x8x128.size a ≤ S8x4096x8x128.size a := fun i v182 v184 k0_hw2 k0_h19 => k0_hw2.2.2.1 k0_h19
theorem k0_off22_inb : ∀ (i : grid0.Coords) (v182 : BitVec 32) (v184 : BitVec 32) (k0_hw2 : k0_chk2 i v182 v184), ∀ (k0_h20 : k0_cond20 i v182 v184 = 1#1), ∀ a, (k0_off22 v182) a + S1x1x8x128.size a ≤ S8x4096x8x128.size a := fun i v182 v184 k0_hw2 k0_h20 => k0_hw2.2.2.2.1 k0_h20
theorem k0_off23_inb : ∀ (i : grid0.Coords) (v182 : BitVec 32) (v184 : BitVec 32) (k0_hw2 : k0_chk2 i v182 v184), ∀ (k0_h21 : k0_cond21 i v182 v184 = 1#1), ∀ a, (k0_off23 v182) a + S1x1x8x128.size a ≤ S8x4096x8x128.size a := fun i v182 v184 k0_hw2 k0_h21 => k0_hw2.2.2.2.2.1 k0_h21
theorem k0_off24_inb : ∀ (i : grid0.Coords) (v182 : BitVec 32) (v184 : BitVec 32) (k0_hw2 : k0_chk2 i v182 v184), ∀ (k0_h22 : k0_cond22 i v182 v184 = 1#1), ∀ a, (k0_off24 v182) a + S1x1x8x128.size a ≤ S8x4096x8x128.size a := fun i v182 v184 k0_hw2 k0_h22 => k0_hw2.2.2.2.2.2.1 k0_h22
theorem k0_off25_inb : ∀ (i : grid0.Coords) (v182 : BitVec 32) (v184 : BitVec 32) (k0_hw2 : k0_chk2 i v182 v184), ∀ (k0_h23 : k0_cond23 i v182 v184 = 1#1), ∀ a, (k0_off25 v182) a + S1x1x8x128.size a ≤ S8x4096x8x128.size a := fun i v182 v184 k0_hw2 k0_h23 => k0_hw2.2.2.2.2.2.2.1 k0_h23
theorem k0_off26_inb : ∀ (i : grid0.Coords) (v182 : BitVec 32) (v184 : BitVec 32) (k0_hw2 : k0_chk2 i v182 v184), ∀ (k0_h24 : k0_cond24 i v182 v184 = 1#1), ∀ a, (k0_off26 v182) a + S1x1x8x128.size a ≤ S8x4096x8x128.size a := fun i v182 v184 k0_hw2 k0_h24 => k0_hw2.2.2.2.2.2.2.2 k0_h24

def k0_off27 (v274 : BitVec 32) : Fin 4 → Nat :=
  let c2_i32_399 : BitVec 32 := 2#32
  let c0_i32_158 : BitVec 32 := 0#32
  let v277 : BitVec 32 := Scalar.addi v274 c0_i32_158
  let c0_i32_400_r18 : BitVec 32 := 0#32
  let c0_i32_401_r18 : BitVec 32 := 0#32
  ![2, v277.toNat, 0, 0]
def k0_cond25 (i : grid0.Coords) (v274 : BitVec 32) (v276 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2_i32_159 : BitVec 32 := 2#32
  let v278 : BitVec 1 := Scalar.cmpi .eq v18 c2_i32_159
  let c0_i32_160 : BitVec 32 := 0#32
  let v279 : BitVec 1 := Scalar.cmpi .sgt v276 c0_i32_160
  let v280 : BitVec 1 := Scalar.andi v278 v279
  let c0_i32_158 : BitVec 32 := 0#32
  let v277 : BitVec 32 := Scalar.addi v274 c0_i32_158
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v281 : BitVec 1 := Scalar.cmpi .sge v277 v29
  let v282 : BitVec 1 := Scalar.andi v280 v281
  let c1024_i32_161 : BitVec 32 := 1024#32
  let v283 : BitVec 32 := Scalar.addi v29 c1024_i32_161
  let v284 : BitVec 1 := Scalar.cmpi .slt v277 v283
  let v285 : BitVec 1 := Scalar.andi v282 v284
  let v286 : BitVec 32 := Scalar.extui v285
  let c0_i32_162 : BitVec 32 := 0#32
  let v287 : BitVec 1 := Scalar.cmpi .ne v286 c0_i32_162
  v287

def k0_off28 (v274 : BitVec 32) : Fin 4 → Nat :=
  let c2_i32_399 : BitVec 32 := 2#32
  let c1_i32_163 : BitVec 32 := 1#32
  let v288 : BitVec 32 := Scalar.addi v274 c1_i32_163
  let c0_i32_400_r19 : BitVec 32 := 0#32
  let c0_i32_401_r19 : BitVec 32 := 0#32
  ![2, v288.toNat, 0, 0]
def k0_cond26 (i : grid0.Coords) (v274 : BitVec 32) (v276 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2_i32_164 : BitVec 32 := 2#32
  let v289 : BitVec 1 := Scalar.cmpi .eq v18 c2_i32_164
  let c1_i32_165 : BitVec 32 := 1#32
  let v290 : BitVec 1 := Scalar.cmpi .sgt v276 c1_i32_165
  let v291 : BitVec 1 := Scalar.andi v289 v290
  let c1_i32_163 : BitVec 32 := 1#32
  let v288 : BitVec 32 := Scalar.addi v274 c1_i32_163
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v292 : BitVec 1 := Scalar.cmpi .sge v288 v29
  let v293 : BitVec 1 := Scalar.andi v291 v292
  let c1024_i32_166 : BitVec 32 := 1024#32
  let v294 : BitVec 32 := Scalar.addi v29 c1024_i32_166
  let v295 : BitVec 1 := Scalar.cmpi .slt v288 v294
  let v296 : BitVec 1 := Scalar.andi v293 v295
  let v297 : BitVec 32 := Scalar.extui v296
  let c0_i32_167 : BitVec 32 := 0#32
  let v298 : BitVec 1 := Scalar.cmpi .ne v297 c0_i32_167
  v298

def k0_off29 (v274 : BitVec 32) : Fin 4 → Nat :=
  let c2_i32_399 : BitVec 32 := 2#32
  let c2_i32_168 : BitVec 32 := 2#32
  let v299 : BitVec 32 := Scalar.addi v274 c2_i32_168
  let c0_i32_400_r20 : BitVec 32 := 0#32
  let c0_i32_401_r20 : BitVec 32 := 0#32
  ![2, v299.toNat, 0, 0]
def k0_cond27 (i : grid0.Coords) (v274 : BitVec 32) (v276 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2_i32_169 : BitVec 32 := 2#32
  let v300 : BitVec 1 := Scalar.cmpi .eq v18 c2_i32_169
  let c2_i32_170 : BitVec 32 := 2#32
  let v301 : BitVec 1 := Scalar.cmpi .sgt v276 c2_i32_170
  let v302 : BitVec 1 := Scalar.andi v300 v301
  let c2_i32_168 : BitVec 32 := 2#32
  let v299 : BitVec 32 := Scalar.addi v274 c2_i32_168
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v303 : BitVec 1 := Scalar.cmpi .sge v299 v29
  let v304 : BitVec 1 := Scalar.andi v302 v303
  let c1024_i32_171 : BitVec 32 := 1024#32
  let v305 : BitVec 32 := Scalar.addi v29 c1024_i32_171
  let v306 : BitVec 1 := Scalar.cmpi .slt v299 v305
  let v307 : BitVec 1 := Scalar.andi v304 v306
  let v308 : BitVec 32 := Scalar.extui v307
  let c0_i32_172 : BitVec 32 := 0#32
  let v309 : BitVec 1 := Scalar.cmpi .ne v308 c0_i32_172
  v309

def k0_off30 (v274 : BitVec 32) : Fin 4 → Nat :=
  let c2_i32_399 : BitVec 32 := 2#32
  let c3_i32_173 : BitVec 32 := 3#32
  let v310 : BitVec 32 := Scalar.addi v274 c3_i32_173
  let c0_i32_400_r21 : BitVec 32 := 0#32
  let c0_i32_401_r21 : BitVec 32 := 0#32
  ![2, v310.toNat, 0, 0]
def k0_cond28 (i : grid0.Coords) (v274 : BitVec 32) (v276 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2_i32_174 : BitVec 32 := 2#32
  let v311 : BitVec 1 := Scalar.cmpi .eq v18 c2_i32_174
  let c3_i32_175 : BitVec 32 := 3#32
  let v312 : BitVec 1 := Scalar.cmpi .sgt v276 c3_i32_175
  let v313 : BitVec 1 := Scalar.andi v311 v312
  let c3_i32_173 : BitVec 32 := 3#32
  let v310 : BitVec 32 := Scalar.addi v274 c3_i32_173
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v314 : BitVec 1 := Scalar.cmpi .sge v310 v29
  let v315 : BitVec 1 := Scalar.andi v313 v314
  let c1024_i32_176 : BitVec 32 := 1024#32
  let v316 : BitVec 32 := Scalar.addi v29 c1024_i32_176
  let v317 : BitVec 1 := Scalar.cmpi .slt v310 v316
  let v318 : BitVec 1 := Scalar.andi v315 v317
  let v319 : BitVec 32 := Scalar.extui v318
  let c0_i32_177 : BitVec 32 := 0#32
  let v320 : BitVec 1 := Scalar.cmpi .ne v319 c0_i32_177
  v320

def k0_off31 (v274 : BitVec 32) : Fin 4 → Nat :=
  let c2_i32_399 : BitVec 32 := 2#32
  let c4_i32_178 : BitVec 32 := 4#32
  let v321 : BitVec 32 := Scalar.addi v274 c4_i32_178
  let c0_i32_400_r22 : BitVec 32 := 0#32
  let c0_i32_401_r22 : BitVec 32 := 0#32
  ![2, v321.toNat, 0, 0]
def k0_cond29 (i : grid0.Coords) (v274 : BitVec 32) (v276 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2_i32_179 : BitVec 32 := 2#32
  let v322 : BitVec 1 := Scalar.cmpi .eq v18 c2_i32_179
  let c4_i32_180 : BitVec 32 := 4#32
  let v323 : BitVec 1 := Scalar.cmpi .sgt v276 c4_i32_180
  let v324 : BitVec 1 := Scalar.andi v322 v323
  let c4_i32_178 : BitVec 32 := 4#32
  let v321 : BitVec 32 := Scalar.addi v274 c4_i32_178
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v325 : BitVec 1 := Scalar.cmpi .sge v321 v29
  let v326 : BitVec 1 := Scalar.andi v324 v325
  let c1024_i32_181 : BitVec 32 := 1024#32
  let v327 : BitVec 32 := Scalar.addi v29 c1024_i32_181
  let v328 : BitVec 1 := Scalar.cmpi .slt v321 v327
  let v329 : BitVec 1 := Scalar.andi v326 v328
  let v330 : BitVec 32 := Scalar.extui v329
  let c0_i32_182 : BitVec 32 := 0#32
  let v331 : BitVec 1 := Scalar.cmpi .ne v330 c0_i32_182
  v331

def k0_off32 (v274 : BitVec 32) : Fin 4 → Nat :=
  let c2_i32_399 : BitVec 32 := 2#32
  let c5_i32_183 : BitVec 32 := 5#32
  let v332 : BitVec 32 := Scalar.addi v274 c5_i32_183
  let c0_i32_400_r23 : BitVec 32 := 0#32
  let c0_i32_401_r23 : BitVec 32 := 0#32
  ![2, v332.toNat, 0, 0]
def k0_cond30 (i : grid0.Coords) (v274 : BitVec 32) (v276 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2_i32_184 : BitVec 32 := 2#32
  let v333 : BitVec 1 := Scalar.cmpi .eq v18 c2_i32_184
  let c5_i32_185 : BitVec 32 := 5#32
  let v334 : BitVec 1 := Scalar.cmpi .sgt v276 c5_i32_185
  let v335 : BitVec 1 := Scalar.andi v333 v334
  let c5_i32_183 : BitVec 32 := 5#32
  let v332 : BitVec 32 := Scalar.addi v274 c5_i32_183
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v336 : BitVec 1 := Scalar.cmpi .sge v332 v29
  let v337 : BitVec 1 := Scalar.andi v335 v336
  let c1024_i32_186 : BitVec 32 := 1024#32
  let v338 : BitVec 32 := Scalar.addi v29 c1024_i32_186
  let v339 : BitVec 1 := Scalar.cmpi .slt v332 v338
  let v340 : BitVec 1 := Scalar.andi v337 v339
  let v341 : BitVec 32 := Scalar.extui v340
  let c0_i32_187 : BitVec 32 := 0#32
  let v342 : BitVec 1 := Scalar.cmpi .ne v341 c0_i32_187
  v342

def k0_off33 (v274 : BitVec 32) : Fin 4 → Nat :=
  let c2_i32_399 : BitVec 32 := 2#32
  let c6_i32_188 : BitVec 32 := 6#32
  let v343 : BitVec 32 := Scalar.addi v274 c6_i32_188
  let c0_i32_400_r24 : BitVec 32 := 0#32
  let c0_i32_401_r24 : BitVec 32 := 0#32
  ![2, v343.toNat, 0, 0]
def k0_cond31 (i : grid0.Coords) (v274 : BitVec 32) (v276 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2_i32_189 : BitVec 32 := 2#32
  let v344 : BitVec 1 := Scalar.cmpi .eq v18 c2_i32_189
  let c6_i32_190 : BitVec 32 := 6#32
  let v345 : BitVec 1 := Scalar.cmpi .sgt v276 c6_i32_190
  let v346 : BitVec 1 := Scalar.andi v344 v345
  let c6_i32_188 : BitVec 32 := 6#32
  let v343 : BitVec 32 := Scalar.addi v274 c6_i32_188
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v347 : BitVec 1 := Scalar.cmpi .sge v343 v29
  let v348 : BitVec 1 := Scalar.andi v346 v347
  let c1024_i32_191 : BitVec 32 := 1024#32
  let v349 : BitVec 32 := Scalar.addi v29 c1024_i32_191
  let v350 : BitVec 1 := Scalar.cmpi .slt v343 v349
  let v351 : BitVec 1 := Scalar.andi v348 v350
  let v352 : BitVec 32 := Scalar.extui v351
  let c0_i32_192 : BitVec 32 := 0#32
  let v353 : BitVec 1 := Scalar.cmpi .ne v352 c0_i32_192
  v353

def k0_off34 (v274 : BitVec 32) : Fin 4 → Nat :=
  let c2_i32_399 : BitVec 32 := 2#32
  let c7_i32_193 : BitVec 32 := 7#32
  let v354 : BitVec 32 := Scalar.addi v274 c7_i32_193
  let c0_i32_400_r25 : BitVec 32 := 0#32
  let c0_i32_401_r25 : BitVec 32 := 0#32
  ![2, v354.toNat, 0, 0]
def k0_cond32 (i : grid0.Coords) (v274 : BitVec 32) (v276 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c2_i32_194 : BitVec 32 := 2#32
  let v355 : BitVec 1 := Scalar.cmpi .eq v18 c2_i32_194
  let c7_i32_195 : BitVec 32 := 7#32
  let v356 : BitVec 1 := Scalar.cmpi .sgt v276 c7_i32_195
  let v357 : BitVec 1 := Scalar.andi v355 v356
  let c7_i32_193 : BitVec 32 := 7#32
  let v354 : BitVec 32 := Scalar.addi v274 c7_i32_193
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v358 : BitVec 1 := Scalar.cmpi .sge v354 v29
  let v359 : BitVec 1 := Scalar.andi v357 v358
  let c1024_i32_196 : BitVec 32 := 1024#32
  let v360 : BitVec 32 := Scalar.addi v29 c1024_i32_196
  let v361 : BitVec 1 := Scalar.cmpi .slt v354 v360
  let v362 : BitVec 1 := Scalar.andi v359 v361
  let v363 : BitVec 32 := Scalar.extui v362
  let c0_i32_197 : BitVec 32 := 0#32
  let v364 : BitVec 1 := Scalar.cmpi .ne v363 c0_i32_197
  v364

def k0_chk3 (i : grid0.Coords) (v274 : BitVec 32) (v276 : BitVec 32) : Prop :=
  (∀ (k0_h25 : k0_cond25 i v274 v276 = 1#1), ∀ a, (k0_off27 v274) a + S1x1x8x128.size a ≤ S8x4096x8x128.size a) ∧
  (∀ (k0_h26 : k0_cond26 i v274 v276 = 1#1), ∀ a, (k0_off28 v274) a + S1x1x8x128.size a ≤ S8x4096x8x128.size a) ∧
  (∀ (k0_h27 : k0_cond27 i v274 v276 = 1#1), ∀ a, (k0_off29 v274) a + S1x1x8x128.size a ≤ S8x4096x8x128.size a) ∧
  (∀ (k0_h28 : k0_cond28 i v274 v276 = 1#1), ∀ a, (k0_off30 v274) a + S1x1x8x128.size a ≤ S8x4096x8x128.size a) ∧
  (∀ (k0_h29 : k0_cond29 i v274 v276 = 1#1), ∀ a, (k0_off31 v274) a + S1x1x8x128.size a ≤ S8x4096x8x128.size a) ∧
  (∀ (k0_h30 : k0_cond30 i v274 v276 = 1#1), ∀ a, (k0_off32 v274) a + S1x1x8x128.size a ≤ S8x4096x8x128.size a) ∧
  (∀ (k0_h31 : k0_cond31 i v274 v276 = 1#1), ∀ a, (k0_off33 v274) a + S1x1x8x128.size a ≤ S8x4096x8x128.size a) ∧
  (∀ (k0_h32 : k0_cond32 i v274 v276 = 1#1), ∀ a, (k0_off34 v274) a + S1x1x8x128.size a ≤ S8x4096x8x128.size a)
theorem k0_off27_inb : ∀ (i : grid0.Coords) (v274 : BitVec 32) (v276 : BitVec 32) (k0_hw3 : k0_chk3 i v274 v276), ∀ (k0_h25 : k0_cond25 i v274 v276 = 1#1), ∀ a, (k0_off27 v274) a + S1x1x8x128.size a ≤ S8x4096x8x128.size a := fun i v274 v276 k0_hw3 k0_h25 => k0_hw3.1 k0_h25
theorem k0_off28_inb : ∀ (i : grid0.Coords) (v274 : BitVec 32) (v276 : BitVec 32) (k0_hw3 : k0_chk3 i v274 v276), ∀ (k0_h26 : k0_cond26 i v274 v276 = 1#1), ∀ a, (k0_off28 v274) a + S1x1x8x128.size a ≤ S8x4096x8x128.size a := fun i v274 v276 k0_hw3 k0_h26 => k0_hw3.2.1 k0_h26
theorem k0_off29_inb : ∀ (i : grid0.Coords) (v274 : BitVec 32) (v276 : BitVec 32) (k0_hw3 : k0_chk3 i v274 v276), ∀ (k0_h27 : k0_cond27 i v274 v276 = 1#1), ∀ a, (k0_off29 v274) a + S1x1x8x128.size a ≤ S8x4096x8x128.size a := fun i v274 v276 k0_hw3 k0_h27 => k0_hw3.2.2.1 k0_h27
theorem k0_off30_inb : ∀ (i : grid0.Coords) (v274 : BitVec 32) (v276 : BitVec 32) (k0_hw3 : k0_chk3 i v274 v276), ∀ (k0_h28 : k0_cond28 i v274 v276 = 1#1), ∀ a, (k0_off30 v274) a + S1x1x8x128.size a ≤ S8x4096x8x128.size a := fun i v274 v276 k0_hw3 k0_h28 => k0_hw3.2.2.2.1 k0_h28
theorem k0_off31_inb : ∀ (i : grid0.Coords) (v274 : BitVec 32) (v276 : BitVec 32) (k0_hw3 : k0_chk3 i v274 v276), ∀ (k0_h29 : k0_cond29 i v274 v276 = 1#1), ∀ a, (k0_off31 v274) a + S1x1x8x128.size a ≤ S8x4096x8x128.size a := fun i v274 v276 k0_hw3 k0_h29 => k0_hw3.2.2.2.2.1 k0_h29
theorem k0_off32_inb : ∀ (i : grid0.Coords) (v274 : BitVec 32) (v276 : BitVec 32) (k0_hw3 : k0_chk3 i v274 v276), ∀ (k0_h30 : k0_cond30 i v274 v276 = 1#1), ∀ a, (k0_off32 v274) a + S1x1x8x128.size a ≤ S8x4096x8x128.size a := fun i v274 v276 k0_hw3 k0_h30 => k0_hw3.2.2.2.2.2.1 k0_h30
theorem k0_off33_inb : ∀ (i : grid0.Coords) (v274 : BitVec 32) (v276 : BitVec 32) (k0_hw3 : k0_chk3 i v274 v276), ∀ (k0_h31 : k0_cond31 i v274 v276 = 1#1), ∀ a, (k0_off33 v274) a + S1x1x8x128.size a ≤ S8x4096x8x128.size a := fun i v274 v276 k0_hw3 k0_h31 => k0_hw3.2.2.2.2.2.2.1 k0_h31
theorem k0_off34_inb : ∀ (i : grid0.Coords) (v274 : BitVec 32) (v276 : BitVec 32) (k0_hw3 : k0_chk3 i v274 v276), ∀ (k0_h32 : k0_cond32 i v274 v276 = 1#1), ∀ a, (k0_off34 v274) a + S1x1x8x128.size a ≤ S8x4096x8x128.size a := fun i v274 v276 k0_hw3 k0_h32 => k0_hw3.2.2.2.2.2.2.2 k0_h32

def k0_off35 (v366 : BitVec 32) : Fin 4 → Nat :=
  let c3_i32_399 : BitVec 32 := 3#32
  let c0_i32_198 : BitVec 32 := 0#32
  let v369 : BitVec 32 := Scalar.addi v366 c0_i32_198
  let c0_i32_400_r26 : BitVec 32 := 0#32
  let c0_i32_401_r26 : BitVec 32 := 0#32
  ![3, v369.toNat, 0, 0]
def k0_cond33 (i : grid0.Coords) (v366 : BitVec 32) (v368 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_199 : BitVec 32 := 3#32
  let v370 : BitVec 1 := Scalar.cmpi .eq v18 c3_i32_199
  let c0_i32_200 : BitVec 32 := 0#32
  let v371 : BitVec 1 := Scalar.cmpi .sgt v368 c0_i32_200
  let v372 : BitVec 1 := Scalar.andi v370 v371
  let c0_i32_198 : BitVec 32 := 0#32
  let v369 : BitVec 32 := Scalar.addi v366 c0_i32_198
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v373 : BitVec 1 := Scalar.cmpi .sge v369 v29
  let v374 : BitVec 1 := Scalar.andi v372 v373
  let c1024_i32_201 : BitVec 32 := 1024#32
  let v375 : BitVec 32 := Scalar.addi v29 c1024_i32_201
  let v376 : BitVec 1 := Scalar.cmpi .slt v369 v375
  let v377 : BitVec 1 := Scalar.andi v374 v376
  let v378 : BitVec 32 := Scalar.extui v377
  let c0_i32_202 : BitVec 32 := 0#32
  let v379 : BitVec 1 := Scalar.cmpi .ne v378 c0_i32_202
  v379

def k0_off36 (v366 : BitVec 32) : Fin 4 → Nat :=
  let c3_i32_399 : BitVec 32 := 3#32
  let c1_i32_203 : BitVec 32 := 1#32
  let v380 : BitVec 32 := Scalar.addi v366 c1_i32_203
  let c0_i32_400_r27 : BitVec 32 := 0#32
  let c0_i32_401_r27 : BitVec 32 := 0#32
  ![3, v380.toNat, 0, 0]
def k0_cond34 (i : grid0.Coords) (v366 : BitVec 32) (v368 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_204 : BitVec 32 := 3#32
  let v381 : BitVec 1 := Scalar.cmpi .eq v18 c3_i32_204
  let c1_i32_205 : BitVec 32 := 1#32
  let v382 : BitVec 1 := Scalar.cmpi .sgt v368 c1_i32_205
  let v383 : BitVec 1 := Scalar.andi v381 v382
  let c1_i32_203 : BitVec 32 := 1#32
  let v380 : BitVec 32 := Scalar.addi v366 c1_i32_203
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v384 : BitVec 1 := Scalar.cmpi .sge v380 v29
  let v385 : BitVec 1 := Scalar.andi v383 v384
  let c1024_i32_206 : BitVec 32 := 1024#32
  let v386 : BitVec 32 := Scalar.addi v29 c1024_i32_206
  let v387 : BitVec 1 := Scalar.cmpi .slt v380 v386
  let v388 : BitVec 1 := Scalar.andi v385 v387
  let v389 : BitVec 32 := Scalar.extui v388
  let c0_i32_207 : BitVec 32 := 0#32
  let v390 : BitVec 1 := Scalar.cmpi .ne v389 c0_i32_207
  v390

def k0_off37 (v366 : BitVec 32) : Fin 4 → Nat :=
  let c3_i32_399 : BitVec 32 := 3#32
  let c2_i32_208 : BitVec 32 := 2#32
  let v391 : BitVec 32 := Scalar.addi v366 c2_i32_208
  let c0_i32_400_r28 : BitVec 32 := 0#32
  let c0_i32_401_r28 : BitVec 32 := 0#32
  ![3, v391.toNat, 0, 0]
def k0_cond35 (i : grid0.Coords) (v366 : BitVec 32) (v368 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_209 : BitVec 32 := 3#32
  let v392 : BitVec 1 := Scalar.cmpi .eq v18 c3_i32_209
  let c2_i32_210 : BitVec 32 := 2#32
  let v393 : BitVec 1 := Scalar.cmpi .sgt v368 c2_i32_210
  let v394 : BitVec 1 := Scalar.andi v392 v393
  let c2_i32_208 : BitVec 32 := 2#32
  let v391 : BitVec 32 := Scalar.addi v366 c2_i32_208
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v395 : BitVec 1 := Scalar.cmpi .sge v391 v29
  let v396 : BitVec 1 := Scalar.andi v394 v395
  let c1024_i32_211 : BitVec 32 := 1024#32
  let v397 : BitVec 32 := Scalar.addi v29 c1024_i32_211
  let v398 : BitVec 1 := Scalar.cmpi .slt v391 v397
  let v399 : BitVec 1 := Scalar.andi v396 v398
  let v400 : BitVec 32 := Scalar.extui v399
  let c0_i32_212 : BitVec 32 := 0#32
  let v401 : BitVec 1 := Scalar.cmpi .ne v400 c0_i32_212
  v401

def k0_off38 (v366 : BitVec 32) : Fin 4 → Nat :=
  let c3_i32_399 : BitVec 32 := 3#32
  let c3_i32_213 : BitVec 32 := 3#32
  let v402 : BitVec 32 := Scalar.addi v366 c3_i32_213
  let c0_i32_400_r29 : BitVec 32 := 0#32
  let c0_i32_401_r29 : BitVec 32 := 0#32
  ![3, v402.toNat, 0, 0]
def k0_cond36 (i : grid0.Coords) (v366 : BitVec 32) (v368 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_214 : BitVec 32 := 3#32
  let v403 : BitVec 1 := Scalar.cmpi .eq v18 c3_i32_214
  let c3_i32_215 : BitVec 32 := 3#32
  let v404 : BitVec 1 := Scalar.cmpi .sgt v368 c3_i32_215
  let v405 : BitVec 1 := Scalar.andi v403 v404
  let c3_i32_213 : BitVec 32 := 3#32
  let v402 : BitVec 32 := Scalar.addi v366 c3_i32_213
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v406 : BitVec 1 := Scalar.cmpi .sge v402 v29
  let v407 : BitVec 1 := Scalar.andi v405 v406
  let c1024_i32_216 : BitVec 32 := 1024#32
  let v408 : BitVec 32 := Scalar.addi v29 c1024_i32_216
  let v409 : BitVec 1 := Scalar.cmpi .slt v402 v408
  let v410 : BitVec 1 := Scalar.andi v407 v409
  let v411 : BitVec 32 := Scalar.extui v410
  let c0_i32_217 : BitVec 32 := 0#32
  let v412 : BitVec 1 := Scalar.cmpi .ne v411 c0_i32_217
  v412

def k0_off39 (v366 : BitVec 32) : Fin 4 → Nat :=
  let c3_i32_399 : BitVec 32 := 3#32
  let c4_i32_218 : BitVec 32 := 4#32
  let v413 : BitVec 32 := Scalar.addi v366 c4_i32_218
  let c0_i32_400_r30 : BitVec 32 := 0#32
  let c0_i32_401_r30 : BitVec 32 := 0#32
  ![3, v413.toNat, 0, 0]
def k0_cond37 (i : grid0.Coords) (v366 : BitVec 32) (v368 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_219 : BitVec 32 := 3#32
  let v414 : BitVec 1 := Scalar.cmpi .eq v18 c3_i32_219
  let c4_i32_220 : BitVec 32 := 4#32
  let v415 : BitVec 1 := Scalar.cmpi .sgt v368 c4_i32_220
  let v416 : BitVec 1 := Scalar.andi v414 v415
  let c4_i32_218 : BitVec 32 := 4#32
  let v413 : BitVec 32 := Scalar.addi v366 c4_i32_218
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v417 : BitVec 1 := Scalar.cmpi .sge v413 v29
  let v418 : BitVec 1 := Scalar.andi v416 v417
  let c1024_i32_221 : BitVec 32 := 1024#32
  let v419 : BitVec 32 := Scalar.addi v29 c1024_i32_221
  let v420 : BitVec 1 := Scalar.cmpi .slt v413 v419
  let v421 : BitVec 1 := Scalar.andi v418 v420
  let v422 : BitVec 32 := Scalar.extui v421
  let c0_i32_222 : BitVec 32 := 0#32
  let v423 : BitVec 1 := Scalar.cmpi .ne v422 c0_i32_222
  v423

def k0_off40 (v366 : BitVec 32) : Fin 4 → Nat :=
  let c3_i32_399 : BitVec 32 := 3#32
  let c5_i32_223 : BitVec 32 := 5#32
  let v424 : BitVec 32 := Scalar.addi v366 c5_i32_223
  let c0_i32_400_r31 : BitVec 32 := 0#32
  let c0_i32_401_r31 : BitVec 32 := 0#32
  ![3, v424.toNat, 0, 0]
def k0_cond38 (i : grid0.Coords) (v366 : BitVec 32) (v368 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_224 : BitVec 32 := 3#32
  let v425 : BitVec 1 := Scalar.cmpi .eq v18 c3_i32_224
  let c5_i32_225 : BitVec 32 := 5#32
  let v426 : BitVec 1 := Scalar.cmpi .sgt v368 c5_i32_225
  let v427 : BitVec 1 := Scalar.andi v425 v426
  let c5_i32_223 : BitVec 32 := 5#32
  let v424 : BitVec 32 := Scalar.addi v366 c5_i32_223
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v428 : BitVec 1 := Scalar.cmpi .sge v424 v29
  let v429 : BitVec 1 := Scalar.andi v427 v428
  let c1024_i32_226 : BitVec 32 := 1024#32
  let v430 : BitVec 32 := Scalar.addi v29 c1024_i32_226
  let v431 : BitVec 1 := Scalar.cmpi .slt v424 v430
  let v432 : BitVec 1 := Scalar.andi v429 v431
  let v433 : BitVec 32 := Scalar.extui v432
  let c0_i32_227 : BitVec 32 := 0#32
  let v434 : BitVec 1 := Scalar.cmpi .ne v433 c0_i32_227
  v434

def k0_off41 (v366 : BitVec 32) : Fin 4 → Nat :=
  let c3_i32_399 : BitVec 32 := 3#32
  let c6_i32_228 : BitVec 32 := 6#32
  let v435 : BitVec 32 := Scalar.addi v366 c6_i32_228
  let c0_i32_400_r32 : BitVec 32 := 0#32
  let c0_i32_401_r32 : BitVec 32 := 0#32
  ![3, v435.toNat, 0, 0]
def k0_cond39 (i : grid0.Coords) (v366 : BitVec 32) (v368 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_229 : BitVec 32 := 3#32
  let v436 : BitVec 1 := Scalar.cmpi .eq v18 c3_i32_229
  let c6_i32_230 : BitVec 32 := 6#32
  let v437 : BitVec 1 := Scalar.cmpi .sgt v368 c6_i32_230
  let v438 : BitVec 1 := Scalar.andi v436 v437
  let c6_i32_228 : BitVec 32 := 6#32
  let v435 : BitVec 32 := Scalar.addi v366 c6_i32_228
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v439 : BitVec 1 := Scalar.cmpi .sge v435 v29
  let v440 : BitVec 1 := Scalar.andi v438 v439
  let c1024_i32_231 : BitVec 32 := 1024#32
  let v441 : BitVec 32 := Scalar.addi v29 c1024_i32_231
  let v442 : BitVec 1 := Scalar.cmpi .slt v435 v441
  let v443 : BitVec 1 := Scalar.andi v440 v442
  let v444 : BitVec 32 := Scalar.extui v443
  let c0_i32_232 : BitVec 32 := 0#32
  let v445 : BitVec 1 := Scalar.cmpi .ne v444 c0_i32_232
  v445

def k0_off42 (v366 : BitVec 32) : Fin 4 → Nat :=
  let c3_i32_399 : BitVec 32 := 3#32
  let c7_i32_233 : BitVec 32 := 7#32
  let v446 : BitVec 32 := Scalar.addi v366 c7_i32_233
  let c0_i32_400_r33 : BitVec 32 := 0#32
  let c0_i32_401_r33 : BitVec 32 := 0#32
  ![3, v446.toNat, 0, 0]
def k0_cond40 (i : grid0.Coords) (v366 : BitVec 32) (v368 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c3_i32_234 : BitVec 32 := 3#32
  let v447 : BitVec 1 := Scalar.cmpi .eq v18 c3_i32_234
  let c7_i32_235 : BitVec 32 := 7#32
  let v448 : BitVec 1 := Scalar.cmpi .sgt v368 c7_i32_235
  let v449 : BitVec 1 := Scalar.andi v447 v448
  let c7_i32_233 : BitVec 32 := 7#32
  let v446 : BitVec 32 := Scalar.addi v366 c7_i32_233
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v450 : BitVec 1 := Scalar.cmpi .sge v446 v29
  let v451 : BitVec 1 := Scalar.andi v449 v450
  let c1024_i32_236 : BitVec 32 := 1024#32
  let v452 : BitVec 32 := Scalar.addi v29 c1024_i32_236
  let v453 : BitVec 1 := Scalar.cmpi .slt v446 v452
  let v454 : BitVec 1 := Scalar.andi v451 v453
  let v455 : BitVec 32 := Scalar.extui v454
  let c0_i32_237 : BitVec 32 := 0#32
  let v456 : BitVec 1 := Scalar.cmpi .ne v455 c0_i32_237
  v456

def k0_chk4 (i : grid0.Coords) (v366 : BitVec 32) (v368 : BitVec 32) : Prop :=
  (∀ (k0_h33 : k0_cond33 i v366 v368 = 1#1), ∀ a, (k0_off35 v366) a + S1x1x8x128.size a ≤ S8x4096x8x128.size a) ∧
  (∀ (k0_h34 : k0_cond34 i v366 v368 = 1#1), ∀ a, (k0_off36 v366) a + S1x1x8x128.size a ≤ S8x4096x8x128.size a) ∧
  (∀ (k0_h35 : k0_cond35 i v366 v368 = 1#1), ∀ a, (k0_off37 v366) a + S1x1x8x128.size a ≤ S8x4096x8x128.size a) ∧
  (∀ (k0_h36 : k0_cond36 i v366 v368 = 1#1), ∀ a, (k0_off38 v366) a + S1x1x8x128.size a ≤ S8x4096x8x128.size a) ∧
  (∀ (k0_h37 : k0_cond37 i v366 v368 = 1#1), ∀ a, (k0_off39 v366) a + S1x1x8x128.size a ≤ S8x4096x8x128.size a) ∧
  (∀ (k0_h38 : k0_cond38 i v366 v368 = 1#1), ∀ a, (k0_off40 v366) a + S1x1x8x128.size a ≤ S8x4096x8x128.size a) ∧
  (∀ (k0_h39 : k0_cond39 i v366 v368 = 1#1), ∀ a, (k0_off41 v366) a + S1x1x8x128.size a ≤ S8x4096x8x128.size a) ∧
  (∀ (k0_h40 : k0_cond40 i v366 v368 = 1#1), ∀ a, (k0_off42 v366) a + S1x1x8x128.size a ≤ S8x4096x8x128.size a)
theorem k0_off35_inb : ∀ (i : grid0.Coords) (v366 : BitVec 32) (v368 : BitVec 32) (k0_hw4 : k0_chk4 i v366 v368), ∀ (k0_h33 : k0_cond33 i v366 v368 = 1#1), ∀ a, (k0_off35 v366) a + S1x1x8x128.size a ≤ S8x4096x8x128.size a := fun i v366 v368 k0_hw4 k0_h33 => k0_hw4.1 k0_h33
theorem k0_off36_inb : ∀ (i : grid0.Coords) (v366 : BitVec 32) (v368 : BitVec 32) (k0_hw4 : k0_chk4 i v366 v368), ∀ (k0_h34 : k0_cond34 i v366 v368 = 1#1), ∀ a, (k0_off36 v366) a + S1x1x8x128.size a ≤ S8x4096x8x128.size a := fun i v366 v368 k0_hw4 k0_h34 => k0_hw4.2.1 k0_h34
theorem k0_off37_inb : ∀ (i : grid0.Coords) (v366 : BitVec 32) (v368 : BitVec 32) (k0_hw4 : k0_chk4 i v366 v368), ∀ (k0_h35 : k0_cond35 i v366 v368 = 1#1), ∀ a, (k0_off37 v366) a + S1x1x8x128.size a ≤ S8x4096x8x128.size a := fun i v366 v368 k0_hw4 k0_h35 => k0_hw4.2.2.1 k0_h35
theorem k0_off38_inb : ∀ (i : grid0.Coords) (v366 : BitVec 32) (v368 : BitVec 32) (k0_hw4 : k0_chk4 i v366 v368), ∀ (k0_h36 : k0_cond36 i v366 v368 = 1#1), ∀ a, (k0_off38 v366) a + S1x1x8x128.size a ≤ S8x4096x8x128.size a := fun i v366 v368 k0_hw4 k0_h36 => k0_hw4.2.2.2.1 k0_h36
theorem k0_off39_inb : ∀ (i : grid0.Coords) (v366 : BitVec 32) (v368 : BitVec 32) (k0_hw4 : k0_chk4 i v366 v368), ∀ (k0_h37 : k0_cond37 i v366 v368 = 1#1), ∀ a, (k0_off39 v366) a + S1x1x8x128.size a ≤ S8x4096x8x128.size a := fun i v366 v368 k0_hw4 k0_h37 => k0_hw4.2.2.2.2.1 k0_h37
theorem k0_off40_inb : ∀ (i : grid0.Coords) (v366 : BitVec 32) (v368 : BitVec 32) (k0_hw4 : k0_chk4 i v366 v368), ∀ (k0_h38 : k0_cond38 i v366 v368 = 1#1), ∀ a, (k0_off40 v366) a + S1x1x8x128.size a ≤ S8x4096x8x128.size a := fun i v366 v368 k0_hw4 k0_h38 => k0_hw4.2.2.2.2.2.1 k0_h38
theorem k0_off41_inb : ∀ (i : grid0.Coords) (v366 : BitVec 32) (v368 : BitVec 32) (k0_hw4 : k0_chk4 i v366 v368), ∀ (k0_h39 : k0_cond39 i v366 v368 = 1#1), ∀ a, (k0_off41 v366) a + S1x1x8x128.size a ≤ S8x4096x8x128.size a := fun i v366 v368 k0_hw4 k0_h39 => k0_hw4.2.2.2.2.2.2.1 k0_h39
theorem k0_off42_inb : ∀ (i : grid0.Coords) (v366 : BitVec 32) (v368 : BitVec 32) (k0_hw4 : k0_chk4 i v366 v368), ∀ (k0_h40 : k0_cond40 i v366 v368 = 1#1), ∀ a, (k0_off42 v366) a + S1x1x8x128.size a ≤ S8x4096x8x128.size a := fun i v366 v368 k0_hw4 k0_h40 => k0_hw4.2.2.2.2.2.2.2 k0_h40

def k0_off43 (v458 : BitVec 32) : Fin 4 → Nat :=
  let c4_i32_399 : BitVec 32 := 4#32
  let c0_i32_238 : BitVec 32 := 0#32
  let v461 : BitVec 32 := Scalar.addi v458 c0_i32_238
  let c0_i32_400_r34 : BitVec 32 := 0#32
  let c0_i32_401_r34 : BitVec 32 := 0#32
  ![4, v461.toNat, 0, 0]
def k0_cond41 (i : grid0.Coords) (v458 : BitVec 32) (v460 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_239 : BitVec 32 := 4#32
  let v462 : BitVec 1 := Scalar.cmpi .eq v18 c4_i32_239
  let c0_i32_240 : BitVec 32 := 0#32
  let v463 : BitVec 1 := Scalar.cmpi .sgt v460 c0_i32_240
  let v464 : BitVec 1 := Scalar.andi v462 v463
  let c0_i32_238 : BitVec 32 := 0#32
  let v461 : BitVec 32 := Scalar.addi v458 c0_i32_238
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v465 : BitVec 1 := Scalar.cmpi .sge v461 v29
  let v466 : BitVec 1 := Scalar.andi v464 v465
  let c1024_i32_241 : BitVec 32 := 1024#32
  let v467 : BitVec 32 := Scalar.addi v29 c1024_i32_241
  let v468 : BitVec 1 := Scalar.cmpi .slt v461 v467
  let v469 : BitVec 1 := Scalar.andi v466 v468
  let v470 : BitVec 32 := Scalar.extui v469
  let c0_i32_242 : BitVec 32 := 0#32
  let v471 : BitVec 1 := Scalar.cmpi .ne v470 c0_i32_242
  v471

def k0_off44 (v458 : BitVec 32) : Fin 4 → Nat :=
  let c4_i32_399 : BitVec 32 := 4#32
  let c1_i32_243 : BitVec 32 := 1#32
  let v472 : BitVec 32 := Scalar.addi v458 c1_i32_243
  let c0_i32_400_r35 : BitVec 32 := 0#32
  let c0_i32_401_r35 : BitVec 32 := 0#32
  ![4, v472.toNat, 0, 0]
def k0_cond42 (i : grid0.Coords) (v458 : BitVec 32) (v460 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_244 : BitVec 32 := 4#32
  let v473 : BitVec 1 := Scalar.cmpi .eq v18 c4_i32_244
  let c1_i32_245 : BitVec 32 := 1#32
  let v474 : BitVec 1 := Scalar.cmpi .sgt v460 c1_i32_245
  let v475 : BitVec 1 := Scalar.andi v473 v474
  let c1_i32_243 : BitVec 32 := 1#32
  let v472 : BitVec 32 := Scalar.addi v458 c1_i32_243
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v476 : BitVec 1 := Scalar.cmpi .sge v472 v29
  let v477 : BitVec 1 := Scalar.andi v475 v476
  let c1024_i32_246 : BitVec 32 := 1024#32
  let v478 : BitVec 32 := Scalar.addi v29 c1024_i32_246
  let v479 : BitVec 1 := Scalar.cmpi .slt v472 v478
  let v480 : BitVec 1 := Scalar.andi v477 v479
  let v481 : BitVec 32 := Scalar.extui v480
  let c0_i32_247 : BitVec 32 := 0#32
  let v482 : BitVec 1 := Scalar.cmpi .ne v481 c0_i32_247
  v482

def k0_off45 (v458 : BitVec 32) : Fin 4 → Nat :=
  let c4_i32_399 : BitVec 32 := 4#32
  let c2_i32_248 : BitVec 32 := 2#32
  let v483 : BitVec 32 := Scalar.addi v458 c2_i32_248
  let c0_i32_400_r36 : BitVec 32 := 0#32
  let c0_i32_401_r36 : BitVec 32 := 0#32
  ![4, v483.toNat, 0, 0]
def k0_cond43 (i : grid0.Coords) (v458 : BitVec 32) (v460 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_249 : BitVec 32 := 4#32
  let v484 : BitVec 1 := Scalar.cmpi .eq v18 c4_i32_249
  let c2_i32_250 : BitVec 32 := 2#32
  let v485 : BitVec 1 := Scalar.cmpi .sgt v460 c2_i32_250
  let v486 : BitVec 1 := Scalar.andi v484 v485
  let c2_i32_248 : BitVec 32 := 2#32
  let v483 : BitVec 32 := Scalar.addi v458 c2_i32_248
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v487 : BitVec 1 := Scalar.cmpi .sge v483 v29
  let v488 : BitVec 1 := Scalar.andi v486 v487
  let c1024_i32_251 : BitVec 32 := 1024#32
  let v489 : BitVec 32 := Scalar.addi v29 c1024_i32_251
  let v490 : BitVec 1 := Scalar.cmpi .slt v483 v489
  let v491 : BitVec 1 := Scalar.andi v488 v490
  let v492 : BitVec 32 := Scalar.extui v491
  let c0_i32_252 : BitVec 32 := 0#32
  let v493 : BitVec 1 := Scalar.cmpi .ne v492 c0_i32_252
  v493

def k0_off46 (v458 : BitVec 32) : Fin 4 → Nat :=
  let c4_i32_399 : BitVec 32 := 4#32
  let c3_i32_253 : BitVec 32 := 3#32
  let v494 : BitVec 32 := Scalar.addi v458 c3_i32_253
  let c0_i32_400_r37 : BitVec 32 := 0#32
  let c0_i32_401_r37 : BitVec 32 := 0#32
  ![4, v494.toNat, 0, 0]
def k0_cond44 (i : grid0.Coords) (v458 : BitVec 32) (v460 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_254 : BitVec 32 := 4#32
  let v495 : BitVec 1 := Scalar.cmpi .eq v18 c4_i32_254
  let c3_i32_255 : BitVec 32 := 3#32
  let v496 : BitVec 1 := Scalar.cmpi .sgt v460 c3_i32_255
  let v497 : BitVec 1 := Scalar.andi v495 v496
  let c3_i32_253 : BitVec 32 := 3#32
  let v494 : BitVec 32 := Scalar.addi v458 c3_i32_253
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v498 : BitVec 1 := Scalar.cmpi .sge v494 v29
  let v499 : BitVec 1 := Scalar.andi v497 v498
  let c1024_i32_256 : BitVec 32 := 1024#32
  let v500 : BitVec 32 := Scalar.addi v29 c1024_i32_256
  let v501 : BitVec 1 := Scalar.cmpi .slt v494 v500
  let v502 : BitVec 1 := Scalar.andi v499 v501
  let v503 : BitVec 32 := Scalar.extui v502
  let c0_i32_257 : BitVec 32 := 0#32
  let v504 : BitVec 1 := Scalar.cmpi .ne v503 c0_i32_257
  v504

def k0_off47 (v458 : BitVec 32) : Fin 4 → Nat :=
  let c4_i32_399 : BitVec 32 := 4#32
  let c4_i32_258 : BitVec 32 := 4#32
  let v505 : BitVec 32 := Scalar.addi v458 c4_i32_258
  let c0_i32_400_r38 : BitVec 32 := 0#32
  let c0_i32_401_r38 : BitVec 32 := 0#32
  ![4, v505.toNat, 0, 0]
def k0_cond45 (i : grid0.Coords) (v458 : BitVec 32) (v460 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_259 : BitVec 32 := 4#32
  let v506 : BitVec 1 := Scalar.cmpi .eq v18 c4_i32_259
  let c4_i32_260 : BitVec 32 := 4#32
  let v507 : BitVec 1 := Scalar.cmpi .sgt v460 c4_i32_260
  let v508 : BitVec 1 := Scalar.andi v506 v507
  let c4_i32_258 : BitVec 32 := 4#32
  let v505 : BitVec 32 := Scalar.addi v458 c4_i32_258
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v509 : BitVec 1 := Scalar.cmpi .sge v505 v29
  let v510 : BitVec 1 := Scalar.andi v508 v509
  let c1024_i32_261 : BitVec 32 := 1024#32
  let v511 : BitVec 32 := Scalar.addi v29 c1024_i32_261
  let v512 : BitVec 1 := Scalar.cmpi .slt v505 v511
  let v513 : BitVec 1 := Scalar.andi v510 v512
  let v514 : BitVec 32 := Scalar.extui v513
  let c0_i32_262 : BitVec 32 := 0#32
  let v515 : BitVec 1 := Scalar.cmpi .ne v514 c0_i32_262
  v515

def k0_off48 (v458 : BitVec 32) : Fin 4 → Nat :=
  let c4_i32_399 : BitVec 32 := 4#32
  let c5_i32_263 : BitVec 32 := 5#32
  let v516 : BitVec 32 := Scalar.addi v458 c5_i32_263
  let c0_i32_400_r39 : BitVec 32 := 0#32
  let c0_i32_401_r39 : BitVec 32 := 0#32
  ![4, v516.toNat, 0, 0]
def k0_cond46 (i : grid0.Coords) (v458 : BitVec 32) (v460 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_264 : BitVec 32 := 4#32
  let v517 : BitVec 1 := Scalar.cmpi .eq v18 c4_i32_264
  let c5_i32_265 : BitVec 32 := 5#32
  let v518 : BitVec 1 := Scalar.cmpi .sgt v460 c5_i32_265
  let v519 : BitVec 1 := Scalar.andi v517 v518
  let c5_i32_263 : BitVec 32 := 5#32
  let v516 : BitVec 32 := Scalar.addi v458 c5_i32_263
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v520 : BitVec 1 := Scalar.cmpi .sge v516 v29
  let v521 : BitVec 1 := Scalar.andi v519 v520
  let c1024_i32_266 : BitVec 32 := 1024#32
  let v522 : BitVec 32 := Scalar.addi v29 c1024_i32_266
  let v523 : BitVec 1 := Scalar.cmpi .slt v516 v522
  let v524 : BitVec 1 := Scalar.andi v521 v523
  let v525 : BitVec 32 := Scalar.extui v524
  let c0_i32_267 : BitVec 32 := 0#32
  let v526 : BitVec 1 := Scalar.cmpi .ne v525 c0_i32_267
  v526

def k0_off49 (v458 : BitVec 32) : Fin 4 → Nat :=
  let c4_i32_399 : BitVec 32 := 4#32
  let c6_i32_268 : BitVec 32 := 6#32
  let v527 : BitVec 32 := Scalar.addi v458 c6_i32_268
  let c0_i32_400_r40 : BitVec 32 := 0#32
  let c0_i32_401_r40 : BitVec 32 := 0#32
  ![4, v527.toNat, 0, 0]
def k0_cond47 (i : grid0.Coords) (v458 : BitVec 32) (v460 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_269 : BitVec 32 := 4#32
  let v528 : BitVec 1 := Scalar.cmpi .eq v18 c4_i32_269
  let c6_i32_270 : BitVec 32 := 6#32
  let v529 : BitVec 1 := Scalar.cmpi .sgt v460 c6_i32_270
  let v530 : BitVec 1 := Scalar.andi v528 v529
  let c6_i32_268 : BitVec 32 := 6#32
  let v527 : BitVec 32 := Scalar.addi v458 c6_i32_268
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v531 : BitVec 1 := Scalar.cmpi .sge v527 v29
  let v532 : BitVec 1 := Scalar.andi v530 v531
  let c1024_i32_271 : BitVec 32 := 1024#32
  let v533 : BitVec 32 := Scalar.addi v29 c1024_i32_271
  let v534 : BitVec 1 := Scalar.cmpi .slt v527 v533
  let v535 : BitVec 1 := Scalar.andi v532 v534
  let v536 : BitVec 32 := Scalar.extui v535
  let c0_i32_272 : BitVec 32 := 0#32
  let v537 : BitVec 1 := Scalar.cmpi .ne v536 c0_i32_272
  v537

def k0_off50 (v458 : BitVec 32) : Fin 4 → Nat :=
  let c4_i32_399 : BitVec 32 := 4#32
  let c7_i32_273 : BitVec 32 := 7#32
  let v538 : BitVec 32 := Scalar.addi v458 c7_i32_273
  let c0_i32_400_r41 : BitVec 32 := 0#32
  let c0_i32_401_r41 : BitVec 32 := 0#32
  ![4, v538.toNat, 0, 0]
def k0_cond48 (i : grid0.Coords) (v458 : BitVec 32) (v460 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_274 : BitVec 32 := 4#32
  let v539 : BitVec 1 := Scalar.cmpi .eq v18 c4_i32_274
  let c7_i32_275 : BitVec 32 := 7#32
  let v540 : BitVec 1 := Scalar.cmpi .sgt v460 c7_i32_275
  let v541 : BitVec 1 := Scalar.andi v539 v540
  let c7_i32_273 : BitVec 32 := 7#32
  let v538 : BitVec 32 := Scalar.addi v458 c7_i32_273
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v542 : BitVec 1 := Scalar.cmpi .sge v538 v29
  let v543 : BitVec 1 := Scalar.andi v541 v542
  let c1024_i32_276 : BitVec 32 := 1024#32
  let v544 : BitVec 32 := Scalar.addi v29 c1024_i32_276
  let v545 : BitVec 1 := Scalar.cmpi .slt v538 v544
  let v546 : BitVec 1 := Scalar.andi v543 v545
  let v547 : BitVec 32 := Scalar.extui v546
  let c0_i32_277 : BitVec 32 := 0#32
  let v548 : BitVec 1 := Scalar.cmpi .ne v547 c0_i32_277
  v548

def k0_chk5 (i : grid0.Coords) (v458 : BitVec 32) (v460 : BitVec 32) : Prop :=
  (∀ (k0_h41 : k0_cond41 i v458 v460 = 1#1), ∀ a, (k0_off43 v458) a + S1x1x8x128.size a ≤ S8x4096x8x128.size a) ∧
  (∀ (k0_h42 : k0_cond42 i v458 v460 = 1#1), ∀ a, (k0_off44 v458) a + S1x1x8x128.size a ≤ S8x4096x8x128.size a) ∧
  (∀ (k0_h43 : k0_cond43 i v458 v460 = 1#1), ∀ a, (k0_off45 v458) a + S1x1x8x128.size a ≤ S8x4096x8x128.size a) ∧
  (∀ (k0_h44 : k0_cond44 i v458 v460 = 1#1), ∀ a, (k0_off46 v458) a + S1x1x8x128.size a ≤ S8x4096x8x128.size a) ∧
  (∀ (k0_h45 : k0_cond45 i v458 v460 = 1#1), ∀ a, (k0_off47 v458) a + S1x1x8x128.size a ≤ S8x4096x8x128.size a) ∧
  (∀ (k0_h46 : k0_cond46 i v458 v460 = 1#1), ∀ a, (k0_off48 v458) a + S1x1x8x128.size a ≤ S8x4096x8x128.size a) ∧
  (∀ (k0_h47 : k0_cond47 i v458 v460 = 1#1), ∀ a, (k0_off49 v458) a + S1x1x8x128.size a ≤ S8x4096x8x128.size a) ∧
  (∀ (k0_h48 : k0_cond48 i v458 v460 = 1#1), ∀ a, (k0_off50 v458) a + S1x1x8x128.size a ≤ S8x4096x8x128.size a)
theorem k0_off43_inb : ∀ (i : grid0.Coords) (v458 : BitVec 32) (v460 : BitVec 32) (k0_hw5 : k0_chk5 i v458 v460), ∀ (k0_h41 : k0_cond41 i v458 v460 = 1#1), ∀ a, (k0_off43 v458) a + S1x1x8x128.size a ≤ S8x4096x8x128.size a := fun i v458 v460 k0_hw5 k0_h41 => k0_hw5.1 k0_h41
theorem k0_off44_inb : ∀ (i : grid0.Coords) (v458 : BitVec 32) (v460 : BitVec 32) (k0_hw5 : k0_chk5 i v458 v460), ∀ (k0_h42 : k0_cond42 i v458 v460 = 1#1), ∀ a, (k0_off44 v458) a + S1x1x8x128.size a ≤ S8x4096x8x128.size a := fun i v458 v460 k0_hw5 k0_h42 => k0_hw5.2.1 k0_h42
theorem k0_off45_inb : ∀ (i : grid0.Coords) (v458 : BitVec 32) (v460 : BitVec 32) (k0_hw5 : k0_chk5 i v458 v460), ∀ (k0_h43 : k0_cond43 i v458 v460 = 1#1), ∀ a, (k0_off45 v458) a + S1x1x8x128.size a ≤ S8x4096x8x128.size a := fun i v458 v460 k0_hw5 k0_h43 => k0_hw5.2.2.1 k0_h43
theorem k0_off46_inb : ∀ (i : grid0.Coords) (v458 : BitVec 32) (v460 : BitVec 32) (k0_hw5 : k0_chk5 i v458 v460), ∀ (k0_h44 : k0_cond44 i v458 v460 = 1#1), ∀ a, (k0_off46 v458) a + S1x1x8x128.size a ≤ S8x4096x8x128.size a := fun i v458 v460 k0_hw5 k0_h44 => k0_hw5.2.2.2.1 k0_h44
theorem k0_off47_inb : ∀ (i : grid0.Coords) (v458 : BitVec 32) (v460 : BitVec 32) (k0_hw5 : k0_chk5 i v458 v460), ∀ (k0_h45 : k0_cond45 i v458 v460 = 1#1), ∀ a, (k0_off47 v458) a + S1x1x8x128.size a ≤ S8x4096x8x128.size a := fun i v458 v460 k0_hw5 k0_h45 => k0_hw5.2.2.2.2.1 k0_h45
theorem k0_off48_inb : ∀ (i : grid0.Coords) (v458 : BitVec 32) (v460 : BitVec 32) (k0_hw5 : k0_chk5 i v458 v460), ∀ (k0_h46 : k0_cond46 i v458 v460 = 1#1), ∀ a, (k0_off48 v458) a + S1x1x8x128.size a ≤ S8x4096x8x128.size a := fun i v458 v460 k0_hw5 k0_h46 => k0_hw5.2.2.2.2.2.1 k0_h46
theorem k0_off49_inb : ∀ (i : grid0.Coords) (v458 : BitVec 32) (v460 : BitVec 32) (k0_hw5 : k0_chk5 i v458 v460), ∀ (k0_h47 : k0_cond47 i v458 v460 = 1#1), ∀ a, (k0_off49 v458) a + S1x1x8x128.size a ≤ S8x4096x8x128.size a := fun i v458 v460 k0_hw5 k0_h47 => k0_hw5.2.2.2.2.2.2.1 k0_h47
theorem k0_off50_inb : ∀ (i : grid0.Coords) (v458 : BitVec 32) (v460 : BitVec 32) (k0_hw5 : k0_chk5 i v458 v460), ∀ (k0_h48 : k0_cond48 i v458 v460 = 1#1), ∀ a, (k0_off50 v458) a + S1x1x8x128.size a ≤ S8x4096x8x128.size a := fun i v458 v460 k0_hw5 k0_h48 => k0_hw5.2.2.2.2.2.2.2 k0_h48

def k0_off51 (v550 : BitVec 32) : Fin 4 → Nat :=
  let c5_i32_399 : BitVec 32 := 5#32
  let c0_i32_278 : BitVec 32 := 0#32
  let v553 : BitVec 32 := Scalar.addi v550 c0_i32_278
  let c0_i32_400_r42 : BitVec 32 := 0#32
  let c0_i32_401_r42 : BitVec 32 := 0#32
  ![5, v553.toNat, 0, 0]
def k0_cond49 (i : grid0.Coords) (v550 : BitVec 32) (v552 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c5_i32_279 : BitVec 32 := 5#32
  let v554 : BitVec 1 := Scalar.cmpi .eq v18 c5_i32_279
  let c0_i32_280 : BitVec 32 := 0#32
  let v555 : BitVec 1 := Scalar.cmpi .sgt v552 c0_i32_280
  let v556 : BitVec 1 := Scalar.andi v554 v555
  let c0_i32_278 : BitVec 32 := 0#32
  let v553 : BitVec 32 := Scalar.addi v550 c0_i32_278
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v557 : BitVec 1 := Scalar.cmpi .sge v553 v29
  let v558 : BitVec 1 := Scalar.andi v556 v557
  let c1024_i32_281 : BitVec 32 := 1024#32
  let v559 : BitVec 32 := Scalar.addi v29 c1024_i32_281
  let v560 : BitVec 1 := Scalar.cmpi .slt v553 v559
  let v561 : BitVec 1 := Scalar.andi v558 v560
  let v562 : BitVec 32 := Scalar.extui v561
  let c0_i32_282 : BitVec 32 := 0#32
  let v563 : BitVec 1 := Scalar.cmpi .ne v562 c0_i32_282
  v563

def k0_off52 (v550 : BitVec 32) : Fin 4 → Nat :=
  let c5_i32_399 : BitVec 32 := 5#32
  let c1_i32_283 : BitVec 32 := 1#32
  let v564 : BitVec 32 := Scalar.addi v550 c1_i32_283
  let c0_i32_400_r43 : BitVec 32 := 0#32
  let c0_i32_401_r43 : BitVec 32 := 0#32
  ![5, v564.toNat, 0, 0]
def k0_cond50 (i : grid0.Coords) (v550 : BitVec 32) (v552 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c5_i32_284 : BitVec 32 := 5#32
  let v565 : BitVec 1 := Scalar.cmpi .eq v18 c5_i32_284
  let c1_i32_285 : BitVec 32 := 1#32
  let v566 : BitVec 1 := Scalar.cmpi .sgt v552 c1_i32_285
  let v567 : BitVec 1 := Scalar.andi v565 v566
  let c1_i32_283 : BitVec 32 := 1#32
  let v564 : BitVec 32 := Scalar.addi v550 c1_i32_283
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v568 : BitVec 1 := Scalar.cmpi .sge v564 v29
  let v569 : BitVec 1 := Scalar.andi v567 v568
  let c1024_i32_286 : BitVec 32 := 1024#32
  let v570 : BitVec 32 := Scalar.addi v29 c1024_i32_286
  let v571 : BitVec 1 := Scalar.cmpi .slt v564 v570
  let v572 : BitVec 1 := Scalar.andi v569 v571
  let v573 : BitVec 32 := Scalar.extui v572
  let c0_i32_287 : BitVec 32 := 0#32
  let v574 : BitVec 1 := Scalar.cmpi .ne v573 c0_i32_287
  v574

def k0_off53 (v550 : BitVec 32) : Fin 4 → Nat :=
  let c5_i32_399 : BitVec 32 := 5#32
  let c2_i32_288 : BitVec 32 := 2#32
  let v575 : BitVec 32 := Scalar.addi v550 c2_i32_288
  let c0_i32_400_r44 : BitVec 32 := 0#32
  let c0_i32_401_r44 : BitVec 32 := 0#32
  ![5, v575.toNat, 0, 0]
def k0_cond51 (i : grid0.Coords) (v550 : BitVec 32) (v552 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c5_i32_289 : BitVec 32 := 5#32
  let v576 : BitVec 1 := Scalar.cmpi .eq v18 c5_i32_289
  let c2_i32_290 : BitVec 32 := 2#32
  let v577 : BitVec 1 := Scalar.cmpi .sgt v552 c2_i32_290
  let v578 : BitVec 1 := Scalar.andi v576 v577
  let c2_i32_288 : BitVec 32 := 2#32
  let v575 : BitVec 32 := Scalar.addi v550 c2_i32_288
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v579 : BitVec 1 := Scalar.cmpi .sge v575 v29
  let v580 : BitVec 1 := Scalar.andi v578 v579
  let c1024_i32_291 : BitVec 32 := 1024#32
  let v581 : BitVec 32 := Scalar.addi v29 c1024_i32_291
  let v582 : BitVec 1 := Scalar.cmpi .slt v575 v581
  let v583 : BitVec 1 := Scalar.andi v580 v582
  let v584 : BitVec 32 := Scalar.extui v583
  let c0_i32_292 : BitVec 32 := 0#32
  let v585 : BitVec 1 := Scalar.cmpi .ne v584 c0_i32_292
  v585

def k0_off54 (v550 : BitVec 32) : Fin 4 → Nat :=
  let c5_i32_399 : BitVec 32 := 5#32
  let c3_i32_293 : BitVec 32 := 3#32
  let v586 : BitVec 32 := Scalar.addi v550 c3_i32_293
  let c0_i32_400_r45 : BitVec 32 := 0#32
  let c0_i32_401_r45 : BitVec 32 := 0#32
  ![5, v586.toNat, 0, 0]
def k0_cond52 (i : grid0.Coords) (v550 : BitVec 32) (v552 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c5_i32_294 : BitVec 32 := 5#32
  let v587 : BitVec 1 := Scalar.cmpi .eq v18 c5_i32_294
  let c3_i32_295 : BitVec 32 := 3#32
  let v588 : BitVec 1 := Scalar.cmpi .sgt v552 c3_i32_295
  let v589 : BitVec 1 := Scalar.andi v587 v588
  let c3_i32_293 : BitVec 32 := 3#32
  let v586 : BitVec 32 := Scalar.addi v550 c3_i32_293
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v590 : BitVec 1 := Scalar.cmpi .sge v586 v29
  let v591 : BitVec 1 := Scalar.andi v589 v590
  let c1024_i32_296 : BitVec 32 := 1024#32
  let v592 : BitVec 32 := Scalar.addi v29 c1024_i32_296
  let v593 : BitVec 1 := Scalar.cmpi .slt v586 v592
  let v594 : BitVec 1 := Scalar.andi v591 v593
  let v595 : BitVec 32 := Scalar.extui v594
  let c0_i32_297 : BitVec 32 := 0#32
  let v596 : BitVec 1 := Scalar.cmpi .ne v595 c0_i32_297
  v596

def k0_off55 (v550 : BitVec 32) : Fin 4 → Nat :=
  let c5_i32_399 : BitVec 32 := 5#32
  let c4_i32_298 : BitVec 32 := 4#32
  let v597 : BitVec 32 := Scalar.addi v550 c4_i32_298
  let c0_i32_400_r46 : BitVec 32 := 0#32
  let c0_i32_401_r46 : BitVec 32 := 0#32
  ![5, v597.toNat, 0, 0]
def k0_cond53 (i : grid0.Coords) (v550 : BitVec 32) (v552 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c5_i32_299 : BitVec 32 := 5#32
  let v598 : BitVec 1 := Scalar.cmpi .eq v18 c5_i32_299
  let c4_i32_300 : BitVec 32 := 4#32
  let v599 : BitVec 1 := Scalar.cmpi .sgt v552 c4_i32_300
  let v600 : BitVec 1 := Scalar.andi v598 v599
  let c4_i32_298 : BitVec 32 := 4#32
  let v597 : BitVec 32 := Scalar.addi v550 c4_i32_298
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v601 : BitVec 1 := Scalar.cmpi .sge v597 v29
  let v602 : BitVec 1 := Scalar.andi v600 v601
  let c1024_i32_301 : BitVec 32 := 1024#32
  let v603 : BitVec 32 := Scalar.addi v29 c1024_i32_301
  let v604 : BitVec 1 := Scalar.cmpi .slt v597 v603
  let v605 : BitVec 1 := Scalar.andi v602 v604
  let v606 : BitVec 32 := Scalar.extui v605
  let c0_i32_302 : BitVec 32 := 0#32
  let v607 : BitVec 1 := Scalar.cmpi .ne v606 c0_i32_302
  v607

def k0_off56 (v550 : BitVec 32) : Fin 4 → Nat :=
  let c5_i32_399 : BitVec 32 := 5#32
  let c5_i32_303 : BitVec 32 := 5#32
  let v608 : BitVec 32 := Scalar.addi v550 c5_i32_303
  let c0_i32_400_r47 : BitVec 32 := 0#32
  let c0_i32_401_r47 : BitVec 32 := 0#32
  ![5, v608.toNat, 0, 0]
def k0_cond54 (i : grid0.Coords) (v550 : BitVec 32) (v552 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c5_i32_304 : BitVec 32 := 5#32
  let v609 : BitVec 1 := Scalar.cmpi .eq v18 c5_i32_304
  let c5_i32_305 : BitVec 32 := 5#32
  let v610 : BitVec 1 := Scalar.cmpi .sgt v552 c5_i32_305
  let v611 : BitVec 1 := Scalar.andi v609 v610
  let c5_i32_303 : BitVec 32 := 5#32
  let v608 : BitVec 32 := Scalar.addi v550 c5_i32_303
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v612 : BitVec 1 := Scalar.cmpi .sge v608 v29
  let v613 : BitVec 1 := Scalar.andi v611 v612
  let c1024_i32_306 : BitVec 32 := 1024#32
  let v614 : BitVec 32 := Scalar.addi v29 c1024_i32_306
  let v615 : BitVec 1 := Scalar.cmpi .slt v608 v614
  let v616 : BitVec 1 := Scalar.andi v613 v615
  let v617 : BitVec 32 := Scalar.extui v616
  let c0_i32_307 : BitVec 32 := 0#32
  let v618 : BitVec 1 := Scalar.cmpi .ne v617 c0_i32_307
  v618

def k0_off57 (v550 : BitVec 32) : Fin 4 → Nat :=
  let c5_i32_399 : BitVec 32 := 5#32
  let c6_i32_308 : BitVec 32 := 6#32
  let v619 : BitVec 32 := Scalar.addi v550 c6_i32_308
  let c0_i32_400_r48 : BitVec 32 := 0#32
  let c0_i32_401_r48 : BitVec 32 := 0#32
  ![5, v619.toNat, 0, 0]
def k0_cond55 (i : grid0.Coords) (v550 : BitVec 32) (v552 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c5_i32_309 : BitVec 32 := 5#32
  let v620 : BitVec 1 := Scalar.cmpi .eq v18 c5_i32_309
  let c6_i32_310 : BitVec 32 := 6#32
  let v621 : BitVec 1 := Scalar.cmpi .sgt v552 c6_i32_310
  let v622 : BitVec 1 := Scalar.andi v620 v621
  let c6_i32_308 : BitVec 32 := 6#32
  let v619 : BitVec 32 := Scalar.addi v550 c6_i32_308
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v623 : BitVec 1 := Scalar.cmpi .sge v619 v29
  let v624 : BitVec 1 := Scalar.andi v622 v623
  let c1024_i32_311 : BitVec 32 := 1024#32
  let v625 : BitVec 32 := Scalar.addi v29 c1024_i32_311
  let v626 : BitVec 1 := Scalar.cmpi .slt v619 v625
  let v627 : BitVec 1 := Scalar.andi v624 v626
  let v628 : BitVec 32 := Scalar.extui v627
  let c0_i32_312 : BitVec 32 := 0#32
  let v629 : BitVec 1 := Scalar.cmpi .ne v628 c0_i32_312
  v629

def k0_off58 (v550 : BitVec 32) : Fin 4 → Nat :=
  let c5_i32_399 : BitVec 32 := 5#32
  let c7_i32_313 : BitVec 32 := 7#32
  let v630 : BitVec 32 := Scalar.addi v550 c7_i32_313
  let c0_i32_400_r49 : BitVec 32 := 0#32
  let c0_i32_401_r49 : BitVec 32 := 0#32
  ![5, v630.toNat, 0, 0]
def k0_cond56 (i : grid0.Coords) (v550 : BitVec 32) (v552 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c5_i32_314 : BitVec 32 := 5#32
  let v631 : BitVec 1 := Scalar.cmpi .eq v18 c5_i32_314
  let c7_i32_315 : BitVec 32 := 7#32
  let v632 : BitVec 1 := Scalar.cmpi .sgt v552 c7_i32_315
  let v633 : BitVec 1 := Scalar.andi v631 v632
  let c7_i32_313 : BitVec 32 := 7#32
  let v630 : BitVec 32 := Scalar.addi v550 c7_i32_313
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v634 : BitVec 1 := Scalar.cmpi .sge v630 v29
  let v635 : BitVec 1 := Scalar.andi v633 v634
  let c1024_i32_316 : BitVec 32 := 1024#32
  let v636 : BitVec 32 := Scalar.addi v29 c1024_i32_316
  let v637 : BitVec 1 := Scalar.cmpi .slt v630 v636
  let v638 : BitVec 1 := Scalar.andi v635 v637
  let v639 : BitVec 32 := Scalar.extui v638
  let c0_i32_317 : BitVec 32 := 0#32
  let v640 : BitVec 1 := Scalar.cmpi .ne v639 c0_i32_317
  v640

def k0_chk6 (i : grid0.Coords) (v550 : BitVec 32) (v552 : BitVec 32) : Prop :=
  (∀ (k0_h49 : k0_cond49 i v550 v552 = 1#1), ∀ a, (k0_off51 v550) a + S1x1x8x128.size a ≤ S8x4096x8x128.size a) ∧
  (∀ (k0_h50 : k0_cond50 i v550 v552 = 1#1), ∀ a, (k0_off52 v550) a + S1x1x8x128.size a ≤ S8x4096x8x128.size a) ∧
  (∀ (k0_h51 : k0_cond51 i v550 v552 = 1#1), ∀ a, (k0_off53 v550) a + S1x1x8x128.size a ≤ S8x4096x8x128.size a) ∧
  (∀ (k0_h52 : k0_cond52 i v550 v552 = 1#1), ∀ a, (k0_off54 v550) a + S1x1x8x128.size a ≤ S8x4096x8x128.size a) ∧
  (∀ (k0_h53 : k0_cond53 i v550 v552 = 1#1), ∀ a, (k0_off55 v550) a + S1x1x8x128.size a ≤ S8x4096x8x128.size a) ∧
  (∀ (k0_h54 : k0_cond54 i v550 v552 = 1#1), ∀ a, (k0_off56 v550) a + S1x1x8x128.size a ≤ S8x4096x8x128.size a) ∧
  (∀ (k0_h55 : k0_cond55 i v550 v552 = 1#1), ∀ a, (k0_off57 v550) a + S1x1x8x128.size a ≤ S8x4096x8x128.size a) ∧
  (∀ (k0_h56 : k0_cond56 i v550 v552 = 1#1), ∀ a, (k0_off58 v550) a + S1x1x8x128.size a ≤ S8x4096x8x128.size a)
theorem k0_off51_inb : ∀ (i : grid0.Coords) (v550 : BitVec 32) (v552 : BitVec 32) (k0_hw6 : k0_chk6 i v550 v552), ∀ (k0_h49 : k0_cond49 i v550 v552 = 1#1), ∀ a, (k0_off51 v550) a + S1x1x8x128.size a ≤ S8x4096x8x128.size a := fun i v550 v552 k0_hw6 k0_h49 => k0_hw6.1 k0_h49
theorem k0_off52_inb : ∀ (i : grid0.Coords) (v550 : BitVec 32) (v552 : BitVec 32) (k0_hw6 : k0_chk6 i v550 v552), ∀ (k0_h50 : k0_cond50 i v550 v552 = 1#1), ∀ a, (k0_off52 v550) a + S1x1x8x128.size a ≤ S8x4096x8x128.size a := fun i v550 v552 k0_hw6 k0_h50 => k0_hw6.2.1 k0_h50
theorem k0_off53_inb : ∀ (i : grid0.Coords) (v550 : BitVec 32) (v552 : BitVec 32) (k0_hw6 : k0_chk6 i v550 v552), ∀ (k0_h51 : k0_cond51 i v550 v552 = 1#1), ∀ a, (k0_off53 v550) a + S1x1x8x128.size a ≤ S8x4096x8x128.size a := fun i v550 v552 k0_hw6 k0_h51 => k0_hw6.2.2.1 k0_h51
theorem k0_off54_inb : ∀ (i : grid0.Coords) (v550 : BitVec 32) (v552 : BitVec 32) (k0_hw6 : k0_chk6 i v550 v552), ∀ (k0_h52 : k0_cond52 i v550 v552 = 1#1), ∀ a, (k0_off54 v550) a + S1x1x8x128.size a ≤ S8x4096x8x128.size a := fun i v550 v552 k0_hw6 k0_h52 => k0_hw6.2.2.2.1 k0_h52
theorem k0_off55_inb : ∀ (i : grid0.Coords) (v550 : BitVec 32) (v552 : BitVec 32) (k0_hw6 : k0_chk6 i v550 v552), ∀ (k0_h53 : k0_cond53 i v550 v552 = 1#1), ∀ a, (k0_off55 v550) a + S1x1x8x128.size a ≤ S8x4096x8x128.size a := fun i v550 v552 k0_hw6 k0_h53 => k0_hw6.2.2.2.2.1 k0_h53
theorem k0_off56_inb : ∀ (i : grid0.Coords) (v550 : BitVec 32) (v552 : BitVec 32) (k0_hw6 : k0_chk6 i v550 v552), ∀ (k0_h54 : k0_cond54 i v550 v552 = 1#1), ∀ a, (k0_off56 v550) a + S1x1x8x128.size a ≤ S8x4096x8x128.size a := fun i v550 v552 k0_hw6 k0_h54 => k0_hw6.2.2.2.2.2.1 k0_h54
theorem k0_off57_inb : ∀ (i : grid0.Coords) (v550 : BitVec 32) (v552 : BitVec 32) (k0_hw6 : k0_chk6 i v550 v552), ∀ (k0_h55 : k0_cond55 i v550 v552 = 1#1), ∀ a, (k0_off57 v550) a + S1x1x8x128.size a ≤ S8x4096x8x128.size a := fun i v550 v552 k0_hw6 k0_h55 => k0_hw6.2.2.2.2.2.2.1 k0_h55
theorem k0_off58_inb : ∀ (i : grid0.Coords) (v550 : BitVec 32) (v552 : BitVec 32) (k0_hw6 : k0_chk6 i v550 v552), ∀ (k0_h56 : k0_cond56 i v550 v552 = 1#1), ∀ a, (k0_off58 v550) a + S1x1x8x128.size a ≤ S8x4096x8x128.size a := fun i v550 v552 k0_hw6 k0_h56 => k0_hw6.2.2.2.2.2.2.2 k0_h56

def k0_off59 (v642 : BitVec 32) : Fin 4 → Nat :=
  let c6_i32_399 : BitVec 32 := 6#32
  let c0_i32_318 : BitVec 32 := 0#32
  let v645 : BitVec 32 := Scalar.addi v642 c0_i32_318
  let c0_i32_400_r50 : BitVec 32 := 0#32
  let c0_i32_401_r50 : BitVec 32 := 0#32
  ![6, v645.toNat, 0, 0]
def k0_cond57 (i : grid0.Coords) (v642 : BitVec 32) (v644 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c6_i32_319 : BitVec 32 := 6#32
  let v646 : BitVec 1 := Scalar.cmpi .eq v18 c6_i32_319
  let c0_i32_320 : BitVec 32 := 0#32
  let v647 : BitVec 1 := Scalar.cmpi .sgt v644 c0_i32_320
  let v648 : BitVec 1 := Scalar.andi v646 v647
  let c0_i32_318 : BitVec 32 := 0#32
  let v645 : BitVec 32 := Scalar.addi v642 c0_i32_318
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v649 : BitVec 1 := Scalar.cmpi .sge v645 v29
  let v650 : BitVec 1 := Scalar.andi v648 v649
  let c1024_i32_321 : BitVec 32 := 1024#32
  let v651 : BitVec 32 := Scalar.addi v29 c1024_i32_321
  let v652 : BitVec 1 := Scalar.cmpi .slt v645 v651
  let v653 : BitVec 1 := Scalar.andi v650 v652
  let v654 : BitVec 32 := Scalar.extui v653
  let c0_i32_322 : BitVec 32 := 0#32
  let v655 : BitVec 1 := Scalar.cmpi .ne v654 c0_i32_322
  v655

def k0_off60 (v642 : BitVec 32) : Fin 4 → Nat :=
  let c6_i32_399 : BitVec 32 := 6#32
  let c1_i32_323 : BitVec 32 := 1#32
  let v656 : BitVec 32 := Scalar.addi v642 c1_i32_323
  let c0_i32_400_r51 : BitVec 32 := 0#32
  let c0_i32_401_r51 : BitVec 32 := 0#32
  ![6, v656.toNat, 0, 0]
def k0_cond58 (i : grid0.Coords) (v642 : BitVec 32) (v644 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c6_i32_324 : BitVec 32 := 6#32
  let v657 : BitVec 1 := Scalar.cmpi .eq v18 c6_i32_324
  let c1_i32_325 : BitVec 32 := 1#32
  let v658 : BitVec 1 := Scalar.cmpi .sgt v644 c1_i32_325
  let v659 : BitVec 1 := Scalar.andi v657 v658
  let c1_i32_323 : BitVec 32 := 1#32
  let v656 : BitVec 32 := Scalar.addi v642 c1_i32_323
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v660 : BitVec 1 := Scalar.cmpi .sge v656 v29
  let v661 : BitVec 1 := Scalar.andi v659 v660
  let c1024_i32_326 : BitVec 32 := 1024#32
  let v662 : BitVec 32 := Scalar.addi v29 c1024_i32_326
  let v663 : BitVec 1 := Scalar.cmpi .slt v656 v662
  let v664 : BitVec 1 := Scalar.andi v661 v663
  let v665 : BitVec 32 := Scalar.extui v664
  let c0_i32_327 : BitVec 32 := 0#32
  let v666 : BitVec 1 := Scalar.cmpi .ne v665 c0_i32_327
  v666

def k0_off61 (v642 : BitVec 32) : Fin 4 → Nat :=
  let c6_i32_399 : BitVec 32 := 6#32
  let c2_i32_328 : BitVec 32 := 2#32
  let v667 : BitVec 32 := Scalar.addi v642 c2_i32_328
  let c0_i32_400_r52 : BitVec 32 := 0#32
  let c0_i32_401_r52 : BitVec 32 := 0#32
  ![6, v667.toNat, 0, 0]
def k0_cond59 (i : grid0.Coords) (v642 : BitVec 32) (v644 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c6_i32_329 : BitVec 32 := 6#32
  let v668 : BitVec 1 := Scalar.cmpi .eq v18 c6_i32_329
  let c2_i32_330 : BitVec 32 := 2#32
  let v669 : BitVec 1 := Scalar.cmpi .sgt v644 c2_i32_330
  let v670 : BitVec 1 := Scalar.andi v668 v669
  let c2_i32_328 : BitVec 32 := 2#32
  let v667 : BitVec 32 := Scalar.addi v642 c2_i32_328
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v671 : BitVec 1 := Scalar.cmpi .sge v667 v29
  let v672 : BitVec 1 := Scalar.andi v670 v671
  let c1024_i32_331 : BitVec 32 := 1024#32
  let v673 : BitVec 32 := Scalar.addi v29 c1024_i32_331
  let v674 : BitVec 1 := Scalar.cmpi .slt v667 v673
  let v675 : BitVec 1 := Scalar.andi v672 v674
  let v676 : BitVec 32 := Scalar.extui v675
  let c0_i32_332 : BitVec 32 := 0#32
  let v677 : BitVec 1 := Scalar.cmpi .ne v676 c0_i32_332
  v677

def k0_off62 (v642 : BitVec 32) : Fin 4 → Nat :=
  let c6_i32_399 : BitVec 32 := 6#32
  let c3_i32_333 : BitVec 32 := 3#32
  let v678 : BitVec 32 := Scalar.addi v642 c3_i32_333
  let c0_i32_400_r53 : BitVec 32 := 0#32
  let c0_i32_401_r53 : BitVec 32 := 0#32
  ![6, v678.toNat, 0, 0]
def k0_cond60 (i : grid0.Coords) (v642 : BitVec 32) (v644 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c6_i32_334 : BitVec 32 := 6#32
  let v679 : BitVec 1 := Scalar.cmpi .eq v18 c6_i32_334
  let c3_i32_335 : BitVec 32 := 3#32
  let v680 : BitVec 1 := Scalar.cmpi .sgt v644 c3_i32_335
  let v681 : BitVec 1 := Scalar.andi v679 v680
  let c3_i32_333 : BitVec 32 := 3#32
  let v678 : BitVec 32 := Scalar.addi v642 c3_i32_333
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v682 : BitVec 1 := Scalar.cmpi .sge v678 v29
  let v683 : BitVec 1 := Scalar.andi v681 v682
  let c1024_i32_336 : BitVec 32 := 1024#32
  let v684 : BitVec 32 := Scalar.addi v29 c1024_i32_336
  let v685 : BitVec 1 := Scalar.cmpi .slt v678 v684
  let v686 : BitVec 1 := Scalar.andi v683 v685
  let v687 : BitVec 32 := Scalar.extui v686
  let c0_i32_337 : BitVec 32 := 0#32
  let v688 : BitVec 1 := Scalar.cmpi .ne v687 c0_i32_337
  v688

def k0_off63 (v642 : BitVec 32) : Fin 4 → Nat :=
  let c6_i32_399 : BitVec 32 := 6#32
  let c4_i32_338 : BitVec 32 := 4#32
  let v689 : BitVec 32 := Scalar.addi v642 c4_i32_338
  let c0_i32_400_r54 : BitVec 32 := 0#32
  let c0_i32_401_r54 : BitVec 32 := 0#32
  ![6, v689.toNat, 0, 0]
def k0_cond61 (i : grid0.Coords) (v642 : BitVec 32) (v644 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c6_i32_339 : BitVec 32 := 6#32
  let v690 : BitVec 1 := Scalar.cmpi .eq v18 c6_i32_339
  let c4_i32_340 : BitVec 32 := 4#32
  let v691 : BitVec 1 := Scalar.cmpi .sgt v644 c4_i32_340
  let v692 : BitVec 1 := Scalar.andi v690 v691
  let c4_i32_338 : BitVec 32 := 4#32
  let v689 : BitVec 32 := Scalar.addi v642 c4_i32_338
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v693 : BitVec 1 := Scalar.cmpi .sge v689 v29
  let v694 : BitVec 1 := Scalar.andi v692 v693
  let c1024_i32_341 : BitVec 32 := 1024#32
  let v695 : BitVec 32 := Scalar.addi v29 c1024_i32_341
  let v696 : BitVec 1 := Scalar.cmpi .slt v689 v695
  let v697 : BitVec 1 := Scalar.andi v694 v696
  let v698 : BitVec 32 := Scalar.extui v697
  let c0_i32_342 : BitVec 32 := 0#32
  let v699 : BitVec 1 := Scalar.cmpi .ne v698 c0_i32_342
  v699

def k0_off64 (v642 : BitVec 32) : Fin 4 → Nat :=
  let c6_i32_399 : BitVec 32 := 6#32
  let c5_i32_343 : BitVec 32 := 5#32
  let v700 : BitVec 32 := Scalar.addi v642 c5_i32_343
  let c0_i32_400_r55 : BitVec 32 := 0#32
  let c0_i32_401_r55 : BitVec 32 := 0#32
  ![6, v700.toNat, 0, 0]
def k0_cond62 (i : grid0.Coords) (v642 : BitVec 32) (v644 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c6_i32_344 : BitVec 32 := 6#32
  let v701 : BitVec 1 := Scalar.cmpi .eq v18 c6_i32_344
  let c5_i32_345 : BitVec 32 := 5#32
  let v702 : BitVec 1 := Scalar.cmpi .sgt v644 c5_i32_345
  let v703 : BitVec 1 := Scalar.andi v701 v702
  let c5_i32_343 : BitVec 32 := 5#32
  let v700 : BitVec 32 := Scalar.addi v642 c5_i32_343
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v704 : BitVec 1 := Scalar.cmpi .sge v700 v29
  let v705 : BitVec 1 := Scalar.andi v703 v704
  let c1024_i32_346 : BitVec 32 := 1024#32
  let v706 : BitVec 32 := Scalar.addi v29 c1024_i32_346
  let v707 : BitVec 1 := Scalar.cmpi .slt v700 v706
  let v708 : BitVec 1 := Scalar.andi v705 v707
  let v709 : BitVec 32 := Scalar.extui v708
  let c0_i32_347 : BitVec 32 := 0#32
  let v710 : BitVec 1 := Scalar.cmpi .ne v709 c0_i32_347
  v710

def k0_off65 (v642 : BitVec 32) : Fin 4 → Nat :=
  let c6_i32_399 : BitVec 32 := 6#32
  let c6_i32_348 : BitVec 32 := 6#32
  let v711 : BitVec 32 := Scalar.addi v642 c6_i32_348
  let c0_i32_400_r56 : BitVec 32 := 0#32
  let c0_i32_401_r56 : BitVec 32 := 0#32
  ![6, v711.toNat, 0, 0]
def k0_cond63 (i : grid0.Coords) (v642 : BitVec 32) (v644 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c6_i32_349 : BitVec 32 := 6#32
  let v712 : BitVec 1 := Scalar.cmpi .eq v18 c6_i32_349
  let c6_i32_350 : BitVec 32 := 6#32
  let v713 : BitVec 1 := Scalar.cmpi .sgt v644 c6_i32_350
  let v714 : BitVec 1 := Scalar.andi v712 v713
  let c6_i32_348 : BitVec 32 := 6#32
  let v711 : BitVec 32 := Scalar.addi v642 c6_i32_348
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v715 : BitVec 1 := Scalar.cmpi .sge v711 v29
  let v716 : BitVec 1 := Scalar.andi v714 v715
  let c1024_i32_351 : BitVec 32 := 1024#32
  let v717 : BitVec 32 := Scalar.addi v29 c1024_i32_351
  let v718 : BitVec 1 := Scalar.cmpi .slt v711 v717
  let v719 : BitVec 1 := Scalar.andi v716 v718
  let v720 : BitVec 32 := Scalar.extui v719
  let c0_i32_352 : BitVec 32 := 0#32
  let v721 : BitVec 1 := Scalar.cmpi .ne v720 c0_i32_352
  v721

def k0_off66 (v642 : BitVec 32) : Fin 4 → Nat :=
  let c6_i32_399 : BitVec 32 := 6#32
  let c7_i32_353 : BitVec 32 := 7#32
  let v722 : BitVec 32 := Scalar.addi v642 c7_i32_353
  let c0_i32_400_r57 : BitVec 32 := 0#32
  let c0_i32_401_r57 : BitVec 32 := 0#32
  ![6, v722.toNat, 0, 0]
def k0_cond64 (i : grid0.Coords) (v642 : BitVec 32) (v644 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c6_i32_354 : BitVec 32 := 6#32
  let v723 : BitVec 1 := Scalar.cmpi .eq v18 c6_i32_354
  let c7_i32_355 : BitVec 32 := 7#32
  let v724 : BitVec 1 := Scalar.cmpi .sgt v644 c7_i32_355
  let v725 : BitVec 1 := Scalar.andi v723 v724
  let c7_i32_353 : BitVec 32 := 7#32
  let v722 : BitVec 32 := Scalar.addi v642 c7_i32_353
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v726 : BitVec 1 := Scalar.cmpi .sge v722 v29
  let v727 : BitVec 1 := Scalar.andi v725 v726
  let c1024_i32_356 : BitVec 32 := 1024#32
  let v728 : BitVec 32 := Scalar.addi v29 c1024_i32_356
  let v729 : BitVec 1 := Scalar.cmpi .slt v722 v728
  let v730 : BitVec 1 := Scalar.andi v727 v729
  let v731 : BitVec 32 := Scalar.extui v730
  let c0_i32_357 : BitVec 32 := 0#32
  let v732 : BitVec 1 := Scalar.cmpi .ne v731 c0_i32_357
  v732

def k0_chk7 (i : grid0.Coords) (v642 : BitVec 32) (v644 : BitVec 32) : Prop :=
  (∀ (k0_h57 : k0_cond57 i v642 v644 = 1#1), ∀ a, (k0_off59 v642) a + S1x1x8x128.size a ≤ S8x4096x8x128.size a) ∧
  (∀ (k0_h58 : k0_cond58 i v642 v644 = 1#1), ∀ a, (k0_off60 v642) a + S1x1x8x128.size a ≤ S8x4096x8x128.size a) ∧
  (∀ (k0_h59 : k0_cond59 i v642 v644 = 1#1), ∀ a, (k0_off61 v642) a + S1x1x8x128.size a ≤ S8x4096x8x128.size a) ∧
  (∀ (k0_h60 : k0_cond60 i v642 v644 = 1#1), ∀ a, (k0_off62 v642) a + S1x1x8x128.size a ≤ S8x4096x8x128.size a) ∧
  (∀ (k0_h61 : k0_cond61 i v642 v644 = 1#1), ∀ a, (k0_off63 v642) a + S1x1x8x128.size a ≤ S8x4096x8x128.size a) ∧
  (∀ (k0_h62 : k0_cond62 i v642 v644 = 1#1), ∀ a, (k0_off64 v642) a + S1x1x8x128.size a ≤ S8x4096x8x128.size a) ∧
  (∀ (k0_h63 : k0_cond63 i v642 v644 = 1#1), ∀ a, (k0_off65 v642) a + S1x1x8x128.size a ≤ S8x4096x8x128.size a) ∧
  (∀ (k0_h64 : k0_cond64 i v642 v644 = 1#1), ∀ a, (k0_off66 v642) a + S1x1x8x128.size a ≤ S8x4096x8x128.size a)
theorem k0_off59_inb : ∀ (i : grid0.Coords) (v642 : BitVec 32) (v644 : BitVec 32) (k0_hw7 : k0_chk7 i v642 v644), ∀ (k0_h57 : k0_cond57 i v642 v644 = 1#1), ∀ a, (k0_off59 v642) a + S1x1x8x128.size a ≤ S8x4096x8x128.size a := fun i v642 v644 k0_hw7 k0_h57 => k0_hw7.1 k0_h57
theorem k0_off60_inb : ∀ (i : grid0.Coords) (v642 : BitVec 32) (v644 : BitVec 32) (k0_hw7 : k0_chk7 i v642 v644), ∀ (k0_h58 : k0_cond58 i v642 v644 = 1#1), ∀ a, (k0_off60 v642) a + S1x1x8x128.size a ≤ S8x4096x8x128.size a := fun i v642 v644 k0_hw7 k0_h58 => k0_hw7.2.1 k0_h58
theorem k0_off61_inb : ∀ (i : grid0.Coords) (v642 : BitVec 32) (v644 : BitVec 32) (k0_hw7 : k0_chk7 i v642 v644), ∀ (k0_h59 : k0_cond59 i v642 v644 = 1#1), ∀ a, (k0_off61 v642) a + S1x1x8x128.size a ≤ S8x4096x8x128.size a := fun i v642 v644 k0_hw7 k0_h59 => k0_hw7.2.2.1 k0_h59
theorem k0_off62_inb : ∀ (i : grid0.Coords) (v642 : BitVec 32) (v644 : BitVec 32) (k0_hw7 : k0_chk7 i v642 v644), ∀ (k0_h60 : k0_cond60 i v642 v644 = 1#1), ∀ a, (k0_off62 v642) a + S1x1x8x128.size a ≤ S8x4096x8x128.size a := fun i v642 v644 k0_hw7 k0_h60 => k0_hw7.2.2.2.1 k0_h60
theorem k0_off63_inb : ∀ (i : grid0.Coords) (v642 : BitVec 32) (v644 : BitVec 32) (k0_hw7 : k0_chk7 i v642 v644), ∀ (k0_h61 : k0_cond61 i v642 v644 = 1#1), ∀ a, (k0_off63 v642) a + S1x1x8x128.size a ≤ S8x4096x8x128.size a := fun i v642 v644 k0_hw7 k0_h61 => k0_hw7.2.2.2.2.1 k0_h61
theorem k0_off64_inb : ∀ (i : grid0.Coords) (v642 : BitVec 32) (v644 : BitVec 32) (k0_hw7 : k0_chk7 i v642 v644), ∀ (k0_h62 : k0_cond62 i v642 v644 = 1#1), ∀ a, (k0_off64 v642) a + S1x1x8x128.size a ≤ S8x4096x8x128.size a := fun i v642 v644 k0_hw7 k0_h62 => k0_hw7.2.2.2.2.2.1 k0_h62
theorem k0_off65_inb : ∀ (i : grid0.Coords) (v642 : BitVec 32) (v644 : BitVec 32) (k0_hw7 : k0_chk7 i v642 v644), ∀ (k0_h63 : k0_cond63 i v642 v644 = 1#1), ∀ a, (k0_off65 v642) a + S1x1x8x128.size a ≤ S8x4096x8x128.size a := fun i v642 v644 k0_hw7 k0_h63 => k0_hw7.2.2.2.2.2.2.1 k0_h63
theorem k0_off66_inb : ∀ (i : grid0.Coords) (v642 : BitVec 32) (v644 : BitVec 32) (k0_hw7 : k0_chk7 i v642 v644), ∀ (k0_h64 : k0_cond64 i v642 v644 = 1#1), ∀ a, (k0_off66 v642) a + S1x1x8x128.size a ≤ S8x4096x8x128.size a := fun i v642 v644 k0_hw7 k0_h64 => k0_hw7.2.2.2.2.2.2.2 k0_h64

def k0_off67 (v734 : BitVec 32) : Fin 4 → Nat :=
  let c7_i32_399 : BitVec 32 := 7#32
  let c0_i32_358 : BitVec 32 := 0#32
  let v737 : BitVec 32 := Scalar.addi v734 c0_i32_358
  let c0_i32_400_r58 : BitVec 32 := 0#32
  let c0_i32_401_r58 : BitVec 32 := 0#32
  ![7, v737.toNat, 0, 0]
def k0_cond65 (i : grid0.Coords) (v734 : BitVec 32) (v736 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c7_i32_359 : BitVec 32 := 7#32
  let v738 : BitVec 1 := Scalar.cmpi .eq v18 c7_i32_359
  let c0_i32_360 : BitVec 32 := 0#32
  let v739 : BitVec 1 := Scalar.cmpi .sgt v736 c0_i32_360
  let v740 : BitVec 1 := Scalar.andi v738 v739
  let c0_i32_358 : BitVec 32 := 0#32
  let v737 : BitVec 32 := Scalar.addi v734 c0_i32_358
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v741 : BitVec 1 := Scalar.cmpi .sge v737 v29
  let v742 : BitVec 1 := Scalar.andi v740 v741
  let c1024_i32_361 : BitVec 32 := 1024#32
  let v743 : BitVec 32 := Scalar.addi v29 c1024_i32_361
  let v744 : BitVec 1 := Scalar.cmpi .slt v737 v743
  let v745 : BitVec 1 := Scalar.andi v742 v744
  let v746 : BitVec 32 := Scalar.extui v745
  let c0_i32_362 : BitVec 32 := 0#32
  let v747 : BitVec 1 := Scalar.cmpi .ne v746 c0_i32_362
  v747

def k0_off68 (v734 : BitVec 32) : Fin 4 → Nat :=
  let c7_i32_399 : BitVec 32 := 7#32
  let c1_i32_363 : BitVec 32 := 1#32
  let v748 : BitVec 32 := Scalar.addi v734 c1_i32_363
  let c0_i32_400_r59 : BitVec 32 := 0#32
  let c0_i32_401_r59 : BitVec 32 := 0#32
  ![7, v748.toNat, 0, 0]
def k0_cond66 (i : grid0.Coords) (v734 : BitVec 32) (v736 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c7_i32_364 : BitVec 32 := 7#32
  let v749 : BitVec 1 := Scalar.cmpi .eq v18 c7_i32_364
  let c1_i32_365 : BitVec 32 := 1#32
  let v750 : BitVec 1 := Scalar.cmpi .sgt v736 c1_i32_365
  let v751 : BitVec 1 := Scalar.andi v749 v750
  let c1_i32_363 : BitVec 32 := 1#32
  let v748 : BitVec 32 := Scalar.addi v734 c1_i32_363
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v752 : BitVec 1 := Scalar.cmpi .sge v748 v29
  let v753 : BitVec 1 := Scalar.andi v751 v752
  let c1024_i32_366 : BitVec 32 := 1024#32
  let v754 : BitVec 32 := Scalar.addi v29 c1024_i32_366
  let v755 : BitVec 1 := Scalar.cmpi .slt v748 v754
  let v756 : BitVec 1 := Scalar.andi v753 v755
  let v757 : BitVec 32 := Scalar.extui v756
  let c0_i32_367 : BitVec 32 := 0#32
  let v758 : BitVec 1 := Scalar.cmpi .ne v757 c0_i32_367
  v758

def k0_off69 (v734 : BitVec 32) : Fin 4 → Nat :=
  let c7_i32_399 : BitVec 32 := 7#32
  let c2_i32_368 : BitVec 32 := 2#32
  let v759 : BitVec 32 := Scalar.addi v734 c2_i32_368
  let c0_i32_400_r60 : BitVec 32 := 0#32
  let c0_i32_401_r60 : BitVec 32 := 0#32
  ![7, v759.toNat, 0, 0]
def k0_cond67 (i : grid0.Coords) (v734 : BitVec 32) (v736 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c7_i32_369 : BitVec 32 := 7#32
  let v760 : BitVec 1 := Scalar.cmpi .eq v18 c7_i32_369
  let c2_i32_370 : BitVec 32 := 2#32
  let v761 : BitVec 1 := Scalar.cmpi .sgt v736 c2_i32_370
  let v762 : BitVec 1 := Scalar.andi v760 v761
  let c2_i32_368 : BitVec 32 := 2#32
  let v759 : BitVec 32 := Scalar.addi v734 c2_i32_368
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v763 : BitVec 1 := Scalar.cmpi .sge v759 v29
  let v764 : BitVec 1 := Scalar.andi v762 v763
  let c1024_i32_371 : BitVec 32 := 1024#32
  let v765 : BitVec 32 := Scalar.addi v29 c1024_i32_371
  let v766 : BitVec 1 := Scalar.cmpi .slt v759 v765
  let v767 : BitVec 1 := Scalar.andi v764 v766
  let v768 : BitVec 32 := Scalar.extui v767
  let c0_i32_372 : BitVec 32 := 0#32
  let v769 : BitVec 1 := Scalar.cmpi .ne v768 c0_i32_372
  v769

def k0_off70 (v734 : BitVec 32) : Fin 4 → Nat :=
  let c7_i32_399 : BitVec 32 := 7#32
  let c3_i32_373 : BitVec 32 := 3#32
  let v770 : BitVec 32 := Scalar.addi v734 c3_i32_373
  let c0_i32_400_r61 : BitVec 32 := 0#32
  let c0_i32_401_r61 : BitVec 32 := 0#32
  ![7, v770.toNat, 0, 0]
def k0_cond68 (i : grid0.Coords) (v734 : BitVec 32) (v736 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c7_i32_374 : BitVec 32 := 7#32
  let v771 : BitVec 1 := Scalar.cmpi .eq v18 c7_i32_374
  let c3_i32_375 : BitVec 32 := 3#32
  let v772 : BitVec 1 := Scalar.cmpi .sgt v736 c3_i32_375
  let v773 : BitVec 1 := Scalar.andi v771 v772
  let c3_i32_373 : BitVec 32 := 3#32
  let v770 : BitVec 32 := Scalar.addi v734 c3_i32_373
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v774 : BitVec 1 := Scalar.cmpi .sge v770 v29
  let v775 : BitVec 1 := Scalar.andi v773 v774
  let c1024_i32_376 : BitVec 32 := 1024#32
  let v776 : BitVec 32 := Scalar.addi v29 c1024_i32_376
  let v777 : BitVec 1 := Scalar.cmpi .slt v770 v776
  let v778 : BitVec 1 := Scalar.andi v775 v777
  let v779 : BitVec 32 := Scalar.extui v778
  let c0_i32_377 : BitVec 32 := 0#32
  let v780 : BitVec 1 := Scalar.cmpi .ne v779 c0_i32_377
  v780

def k0_off71 (v734 : BitVec 32) : Fin 4 → Nat :=
  let c7_i32_399 : BitVec 32 := 7#32
  let c4_i32_378 : BitVec 32 := 4#32
  let v781 : BitVec 32 := Scalar.addi v734 c4_i32_378
  let c0_i32_400_r62 : BitVec 32 := 0#32
  let c0_i32_401_r62 : BitVec 32 := 0#32
  ![7, v781.toNat, 0, 0]
def k0_cond69 (i : grid0.Coords) (v734 : BitVec 32) (v736 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c7_i32_379 : BitVec 32 := 7#32
  let v782 : BitVec 1 := Scalar.cmpi .eq v18 c7_i32_379
  let c4_i32_380 : BitVec 32 := 4#32
  let v783 : BitVec 1 := Scalar.cmpi .sgt v736 c4_i32_380
  let v784 : BitVec 1 := Scalar.andi v782 v783
  let c4_i32_378 : BitVec 32 := 4#32
  let v781 : BitVec 32 := Scalar.addi v734 c4_i32_378
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v785 : BitVec 1 := Scalar.cmpi .sge v781 v29
  let v786 : BitVec 1 := Scalar.andi v784 v785
  let c1024_i32_381 : BitVec 32 := 1024#32
  let v787 : BitVec 32 := Scalar.addi v29 c1024_i32_381
  let v788 : BitVec 1 := Scalar.cmpi .slt v781 v787
  let v789 : BitVec 1 := Scalar.andi v786 v788
  let v790 : BitVec 32 := Scalar.extui v789
  let c0_i32_382 : BitVec 32 := 0#32
  let v791 : BitVec 1 := Scalar.cmpi .ne v790 c0_i32_382
  v791

def k0_off72 (v734 : BitVec 32) : Fin 4 → Nat :=
  let c7_i32_399 : BitVec 32 := 7#32
  let c5_i32_383 : BitVec 32 := 5#32
  let v792 : BitVec 32 := Scalar.addi v734 c5_i32_383
  let c0_i32_400_r63 : BitVec 32 := 0#32
  let c0_i32_401_r63 : BitVec 32 := 0#32
  ![7, v792.toNat, 0, 0]
def k0_cond70 (i : grid0.Coords) (v734 : BitVec 32) (v736 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c7_i32_384 : BitVec 32 := 7#32
  let v793 : BitVec 1 := Scalar.cmpi .eq v18 c7_i32_384
  let c5_i32_385 : BitVec 32 := 5#32
  let v794 : BitVec 1 := Scalar.cmpi .sgt v736 c5_i32_385
  let v795 : BitVec 1 := Scalar.andi v793 v794
  let c5_i32_383 : BitVec 32 := 5#32
  let v792 : BitVec 32 := Scalar.addi v734 c5_i32_383
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v796 : BitVec 1 := Scalar.cmpi .sge v792 v29
  let v797 : BitVec 1 := Scalar.andi v795 v796
  let c1024_i32_386 : BitVec 32 := 1024#32
  let v798 : BitVec 32 := Scalar.addi v29 c1024_i32_386
  let v799 : BitVec 1 := Scalar.cmpi .slt v792 v798
  let v800 : BitVec 1 := Scalar.andi v797 v799
  let v801 : BitVec 32 := Scalar.extui v800
  let c0_i32_387 : BitVec 32 := 0#32
  let v802 : BitVec 1 := Scalar.cmpi .ne v801 c0_i32_387
  v802

def k0_off73 (v734 : BitVec 32) : Fin 4 → Nat :=
  let c7_i32_399 : BitVec 32 := 7#32
  let c6_i32_388 : BitVec 32 := 6#32
  let v803 : BitVec 32 := Scalar.addi v734 c6_i32_388
  let c0_i32_400_r64 : BitVec 32 := 0#32
  let c0_i32_401_r64 : BitVec 32 := 0#32
  ![7, v803.toNat, 0, 0]
def k0_cond71 (i : grid0.Coords) (v734 : BitVec 32) (v736 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c7_i32_389 : BitVec 32 := 7#32
  let v804 : BitVec 1 := Scalar.cmpi .eq v18 c7_i32_389
  let c6_i32_390 : BitVec 32 := 6#32
  let v805 : BitVec 1 := Scalar.cmpi .sgt v736 c6_i32_390
  let v806 : BitVec 1 := Scalar.andi v804 v805
  let c6_i32_388 : BitVec 32 := 6#32
  let v803 : BitVec 32 := Scalar.addi v734 c6_i32_388
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v807 : BitVec 1 := Scalar.cmpi .sge v803 v29
  let v808 : BitVec 1 := Scalar.andi v806 v807
  let c1024_i32_391 : BitVec 32 := 1024#32
  let v809 : BitVec 32 := Scalar.addi v29 c1024_i32_391
  let v810 : BitVec 1 := Scalar.cmpi .slt v803 v809
  let v811 : BitVec 1 := Scalar.andi v808 v810
  let v812 : BitVec 32 := Scalar.extui v811
  let c0_i32_392 : BitVec 32 := 0#32
  let v813 : BitVec 1 := Scalar.cmpi .ne v812 c0_i32_392
  v813

def k0_off74 (v734 : BitVec 32) : Fin 4 → Nat :=
  let c7_i32_399 : BitVec 32 := 7#32
  let c7_i32_393 : BitVec 32 := 7#32
  let v814 : BitVec 32 := Scalar.addi v734 c7_i32_393
  let c0_i32_400_r65 : BitVec 32 := 0#32
  let c0_i32_401_r65 : BitVec 32 := 0#32
  ![7, v814.toNat, 0, 0]
def k0_cond72 (i : grid0.Coords) (v734 : BitVec 32) (v736 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c7_i32_394 : BitVec 32 := 7#32
  let v815 : BitVec 1 := Scalar.cmpi .eq v18 c7_i32_394
  let c7_i32_395 : BitVec 32 := 7#32
  let v816 : BitVec 1 := Scalar.cmpi .sgt v736 c7_i32_395
  let v817 : BitVec 1 := Scalar.andi v815 v816
  let c7_i32_393 : BitVec 32 := 7#32
  let v814 : BitVec 32 := Scalar.addi v734 c7_i32_393
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1024_i32 : BitVec 32 := 1024#32
  let v29 : BitVec 32 := Scalar.muli v28 c1024_i32
  let v818 : BitVec 1 := Scalar.cmpi .sge v814 v29
  let v819 : BitVec 1 := Scalar.andi v817 v818
  let c1024_i32_396 : BitVec 32 := 1024#32
  let v820 : BitVec 32 := Scalar.addi v29 c1024_i32_396
  let v821 : BitVec 1 := Scalar.cmpi .slt v814 v820
  let v822 : BitVec 1 := Scalar.andi v819 v821
  let v823 : BitVec 32 := Scalar.extui v822
  let c0_i32_397 : BitVec 32 := 0#32
  let v824 : BitVec 1 := Scalar.cmpi .ne v823 c0_i32_397
  v824

def k0_chk8 (i : grid0.Coords) (v734 : BitVec 32) (v736 : BitVec 32) : Prop :=
  (∀ (k0_h65 : k0_cond65 i v734 v736 = 1#1), ∀ a, (k0_off67 v734) a + S1x1x8x128.size a ≤ S8x4096x8x128.size a) ∧
  (∀ (k0_h66 : k0_cond66 i v734 v736 = 1#1), ∀ a, (k0_off68 v734) a + S1x1x8x128.size a ≤ S8x4096x8x128.size a) ∧
  (∀ (k0_h67 : k0_cond67 i v734 v736 = 1#1), ∀ a, (k0_off69 v734) a + S1x1x8x128.size a ≤ S8x4096x8x128.size a) ∧
  (∀ (k0_h68 : k0_cond68 i v734 v736 = 1#1), ∀ a, (k0_off70 v734) a + S1x1x8x128.size a ≤ S8x4096x8x128.size a) ∧
  (∀ (k0_h69 : k0_cond69 i v734 v736 = 1#1), ∀ a, (k0_off71 v734) a + S1x1x8x128.size a ≤ S8x4096x8x128.size a) ∧
  (∀ (k0_h70 : k0_cond70 i v734 v736 = 1#1), ∀ a, (k0_off72 v734) a + S1x1x8x128.size a ≤ S8x4096x8x128.size a) ∧
  (∀ (k0_h71 : k0_cond71 i v734 v736 = 1#1), ∀ a, (k0_off73 v734) a + S1x1x8x128.size a ≤ S8x4096x8x128.size a) ∧
  (∀ (k0_h72 : k0_cond72 i v734 v736 = 1#1), ∀ a, (k0_off74 v734) a + S1x1x8x128.size a ≤ S8x4096x8x128.size a)
theorem k0_off67_inb : ∀ (i : grid0.Coords) (v734 : BitVec 32) (v736 : BitVec 32) (k0_hw8 : k0_chk8 i v734 v736), ∀ (k0_h65 : k0_cond65 i v734 v736 = 1#1), ∀ a, (k0_off67 v734) a + S1x1x8x128.size a ≤ S8x4096x8x128.size a := fun i v734 v736 k0_hw8 k0_h65 => k0_hw8.1 k0_h65
theorem k0_off68_inb : ∀ (i : grid0.Coords) (v734 : BitVec 32) (v736 : BitVec 32) (k0_hw8 : k0_chk8 i v734 v736), ∀ (k0_h66 : k0_cond66 i v734 v736 = 1#1), ∀ a, (k0_off68 v734) a + S1x1x8x128.size a ≤ S8x4096x8x128.size a := fun i v734 v736 k0_hw8 k0_h66 => k0_hw8.2.1 k0_h66
theorem k0_off69_inb : ∀ (i : grid0.Coords) (v734 : BitVec 32) (v736 : BitVec 32) (k0_hw8 : k0_chk8 i v734 v736), ∀ (k0_h67 : k0_cond67 i v734 v736 = 1#1), ∀ a, (k0_off69 v734) a + S1x1x8x128.size a ≤ S8x4096x8x128.size a := fun i v734 v736 k0_hw8 k0_h67 => k0_hw8.2.2.1 k0_h67
theorem k0_off70_inb : ∀ (i : grid0.Coords) (v734 : BitVec 32) (v736 : BitVec 32) (k0_hw8 : k0_chk8 i v734 v736), ∀ (k0_h68 : k0_cond68 i v734 v736 = 1#1), ∀ a, (k0_off70 v734) a + S1x1x8x128.size a ≤ S8x4096x8x128.size a := fun i v734 v736 k0_hw8 k0_h68 => k0_hw8.2.2.2.1 k0_h68
theorem k0_off71_inb : ∀ (i : grid0.Coords) (v734 : BitVec 32) (v736 : BitVec 32) (k0_hw8 : k0_chk8 i v734 v736), ∀ (k0_h69 : k0_cond69 i v734 v736 = 1#1), ∀ a, (k0_off71 v734) a + S1x1x8x128.size a ≤ S8x4096x8x128.size a := fun i v734 v736 k0_hw8 k0_h69 => k0_hw8.2.2.2.2.1 k0_h69
theorem k0_off72_inb : ∀ (i : grid0.Coords) (v734 : BitVec 32) (v736 : BitVec 32) (k0_hw8 : k0_chk8 i v734 v736), ∀ (k0_h70 : k0_cond70 i v734 v736 = 1#1), ∀ a, (k0_off72 v734) a + S1x1x8x128.size a ≤ S8x4096x8x128.size a := fun i v734 v736 k0_hw8 k0_h70 => k0_hw8.2.2.2.2.2.1 k0_h70
theorem k0_off73_inb : ∀ (i : grid0.Coords) (v734 : BitVec 32) (v736 : BitVec 32) (k0_hw8 : k0_chk8 i v734 v736), ∀ (k0_h71 : k0_cond71 i v734 v736 = 1#1), ∀ a, (k0_off73 v734) a + S1x1x8x128.size a ≤ S8x4096x8x128.size a := fun i v734 v736 k0_hw8 k0_h71 => k0_hw8.2.2.2.2.2.2.1 k0_h71
theorem k0_off74_inb : ∀ (i : grid0.Coords) (v734 : BitVec 32) (v736 : BitVec 32) (k0_hw8 : k0_chk8 i v734 v736), ∀ (k0_h72 : k0_cond72 i v734 v736 = 1#1), ∀ a, (k0_off74 v734) a + S1x1x8x128.size a ≤ S8x4096x8x128.size a := fun i v734 v736 k0_hw8 k0_h72 => k0_hw8.2.2.2.2.2.2.2 k0_h72

abbrev grid1 : Pipeline.Grid := ⟨2, ![8, 4], ![false, false]⟩

abbrev pre1 : Pipeline.Prefetch sig := ⟨2, ![main_arg2.idx, main_arg5.idx], fun | 0 => main_arg2.names | 1 => main_arg5.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v1 : Index := Scalar.indexCast arg0
  ![v1.toNat]
def k1_off2 (i : grid1.Coords) (v2 : BitVec 32) : Fin 4 → Nat :=
  let c0_37 : Index := 0#32
  let c0_i32 : BitVec 32 := 0#32
  let v7 : BitVec 32 := Scalar.addi v2 c0_i32
  let arg1 : BitVec 32 := BitVec.ofNat 32 (i 1).val
  let c1024_i32 : BitVec 32 := 1024#32
  let v0 : BitVec 32 := Scalar.muli arg1 c1024_i32
  let v84 : BitVec 32 := Scalar.subi v7 v0
  let v85 : Index := Scalar.indexCast v84
  let c0_38 : Index := 0#32
  let c0_39 : Index := 0#32
  ![0, v85.toNat, 0, 0]
def k1_cond1 (i : grid1.Coords) (v2 : BitVec 32) (v4 : BitVec 32) : BitVec 1 :=
  let c0_i32_7 : BitVec 32 := 0#32
  let v8 : BitVec 1 := Scalar.cmpi .sgt v4 c0_i32_7
  let c0_i32 : BitVec 32 := 0#32
  let v7 : BitVec 32 := Scalar.addi v2 c0_i32
  let arg1 : BitVec 32 := BitVec.ofNat 32 (i 1).val
  let c1024_i32 : BitVec 32 := 1024#32
  let v0 : BitVec 32 := Scalar.muli arg1 c1024_i32
  let v9 : BitVec 1 := Scalar.cmpi .sge v7 v0
  let v10 : BitVec 1 := Scalar.andi v8 v9
  let c1024_i32_8 : BitVec 32 := 1024#32
  let v11 : BitVec 32 := Scalar.addi v0 c1024_i32_8
  let v12 : BitVec 1 := Scalar.cmpi .slt v7 v11
  let v13 : BitVec 1 := Scalar.andi v10 v12
  let v14 : BitVec 32 := Scalar.extui v13
  let c0_i32_9 : BitVec 32 := 0#32
  let v15 : BitVec 1 := Scalar.cmpi .ne v14 c0_i32_9
  v15

def k1_off3 (i : grid1.Coords) (v2 : BitVec 32) : Fin 4 → Nat :=
  let c0_36 : Index := 0#32
  let c1_i32 : BitVec 32 := 1#32
  let v16 : BitVec 32 := Scalar.addi v2 c1_i32
  let arg1 : BitVec 32 := BitVec.ofNat 32 (i 1).val
  let c1024_i32 : BitVec 32 := 1024#32
  let v0 : BitVec 32 := Scalar.muli arg1 c1024_i32
  let v84 : BitVec 32 := Scalar.subi v16 v0
  let v85 : Index := Scalar.indexCast v84
  let c0_37 : Index := 0#32
  let c0_38 : Index := 0#32
  ![0, v85.toNat, 0, 0]
def k1_cond2 (i : grid1.Coords) (v2 : BitVec 32) (v4 : BitVec 32) : BitVec 1 :=
  let c1_i32_10 : BitVec 32 := 1#32
  let v17 : BitVec 1 := Scalar.cmpi .sgt v4 c1_i32_10
  let c1_i32 : BitVec 32 := 1#32
  let v16 : BitVec 32 := Scalar.addi v2 c1_i32
  let arg1 : BitVec 32 := BitVec.ofNat 32 (i 1).val
  let c1024_i32 : BitVec 32 := 1024#32
  let v0 : BitVec 32 := Scalar.muli arg1 c1024_i32
  let v18 : BitVec 1 := Scalar.cmpi .sge v16 v0
  let v19 : BitVec 1 := Scalar.andi v17 v18
  let c1024_i32_11 : BitVec 32 := 1024#32
  let v20 : BitVec 32 := Scalar.addi v0 c1024_i32_11
  let v21 : BitVec 1 := Scalar.cmpi .slt v16 v20
  let v22 : BitVec 1 := Scalar.andi v19 v21
  let v23 : BitVec 32 := Scalar.extui v22
  let c0_i32_12 : BitVec 32 := 0#32
  let v24 : BitVec 1 := Scalar.cmpi .ne v23 c0_i32_12
  v24

def k1_off4 (i : grid1.Coords) (v2 : BitVec 32) : Fin 4 → Nat :=
  let c0_36 : Index := 0#32
  let c2_i32 : BitVec 32 := 2#32
  let v25 : BitVec 32 := Scalar.addi v2 c2_i32
  let arg1 : BitVec 32 := BitVec.ofNat 32 (i 1).val
  let c1024_i32 : BitVec 32 := 1024#32
  let v0 : BitVec 32 := Scalar.muli arg1 c1024_i32
  let v84 : BitVec 32 := Scalar.subi v25 v0
  let v85 : Index := Scalar.indexCast v84
  let c0_37 : Index := 0#32
  let c0_38 : Index := 0#32
  ![0, v85.toNat, 0, 0]
def k1_cond3 (i : grid1.Coords) (v2 : BitVec 32) (v4 : BitVec 32) : BitVec 1 :=
  let c2_i32_13 : BitVec 32 := 2#32
  let v26 : BitVec 1 := Scalar.cmpi .sgt v4 c2_i32_13
  let c2_i32 : BitVec 32 := 2#32
  let v25 : BitVec 32 := Scalar.addi v2 c2_i32
  let arg1 : BitVec 32 := BitVec.ofNat 32 (i 1).val
  let c1024_i32 : BitVec 32 := 1024#32
  let v0 : BitVec 32 := Scalar.muli arg1 c1024_i32
  let v27 : BitVec 1 := Scalar.cmpi .sge v25 v0
  let v28 : BitVec 1 := Scalar.andi v26 v27
  let c1024_i32_14 : BitVec 32 := 1024#32
  let v29 : BitVec 32 := Scalar.addi v0 c1024_i32_14
  let v30 : BitVec 1 := Scalar.cmpi .slt v25 v29
  let v31 : BitVec 1 := Scalar.andi v28 v30
  let v32 : BitVec 32 := Scalar.extui v31
  let c0_i32_15 : BitVec 32 := 0#32
  let v33 : BitVec 1 := Scalar.cmpi .ne v32 c0_i32_15
  v33

def k1_off5 (i : grid1.Coords) (v2 : BitVec 32) : Fin 4 → Nat :=
  let c0_36 : Index := 0#32
  let c3_i32 : BitVec 32 := 3#32
  let v34 : BitVec 32 := Scalar.addi v2 c3_i32
  let arg1 : BitVec 32 := BitVec.ofNat 32 (i 1).val
  let c1024_i32 : BitVec 32 := 1024#32
  let v0 : BitVec 32 := Scalar.muli arg1 c1024_i32
  let v84 : BitVec 32 := Scalar.subi v34 v0
  let v85 : Index := Scalar.indexCast v84
  let c0_37 : Index := 0#32
  let c0_38 : Index := 0#32
  ![0, v85.toNat, 0, 0]
def k1_cond4 (i : grid1.Coords) (v2 : BitVec 32) (v4 : BitVec 32) : BitVec 1 :=
  let c3_i32_16 : BitVec 32 := 3#32
  let v35 : BitVec 1 := Scalar.cmpi .sgt v4 c3_i32_16
  let c3_i32 : BitVec 32 := 3#32
  let v34 : BitVec 32 := Scalar.addi v2 c3_i32
  let arg1 : BitVec 32 := BitVec.ofNat 32 (i 1).val
  let c1024_i32 : BitVec 32 := 1024#32
  let v0 : BitVec 32 := Scalar.muli arg1 c1024_i32
  let v36 : BitVec 1 := Scalar.cmpi .sge v34 v0
  let v37 : BitVec 1 := Scalar.andi v35 v36
  let c1024_i32_17 : BitVec 32 := 1024#32
  let v38 : BitVec 32 := Scalar.addi v0 c1024_i32_17
  let v39 : BitVec 1 := Scalar.cmpi .slt v34 v38
  let v40 : BitVec 1 := Scalar.andi v37 v39
  let v41 : BitVec 32 := Scalar.extui v40
  let c0_i32_18 : BitVec 32 := 0#32
  let v42 : BitVec 1 := Scalar.cmpi .ne v41 c0_i32_18
  v42

def k1_off6 (i : grid1.Coords) (v2 : BitVec 32) : Fin 4 → Nat :=
  let c0_36 : Index := 0#32
  let c4_i32 : BitVec 32 := 4#32
  let v43 : BitVec 32 := Scalar.addi v2 c4_i32
  let arg1 : BitVec 32 := BitVec.ofNat 32 (i 1).val
  let c1024_i32 : BitVec 32 := 1024#32
  let v0 : BitVec 32 := Scalar.muli arg1 c1024_i32
  let v84 : BitVec 32 := Scalar.subi v43 v0
  let v85 : Index := Scalar.indexCast v84
  let c0_37 : Index := 0#32
  let c0_38 : Index := 0#32
  ![0, v85.toNat, 0, 0]
def k1_cond5 (i : grid1.Coords) (v2 : BitVec 32) (v4 : BitVec 32) : BitVec 1 :=
  let c4_i32_19 : BitVec 32 := 4#32
  let v44 : BitVec 1 := Scalar.cmpi .sgt v4 c4_i32_19
  let c4_i32 : BitVec 32 := 4#32
  let v43 : BitVec 32 := Scalar.addi v2 c4_i32
  let arg1 : BitVec 32 := BitVec.ofNat 32 (i 1).val
  let c1024_i32 : BitVec 32 := 1024#32
  let v0 : BitVec 32 := Scalar.muli arg1 c1024_i32
  let v45 : BitVec 1 := Scalar.cmpi .sge v43 v0
  let v46 : BitVec 1 := Scalar.andi v44 v45
  let c1024_i32_20 : BitVec 32 := 1024#32
  let v47 : BitVec 32 := Scalar.addi v0 c1024_i32_20
  let v48 : BitVec 1 := Scalar.cmpi .slt v43 v47
  let v49 : BitVec 1 := Scalar.andi v46 v48
  let v50 : BitVec 32 := Scalar.extui v49
  let c0_i32_21 : BitVec 32 := 0#32
  let v51 : BitVec 1 := Scalar.cmpi .ne v50 c0_i32_21
  v51

def k1_off7 (i : grid1.Coords) (v2 : BitVec 32) : Fin 4 → Nat :=
  let c0_36 : Index := 0#32
  let c5_i32 : BitVec 32 := 5#32
  let v52 : BitVec 32 := Scalar.addi v2 c5_i32
  let arg1 : BitVec 32 := BitVec.ofNat 32 (i 1).val
  let c1024_i32 : BitVec 32 := 1024#32
  let v0 : BitVec 32 := Scalar.muli arg1 c1024_i32
  let v84 : BitVec 32 := Scalar.subi v52 v0
  let v85 : Index := Scalar.indexCast v84
  let c0_37 : Index := 0#32
  let c0_38 : Index := 0#32
  ![0, v85.toNat, 0, 0]
def k1_cond6 (i : grid1.Coords) (v2 : BitVec 32) (v4 : BitVec 32) : BitVec 1 :=
  let c5_i32_22 : BitVec 32 := 5#32
  let v53 : BitVec 1 := Scalar.cmpi .sgt v4 c5_i32_22
  let c5_i32 : BitVec 32 := 5#32
  let v52 : BitVec 32 := Scalar.addi v2 c5_i32
  let arg1 : BitVec 32 := BitVec.ofNat 32 (i 1).val
  let c1024_i32 : BitVec 32 := 1024#32
  let v0 : BitVec 32 := Scalar.muli arg1 c1024_i32
  let v54 : BitVec 1 := Scalar.cmpi .sge v52 v0
  let v55 : BitVec 1 := Scalar.andi v53 v54
  let c1024_i32_23 : BitVec 32 := 1024#32
  let v56 : BitVec 32 := Scalar.addi v0 c1024_i32_23
  let v57 : BitVec 1 := Scalar.cmpi .slt v52 v56
  let v58 : BitVec 1 := Scalar.andi v55 v57
  let v59 : BitVec 32 := Scalar.extui v58
  let c0_i32_24 : BitVec 32 := 0#32
  let v60 : BitVec 1 := Scalar.cmpi .ne v59 c0_i32_24
  v60

def k1_off8 (i : grid1.Coords) (v2 : BitVec 32) : Fin 4 → Nat :=
  let c0_36 : Index := 0#32
  let c6_i32 : BitVec 32 := 6#32
  let v61 : BitVec 32 := Scalar.addi v2 c6_i32
  let arg1 : BitVec 32 := BitVec.ofNat 32 (i 1).val
  let c1024_i32 : BitVec 32 := 1024#32
  let v0 : BitVec 32 := Scalar.muli arg1 c1024_i32
  let v84 : BitVec 32 := Scalar.subi v61 v0
  let v85 : Index := Scalar.indexCast v84
  let c0_37 : Index := 0#32
  let c0_38 : Index := 0#32
  ![0, v85.toNat, 0, 0]
def k1_cond7 (i : grid1.Coords) (v2 : BitVec 32) (v4 : BitVec 32) : BitVec 1 :=
  let c6_i32_25 : BitVec 32 := 6#32
  let v62 : BitVec 1 := Scalar.cmpi .sgt v4 c6_i32_25
  let c6_i32 : BitVec 32 := 6#32
  let v61 : BitVec 32 := Scalar.addi v2 c6_i32
  let arg1 : BitVec 32 := BitVec.ofNat 32 (i 1).val
  let c1024_i32 : BitVec 32 := 1024#32
  let v0 : BitVec 32 := Scalar.muli arg1 c1024_i32
  let v63 : BitVec 1 := Scalar.cmpi .sge v61 v0
  let v64 : BitVec 1 := Scalar.andi v62 v63
  let c1024_i32_26 : BitVec 32 := 1024#32
  let v65 : BitVec 32 := Scalar.addi v0 c1024_i32_26
  let v66 : BitVec 1 := Scalar.cmpi .slt v61 v65
  let v67 : BitVec 1 := Scalar.andi v64 v66
  let v68 : BitVec 32 := Scalar.extui v67
  let c0_i32_27 : BitVec 32 := 0#32
  let v69 : BitVec 1 := Scalar.cmpi .ne v68 c0_i32_27
  v69

def k1_off9 (i : grid1.Coords) (v2 : BitVec 32) : Fin 4 → Nat :=
  let c0_36 : Index := 0#32
  let c7_i32 : BitVec 32 := 7#32
  let v70 : BitVec 32 := Scalar.addi v2 c7_i32
  let arg1 : BitVec 32 := BitVec.ofNat 32 (i 1).val
  let c1024_i32 : BitVec 32 := 1024#32
  let v0 : BitVec 32 := Scalar.muli arg1 c1024_i32
  let v84 : BitVec 32 := Scalar.subi v70 v0
  let v85 : Index := Scalar.indexCast v84
  let c0_37 : Index := 0#32
  let c0_38 : Index := 0#32
  ![0, v85.toNat, 0, 0]
def k1_cond8 (i : grid1.Coords) (v2 : BitVec 32) (v4 : BitVec 32) : BitVec 1 :=
  let c7_i32_28 : BitVec 32 := 7#32
  let v71 : BitVec 1 := Scalar.cmpi .sgt v4 c7_i32_28
  let c7_i32 : BitVec 32 := 7#32
  let v70 : BitVec 32 := Scalar.addi v2 c7_i32
  let arg1 : BitVec 32 := BitVec.ofNat 32 (i 1).val
  let c1024_i32 : BitVec 32 := 1024#32
  let v0 : BitVec 32 := Scalar.muli arg1 c1024_i32
  let v72 : BitVec 1 := Scalar.cmpi .sge v70 v0
  let v73 : BitVec 1 := Scalar.andi v71 v72
  let c1024_i32_29 : BitVec 32 := 1024#32
  let v74 : BitVec 32 := Scalar.addi v0 c1024_i32_29
  let v75 : BitVec 1 := Scalar.cmpi .slt v70 v74
  let v76 : BitVec 1 := Scalar.andi v73 v75
  let v77 : BitVec 32 := Scalar.extui v76
  let c0_i32_30 : BitVec 32 := 0#32
  let v78 : BitVec 1 := Scalar.cmpi .ne v77 c0_i32_30
  v78

def k1_chk1 (i : grid1.Coords) (v2 : BitVec 32) (v4 : BitVec 32) : Prop :=
  (∀ (k1_h1 : k1_cond1 i v2 v4 = 1#1), ∀ a, (k1_off2 i v2) a + S1x1x8x128.size a ≤ S1x1024x8x128.size a) ∧
  (∀ (k1_h2 : k1_cond2 i v2 v4 = 1#1), ∀ a, (k1_off3 i v2) a + S1x1x8x128.size a ≤ S1x1024x8x128.size a) ∧
  (∀ (k1_h3 : k1_cond3 i v2 v4 = 1#1), ∀ a, (k1_off4 i v2) a + S1x1x8x128.size a ≤ S1x1024x8x128.size a) ∧
  (∀ (k1_h4 : k1_cond4 i v2 v4 = 1#1), ∀ a, (k1_off5 i v2) a + S1x1x8x128.size a ≤ S1x1024x8x128.size a) ∧
  (∀ (k1_h5 : k1_cond5 i v2 v4 = 1#1), ∀ a, (k1_off6 i v2) a + S1x1x8x128.size a ≤ S1x1024x8x128.size a) ∧
  (∀ (k1_h6 : k1_cond6 i v2 v4 = 1#1), ∀ a, (k1_off7 i v2) a + S1x1x8x128.size a ≤ S1x1024x8x128.size a) ∧
  (∀ (k1_h7 : k1_cond7 i v2 v4 = 1#1), ∀ a, (k1_off8 i v2) a + S1x1x8x128.size a ≤ S1x1024x8x128.size a) ∧
  (∀ (k1_h8 : k1_cond8 i v2 v4 = 1#1), ∀ a, (k1_off9 i v2) a + S1x1x8x128.size a ≤ S1x1024x8x128.size a)
theorem k1_off2_inb : ∀ (i : grid1.Coords) (v2 : BitVec 32) (v4 : BitVec 32) (k1_hw1 : k1_chk1 i v2 v4), ∀ (k1_h1 : k1_cond1 i v2 v4 = 1#1), ∀ a, (k1_off2 i v2) a + S1x1x8x128.size a ≤ S1x1024x8x128.size a := fun i v2 v4 k1_hw1 k1_h1 => k1_hw1.1 k1_h1
theorem k1_off3_inb : ∀ (i : grid1.Coords) (v2 : BitVec 32) (v4 : BitVec 32) (k1_hw1 : k1_chk1 i v2 v4), ∀ (k1_h2 : k1_cond2 i v2 v4 = 1#1), ∀ a, (k1_off3 i v2) a + S1x1x8x128.size a ≤ S1x1024x8x128.size a := fun i v2 v4 k1_hw1 k1_h2 => k1_hw1.2.1 k1_h2
theorem k1_off4_inb : ∀ (i : grid1.Coords) (v2 : BitVec 32) (v4 : BitVec 32) (k1_hw1 : k1_chk1 i v2 v4), ∀ (k1_h3 : k1_cond3 i v2 v4 = 1#1), ∀ a, (k1_off4 i v2) a + S1x1x8x128.size a ≤ S1x1024x8x128.size a := fun i v2 v4 k1_hw1 k1_h3 => k1_hw1.2.2.1 k1_h3
theorem k1_off5_inb : ∀ (i : grid1.Coords) (v2 : BitVec 32) (v4 : BitVec 32) (k1_hw1 : k1_chk1 i v2 v4), ∀ (k1_h4 : k1_cond4 i v2 v4 = 1#1), ∀ a, (k1_off5 i v2) a + S1x1x8x128.size a ≤ S1x1024x8x128.size a := fun i v2 v4 k1_hw1 k1_h4 => k1_hw1.2.2.2.1 k1_h4
theorem k1_off6_inb : ∀ (i : grid1.Coords) (v2 : BitVec 32) (v4 : BitVec 32) (k1_hw1 : k1_chk1 i v2 v4), ∀ (k1_h5 : k1_cond5 i v2 v4 = 1#1), ∀ a, (k1_off6 i v2) a + S1x1x8x128.size a ≤ S1x1024x8x128.size a := fun i v2 v4 k1_hw1 k1_h5 => k1_hw1.2.2.2.2.1 k1_h5
theorem k1_off7_inb : ∀ (i : grid1.Coords) (v2 : BitVec 32) (v4 : BitVec 32) (k1_hw1 : k1_chk1 i v2 v4), ∀ (k1_h6 : k1_cond6 i v2 v4 = 1#1), ∀ a, (k1_off7 i v2) a + S1x1x8x128.size a ≤ S1x1024x8x128.size a := fun i v2 v4 k1_hw1 k1_h6 => k1_hw1.2.2.2.2.2.1 k1_h6
theorem k1_off8_inb : ∀ (i : grid1.Coords) (v2 : BitVec 32) (v4 : BitVec 32) (k1_hw1 : k1_chk1 i v2 v4), ∀ (k1_h7 : k1_cond7 i v2 v4 = 1#1), ∀ a, (k1_off8 i v2) a + S1x1x8x128.size a ≤ S1x1024x8x128.size a := fun i v2 v4 k1_hw1 k1_h7 => k1_hw1.2.2.2.2.2.2.1 k1_h7
theorem k1_off9_inb : ∀ (i : grid1.Coords) (v2 : BitVec 32) (v4 : BitVec 32) (k1_hw1 : k1_chk1 i v2 v4), ∀ (k1_h8 : k1_cond8 i v2 v4 = 1#1), ∀ a, (k1_off9 i v2) a + S1x1x8x128.size a ≤ S1x1024x8x128.size a := fun i v2 v4 k1_hw1 k1_h8 => k1_hw1.2.2.2.2.2.2.2 k1_h8

def k1_cond9 (i : grid1.Coords) : BitVec 1 :=
  let arg1 : BitVec 32 := BitVec.ofNat 32 (i 1).val
  let c0_i32_31 : BitVec 32 := 0#32
  let v79 : BitVec 1 := Scalar.cmpi .eq arg1 c0_i32_31
  let v80 : BitVec 32 := Scalar.extui v79
  let c0_i32_32 : BitVec 32 := 0#32
  let v81 : BitVec 1 := Scalar.cmpi .ne v80 c0_i32_32
  v81

def k1_off10 (i : grid1.Coords) : Fin 1 → Nat :=
  let arg0 : BitVec 32 := BitVec.ofNat 32 (i 0).val
  let v83 : Index := Scalar.indexCast arg0
  ![v83.toNat]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage1_0 : Fin 2 → Memref sig .tc .vmem S1x1024x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .smem S8 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x4096x8x128 : Shape := ⟨4, ![8, 4096, 8, 128]⟩
abbrev S8 : Shape := ⟨1, ![8]⟩
abbrev S8x8x8x128 : Shape := ⟨4, ![8, 8, 8, 128]⟩
abbrev S_ : Shape := ⟨0, ![]⟩
abbrev S8x4096 : Shape := ⟨2, ![8, 4096]⟩
abbrev S4096 : Shape := ⟨1, ![4096]⟩
abbrev S1x8x4096 : Shape := ⟨3, ![1, 8, 4096]⟩
abbrev S2x8x4096 : Shape := ⟨3, ![2, 8, 4096]⟩
abbrev S8x1 : Shape := ⟨2, ![8, 1]⟩
abbrev S8x4096x1 : Shape := ⟨3, ![8, 4096, 1]⟩
abbrev S8x4096x2 : Shape := ⟨3, ![8, 4096, 2]⟩
abbrev S8x4096x1x1 : Shape := ⟨4, ![8, 4096, 1, 1]⟩
abbrev S8x1x8x128 : Shape := ⟨4, ![8, 1, 8, 128]⟩
abbrev S8x8x128 : Shape := ⟨3, ![8, 8, 128]⟩
abbrev S8x1x1 : Shape := ⟨3, ![8, 1, 1]⟩
abbrev S8x2 : Shape := ⟨2, ![8, 2]⟩

abbrev nBuf : Space → Nat
  | .hbm => 170
  | .vmem => 0
  | .smem => 0
  | _ => 0

abbrev hbmTy0_0 (i : Nat) : BufTy := match i % 128 with
  | 0 => ⟨S8x4096x8x128, .f32⟩
  | 1 => ⟨S8x4096x8x128, .f32⟩
  | 2 => ⟨S8, .i32⟩
  | 3 => ⟨S8x8x8x128, .f32⟩
  | 4 => ⟨S8x8x8x128, .f32⟩
  | 5 => ⟨S8, .i32⟩
  | 6 => ⟨S_, .i32⟩
  | 7 => ⟨S8, .i32⟩
  | 8 => ⟨S8, .i1⟩
  | 9 => ⟨S_, .i1⟩
  | 10 => ⟨S_, .i1⟩
  | 11 => ⟨S_, .i32⟩
  | 12 => ⟨S8x4096x8x128, .f32⟩
  | 13 => ⟨S8x4096x8x128, .f32⟩
  | 14 => ⟨S8, .i32⟩
  | 15 => ⟨S8x4096, .i32⟩
  | 16 => ⟨S4096, .i32⟩
  | 17 => ⟨S8x4096, .i32⟩
  | 18 => ⟨S1x8x4096, .i32⟩
  | 19 => ⟨S1x8x4096, .i32⟩
  | 20 => ⟨S2x8x4096, .i32⟩
  | 21 => ⟨S1x8x4096, .i32⟩
  | 22 => ⟨S8x4096, .i32⟩
  | 23 => ⟨S1x8x4096, .i32⟩
  | 24 => ⟨S8x4096, .i32⟩
  | 25 => ⟨S8x1, .i32⟩
  | 26 => ⟨S8x1, .i32⟩
  | 27 => ⟨S8x4096, .i32⟩
  | 28 => ⟨S8x4096, .i1⟩
  | 29 => ⟨S8x1, .i32⟩
  | 30 => ⟨S8x4096, .i32⟩
  | 31 => ⟨S8x4096, .i1⟩
  | 32 => ⟨S8x4096, .i1⟩
  | 33 => ⟨S8x4096, .i32⟩
  | 34 => ⟨S8x4096, .i32⟩
  | 35 => ⟨S_, .i32⟩
  | 36 => ⟨S_, .i32⟩
  | 37 => ⟨S_, .i32⟩
  | 38 => ⟨S8x4096, .i32⟩
  | 39 => ⟨S8x4096, .i32⟩
  | 40 => ⟨S_, .i32⟩
  | 41 => ⟨S8x4096, .i32⟩
  | 42 => ⟨S8x4096, .i32⟩
  | 43 => ⟨S_, .i32⟩
  | 44 => ⟨S8x4096, .i32⟩
  | 45 => ⟨S8x4096, .i1⟩
  | 46 => ⟨S_, .i32⟩
  | 47 => ⟨S8x4096, .i32⟩
  | 48 => ⟨S8x4096, .i32⟩
  | 49 => ⟨S8x4096, .i32⟩
  | 50 => ⟨S_, .i32⟩
  | 51 => ⟨S8x4096, .i32⟩
  | 52 => ⟨S8x4096, .i1⟩
  | 53 => ⟨S_, .i32⟩
  | 54 => ⟨S8x4096, .i32⟩
  | 55 => ⟨S8x4096, .i32⟩
  | 56 => ⟨S8x4096, .i32⟩
  | 57 => ⟨S8x4096x1, .i32⟩
  | 58 => ⟨S8x4096x1, .i32⟩
  | 59 => ⟨S8x4096x2, .i32⟩
  | 60 => ⟨S8x4096x8x128, .f32⟩
  | 61 => ⟨S_, .i32⟩
  | 62 => ⟨S8x4096, .i32⟩
  | 63 => ⟨S8x4096, .i1⟩
  | 64 => ⟨S_, .i32⟩
  | 65 => ⟨S8x4096, .i32⟩
  | 66 => ⟨S8x4096, .i32⟩
  | 67 => ⟨S8x4096, .i32⟩
  | 68 => ⟨S_, .i32⟩
  | 69 => ⟨S8x4096, .i32⟩
  | 70 => ⟨S8x4096, .i1⟩
  | 71 => ⟨S_, .i32⟩
  | 72 => ⟨S8x4096, .i32⟩
  | 73 => ⟨S8x4096, .i32⟩
  | 74 => ⟨S8x4096, .i32⟩
  | 75 => ⟨S8x4096x1, .i32⟩
  | 76 => ⟨S8x4096x1, .i32⟩
  | 77 => ⟨S8x4096x2, .i32⟩
  | 78 => ⟨S8x4096x8x128, .f32⟩
  | 79 => ⟨S8x4096x1x1, .i1⟩
  | 80 => ⟨S8x4096x8x128, .i1⟩
  | 81 => ⟨S8x4096x8x128, .f32⟩
  | 82 => ⟨S8x4096x8x128, .i1⟩
  | 83 => ⟨S8x4096x8x128, .f32⟩
  | 84 => ⟨S8, .i32⟩
  | 85 => ⟨S8x1x8x128, .f32⟩
  | 86 => ⟨S8x8x128, .f32⟩
  | 87 => ⟨S8x1x8x128, .f32⟩
  | 88 => ⟨S8x8x128, .f32⟩
  | 89 => ⟨S_, .i32⟩
  | 90 => ⟨S8, .i32⟩
  | 91 => ⟨S8, .i1⟩
  | 92 => ⟨S8x1x1, .i1⟩
  | 93 => ⟨S_, .i32⟩
  | 94 => ⟨S8, .i32⟩
  | 95 => ⟨S8, .i1⟩
  | 96 => ⟨S_, .i32⟩
  | 97 => ⟨S8, .i32⟩
  | 98 => ⟨S8, .i32⟩
  | 99 => ⟨S8, .i32⟩
  | 100 => ⟨S_, .i32⟩
  | 101 => ⟨S8, .i32⟩
  | 102 => ⟨S8, .i1⟩
  | 103 => ⟨S_, .i32⟩
  | 104 => ⟨S8, .i32⟩
  | 105 => ⟨S8, .i32⟩
  | 106 => ⟨S8, .i32⟩
  | 107 => ⟨S8x1, .i32⟩
  | 108 => ⟨S8x1, .i32⟩
  | 109 => ⟨S8x2, .i32⟩
  | 110 => ⟨S8x8x128, .f32⟩
  | 111 => ⟨S_, .i32⟩
  | 112 => ⟨S8, .i32⟩
  | 113 => ⟨S8, .i1⟩
  | 114 => ⟨S_, .i32⟩
  | 115 => ⟨S8, .i32⟩
  | 116 => ⟨S8, .i32⟩
  | 117 => ⟨S8, .i32⟩
  | 118 => ⟨S_, .i32⟩
  | 119 => ⟨S8, .i32⟩
  | 120 => ⟨S8, .i1⟩
  | 121 => ⟨S_, .i32⟩
  | 122 => ⟨S8, .i32⟩
  | 123 => ⟨S8, .i32⟩
  | 124 => ⟨S8, .i32⟩
  | 125 => ⟨S8x1, .i32⟩
  | 126 => ⟨S8x1, .i32⟩
  | 127 => ⟨S8x2, .i32⟩
  | _ => ⟨S8x4096x8x128, .f32⟩

abbrev hbmTy0_1 (i : Nat) : BufTy := match i % 128 with
  | 0 => ⟨S8x8x128, .f32⟩
  | 1 => ⟨S8x8x128, .i1⟩
  | 2 => ⟨S8x8x128, .f32⟩
  | 3 => ⟨S8x8x128, .i1⟩
  | 4 => ⟨S8x8x128, .f32⟩
  | 5 => ⟨S_, .i32⟩
  | 6 => ⟨S8, .i32⟩
  | 7 => ⟨S8, .i1⟩
  | 8 => ⟨S_, .i32⟩
  | 9 => ⟨S8, .i32⟩
  | 10 => ⟨S8, .i32⟩
  | 11 => ⟨S8, .i32⟩
  | 12 => ⟨S_, .i32⟩
  | 13 => ⟨S8, .i32⟩
  | 14 => ⟨S8, .i1⟩
  | 15 => ⟨S_, .i32⟩
  | 16 => ⟨S8, .i32⟩
  | 17 => ⟨S8, .i32⟩
  | 18 => ⟨S8, .i32⟩
  | 19 => ⟨S8x1, .i32⟩
  | 20 => ⟨S8x1, .i32⟩
  | 21 => ⟨S8x2, .i32⟩
  | 22 => ⟨S8x4096x8x128, .f32⟩
  | 23 => ⟨S_, .i32⟩
  | 24 => ⟨S8, .i32⟩
  | 25 => ⟨S8, .i1⟩
  | 26 => ⟨S_, .i32⟩
  | 27 => ⟨S8, .i32⟩
  | 28 => ⟨S8, .i32⟩
  | 29 => ⟨S8, .i32⟩
  | 30 => ⟨S_, .i32⟩
  | 31 => ⟨S8, .i32⟩
  | 32 => ⟨S8, .i1⟩
  | 33 => ⟨S_, .i32⟩
  | 34 => ⟨S8, .i32⟩
  | 35 => ⟨S8, .i32⟩
  | 36 => ⟨S8, .i32⟩
  | 37 => ⟨S8x1, .i32⟩
  | 38 => ⟨S8x1, .i32⟩
  | 39 => ⟨S8x2, .i32⟩
  | 40 => ⟨S8x4096x8x128, .f32⟩
  | 41 => ⟨S8, .i32⟩
  | _ => ⟨S8x4096x8x128, .f32⟩

abbrev hbmTy (i : Nat) : BufTy := match i / 128 with
  | 0 => hbmTy0_0 i
  | 1 => hbmTy0_1 i
  | _ => ⟨S8x4096x8x128, .f32⟩

abbrev bufTy : (tb : Table) → Fin (tcTables nBuf tb) → BufTy
  | .hbm, ⟨i, _⟩ => hbmTy i
  | _, _ => ⟨S8x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_case0b0_v6 : Ref sig .tc := ⟨.hbm, 14, rfl⟩
abbrev main_case0b0_v7 : Ref sig .tc := ⟨.hbm, 15, rfl⟩
abbrev main_case0b0_v8 : Ref sig .tc := ⟨.hbm, 16, rfl⟩
abbrev main_case0b0_v9 : Ref sig .tc := ⟨.hbm, 17, rfl⟩
abbrev main_case0b0_v10 : Ref sig .tc := ⟨.hbm, 18, rfl⟩
abbrev main_case0b0_v11 : Ref sig .tc := ⟨.hbm, 19, rfl⟩
abbrev main_case0b0_v12 : Ref sig .tc := ⟨.hbm, 20, rfl⟩
abbrev main_case0b0_v13 : Ref sig .tc := ⟨.hbm, 21, rfl⟩
abbrev main_case0b0_v14 : Ref sig .tc := ⟨.hbm, 22, rfl⟩
abbrev main_case0b0_v15 : Ref sig .tc := ⟨.hbm, 23, rfl⟩
abbrev main_case0b0_v16 : Ref sig .tc := ⟨.hbm, 24, rfl⟩
abbrev main_case0b0_v17 : Ref sig .tc := ⟨.hbm, 25, rfl⟩
abbrev main_case0b0_v18 : Ref sig .tc := ⟨.hbm, 26, rfl⟩
abbrev main_case0b0_v19 : Ref sig .tc := ⟨.hbm, 27, rfl⟩
abbrev main_case0b0_v20 : Ref sig .tc := ⟨.hbm, 28, rfl⟩
abbrev main_case0b0_v21 : Ref sig .tc := ⟨.hbm, 29, rfl⟩
abbrev main_case0b0_v22 : Ref sig .tc := ⟨.hbm, 30, rfl⟩
abbrev main_case0b0_v23 : Ref sig .tc := ⟨.hbm, 31, rfl⟩
abbrev main_case0b0_v24 : Ref sig .tc := ⟨.hbm, 32, rfl⟩
abbrev main_case0b0_v25 : Ref sig .tc := ⟨.hbm, 33, rfl⟩
abbrev main_case0b0_v26 : Ref sig .tc := ⟨.hbm, 34, rfl⟩
abbrev main_case0b0_c_1 : Ref sig .tc := ⟨.hbm, 35, rfl⟩
abbrev main_case0b0_c_2 : Ref sig .tc := ⟨.hbm, 36, rfl⟩
abbrev main_case0b0_call0_v0 : Ref sig .tc := ⟨.hbm, 37, rfl⟩
abbrev main_case0b0_call0_v1 : Ref sig .tc := ⟨.hbm, 38, rfl⟩
abbrev main_case0b0_call0_v2 : Ref sig .tc := ⟨.hbm, 39, rfl⟩
abbrev main_case0b0_call0_v3 : Ref sig .tc := ⟨.hbm, 40, rfl⟩
abbrev main_case0b0_call0_v4 : Ref sig .tc := ⟨.hbm, 41, rfl⟩
abbrev main_case0b0_v27 : Ref sig .tc := ⟨.hbm, 42, rfl⟩
abbrev main_case0b0_c_3 : Ref sig .tc := ⟨.hbm, 43, rfl⟩
abbrev main_case0b0_v28 : Ref sig .tc := ⟨.hbm, 44, rfl⟩
abbrev main_case0b0_v29 : Ref sig .tc := ⟨.hbm, 45, rfl⟩
abbrev main_case0b0_c_4 : Ref sig .tc := ⟨.hbm, 46, rfl⟩
abbrev main_case0b0_v30 : Ref sig .tc := ⟨.hbm, 47, rfl⟩
abbrev main_case0b0_v31 : Ref sig .tc := ⟨.hbm, 48, rfl⟩
abbrev main_case0b0_v32 : Ref sig .tc := ⟨.hbm, 49, rfl⟩
abbrev main_case0b0_c_5 : Ref sig .tc := ⟨.hbm, 50, rfl⟩
abbrev main_case0b0_v33 : Ref sig .tc := ⟨.hbm, 51, rfl⟩
abbrev main_case0b0_v34 : Ref sig .tc := ⟨.hbm, 52, rfl⟩
abbrev main_case0b0_c_6 : Ref sig .tc := ⟨.hbm, 53, rfl⟩
abbrev main_case0b0_v35 : Ref sig .tc := ⟨.hbm, 54, rfl⟩
abbrev main_case0b0_v36 : Ref sig .tc := ⟨.hbm, 55, rfl⟩
abbrev main_case0b0_v37 : Ref sig .tc := ⟨.hbm, 56, rfl⟩
abbrev main_case0b0_v38 : Ref sig .tc := ⟨.hbm, 57, rfl⟩
abbrev main_case0b0_v39 : Ref sig .tc := ⟨.hbm, 58, rfl⟩
abbrev main_case0b0_v40 : Ref sig .tc := ⟨.hbm, 59, rfl⟩
abbrev main_case0b0_v41 : Ref sig .tc := ⟨.hbm, 60, rfl⟩
abbrev main_case0b0_c_7 : Ref sig .tc := ⟨.hbm, 61, rfl⟩
abbrev main_case0b0_v42 : Ref sig .tc := ⟨.hbm, 62, rfl⟩
abbrev main_case0b0_v43 : Ref sig .tc := ⟨.hbm, 63, rfl⟩
abbrev main_case0b0_c_8 : Ref sig .tc := ⟨.hbm, 64, rfl⟩
abbrev main_case0b0_v44 : Ref sig .tc := ⟨.hbm, 65, rfl⟩
abbrev main_case0b0_v45 : Ref sig .tc := ⟨.hbm, 66, rfl⟩
abbrev main_case0b0_v46 : Ref sig .tc := ⟨.hbm, 67, rfl⟩
abbrev main_case0b0_c_9 : Ref sig .tc := ⟨.hbm, 68, rfl⟩
abbrev main_case0b0_v47 : Ref sig .tc := ⟨.hbm, 69, rfl⟩
abbrev main_case0b0_v48 : Ref sig .tc := ⟨.hbm, 70, rfl⟩
abbrev main_case0b0_c_10 : Ref sig .tc := ⟨.hbm, 71, rfl⟩
abbrev main_case0b0_v49 : Ref sig .tc := ⟨.hbm, 72, rfl⟩
abbrev main_case0b0_v50 : Ref sig .tc := ⟨.hbm, 73, rfl⟩
abbrev main_case0b0_v51 : Ref sig .tc := ⟨.hbm, 74, rfl⟩
abbrev main_case0b0_v52 : Ref sig .tc := ⟨.hbm, 75, rfl⟩
abbrev main_case0b0_v53 : Ref sig .tc := ⟨.hbm, 76, rfl⟩
abbrev main_case0b0_v54 : Ref sig .tc := ⟨.hbm, 77, rfl⟩
abbrev main_case0b0_v55 : Ref sig .tc := ⟨.hbm, 78, rfl⟩
abbrev main_case0b0_v56 : Ref sig .tc := ⟨.hbm, 79, rfl⟩
abbrev main_case0b0_call1_v0 : Ref sig .tc := ⟨.hbm, 80, rfl⟩
abbrev main_case0b0_v57 : Ref sig .tc := ⟨.hbm, 81, rfl⟩
abbrev main_case0b0_call2_v0 : Ref sig .tc := ⟨.hbm, 82, rfl⟩
abbrev main_case0b0_v58 : Ref sig .tc := ⟨.hbm, 83, rfl⟩
abbrev main_case0b1_v6 : Ref sig .tc := ⟨.hbm, 84, rfl⟩
abbrev main_case0b1_v7 : Ref sig .tc := ⟨.hbm, 85, rfl⟩
abbrev main_case0b1_v8 : Ref sig .tc := ⟨.hbm, 86, rfl⟩
abbrev main_case0b1_v9 : Ref sig .tc := ⟨.hbm, 87, rfl⟩
abbrev main_case0b1_v10 : Ref sig .tc := ⟨.hbm, 88, rfl⟩
abbrev main_case0b1_c_1 : Ref sig .tc := ⟨.hbm, 89, rfl⟩
abbrev main_case0b1_v11 : Ref sig .tc := ⟨.hbm, 90, rfl⟩
abbrev main_case0b1_v12 : Ref sig .tc := ⟨.hbm, 91, rfl⟩
abbrev main_case0b1_v13 : Ref sig .tc := ⟨.hbm, 92, rfl⟩
abbrev main_case0b1_c_2 : Ref sig .tc := ⟨.hbm, 93, rfl⟩
abbrev main_case0b1_v14 : Ref sig .tc := ⟨.hbm, 94, rfl⟩
abbrev main_case0b1_v15 : Ref sig .tc := ⟨.hbm, 95, rfl⟩
abbrev main_case0b1_c_3 : Ref sig .tc := ⟨.hbm, 96, rfl⟩
abbrev main_case0b1_v16 : Ref sig .tc := ⟨.hbm, 97, rfl⟩
abbrev main_case0b1_v17 : Ref sig .tc := ⟨.hbm, 98, rfl⟩
abbrev main_case0b1_v18 : Ref sig .tc := ⟨.hbm, 99, rfl⟩
abbrev main_case0b1_c_4 : Ref sig .tc := ⟨.hbm, 100, rfl⟩
abbrev main_case0b1_v19 : Ref sig .tc := ⟨.hbm, 101, rfl⟩
abbrev main_case0b1_v20 : Ref sig .tc := ⟨.hbm, 102, rfl⟩
abbrev main_case0b1_c_5 : Ref sig .tc := ⟨.hbm, 103, rfl⟩
abbrev main_case0b1_v21 : Ref sig .tc := ⟨.hbm, 104, rfl⟩
abbrev main_case0b1_v22 : Ref sig .tc := ⟨.hbm, 105, rfl⟩
abbrev main_case0b1_v23 : Ref sig .tc := ⟨.hbm, 106, rfl⟩
abbrev main_case0b1_v24 : Ref sig .tc := ⟨.hbm, 107, rfl⟩
abbrev main_case0b1_v25 : Ref sig .tc := ⟨.hbm, 108, rfl⟩
abbrev main_case0b1_v26 : Ref sig .tc := ⟨.hbm, 109, rfl⟩
abbrev main_case0b1_v27 : Ref sig .tc := ⟨.hbm, 110, rfl⟩
abbrev main_case0b1_c_6 : Ref sig .tc := ⟨.hbm, 111, rfl⟩
abbrev main_case0b1_v28 : Ref sig .tc := ⟨.hbm, 112, rfl⟩
abbrev main_case0b1_v29 : Ref sig .tc := ⟨.hbm, 113, rfl⟩
abbrev main_case0b1_c_7 : Ref sig .tc := ⟨.hbm, 114, rfl⟩
abbrev main_case0b1_v30 : Ref sig .tc := ⟨.hbm, 115, rfl⟩
abbrev main_case0b1_v31 : Ref sig .tc := ⟨.hbm, 116, rfl⟩
abbrev main_case0b1_v32 : Ref sig .tc := ⟨.hbm, 117, rfl⟩
abbrev main_case0b1_c_8 : Ref sig .tc := ⟨.hbm, 118, rfl⟩
abbrev main_case0b1_v33 : Ref sig .tc := ⟨.hbm, 119, rfl⟩
abbrev main_case0b1_v34 : Ref sig .tc := ⟨.hbm, 120, rfl⟩
abbrev main_case0b1_c_9 : Ref sig .tc := ⟨.hbm, 121, rfl⟩
abbrev main_case0b1_v35 : Ref sig .tc := ⟨.hbm, 122, rfl⟩
abbrev main_case0b1_v36 : Ref sig .tc := ⟨.hbm, 123, rfl⟩
abbrev main_case0b1_v37 : Ref sig .tc := ⟨.hbm, 124, rfl⟩
abbrev main_case0b1_v38 : Ref sig .tc := ⟨.hbm, 125, rfl⟩
abbrev main_case0b1_v39 : Ref sig .tc := ⟨.hbm, 126, rfl⟩
abbrev main_case0b1_v40 : Ref sig .tc := ⟨.hbm, 127, rfl⟩
abbrev main_case0b1_v41 : Ref sig .tc := ⟨.hbm, 128, rfl⟩
abbrev main_case0b1_call3_v0 : Ref sig .tc := ⟨.hbm, 129, rfl⟩
abbrev main_case0b1_v42 : Ref sig .tc := ⟨.hbm, 130, rfl⟩
abbrev main_case0b1_call4_v0 : Ref sig .tc := ⟨.hbm, 131, rfl⟩
abbrev main_case0b1_v43 : Ref sig .tc := ⟨.hbm, 132, rfl⟩
abbrev main_case0b1_c_10 : Ref sig .tc := ⟨.hbm, 133, rfl⟩
abbrev main_case0b1_v44 : Ref sig .tc := ⟨.hbm, 134, rfl⟩
abbrev main_case0b1_v45 : Ref sig .tc := ⟨.hbm, 135, rfl⟩
abbrev main_case0b1_c_11 : Ref sig .tc := ⟨.hbm, 136, rfl⟩
abbrev main_case0b1_v46 : Ref sig .tc := ⟨.hbm, 137, rfl⟩
abbrev main_case0b1_v47 : Ref sig .tc := ⟨.hbm, 138, rfl⟩
abbrev main_case0b1_v48 : Ref sig .tc := ⟨.hbm, 139, rfl⟩
abbrev main_case0b1_c_12 : Ref sig .tc := ⟨.hbm, 140, rfl⟩
abbrev main_case0b1_v49 : Ref sig .tc := ⟨.hbm, 141, rfl⟩
abbrev main_case0b1_v50 : Ref sig .tc := ⟨.hbm, 142, rfl⟩
abbrev main_case0b1_c_13 : Ref sig .tc := ⟨.hbm, 143, rfl⟩
abbrev main_case0b1_v51 : Ref sig .tc := ⟨.hbm, 144, rfl⟩
abbrev main_case0b1_v52 : Ref sig .tc := ⟨.hbm, 145, rfl⟩
abbrev main_case0b1_v53 : Ref sig .tc := ⟨.hbm, 146, rfl⟩
abbrev main_case0b1_v54 : Ref sig .tc := ⟨.hbm, 147, rfl⟩
abbrev main_case0b1_v55 : Ref sig .tc := ⟨.hbm, 148, rfl⟩
abbrev main_case0b1_v56 : Ref sig .tc := ⟨.hbm, 149, rfl⟩
abbrev main_case0b1_v57 : Ref sig .tc := ⟨.hbm, 150, rfl⟩
abbrev main_case0b1_c_14 : Ref sig .tc := ⟨.hbm, 151, rfl⟩
abbrev main_case0b1_v58 : Ref sig .tc := ⟨.hbm, 152, rfl⟩
abbrev main_case0b1_v59 : Ref sig .tc := ⟨.hbm, 153, rfl⟩
abbrev main_case0b1_c_15 : Ref sig .tc := ⟨.hbm, 154, rfl⟩
abbrev main_case0b1_v60 : Ref sig .tc := ⟨.hbm, 155, rfl⟩
abbrev main_case0b1_v61 : Ref sig .tc := ⟨.hbm, 156, rfl⟩
abbrev main_case0b1_v62 : Ref sig .tc := ⟨.hbm, 157, rfl⟩
abbrev main_case0b1_c_16 : Ref sig .tc := ⟨.hbm, 158, rfl⟩
abbrev main_case0b1_v63 : Ref sig .tc := ⟨.hbm, 159, rfl⟩
abbrev main_case0b1_v64 : Ref sig .tc := ⟨.hbm, 160, rfl⟩
abbrev main_case0b1_c_17 : Ref sig .tc := ⟨.hbm, 161, rfl⟩
abbrev main_case0b1_v65 : Ref sig .tc := ⟨.hbm, 162, rfl⟩
abbrev main_case0b1_v66 : Ref sig .tc := ⟨.hbm, 163, rfl⟩
abbrev main_case0b1_v67 : Ref sig .tc := ⟨.hbm, 164, rfl⟩
abbrev main_case0b1_v68 : Ref sig .tc := ⟨.hbm, 165, rfl⟩
abbrev main_case0b1_v69 : Ref sig .tc := ⟨.hbm, 166, rfl⟩
abbrev main_case0b1_v70 : Ref sig .tc := ⟨.hbm, 167, rfl⟩
abbrev main_case0b1_v71 : Ref sig .tc := ⟨.hbm, 168, rfl⟩
abbrev main_v5 : Ref sig .tc := ⟨.hbm, 169, rfl⟩

abbrev nD : Nat := 1
abbrev τ : Topo := Topo.v7x

variable {F : FTy → Type} [FloatOps F]
-- ==== Proof.Vals.lean ====
/-
  What the kernel leaves in its results, as plain functions of the arguments, and the arithmetic of one row update.

  A cache `x` of 8 batches by 4096 positions is updated with up to 8 new rows per batch: batch `b`'s new row `q` goes to
  position `l b + q` when `q < nl b`. `mergeUpTo n` is the cache after the first `n` of the 64 (batch, row) pairs, in
  row-major order, have been taken; `merge` is the cache after all of them. Positions are 32-bit words, and a pair
  counts only at a position the word names, so the functions are stated without any assumption on the lengths.
-/
module

public import proofs.«01_k».proof.Proof.Gen.KernelIdeal
public import Idealize.ShloMosaic.Lib.ValueIdxCore

@[expose] public section

noncomputable section

namespace Cert.Proof.KV

open Idealize.ShloMosaic Idealize.ShloMosaic.ValueIdx
open Cert.KernelIdeal

/-- The number of the new row that position `p` takes in a batch that starts at `l`: the distance from `l` to `p`, as a word. -/
def rowOf (l : BitVec 32) (p : Nat) : Nat := (BitVec.ofNat 32 p - l).toNat

/-- Position `p` of batch `b` takes a new row among the first `n` (batch, row) pairs. -/
def Takes (n : Nat) (l nl : BitVec 32) (b p : Nat) : Prop :=
  rowOf l p < 8 ∧ (rowOf l p : Int) < nl.toInt ∧ 8 * b + rowOf l p < n

instance (n : Nat) (l nl : BitVec 32) (b p : Nat) : Decidable (Takes n l nl b p) := by unfold Takes; infer_instance

/-- The cache `x` after the first `n` (batch, row) pairs of the new rows `y`. -/
def mergeUpTo {α : Type} (n : Nat) (x : S8x4096x8x128.Idx → α) (y : S8x8x8x128.Idx → α) (l nl : S8.Idx → BitVec 32) :
    S8x4096x8x128.Idx → α := fun i =>
  if Takes n (l (ix1 (n := 8) (i 0))) (nl (ix1 (n := 8) (i 0))) (i 0).val (i 1).val then
    y (ix4 (n0 := 8) (n1 := 8) (n2 := 8) (n3 := 128) (i 0) (Fin.ofNat 8 (rowOf (l (ix1 (n := 8) (i 0))) (i 1).val)) (i 2) (i 3))
  else x i

/-- The cache after all the new rows. -/
def merge {α : Type} (x : S8x4096x8x128.Idx → α) (y : S8x8x8x128.Idx → α) (l nl : S8.Idx → BitVec 32) :
    S8x4096x8x128.Idx → α := mergeUpTo 64 x y l nl

theorem mergeUpTo_zero {α : Type} (x : S8x4096x8x128.Idx → α) (y : S8x8x8x128.Idx → α) (l nl : S8.Idx → BitVec 32) :
    mergeUpTo 0 x y l nl = x := by
  funext i
  have : ¬ Takes 0 (l (ix1 (n := 8) (i 0))) (nl (ix1 (n := 8) (i 0))) (i 0).val (i 1).val := fun h => Nat.not_lt_zero _ h.2.2
  unfold mergeUpTo; rw [if_neg this]

theorem rowOf_eq_iff {l : BitVec 32} {p q : Nat} (hp : p < 4096) (hq : q < 8) :
    rowOf l p = q ↔ (l + BitVec.ofNat 32 q).toNat = p := by
  unfold rowOf
  simp only [BitVec.toNat_sub, BitVec.toNat_add, BitVec.toNat_ofNat]
  have := l.isLt
  omega

/-- Taking one more pair `(b, q)`: outside position `l b + q` of batch `b`, or when the row is not among the new ones, nothing changes. -/
theorem mergeUpTo_succ_of_ne {α : Type} (x : S8x4096x8x128.Idx → α) (y : S8x8x8x128.Idx → α) (l nl : S8.Idx → BitVec 32)
    {b : Fin 8} {q : Nat} (hq : q < 8) (i : S8x4096x8x128.Idx)
    (h : ¬ ((i 0).val = b.val ∧ (q : Int) < (nl (ix1 b)).toInt ∧ (l (ix1 b) + BitVec.ofNat 32 q).toNat = (i 1).val)) :
    mergeUpTo (8 * b.val + q + 1) x y l nl i = mergeUpTo (8 * b.val + q) x y l nl i := by
  have hp : (i 1).val < 4096 := (i 1).isLt
  have key : Takes (8 * b.val + q + 1) (l (ix1 (n := 8) (i 0))) (nl (ix1 (n := 8) (i 0))) (i 0).val (i 1).val
      ↔ Takes (8 * b.val + q) (l (ix1 (n := 8) (i 0))) (nl (ix1 (n := 8) (i 0))) (i 0).val (i 1).val := by
    constructor
    · rintro ⟨h1, h2, h3⟩
      refine ⟨h1, h2, ?_⟩
      by_contra h4
      have hb : (i 0).val = b.val := by omega
      have hr : rowOf (l (ix1 (n := 8) (i 0))) (i 1).val = q := by omega
      have hbe : (i 0 : Fin 8) = b := Fin.ext hb
      rw [hbe] at hr h2
      exact h ⟨hb, by rw [← hr]; exact h2, (rowOf_eq_iff hp hq).mp hr⟩
    · rintro ⟨h1, h2, h3⟩; exact ⟨h1, h2, by omega⟩
  unfold mergeUpTo
  simp only [key]

/-- Taking one more pair `(b, q)` that is among the new rows: position `l b + q` of batch `b` gets it. -/
theorem mergeUpTo_succ_of_eq {α : Type} (x : S8x4096x8x128.Idx → α) (y : S8x8x8x128.Idx → α) (l nl : S8.Idx → BitVec 32)
    {b : Fin 8} {q : Fin 8} (i : S8x4096x8x128.Idx) (h0 : (i 0 : Fin 8) = b)
    (hn : (q.val : Int) < (nl (ix1 b)).toInt) (h1 : (l (ix1 b) + BitVec.ofNat 32 q.val).toNat = (i 1).val) :
    mergeUpTo (8 * b.val + q.val + 1) x y l nl i = y (ix4 b q (n2 := 8) (n3 := 128) (i 2) (i 3)) := by
  have hp : (i 1).val < 4096 := (i 1).isLt
  have hr : rowOf (l (ix1 (n := 8) (i 0))) (i 1).val = q.val := by rw [h0]; exact (rowOf_eq_iff hp q.isLt).mpr h1
  have hT : Takes (8 * b.val + q.val + 1) (l (ix1 (n := 8) (i 0))) (nl (ix1 (n := 8) (i 0))) (i 0).val (i 1).val := by
    refine ⟨by omega, ?_, ?_⟩
    · rw [hr, h0]; exact hn
    · rw [hr, h0]; omega
  unfold mergeUpTo
  rw [if_pos hT, hr, h0]
  congr 2
  exact Fin.ext (Nat.mod_eq_of_lt q.isLt)

end Cert.Proof.KV

end
-- ==== Proof.Setup.lean ====
/-
  The program as the launch theorem sees it, the resource algebra, the names of the arrays and buffers, and the part of
  the cache one SparseCore tile owns.

  Tile number `wid L = 2 * (subcore) + (core)` of 32 owns batch `wid / 4` and the 1024 positions from
  `(wid mod 4) * 1024`. The kernel computes both with words; `b0W_eq` and `p0W_eq` say that the words are those numbers.
-/
module

public import proofs.«01_k».proof.Defs
public import Idealize.ShloMosaic.Lib.SparseCore.Quiescent
public import Idealize.ShloMosaic.Lib.SparseCore.Ops
public import Idealize.ShloMosaic.Lib.Transfers
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Vals

@[expose] public section

noncomputable section

namespace Cert.Proof.KV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's handshakes, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-- The transfers' counters. -/
abbrev EC : UEmb Counters (MT nD τ sig (HIx 1) (Elt F) ℕ UU ℕ) := countersEmb

/-! ## The tiles -/

abbrev cV (L : grid0.Coords) : Fin τ.nSC := (L 0).castLE hcore0
abbrev jV (L : grid0.Coords) : Fin τ.nSub := (L 1).castLE hsub0
/-- The thread of tile `L` on device `d`. -/
abbrev thr (d : Dev nD) (L : grid0.Coords) : Thread nD τ := V d (cV L) (jV L)

/-- A tile's number, and its batch and first position. -/
def wid (L : grid0.Coords) : Nat := 2 * (L 1).val + (L 0).val
def b0 (L : grid0.Coords) : Nat := wid L / 4
def p0 (L : grid0.Coords) : Nat := wid L % 4 * 1024

theorem wid_lt (L : grid0.Coords) : wid L < 32 := by
  have h0 : (L 0).val < 2 := (L 0).isLt
  have h1 : (L 1).val < 16 := (L 1).isLt
  unfold wid; omega
theorem b0_lt (L : grid0.Coords) : b0 L < 8 := by have := wid_lt L; unfold b0; omega
theorem p0_le (L : grid0.Coords) : p0 L ≤ 3072 := by unfold p0; omega

/-- The words the kernel computes for a tile's number, batch and first position. -/
def widW (i : grid0.Coords) : BitVec 32 := Scalar.addi (Scalar.muli (BitVec.ofNat 32 (i 1).val) 2#32) (BitVec.ofNat 32 (i 0).val)
def signW (v : BitVec 32) : BitVec 32 := Scalar.subi (Scalar.extui (Scalar.cmpi .sgt v 0#32)) (Scalar.extui (Scalar.cmpi .slt v 0#32))
def b0W (i : grid0.Coords) : BitVec 32 :=
  Scalar.select (Scalar.andi (Scalar.cmpi .ne (signW (widW i)) (signW 4#32)) (Scalar.cmpi .ne (Scalar.remsi (widW i) 4#32) 0#32))
    (Scalar.subi (Scalar.divsi (widW i) 4#32) 1#32) (Scalar.divsi (widW i) 4#32)
def fourW : BitVec 32 := Scalar.select (Scalar.cmpi .eq 4#32 0#32) 1#32 4#32
def p0W (i : grid0.Coords) : BitVec 32 :=
  Scalar.muli (Scalar.select (Scalar.andi (Scalar.xori (Scalar.cmpi .slt (Scalar.remsi (widW i) fourW) 0#32) (Scalar.cmpi .slt fourW 0#32))
      (Scalar.cmpi .ne (Scalar.remsi (widW i) fourW) 0#32)) (Scalar.addi (Scalar.remsi (widW i) fourW) fourW) (Scalar.remsi (widW i) fourW)) 1024#32

theorem b0W_eq : ∀ i : grid0.Coords, b0W i = BitVec.ofNat 32 (b0 i) := by decide +kernel
theorem p0W_eq : ∀ i : grid0.Coords, p0W i = BitVec.ofNat 32 (p0 i) := by decide +kernel

/-! ## The arrays and buffers -/

abbrev vM : Memref sig .scVector .hbm S8x4096x8x128 .f32 := Memref.whole main_arg1_scv
abbrev nM : Memref sig .scVector .hbm S8x8x8x128 .f32 := Memref.whole main_arg4_scv
abbrev lM : Memref sig .scVector .hbm S8 .i32 := Memref.whole main_v1_scv
abbrev nlM : Memref sig .scVector .hbm S8 .i32 := Memref.whole main_v3_scv
abbrev oM : Memref sig .scVector .hbm S8x4096x8x128 .f32 := Memref.whole main_v4_scv
abbrev ringM : Memref sig .scVector .vmem S4x16x8x128 .f32 := Memref.whole cc0_scratch0
abbrev lS : Memref sig .scVector .vmem S16 .i32 := Memref.whole cc0_scratch1
abbrev nlS : Memref sig .scVector .vmem S16 .i32 := Memref.whole cc0_scratch2

/-- 16 rows of the cache at an offset; a slot of the ring. -/
abbrev chunkM (a : Memref sig .scVector .hbm S8x4096x8x128 .f32) (off : Fin 4 → Nat)
    (h : ∀ x, off x + S1x16x8x128.size x ≤ S8x4096x8x128.size x) : Memref sig .scVector .hbm S16x8x128 .f32 :=
  (a.slice (Rect.unit (s := S8x4096x8x128) off S1x16x8x128.size h) (fun _ => rfl)).squeeze S16x8x128 squeezes_S1x16x8x128_S16x8x128
abbrev slotM (off : Fin 4 → Nat) (h : ∀ x, off x + S1x16x8x128.size x ≤ S4x16x8x128.size x) :
    Memref sig .scVector .vmem S16x8x128 .f32 :=
  (ringM.slice (Rect.unit (s := S4x16x8x128) off S1x16x8x128.size h) (fun _ => rfl)).squeeze S16x8x128 squeezes_S1x16x8x128_S16x8x128
/-- One row of the cache; one row of the new values. -/
abbrev rowM (off : Fin 4 → Nat) (h : ∀ x, off x + S1x1x8x128.size x ≤ S8x4096x8x128.size x) :
    Memref sig .scVector .hbm S1x8x128 .f32 :=
  (oM.slice (Rect.unit (s := S8x4096x8x128) off S1x1x8x128.size h) (fun _ => rfl)).squeeze S1x8x128 squeezes_S1x1x8x128_S1x8x128
abbrev newM (off : Fin 4 → Nat) (h : ∀ x, off x + S1x1x8x128.size x ≤ S8x8x8x128.size x) :
    Memref sig .scVector .hbm S1x8x128 .f32 :=
  (nM.slice (Rect.unit (s := S8x8x8x128) off S1x1x8x128.size h) (fun _ => rfl)).squeeze S1x8x128 squeezes_S1x1x8x128_S1x8x128

/-- Rows `a` to `b` of a tile's 1024: its part of the cache from row `a` up to row `b`. -/
def rows (L : grid0.Coords) (a b : Nat) : Finset S8x4096x8x128.Idx :=
  Finset.univ.filter fun i => (i 0).val = b0 L ∧ p0 L + a ≤ (i 1).val ∧ (i 1).val < p0 L + b
theorem mem_rows {L : grid0.Coords} {a b : Nat} {i : S8x4096x8x128.Idx} :
    i ∈ rows L a b ↔ (i 0).val = b0 L ∧ p0 L + a ≤ (i 1).val ∧ (i 1).val < p0 L + b := by
  unfold rows; rw [Finset.mem_filter]; exact and_iff_right (Finset.mem_univ i)

/-- Where a tile's chunk `c` starts. -/
def chunkOff (L : grid0.Coords) (c : Nat) : Fin 4 → Nat := ![b0 L, p0 L + 16 * c, 0, 0]
theorem chunkOff_inb (L : grid0.Coords) {c : Nat} (hc : c < 64) : ∀ x, chunkOff L c x + S1x16x8x128.size x ≤ S8x4096x8x128.size x := by
  have := b0_lt L; have := p0_le L
  intro x; fin_cases x
  · show b0 L + 1 ≤ 8; omega
  · show p0 L + 16 * c + 16 ≤ 4096; omega
  · show 0 + 8 ≤ 8; omega
  · show 0 + 128 ≤ 128; omega

theorem mem_unit4 {n0 n1 n2 n3 : Nat} {off size : Fin 4 → Nat} {inb} {i : (⟨4, ![n0, n1, n2, n3]⟩ : Shape).Idx} :
    i ∈ (Rect.unit (s := ⟨4, ![n0, n1, n2, n3]⟩) off size inb).set ↔
      (off 0 ≤ (i 0).val ∧ (i 0).val < off 0 + size 0) ∧ (off 1 ≤ (i 1).val ∧ (i 1).val < off 1 + size 1)
        ∧ (off 2 ≤ (i 2).val ∧ (i 2).val < off 2 + size 2) ∧ (off 3 ≤ (i 3).val ∧ (i 3).val < off 3 + size 3) := by
  rw [Rect.mem_set_unit]
  constructor
  · intro h; exact ⟨h 0, h 1, h 2, h 3⟩
  · rintro ⟨h0, h1, h2, h3⟩ a; fin_cases a <;> assumption

theorem set_vChunk (L : grid0.Coords) (c : Nat) (h) : (chunkM vM (chunkOff L c) h).view.set = rows L (16 * c) (16 * c + 16) := by
  refine (View.set_reshape _ _).trans ((View.set_slice_whole _ _).trans (Finset.ext fun (i : S8x4096x8x128.Idx) => ?_))
  have h2 : (i 2).val < 8 := (i 2).isLt
  have h3 : (i 3).val < 128 := (i 3).isLt
  rw [mem_rows]; refine mem_unit4.trans ?_
  show (b0 L ≤ (i 0).val ∧ (i 0).val < b0 L + 1) ∧ (p0 L + 16 * c ≤ (i 1).val ∧ (i 1).val < p0 L + 16 * c + 16)
    ∧ (0 ≤ (i 2).val ∧ (i 2).val < 0 + 8) ∧ (0 ≤ (i 3).val ∧ (i 3).val < 0 + 128) ↔ _
  omega
theorem set_oChunk (L : grid0.Coords) (c : Nat) (h) : (chunkM oM (chunkOff L c) h).view.set = rows L (16 * c) (16 * c + 16) :=
  set_vChunk L c h

end Cert.Proof.KV

end
-- ==== Proof.Ring.lean ====
/-
  The four steps of the ring, one chunk of 16 rows at a time: a chunk of the cache is read into a slot (`in_start`,
  `in_wait`) and the slot is written to the result (`out_start`, `out_wait`). While a read is on its way the slot, and
  the chunk at the share the slot reads with, belong to it; while a write is on its way the slot and the chunk of the
  result do. Each semaphore is at zero whenever nothing is on its way on it.
-/
module

public import proofs.«01_k».proof.Proof.Setup

@[expose] public section

noncomputable section

namespace Cert.Proof.KV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig (HIx 1) (Elt F) ℕ UU ℕ

variable (d : Dev nD) (L : grid0.Coords)

/-- What the tile has waited for beyond `W` carries no launch index. -/
def OW (O : CellTallies nD τ sig (HIx 1)) (W : Waits sig (HIx 1)) : sProp 𝕄 :=
  iprop(∃ W', ⌜∀ p ∈ W', p ∈ W ∨ p.2 = none⌝ ∗ owes (thr d L) O W')

theorem OW_insert {O : CellTallies nD τ sig (HIx 1)} {W W' : Waits sig (HIx 1)} (h : ∀ p ∈ W', p ∈ W ∨ p.2 = none) (s : SemLoc sig) :
    (owes (thr d L) O (insert (s, (none : HIx 1)) W') : sProp 𝕄) ⊢ OW d L O W := by
  unfold OW
  iintro HO
  iexists (insert (s, (none : HIx 1)) W')
  isplitr
  · ipureintro; intro p hp
    rcases Finset.mem_insert.mp hp with rfl | hp
    · exact .inr rfl
    · exact h p hp
  · iexact HO

theorem OW_elim {O : CellTallies nD τ sig (HIx 1)} {W : Waits sig (HIx 1)} :
    (OW d L O W : sProp 𝕄) ⊢ iprop(∃ W', ⌜∀ p ∈ W', p ∈ W ∨ p.2 = none⌝ ∗ owes (thr d L) O W') := .rfl

variable (vv : S8x4096x8x128.Idx → Elt F .f32) (q : PosShare TreeShare)

/-- The cache's values read at share `q`; the result's rows; a slot. -/
abbrev vPts (I : Finset S8x4096x8x128.Idx) : sProp 𝕄 := vM.view.loc (thr d L) ↦[I]{q} vv
abbrev oPts (I : Finset S8x4096x8x128.Idx) (f : S8x4096x8x128.Idx → Elt F .f32) : sProp 𝕄 := oM.view.loc (thr d L) ↦[I]{fullShare} f
abbrev slotPts (so : Fin 4 → Nat) (hso : ∀ x, so x + S1x16x8x128.size x ≤ S4x16x8x128.size x) (g : S4x16x8x128.Idx → Elt F .f32) : sProp 𝕄 :=
  ringM.view.loc (thr d L) ↦[(slotM so hso).view.set]{fullShare} g

variable (so : Fin 4 → Nat) (hso : ∀ x, so x + S1x16x8x128.size x ≤ S4x16x8x128.size x) (si sq : DmaSem sig)

/-- The slot holds chunk `c` of the cache. -/
def Holds (c : Nat) (g : S4x16x8x128.Idx → Elt F .f32) : Prop :=
  ∀ (h : c < 64) (x : S16x8x128.Idx), (slotM so hso).view.read (Elt F) g x = (chunkM vM (chunkOff L c) (chunkOff_inb L h)).view.read (Elt F) vv x

/-- The units a chunk's arrival brings: on a slot, on the result. -/
abbrev NI : ℕ := (slotM so hso).view.dmaCredit
abbrev NO : ℕ := (chunkM oM ![0, 0, 0, 0] (by decide)).view.dmaCredit
theorem NI_pos : 0 < NI so hso := View.dmaCredit_pos _ (by decide)
theorem NO_pos : 0 < NO := View.dmaCredit_pos _ (by decide)

/-- Chunk `c` is on its way into the slot. -/
def InFl (c : Nat) : sProp 𝕄 :=
  iprop(Flight (EC (F := F)) (thr d L) (.dma si) (none : HIx 1) (NI so hso)
      iprop((∃ g, ⌜Holds L vv so hso c g⌝ ∗ slotPts d L so hso g) ∗ vPts d L vv q (rows L (16 * c) (16 * c + 16)))
    ∗ vPts d L vv q (Finset.univ \ rows L (16 * c) (16 * c + 16)))

/-- Chunk `c` is on its way from the slot to the result. -/
def OutFl (c : Nat) : sProp 𝕄 :=
  Flight (EC (F := F)) (thr d L) (.dma sq) (none : HIx 1) NO
    iprop(oPts d L (rows L (16 * c) (16 * c + 16)) vv ∗ ∃ g, slotPts d L so hso g)

variable {α : Type} {Q : α → sProp (MT nD τ sig (HIx 1) (Elt F) ℕ UU ℕ)} {k : PUnit.{1} → Prog (TpuEff nD τ sig (Elt F) Λ₀ (thr d L).2) α}

local notation "WP" => wp frame (wpE (defs₀ (F := F)) 𝒱₀ (thr d L) none) Set.univ

omit [FloatOps F] in
theorem holds_write {c : Nat} (hc : c < 64) (h) (g : S4x16x8x128.Idx → Elt F .f32) :
    Holds L vv so hso c ((slotM so hso).view.write (Elt F) g ((chunkM vM (chunkOff L c) h).view.read (Elt F) vv) Finset.univ) :=
  fun _ x => View.read_write_of_mem _ _ (Finset.mem_univ x)

theorem in_deliver {c : Nat} (hc : c < 64) (h) (g : S4x16x8x128.Idx → Elt F .f32) :
    iprop((ringM.view.loc (thr d L) ↦[(slotM so hso).view.set]{fullShare}
          (slotM so hso).view.write (Elt F) g ((chunkM vM (chunkOff L c) h).view.read (Elt F) vv) Finset.univ)
        ∗ vPts d L vv q (chunkM vM (chunkOff L c) h).view.set)
      ⊢ (iprop((∃ g, ⌜Holds L vv so hso c g⌝ ∗ slotPts d L so hso g) ∗ vPts d L vv q (rows L (16 * c) (16 * c + 16))) : sProp 𝕄) := by
  iintro ⟨Hs, Hv⟩
  isplitl [Hs]
  · iexists _; isplitr
    · ipureintro; exact holds_write L vv so hso hc h g
    · iexact Hs
  · iapply (Entails.of_eq (congrArg (fun I => vPts d L vv q I) (set_vChunk L c h))); iexact Hv

theorem in_start {c : Nat} (hc : c < 64) {off : Fin 4 → Nat} (hoff : off = chunkOff L c) {h W1 W2 Ty} :
    iprop(vPts d L vv q Finset.univ ∗ (∃ g, slotPts d L so hso g) ∗ semVal (thr d L, .dma si) 0)
      ⊢ iprop((InFl d L vv q so hso si c -∗ WP (k ⟨⟩) Q)
          -∗ WP (.op (.enqueueDma (chunkM vM off h) (.here (slotM so hso)) (.dma si) W1 W2 Ty) k) Q) := by
  subst hoff
  have hset := set_vChunk L c h
  iintro ⟨Hv, ⟨%g, Hs⟩, Hsem⟩ Hk
  ihave Hv' := (pointsTo_split_subset (Finset.subset_univ (rows L (16 * c) (16 * c + 16)))).1 $$ Hv
  icases Hv' with ⟨Hv, Hrest⟩
  iapply (wp_dmaLocal (EC (F := F)) 𝒱₀ (thr d L) none (src := chunkM vM (chunkOff L c) h) (dst := slotM so hso) (q := q) (fs := vv)
    (Sd := (slotM so hso).view.set) (fd := g) none (NI so hso) rfl (NI_pos so hso) (Finset.Subset.refl _)) $$ [Hv Hs Hsem]
  · isplitl [Hv]
    · iapply (Entails.of_eq (congrArg (fun I => vPts d L vv q I) hset.symm)); iexact Hv
    isplitl [Hs]; · iexact Hs
    iexact Hsem
  iintro Hf
  iapply Hk
  unfold InFl
  isplitl [Hf]
  · iapply (Flight_mono (EC (F := F)) (thr d L) (in_deliver d L vv q so hso hc h g)); iexact Hf
  · iexact Hrest

omit [FloatOps F] in
theorem v_join (I : Finset S8x4096x8x128.Idx) :
    iprop(vPts d L vv q I ∗ vPts d L vv q (Finset.univ \ I)) ⊢ (vPts d L vv q Finset.univ : sProp 𝕄) :=
  (pointsTo_split_subset (Finset.subset_univ I)).2

theorem in_wait {O : CellTallies nD τ sig (HIx 1)} {W : Waits sig (HIx 1)} (hO : ∀ g, O g none = 0) {c : Nat} {off : Fin 4 → Nat} {h W1 W2} :
    iprop(levAts (K (F := F)).L (K (F := F)).lev ∗ InFl d L vv q so hso si c ∗ OW d L O W)
      ⊢ iprop((iprop((∃ g, ⌜Holds L vv so hso c g⌝ ∗ slotPts d L so hso g) ∗ vPts d L vv q Finset.univ ∗ semVal (thr d L, .dma si) 0 ∗ OW d L O W)
            -∗ WP (k ⟨⟩) Q)
          -∗ WP (.op (.waitDma2 si (chunkM vM off h) (slotM so hso) W1 W2) k) Q) := by
  iintro ⟨#Hlv, Hin, HO⟩ Hk
  unfold InFl
  icases Hin with ⟨Hf, Hrest⟩
  ihave HO := (OW_elim d L) $$ HO
  icases HO with ⟨%W', %hW', HO⟩
  iapply (wp_waitLocalO (EC (F := F)) 𝒱₀ (thr d L) none (srcw := chunkM vM off h) (dstw := slotM so hso) none (N := NI so hso) rfl) $$ [Hf HO]
  · isplitl [Hf]; · iexact Hf
    isplitl [HO]; · iexact HO
    iapply ((K (F := F)).mayWait_none (SemLoc.dma si) hO); iexact Hlv
  iintro ⟨⟨Hs, Hv⟩, Hsem, HO⟩
  iapply Hk
  isplitl [Hs]; · iexact Hs
  isplitl [Hv Hrest]
  · iapply (v_join d L vv q (rows L (16 * c) (16 * c + 16))); isplitl [Hv] <;> iassumption
  isplitl [Hsem]; · iexact Hsem
  iapply (OW_insert d L hW' _); iexact HO

omit [FloatOps F] in
/-- What the slot's write leaves in the result's chunk, when the slot holds it. -/
theorem holds_out {c : Nat} (hc : c < 64) (h) {g : S4x16x8x128.Idx → Elt F .f32} (hg : Holds L vv so hso c g) (f : S8x4096x8x128.Idx → Elt F .f32) :
    ∀ i ∈ rows L (16 * c) (16 * c + 16),
      (chunkM oM (chunkOff L c) h).view.write (Elt F) f ((slotM so hso).view.read (Elt F) g) Finset.univ i = vv i := by
  intro i hi
  rw [← set_oChunk L c h] at hi
  obtain ⟨x, -, rfl⟩ := Finset.mem_map.mp hi
  refine (View.write_emb_of_mem _ _ (Finset.mem_univ x)).trans ?_
  rw [hg hc x]
  rfl

theorem out_deliver {c : Nat} (hc : c < 64) (h) {g : S4x16x8x128.Idx → Elt F .f32} (hg : Holds L vv so hso c g) (f : S8x4096x8x128.Idx → Elt F .f32) :
    iprop(oPts d L (rows L (16 * c) (16 * c + 16))
          ((chunkM oM (chunkOff L c) h).view.write (Elt F) f ((slotM so hso).view.read (Elt F) g) Finset.univ)
        ∗ slotPts d L so hso g)
      ⊢ (iprop(oPts d L (rows L (16 * c) (16 * c + 16)) vv ∗ ∃ g, slotPts d L so hso g) : sProp 𝕄) := by
  iintro ⟨Ho, Hs⟩
  isplitl [Ho]
  · iapply (Entails.of_eq (pointsTo_congr (holds_out L vv so hso hc h hg f))); iexact Ho
  · iexists g; iexact Hs

theorem out_start {c : Nat} (hc : c < 64) {off : Fin 4 → Nat} (hoff : off = chunkOff L c) {h W1 W2 Ty} :
    iprop((∃ g, ⌜Holds L vv so hso c g⌝ ∗ slotPts d L so hso g) ∗ (∃ f, oPts d L (rows L (16 * c) (16 * c + 16)) f) ∗ semVal (thr d L, .dma sq) 0)
      ⊢ iprop((OutFl d L vv so hso sq c -∗ WP (k ⟨⟩) Q)
          -∗ WP (.op (.enqueueDma (slotM so hso) (.here (chunkM oM off h)) (.dma sq) W1 W2 Ty) k) Q) := by
  subst hoff
  have hset := set_oChunk L c h
  iintro ⟨⟨%g, %hg, Hs⟩, ⟨%f, Ho⟩, Hsem⟩ Hk
  iapply (wp_dmaLocal (EC (F := F)) 𝒱₀ (thr d L) none (src := slotM so hso) (dst := chunkM oM (chunkOff L c) h) (q := fullShare) (fs := g)
    (Sd := rows L (16 * c) (16 * c + 16)) (fd := f) none NO rfl NO_pos (Finset.subset_of_eq hset)) $$ [Hs Ho Hsem]
  · isplitl [Hs]; · iexact Hs
    isplitl [Ho]; · iexact Ho
    iexact Hsem
  iintro Hf
  iapply Hk
  unfold OutFl
  iapply (Flight_mono (EC (F := F)) (thr d L) (out_deliver d L vv so hso hc h hg f)); iexact Hf

theorem out_wait {O : CellTallies nD τ sig (HIx 1)} {W : Waits sig (HIx 1)} (hO : ∀ g, O g none = 0) {c : Nat} {off : Fin 4 → Nat} {h W1 W2} :
    iprop(levAts (K (F := F)).L (K (F := F)).lev ∗ OutFl d L vv so hso sq c ∗ OW d L O W)
      ⊢ iprop((iprop(oPts d L (rows L (16 * c) (16 * c + 16)) vv ∗ (∃ g, slotPts d L so hso g) ∗ semVal (thr d L, .dma sq) 0 ∗ OW d L O W)
            -∗ WP (k ⟨⟩) Q)
          -∗ WP (.op (.waitDma2 sq (slotM so hso) (chunkM oM off h) W1 W2) k) Q) := by
  iintro ⟨#Hlv, Hf, HO⟩ Hk
  unfold OutFl
  ihave HO := (OW_elim d L) $$ HO
  icases HO with ⟨%W', %hW', HO⟩
  iapply (wp_waitLocalO (EC (F := F)) 𝒱₀ (thr d L) none (srcw := slotM so hso) (dstw := chunkM oM off h) none (N := NO) rfl) $$ [Hf HO]
  · isplitl [Hf]; · iexact Hf
    isplitl [HO]; · iexact HO
    iapply ((K (F := F)).mayWait_none (SemLoc.dma sq) hO); iexact Hlv
  iintro ⟨⟨Ho, Hs⟩, Hsem, HO⟩
  iapply Hk
  isplitl [Ho]; · iexact Ho
  isplitl [Hs]; · iexact Hs
  isplitl [Hsem]; · iexact Hsem
  iapply (OW_insert d L hW' _); iexact HO

end Cert.Proof.KV

end
-- ==== Proof.Phase.lean ====
/-
  One chunk of the ring: wait for the chunk's arrival, start its write to the result, and, while chunks remain, wait
  for the write two chunks back and start the read two chunks ahead in the slot that write leaves.
-/
module

public import proofs.«01_k».proof.Proof.Ring

@[expose] public section

noncomputable section

namespace Cert.Proof.KV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig (HIx 1) (Elt F) ℕ UU ℕ

/-- The type of a slot's offset being in the ring, and of a chunk's in the cache. -/
abbrev SlotIn (so : Fin 4 → Nat) : Prop := ∀ x, so x + S1x16x8x128.size x ≤ S4x16x8x128.size x
abbrev ChunkIn (off : Fin 4 → Nat) : Prop := ∀ x, off x + S1x16x8x128.size x ≤ S8x4096x8x128.size x

/-- The program of one chunk: slot `so` (semaphores `si`, `sq`) holds it, slot `so'` (`si'`, `sq'`) is the one two ahead. -/
def phaseProg (i : grid0.Coords) (so : Fin 4 → Nat) (hso : SlotIn so) (si sq : DmaSem sig) (so' : Fin 4 → Nat) (hso' : SlotIn so')
    (si' sq' : DmaSem sig) (off : Fin 4 → Nat) (h : ChunkIn off) (c1 c2 : BitVec 1) (off3 off4 : Fin 4 → Nat)
    (h3 : c1 = 1#1 → c2 = 1#1 → ChunkIn off3) (h4 : c1 = 1#1 → ChunkIn off4) :
    Prog (TpuEff nD τ sig (Elt F) Λ₀ (.scVector ((i 0).castLE hcore0) ((i 1).castLE hsub0))) PUnit := do
  Prog.lift (.waitDma2 si (chunkM vM off h) (slotM so hso) ((View.wordExact_bits rfl).reshape _ _) ((View.wordExact_bits rfl).reshape _ _))
  Prog.lift (.enqueueDma (slotM so hso) (.here (chunkM oM off h)) (.dma sq) ((View.wordExact_bits rfl).reshape _ _) ((View.wordExact_bits rfl).reshape _ _) ⟨Or.inl rfl, trivial⟩)
  if hc1 : c1 = 1#1 then do
    if hc2 : c2 = 1#1 then do
      Prog.lift (.waitDma2 sq' (slotM so' hso') (chunkM oM off3 (h3 hc1 hc2)) ((View.wordExact_bits rfl).reshape _ _) ((View.wordExact_bits rfl).reshape _ _))
      pure ⟨⟩
    else do
      pure ⟨⟩
    Prog.lift (.enqueueDma (chunkM vM off4 (h4 hc1)) (.here (slotM so' hso')) (.dma si') ((View.wordExact_bits rfl).reshape _ _) ((View.wordExact_bits rfl).reshape _ _) ⟨Or.inl rfl, trivial⟩)
    pure ⟨⟩
  else do
    pure ⟨⟩

variable (d : Dev nD) (L : grid0.Coords) (vv : S8x4096x8x128.Idx → Elt F .f32) (q q' : PosShare TreeShare)
variable (so : Fin 4 → Nat) (hso : SlotIn so) (si sq : DmaSem sig) (so' : Fin 4 → Nat) (hso' : SlotIn so') (si' sq' : DmaSem sig)

/-- A slot a read is on its way into; one a write is on its way from; one nothing is on its way in. -/
def Rd (c : Nat) : sProp 𝕄 := iprop(InFl d L vv q so hso si c ∗ semVal (thr d L, .dma sq) 0)
def Wr (c : Nat) : sProp 𝕄 := iprop(OutFl d L vv so hso sq c ∗ semVal (thr d L, .dma si) 0 ∗ vPts d L vv q Finset.univ)
def Free : sProp 𝕄 := iprop((∃ g, slotPts d L so hso g) ∗ semVal (thr d L, .dma si) 0 ∗ semVal (thr d L, .dma sq) 0 ∗ vPts d L vv q Finset.univ)

omit [FloatOps F] in
theorem wr_elim (c : Nat) : (Wr d L vv q so hso si sq c : sProp 𝕄)
    ⊢ iprop(OutFl d L vv so hso sq c ∗ semVal (thr d L, .dma si) 0 ∗ vPts d L vv q Finset.univ) := .rfl
omit [FloatOps F] in
theorem free_elim : (Free d L vv q so hso si sq : sProp 𝕄)
    ⊢ iprop((∃ g, slotPts d L so hso g) ∗ semVal (thr d L, .dma si) 0 ∗ semVal (thr d L, .dma sq) 0 ∗ vPts d L vv q Finset.univ) := .rfl
omit [FloatOps F] in
theorem rd_intro (c : Nat) : iprop(InFl d L vv q so hso si c ∗ semVal (thr d L, .dma sq) 0)
    ⊢ (Rd d L vv q so hso si sq c : sProp 𝕄) := .rfl

/-- The slot two chunks ahead of chunk `c`, before and after chunk `c`'s phase. -/
def Ahead (c : Nat) : sProp 𝕄 := if 2 ≤ c then Wr d L vv q so hso si sq (c - 2) else Free d L vv q so hso si sq
def Behind (c : Nat) : sProp 𝕄 := if c + 2 < 64 then Rd d L vv q so hso si sq (c + 2) else Wr d L vv q so hso si sq (c - 2)

/-- The result's rows written; the rows still to be written. -/
def Done (n : Nat) : sProp 𝕄 := oPts d L (rows L 0 (16 * n)) vv
def Todo (n : Nat) : sProp 𝕄 := iprop(∃ f, oPts d L (rows L (16 * n) 1024) f)

omit [FloatOps F] in
theorem rows_split {a b e : Nat} (h1 : a ≤ b) (h2 : b ≤ e) (f : S8x4096x8x128.Idx → Elt F .f32) :
    (oPts d L (rows L a e) f : sProp 𝕄) ⊣⊢ iprop(oPts d L (rows L a b) f ∗ oPts d L (rows L b e) f) := by
  have hu : rows L a e = rows L a b ∪ rows L b e := by
    ext i; rw [Finset.mem_union, mem_rows, mem_rows, mem_rows]; omega
  have hd : Disjoint (rows L a b) (rows L b e) := by
    rw [Finset.disjoint_left]; intro i; rw [mem_rows, mem_rows]; omega
  rw [hu]; exact pointsTo_union hd

omit [FloatOps F] in
theorem todo_split {c : Nat} (hc : c < 64) :
    (Todo d L c : sProp 𝕄) ⊢ iprop((∃ f, oPts d L (rows L (16 * c) (16 * c + 16)) f) ∗ Todo d L (c + 1)) := by
  unfold Todo
  iintro ⟨%f, H⟩
  ihave H := (rows_split d L (show 16 * c ≤ 16 * c + 16 by omega) (show 16 * c + 16 ≤ 1024 by omega) f).1 $$ H
  icases H with ⟨H1, H2⟩
  isplitl [H1]
  · iexists f; iexact H1
  · iexists f; iexact H2

omit [FloatOps F] in
theorem done_join (n : Nat) :
    iprop(Done d L vv n ∗ oPts d L (rows L (16 * n) (16 * n + 16)) vv) ⊢ (Done d L vv (n + 1) : sProp 𝕄) :=
  (rows_split d L (Nat.zero_le (16 * n)) (show 16 * n ≤ 16 * n + 16 by omega) vv).2

local notation "WP" => wp frame (wpE (defs₀ (F := F)) 𝒱₀ (thr d L) none) Set.univ

/-- The first half of a phase: the chunk's arrival is waited for and its write started. -/
theorem turn {O : CellTallies nD τ sig (HIx 1)} {W : Waits sig (HIx 1)} (hO : ∀ g, O g none = 0)
    {c : Nat} (hc : c < 64) {off : Fin 4 → Nat} (hoff : off = chunkOff L c) {h} {W1 W2 W3 W4 Ty}
    {Q : PUnit.{1} → sProp (MT nD τ sig (HIx 1) (Elt F) ℕ UU ℕ)} {k : PUnit.{1} → Prog (TpuEff nD τ sig (Elt F) Λ₀ (thr d L).2) PUnit} :
    iprop(levAts (K (F := F)).L (K (F := F)).lev ∗ Rd d L vv q so hso si sq c ∗ Todo d L c ∗ OW d L O W)
      ⊢ iprop(((Wr d L vv q so hso si sq c ∗ Todo d L (c + 1) ∗ OW d L O W) -∗ WP (k ⟨⟩) Q)
        -∗ WP (.op (.waitDma2 si (chunkM vM off h) (slotM so hso) W1 W2) fun _ =>
            .op (.enqueueDma (slotM so hso) (.here (chunkM oM off h)) (.dma sq) W3 W4 Ty) k) Q) := by
  unfold Rd Wr
  iintro ⟨#Hlv, ⟨Hin, Hsq⟩, Htodo, HO⟩ Hk
  iapply (in_wait d L vv q so hso si hO) $$ [Hin HO]
  · isplitr; · iexact Hlv
    isplitl [Hin]; · iexact Hin
    iexact HO
  iintro ⟨Hs, Hv, Hsi, HO⟩
  ihave Ht := (todo_split d L hc) $$ Htodo
  icases Ht with ⟨Ho, Htodo⟩
  iapply (out_start d L vv so hso sq hc hoff) $$ [Hs Ho Hsq]
  · isplitl [Hs]; · iexact Hs
    isplitl [Ho]; · iexact Ho
    iexact Hsq
  iintro Hout
  iapply Hk
  isplitl [Hout Hsi Hv]
  · isplitl [Hout]; · iexact Hout
    isplitl [Hsi] <;> iassumption
  isplitl [Htodo] <;> iassumption

theorem phase {O : CellTallies nD τ sig (HIx 1)} {W : Waits sig (HIx 1)} (hO : ∀ g, O g none = 0)
    {c : Nat} (hc : c < 64) {off off3 off4 : Fin 4 → Nat} {c1 c2 : BitVec 1} {h h3 h4}
    (hoff : off = chunkOff L c) (hc1 : c1 = 1#1 ↔ c + 2 < 64) (hc2 : c2 = 1#1 ↔ 2 ≤ c) (hoff4 : off4 = chunkOff L (c + 2)) :
    iprop(levAts (K (F := F)).L (K (F := F)).lev ∗ Rd d L vv q so hso si sq c ∗ Ahead d L vv q' so' hso' si' sq' c
        ∗ Done d L vv (min (c - 2) 60) ∗ Todo d L c ∗ OW d L O W)
      ⊢ WP (phaseProg L so hso si sq so' hso' si' sq' off h c1 c2 off3 off4 h3 h4)
          fun _ => iprop(Wr d L vv q so hso si sq c ∗ Behind d L vv q' so' hso' si' sq' c
            ∗ Done d L vv (min (c - 1) 60) ∗ Todo d L (c + 1) ∗ OW d L O W) := by
  unfold phaseProg Ahead Behind
  by_cases h1 : c + 2 < 64
  · rw [dif_pos (hc1.mpr h1), if_pos h1]
    by_cases h2 : 2 ≤ c
    · rw [dif_pos (hc2.mpr h2), if_pos h2, show min (c - 2) 60 = c - 2 by omega, show min (c - 1) 60 = c - 2 + 1 by omega]
      simp only [Prog.lift, Prog.bind_op, Prog.bind_ret, Prog.pure_eq_ret]
      iintro ⟨#Hlv, Hrd, Hah, Hdone, Htodo, HO⟩
      iapply (turn d L vv q so hso si sq hO hc hoff) $$ [Hrd Htodo HO]
      · isplitr; · iexact Hlv
        isplitl [Hrd]; · iexact Hrd
        isplitl [Htodo] <;> iassumption
      iintro ⟨Hwr, Htodo, HO⟩
      ihave Hah := (wr_elim d L vv q' so' hso' si' sq' (c - 2)) $$ Hah
      icases Hah with ⟨Hf, Hsi', Hv'⟩
      iapply (out_wait d L vv so' hso' sq' hO) $$ [Hf HO]
      · isplitr; · iexact Hlv
        isplitl [Hf]; · iexact Hf
        iexact HO
      iintro ⟨Ho, Hs', Hsq', HO⟩
      iapply (in_start d L vv q' so' hso' si' h1 hoff4) $$ [Hv' Hs' Hsi']
      · isplitl [Hv']; · iexact Hv'
        isplitl [Hs']; · iexact Hs'
        iexact Hsi'
      iintro Hin
      rw [wp_ret]; imodintro
      isplitl [Hwr]; · iexact Hwr
      isplitl [Hin Hsq']
      · iapply (rd_intro d L vv q' so' hso' si' sq' (c + 2)); isplitl [Hin] <;> iassumption
      isplitl [Hdone Ho]
      · iapply (done_join d L vv (c - 2)); isplitl [Hdone] <;> iassumption
      isplitl [Htodo] <;> iassumption
    · rw [dif_neg (fun e => h2 (hc2.mp e)), if_neg h2, show min (c - 1) 60 = min (c - 2) 60 by omega]
      simp only [Prog.lift, Prog.bind_op, Prog.bind_ret, Prog.pure_eq_ret]
      iintro ⟨#Hlv, Hrd, Hah, Hdone, Htodo, HO⟩
      iapply (turn d L vv q so hso si sq hO hc hoff) $$ [Hrd Htodo HO]
      · isplitr; · iexact Hlv
        isplitl [Hrd]; · iexact Hrd
        isplitl [Htodo] <;> iassumption
      iintro ⟨Hwr, Htodo, HO⟩
      ihave Hah := (free_elim d L vv q' so' hso' si' sq') $$ Hah
      icases Hah with ⟨Hs', Hsi', Hsq', Hv'⟩
      iapply (in_start d L vv q' so' hso' si' h1 hoff4) $$ [Hv' Hs' Hsi']
      · isplitl [Hv']; · iexact Hv'
        isplitl [Hs']; · iexact Hs'
        iexact Hsi'
      iintro Hin
      rw [wp_ret]; imodintro
      isplitl [Hwr]; · iexact Hwr
      isplitl [Hin Hsq']
      · iapply (rd_intro d L vv q' so' hso' si' sq' (c + 2)); isplitl [Hin] <;> iassumption
      isplitl [Hdone]; · iexact Hdone
      isplitl [Htodo] <;> iassumption
  · rw [dif_neg (fun e => h1 (hc1.mp e)), if_neg h1, if_pos (show 2 ≤ c by omega), show min (c - 1) 60 = min (c - 2) 60 by omega]
    simp only [Prog.lift, Prog.bind_op, Prog.bind_ret, Prog.pure_eq_ret]
    iintro ⟨#Hlv, Hrd, Hah, Hdone, Htodo, HO⟩
    iapply (turn d L vv q so hso si sq hO hc hoff) $$ [Hrd Htodo HO]
    · isplitr; · iexact Hlv
      isplitl [Hrd]; · iexact Hrd
      isplitl [Htodo] <;> iassumption
    iintro ⟨Hwr, Htodo, HO⟩
    rw [wp_ret]; imodintro
    isplitl [Hwr]; · iexact Hwr
    isplitl [Hah]; · iexact Hah
    isplitl [Hdone]; · iexact Hdone
    isplitl [Htodo] <;> iassumption

end Cert.Proof.KV

end
-- ==== Proof.Trip.lean ====
/-
  The loop over the chunks: a trip is four phases, one for each slot.
-/
module

public import proofs.«01_k».proof.Proof.Phase

@[expose] public section

noncomputable section

namespace Cert.Proof.KV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig (HIx 1) (Elt F) ℕ UU ℕ

/-! ## The words of a trip -/

/-- A chunk's offset from its number as a word. -/
theorem off_eq (i : grid0.Coords) {w : BitVec 32} {c : Nat} (hw : w = BitVec.ofNat 32 c) (hc : c < 66) :
    (![(b0W i).toNat, (Scalar.addi (p0W i) (Scalar.muli w 16#32)).toNat, 0, 0] : Fin 4 → Nat) = chunkOff i c := by
  have h0 := b0_lt i; have h1 := p0_le i
  have e0 : (b0W i).toNat = b0 i := by rw [b0W_eq, BitVec.toNat_ofNat]; omega
  have e1 : (Scalar.addi (p0W i) (Scalar.muli w 16#32)).toNat = p0 i + 16 * c := by
    show (p0W i + w * 16#32).toNat = _
    rw [p0W_eq, hw, BitVec.toNat_add, BitVec.toNat_mul, BitVec.toNat_ofNat, BitVec.toNat_ofNat, BitVec.toNat_ofNat]; omega
  rw [e0, e1]; rfl

/-- The chunk numbers a trip computes. -/
theorem now_eq : ∀ (t : Fin k0_t1_loop.trips) (j : Fin 4),
    Scalar.addi (Scalar.muli 4#32 (Scf.iv 0#32 1#32 t)) (BitVec.ofNat 32 j.val) = BitVec.ofNat 32 (4 * t.val + j.val) := by decide +kernel
theorem ahead_eq : ∀ (t : Fin k0_t1_loop.trips) (j : Fin 4),
    Scalar.addi (Scalar.addi (Scalar.muli 4#32 (Scf.iv 0#32 1#32 t)) (BitVec.ofNat 32 j.val)) 2#32 = BitVec.ofNat 32 (4 * t.val + j.val + 2) := by decide +kernel

theorem trips_eq : k0_t1_loop.trips = 16 := by decide +kernel
theorem trip_lt (t : Fin k0_t1_loop.trips) : t.val < 16 := trips_eq ▸ t.isLt

theorem off2_eq (i : grid0.Coords) (t : Fin k0_t1_loop.trips) (j : Fin 4) :
    k0_off2 i t (BitVec.ofNat 32 j.val) = chunkOff i (4 * t.val + j.val) :=
  off_eq i (now_eq t j) (by have := trip_lt t; omega)
theorem off4_eq (i : grid0.Coords) (t : Fin k0_t1_loop.trips) :
    k0_off4 i t = chunkOff i (4 * t.val + 0 + 2) :=
  off_eq i (ahead_eq t 0) (by have := trip_lt t; show 4 * t.val + 0 + 2 < 66; omega)
theorem off6_eq (i : grid0.Coords) (t : Fin k0_t1_loop.trips) :
    k0_off6 i t = chunkOff i (4 * t.val + 1 + 2) :=
  off_eq i (ahead_eq t 1) (by have := trip_lt t; show 4 * t.val + 1 + 2 < 66; omega)
theorem off8_eq (i : grid0.Coords) (t : Fin k0_t1_loop.trips) :
    k0_off8 i t = chunkOff i (4 * t.val + 2 + 2) :=
  off_eq i (ahead_eq t 2) (by have := trip_lt t; show 4 * t.val + 2 + 2 < 66; omega)
theorem off10_eq (i : grid0.Coords) (t : Fin k0_t1_loop.trips) :
    k0_off10 i t = chunkOff i (4 * t.val + 3 + 2) :=
  off_eq i (ahead_eq t 3) (by have := trip_lt t; show 4 * t.val + 3 + 2 < 66; omega)
theorem cond1_iff : ∀ t : Fin k0_t1_loop.trips, k0_cond1 t = 1#1 ↔ 4 * t.val + 0 + 2 < 64 := by decide +kernel
theorem cond2_iff : ∀ t : Fin k0_t1_loop.trips, k0_cond2 t = 1#1 ↔ 2 ≤ 4 * t.val + 0 := by decide +kernel
theorem cond3_iff : ∀ t : Fin k0_t1_loop.trips, k0_cond3 t = 1#1 ↔ 4 * t.val + 1 + 2 < 64 := by decide +kernel
theorem cond4_iff : ∀ t : Fin k0_t1_loop.trips, k0_cond4 t = 1#1 ↔ 2 ≤ 4 * t.val + 1 := by decide +kernel
theorem cond5_iff : ∀ t : Fin k0_t1_loop.trips, k0_cond5 t = 1#1 ↔ 4 * t.val + 2 + 2 < 64 := by decide +kernel
theorem cond6_iff : ∀ t : Fin k0_t1_loop.trips, k0_cond6 t = 1#1 ↔ 2 ≤ 4 * t.val + 2 := by decide +kernel
theorem cond7_iff : ∀ t : Fin k0_t1_loop.trips, k0_cond7 t = 1#1 ↔ 4 * t.val + 3 + 2 < 64 := by decide +kernel
theorem cond8_iff : ∀ t : Fin k0_t1_loop.trips, k0_cond8 t = 1#1 ↔ 2 ≤ 4 * t.val + 3 := by decide +kernel

/-! ## A trip -/

theorem slot_in : ∀ s : Fin 4, SlotIn ![s.val, 0, 0, 0] := by decide
abbrev so (s : Fin 4) : Fin 4 → Nat := ![s.val, 0, 0, 0]
/-- A slot's two semaphores. -/
abbrev si : Fin 4 → DmaSem sig := ![cc0_scratch3.sem, cc0_scratch4.sem, cc0_scratch5.sem, cc0_scratch6.sem]
abbrev sq : Fin 4 → DmaSem sig := ![cc0_scratch7.sem, cc0_scratch8.sem, cc0_scratch9.sem, cc0_scratch10.sem]

/-- A trip of the kernel's loop. -/
def tripAt (L : grid0.Coords) (v29 : BitVec 32) :=
  k0_t1_body (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v29

/-- Phase `j` of trip `t`. -/
abbrev ph0 (L : grid0.Coords) (t : Fin k0_t1_loop.trips) := phaseProg (F := F) L (so 0) (slot_in 0) (si 0) (sq 0) (so 2) (slot_in 2) (si 2) (sq 2) (k0_off2 L t 0#32) (k0_off2_inb L t 0)
        (k0_cond1 t) (k0_cond2 t) (k0_off3 L t) (k0_off4 L t) (k0_off3_inb L t) (k0_off4_inb L t)
abbrev ph1 (L : grid0.Coords) (t : Fin k0_t1_loop.trips) := phaseProg (F := F) L (so 1) (slot_in 1) (si 1) (sq 1) (so 3) (slot_in 3) (si 3) (sq 3) (k0_off2 L t 1#32) (k0_off2_inb L t 1)
        (k0_cond3 t) (k0_cond4 t) (k0_off5 L t) (k0_off6 L t) (k0_off5_inb L t) (k0_off6_inb L t)
abbrev ph2 (L : grid0.Coords) (t : Fin k0_t1_loop.trips) := phaseProg (F := F) L (so 2) (slot_in 2) (si 2) (sq 2) (so 0) (slot_in 0) (si 0) (sq 0) (k0_off2 L t 2#32) (k0_off2_inb L t 2)
        (k0_cond5 t) (k0_cond6 t) (k0_off7 L t) (k0_off8 L t) (k0_off7_inb L t) (k0_off8_inb L t)
abbrev ph3 (L : grid0.Coords) (t : Fin k0_t1_loop.trips) := phaseProg (F := F) L (so 3) (slot_in 3) (si 3) (sq 3) (so 1) (slot_in 1) (si 1) (sq 1) (k0_off2 L t 3#32) (k0_off2_inb L t 3)
        (k0_cond7 t) (k0_cond8 t) (k0_off9 L t) (k0_off10 L t) (k0_off9_inb L t) (k0_off10_inb L t)

theorem part1_eq (L : grid0.Coords) (v29 : BitVec 32) (t : Fin k0_t1_loop.trips) :
    k0_part1 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v29 0#32 1#32 t = (ph0 L t >>= fun _ => pure ⟨Scf.iv 0#32 1#32 t, 4#32⟩) := by
  rw [k0_part1_eq_skeleton]
  unfold k0_part1_skel ph0 phaseProg
  by_cases h1 : k0_cond1 t = 1#1 <;> by_cases h2 : k0_cond2 t = 1#1 <;>
    simp only [h1, h2, Prog.lift, Prog.bind_op, Prog.bind_ret, Prog.pure_eq_ret, ↓reduceDIte] <;> rfl
theorem part2_eq (L : grid0.Coords) (v29 : BitVec 32) (t : Fin k0_t1_loop.trips) (w w' : BitVec 32) :
    k0_part2 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v29 t w w' = (ph1 L t >>= fun _ => pure ⟨Scalar.muli 4#32 w, 2#32⟩) := by
  rw [k0_part2_eq_skeleton]
  unfold k0_part2_skel ph1 phaseProg
  by_cases h1 : k0_cond3 t = 1#1 <;> by_cases h2 : k0_cond4 t = 1#1 <;>
    simp only [h1, h2, Prog.lift, Prog.bind_op, Prog.bind_ret, Prog.pure_eq_ret, ↓reduceDIte] <;> rfl
theorem part3_eq (L : grid0.Coords) (v29 : BitVec 32) (t : Fin k0_t1_loop.trips) (w w' w'' : BitVec 32) :
    k0_part3 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v29 t w w' w'' = (ph2 L t >>= fun _ => pure ⟨Scalar.addi (Scalar.muli 4#32 w) 3#32, 16#32⟩) := by
  rw [k0_part3_eq_skeleton]
  unfold k0_part3_skel ph2 phaseProg
  by_cases h1 : k0_cond5 t = 1#1 <;> by_cases h2 : k0_cond6 t = 1#1 <;>
    simp only [h1, h2, Prog.lift, Prog.bind_op, Prog.bind_ret, Prog.pure_eq_ret, ↓reduceDIte] <;> rfl
theorem tripAt_eq (L : grid0.Coords) (v29 : BitVec 32) (t : Fin k0_t1_loop.trips) (u : Unit) :
    tripAt (F := F) L v29 t u = (do let _ ← ph0 L t; let _ ← ph1 L t; let _ ← ph2 L t; let _ ← ph3 L t; pure ⟨⟩) := by
  unfold tripAt k0_t1_body
  simp only [part1_eq, part2_eq, part3_eq, bind_assoc, pure_bind]
  unfold ph3 phaseProg
  by_cases h1 : k0_cond7 t = 1#1 <;> by_cases h2 : k0_cond8 t = 1#1 <;>
    simp only [h1, h2, Prog.lift, Prog.bind_op, Prog.bind_ret, Prog.pure_eq_ret, ↓reduceDIte] <;> rfl

/-! ## The loop's invariant -/

variable (d : Dev nD) (L : grid0.Coords) (vv : S8x4096x8x128.Idx → Elt F .f32) (qs : Fin 4 → PosShare TreeShare)

abbrev RdS (s : Fin 4) (c : Nat) : sProp 𝕄 := Rd d L vv (qs s) (so s) (slot_in s) (si s) (sq s) c
abbrev WrS (s : Fin 4) (c : Nat) : sProp 𝕄 := Wr d L vv (qs s) (so s) (slot_in s) (si s) (sq s) c
abbrev AheadS (s : Fin 4) (c : Nat) : sProp 𝕄 := Ahead d L vv (qs s) (so s) (slot_in s) (si s) (sq s) c
abbrev BehindS (s : Fin 4) (c : Nat) : sProp 𝕄 := Behind d L vv (qs s) (so s) (slot_in s) (si s) (sq s) c

/-- Before trip `t`: two reads are on their way (or, after the last trip, the last writes), the other two slots are as
    the trip before left them, and the rows up to two chunks back are written. -/
def Inv (O : CellTallies nD τ sig (HIx 1)) (W : Waits sig (HIx 1)) (t : Nat) : sProp 𝕄 :=
  iprop(levAts (K (F := F)).L (K (F := F)).lev
    ∗ (if t < 16 then RdS d L vv qs 0 (4 * t) else WrS d L vv qs 0 (4 * t - 4))
    ∗ (if t < 16 then RdS d L vv qs 1 (4 * t + 1) else WrS d L vv qs 1 (4 * t - 3))
    ∗ AheadS d L vv qs 2 (4 * t) ∗ AheadS d L vv qs 3 (4 * t + 1)
    ∗ Done d L vv (min (4 * t - 2) 60) ∗ Todo d L (4 * t) ∗ OW d L O W)

local notation "WP" => wp frame (wpE (defs₀ (F := F)) 𝒱₀ (thr d L) none) Set.univ

set_option maxHeartbeats 2000000 in
theorem trip {O : CellTallies nD τ sig (HIx 1)} {W : Waits sig (HIx 1)} (hO : ∀ g, O g none = 0) (v29 : BitVec 32)
    (t : Fin k0_t1_loop.trips) (u : Unit) :
    Inv d L vv qs O W t.val ⊢ WP (tripAt L v29 t u) fun _ => Inv d L vv qs O W (t.val + 1) := by
  have ht := trip_lt t
  rw [tripAt_eq]
  simp only [wp_bind]
  have e0 : AheadS d L vv qs 0 (4 * t.val + 2) = WrS d L vv qs 0 (4 * t.val) := if_pos (by omega)
  have e1 : AheadS d L vv qs 1 (4 * t.val + 3) = WrS d L vv qs 1 (4 * t.val + 1) := if_pos (by omega)
  have e2 : BehindS d L vv qs 2 (4 * t.val) = RdS d L vv qs 2 (4 * t.val + 2) := if_pos (by omega)
  have e3 : BehindS d L vv qs 3 (4 * t.val + 1) = RdS d L vv qs 3 (4 * t.val + 3) := if_pos (by omega)
  have f2 : AheadS d L vv qs 2 (4 * (t.val + 1)) = WrS d L vv qs 2 (4 * t.val + 2) := if_pos (by omega)
  have f3 : AheadS d L vv qs 3 (4 * (t.val + 1) + 1) = WrS d L vv qs 3 (4 * t.val + 3) := if_pos (by omega)
  have g0 : (if t.val + 1 < 16 then RdS d L vv qs 0 (4 * (t.val + 1)) else WrS d L vv qs 0 (4 * (t.val + 1) - 4)) = BehindS d L vv qs 0 (4 * t.val + 2) := by
    by_cases h : t.val + 1 < 16
    · rw [if_pos h]; exact (if_pos (by omega)).symm
    · rw [if_neg h]; exact (if_neg (by omega)).symm
  have g1 : (if t.val + 1 < 16 then RdS d L vv qs 1 (4 * (t.val + 1) + 1) else WrS d L vv qs 1 (4 * (t.val + 1) - 3)) = BehindS d L vv qs 1 (4 * t.val + 3) := by
    by_cases h : t.val + 1 < 16
    · rw [if_pos h]; exact (if_pos (by omega)).symm
    · rw [if_neg h]; exact (if_neg (by omega)).symm
  have q0 := phase d L vv (qs 0) (qs 2) (so 0) (slot_in 0) (si 0) (sq 0) (so 2) (slot_in 2) (si 2) (sq 2) (W := W) hO (c := 4 * t.val) (by omega)
    (h := k0_off2_inb L t 0) (h3 := k0_off3_inb L t) (h4 := k0_off4_inb L t) (off2_eq L t 0) (cond1_iff t) (cond2_iff t) (off4_eq L t)
  have q1 := phase d L vv (qs 1) (qs 3) (so 1) (slot_in 1) (si 1) (sq 1) (so 3) (slot_in 3) (si 3) (sq 3) (W := W) hO (c := 4 * t.val + 1) (by omega)
    (h := k0_off2_inb L t 1) (h3 := k0_off5_inb L t) (h4 := k0_off6_inb L t) (off2_eq L t 1) (cond3_iff t) (cond4_iff t) (off6_eq L t)
  have q2 := phase d L vv (qs 2) (qs 0) (so 2) (slot_in 2) (si 2) (sq 2) (so 0) (slot_in 0) (si 0) (sq 0) (W := W) hO (c := 4 * t.val + 2) (by omega)
    (h := k0_off2_inb L t 2) (h3 := k0_off7_inb L t) (h4 := k0_off8_inb L t) (off2_eq L t 2) (cond5_iff t) (cond6_iff t) (off8_eq L t)
  have q3 := phase d L vv (qs 3) (qs 1) (so 3) (slot_in 3) (si 3) (sq 3) (so 1) (slot_in 1) (si 1) (sq 1) (W := W) hO (c := 4 * t.val + 3) (by omega)
    (h := k0_off2_inb L t 3) (h3 := k0_off9_inb L t) (h4 := k0_off10_inb L t) (off2_eq L t 3) (cond7_iff t) (cond8_iff t) (off10_eq L t)
  change _ ⊢ WP _ fun _ => iprop(_ ∗ BehindS d L vv qs 2 (4 * t.val) ∗ _) at q0
  change _ ⊢ WP _ fun _ => iprop(_ ∗ BehindS d L vv qs 3 (4 * t.val + 1) ∗ _) at q1
  change iprop(_ ∗ _ ∗ AheadS d L vv qs 0 (4 * t.val + 2) ∗ _) ⊢ _ at q2
  change iprop(_ ∗ _ ∗ AheadS d L vv qs 1 (4 * t.val + 3) ∗ _) ⊢ _ at q3
  rw [e2] at q0
  rw [e3] at q1
  rw [e0] at q2
  rw [e1] at q3
  rw [show 4 * t.val + 1 - 2 = 4 * t.val - 1 by omega] at q1
  unfold Inv
  rw [g0, g1, f2, f3, if_pos ht, if_pos ht]
  iintro ⟨#Hlv, H0, H1, H2, H3, Hdone, Htodo, HO⟩
  iapply (wp_wand frame (wpE (defs₀ (F := F)) 𝒱₀ (thr d L) none) Set.univ) $$ [H0 H2 Hdone Htodo HO]
  · iapply q0
    isplitr; · iexact Hlv
    isplitl [H0]; · iexact H0
    isplitl [H2]; · iexact H2
    isplitl [Hdone]; · iexact Hdone
    isplitl [Htodo] <;> iassumption
  iintro %_ ⟨H0, H2, Hdone, Htodo, HO⟩
  iapply (wp_wand frame (wpE (defs₀ (F := F)) 𝒱₀ (thr d L) none) Set.univ) $$ [H1 H3 Hdone Htodo HO]
  · iapply q1
    isplitr; · iexact Hlv
    isplitl [H1]; · iexact H1
    isplitl [H3]; · iexact H3
    isplitl [Hdone]; · iexact Hdone
    isplitl [Htodo] <;> iassumption
  iintro %_ ⟨H1, H3, Hdone, Htodo, HO⟩
  iapply (wp_wand frame (wpE (defs₀ (F := F)) 𝒱₀ (thr d L) none) Set.univ) $$ [H0 H2 Hdone Htodo HO]
  · iapply q2
    isplitr; · iexact Hlv
    isplitl [H2]; · iexact H2
    isplitl [H0]; · iexact H0
    isplitl [Hdone]; · iexact Hdone
    isplitl [Htodo] <;> iassumption
  iintro %_ ⟨H2, H0, Hdone, Htodo, HO⟩
  iapply (wp_wand frame (wpE (defs₀ (F := F)) 𝒱₀ (thr d L) none) Set.univ) $$ [H1 H3 Hdone Htodo HO]
  · iapply q3
    isplitr; · iexact Hlv
    isplitl [H3]; · iexact H3
    isplitl [H1]; · iexact H1
    isplitl [Hdone]; · iexact Hdone
    isplitl [Htodo] <;> iassumption
  iintro %_ ⟨H3, H1, Hdone, Htodo, HO⟩
  rw [Prog.pure_eq_ret, wp_ret]; imodintro
  isplitr; · iexact Hlv
  isplitl [H0]; · iexact H0
  isplitl [H1]; · iexact H1
  isplitl [H2]; · iexact H2
  isplitl [H3]; · iexact H3
  isplitl [Hdone]; · iexact Hdone
  isplitl [Htodo] <;> iassumption

end Cert.Proof.KV

end
-- ==== Proof.Site.lean ====
/-
  One new row: when the row belongs to this tile's part of the cache, it is copied there and waited for.
-/
module

public import proofs.«01_k».proof.Proof.Trip
public import proofs.«01_k».proof.Proof.Vals

@[expose] public section

noncomputable section

namespace Cert.Proof.KV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers

open Idealize.ShloMosaic.ValueIdx

variable {F : FTy → Type} [FloatOps F]

local notation "𝕄" => MT nD τ sig (HIx 1) (Elt F) ℕ UU ℕ

/-! ## When a row is this tile's -/

/-- The kernel's test for row `q` of batch `b`, from the batch's length and its number of new rows. -/
def siteCond (i : grid0.Coords) (b q l nl : BitVec 32) : BitVec 1 :=
  Scalar.cmpi .ne (Scalar.extui (Scalar.andi (Scalar.andi (Scalar.andi (Scalar.cmpi .eq (b0W i) b) (Scalar.cmpi .sgt nl q))
    (Scalar.cmpi .sge (Scalar.addi l q) (p0W i))) (Scalar.cmpi .slt (Scalar.addi l q) (Scalar.addi (p0W i) 1024#32)))) (0#32 : BitVec 32)

theorem ne_extui_iff : ∀ c : BitVec 1, Scalar.cmpi .ne (Scalar.extui c) (0#32 : BitVec 32) = 1#1 ↔ c = 1#1 := by decide
theorem andi_iff : ∀ a b : BitVec 1, Scalar.andi a b = 1#1 ↔ a = 1#1 ∧ b = 1#1 := by decide
theorem ofBool_iff : ∀ b : Bool, BitVec.ofBool b = 1#1 ↔ b = true := by decide

theorem siteCond_iff (i : grid0.Coords) {b q : Nat} (hb : b < 8) (hq : q < 8) (l nl : BitVec 32) :
    siteCond i (BitVec.ofNat 32 b) (BitVec.ofNat 32 q) l nl = 1#1 ↔
      b0 i = b ∧ (q : Int) < nl.toInt ∧ p0 i ≤ (l + BitVec.ofNat 32 q).toNat ∧ (l + BitVec.ofNat 32 q).toNat < p0 i + 1024 := by
  have h0 := b0_lt i; have h1 := p0_le i
  have e1 : (BitVec.ofNat 32 q).toInt = q := by
    rw [BitVec.toInt_eq_toNat_cond, BitVec.toNat_ofNat]; split <;> omega
  have e2 : (p0W i).toInt = p0 i := by
    rw [p0W_eq, BitVec.toInt_eq_toNat_cond, BitVec.toNat_ofNat]; split <;> omega
  have e3 : (p0W i + 1024#32).toInt = p0 i + 1024 := by
    rw [p0W_eq, BitVec.toInt_eq_toNat_cond, BitVec.toNat_add, BitVec.toNat_ofNat, BitVec.toNat_ofNat]; split <;> omega
  have a1 : Scalar.cmpi .eq (b0W i) (BitVec.ofNat 32 b) = 1#1 ↔ b0 i = b := by
    refine (ofBool_iff _).trans (beq_iff_eq.trans ?_)
    rw [b0W_eq]
    constructor
    · intro h; have := congrArg BitVec.toNat h; rw [BitVec.toNat_ofNat, BitVec.toNat_ofNat] at this; omega
    · rintro rfl; rfl
  have a2 : Scalar.cmpi .sgt nl (BitVec.ofNat 32 q) = 1#1 ↔ (q : Int) < nl.toInt := by
    refine (ofBool_iff _).trans ?_
    show BitVec.slt _ _ = true ↔ _
    rw [BitVec.slt_iff_toInt_lt, e1]
  have a3 : Scalar.cmpi .sge (Scalar.addi l (BitVec.ofNat 32 q)) (p0W i) = 1#1 ↔ (p0 i : Int) ≤ (l + BitVec.ofNat 32 q).toInt := by
    refine (ofBool_iff _).trans ?_
    show BitVec.sle _ _ = true ↔ _
    rw [BitVec.sle_iff_toInt_le, e2]; exact Iff.rfl
  have a4 : Scalar.cmpi .slt (Scalar.addi l (BitVec.ofNat 32 q)) (Scalar.addi (p0W i) 1024#32) = 1#1
      ↔ (l + BitVec.ofNat 32 q).toInt < p0 i + 1024 := by
    refine (ofBool_iff _).trans ?_
    show BitVec.slt _ (p0W i + 1024#32) = true ↔ _
    rw [BitVec.slt_iff_toInt_lt, e3]; exact Iff.rfl
  unfold siteCond
  rw [ne_extui_iff, andi_iff, andi_iff, andi_iff, a1, a2, a3, a4, BitVec.toInt_eq_toNat_cond (l + _)]
  have := (l + BitVec.ofNat 32 q).isLt
  split <;> omega

/-- A row of the cache is inside it. -/
abbrev RowIn (off : Fin 4 → Nat) : Prop := ∀ a, off a + S1x1x8x128.size a ≤ S8x4096x8x128.size a
abbrev NewIn (off : Fin 4 → Nat) : Prop := ∀ a, off a + S1x1x8x128.size a ≤ S8x8x8x128.size a

theorem site_in {i : grid0.Coords} {b q : Nat} {l nl : BitVec 32} (hb : b < 8) (hq : q < 8)
    (h : siteCond i (BitVec.ofNat 32 b) (BitVec.ofNat 32 q) l nl = 1#1) :
    RowIn ![b, (Scalar.addi l (BitVec.ofNat 32 q)).toNat, 0, 0] := by
  have h1 := p0_le i
  obtain ⟨-, -, -, h2⟩ := (siteCond_iff i hb hq l nl).mp h
  intro x; fin_cases x
  · show b + 1 ≤ 8; omega
  · show (l + BitVec.ofNat 32 q).toNat + 1 ≤ 4096; omega
  · show 0 + 8 ≤ 8; omega
  · show 0 + 128 ≤ 128; omega

/-! ## What a row's copy leaves -/

variable (d : Dev nD) (L : grid0.Coords) (vv : S8x4096x8x128.Idx → Elt F .f32) (nn : S8x8x8x128.Idx → Elt F .f32)
  (l nl : S8.Idx → BitVec 32) (qn : PosShare TreeShare)

theorem mem_row {b po : Nat} (h : RowIn ![b, po, 0, 0]) (i : S8x4096x8x128.Idx) :
    i ∈ (rowM ![b, po, 0, 0] h).view.set ↔ (i 0).val = b ∧ (i 1).val = po := by
  rw [show (rowM ![b, po, 0, 0] h).view.set = (Rect.unit (s := S8x4096x8x128) ![b, po, 0, 0] S1x1x8x128.size h).set from
    (View.set_reshape _ _).trans (View.set_slice_whole _ _)]
  have h2 : (i 2).val < 8 := (i 2).isLt
  have h3 : (i 3).val < 128 := (i 3).isLt
  refine mem_unit4.trans ?_
  show (b ≤ (i 0).val ∧ (i 0).val < b + 1) ∧ (po ≤ (i 1).val ∧ (i 1).val < po + 1)
    ∧ (0 ≤ (i 2).val ∧ (i 2).val < 0 + 8) ∧ (0 ≤ (i 3).val ∧ (i 3).val < 0 + 128) ↔ _
  omega

/-- Where a row's element lies in the new values, from where it lies in the cache. -/
theorem new_emb {b q po : Nat} (hb : b < 8) (hq : q < 8) (hr) (hr') (x : S1x8x128.Idx) :
    (newM ![b, q, 0, 0] hr').view.emb x
      = ix4 (n0 := 8) (n1 := 8) (n2 := 8) (n3 := 128) ⟨b, hb⟩ ⟨q, hq⟩ ((rowM ![b, po, 0, 0] hr).view.emb x 2) ((rowM ![b, po, 0, 0] hr).view.emb x 3) := by
  have k0 : ∀ y : S1x1x8x128.Idx, b + 1 * (y 0).val = b := fun y => by have : (y 0).val < 1 := (y 0).isLt; omega
  have k1 : ∀ y : S1x1x8x128.Idx, q + 1 * (y 1).val = q := fun y => by have : (y 1).val < 1 := (y 1).isLt; omega
  funext a
  apply Fin.ext
  fin_cases a
  · exact k0 _
  · exact k1 _
  · rfl
  · rfl

omit [FloatOps F] in
theorem write_row {b q : Nat} (hb : b < 8) (hq : q < 8) (hn : (q : Int) < (nl (ix1 ⟨b, hb⟩)).toInt) (hr) (hr')
    (i : S8x4096x8x128.Idx) :
    (rowM ![b, (Scalar.addi (l (ix1 ⟨b, hb⟩)) (BitVec.ofNat 32 q)).toNat, 0, 0] hr).view.write (Elt F) (mergeUpTo (8 * b + q) vv nn l nl)
        ((newM ![b, q, 0, 0] hr').view.read (Elt F) nn) Finset.univ i
      = mergeUpTo (8 * b + q + 1) vv nn l nl i := by
  by_cases hm : i ∈ (rowM ![b, (Scalar.addi (l (ix1 ⟨b, hb⟩)) (BitVec.ofNat 32 q)).toNat, 0, 0] hr).view.set
  · obtain ⟨e0, e1⟩ := (mem_row hr i).mp hm
    obtain ⟨x, -, hx⟩ := Finset.mem_map.mp hm
    subst hx
    refine (View.write_emb_of_mem _ _ (Finset.mem_univ x)).trans ?_
    refine Eq.trans ?_ (mergeUpTo_succ_of_eq vv nn l nl (b := ⟨b, hb⟩) (q := ⟨q, hq⟩) _ (Fin.ext e0) hn e1.symm).symm
    exact congrArg nn (new_emb hb hq hr hr' x)
  · rw [View.write_of_not_mem _ _ _ (by rw [View.setOn_univ]; exact hm)]
    refine (mergeUpTo_succ_of_ne vv nn l nl (b := ⟨b, hb⟩) hq i ?_).symm
    rintro ⟨e0, -, e1⟩
    exact hm ((mem_row hr i).mpr ⟨e0, e1.symm⟩)

omit [FloatOps F] in
theorem keep_row {b q : Nat} (hb : b < 8) (hq : q < 8)
    (hc : ¬ siteCond L (BitVec.ofNat 32 b) (BitVec.ofNat 32 q) (l (ix1 ⟨b, hb⟩)) (nl (ix1 ⟨b, hb⟩)) = 1#1)
    (i : S8x4096x8x128.Idx) (hi : i ∈ rows L 0 1024) :
    mergeUpTo (8 * b + q) vv nn l nl i = mergeUpTo (8 * b + q + 1) vv nn l nl i := by
  rw [mem_rows] at hi
  refine (mergeUpTo_succ_of_ne vv nn l nl (b := ⟨b, hb⟩) hq i ?_).symm
  rintro ⟨e0, e2, e1⟩
  refine hc ((siteCond_iff L hb hq _ _).mpr ⟨?_, e2, ?_⟩)
  · have e0 : (i 0).val = b := e0
    omega
  · omega

/-! ## The row's copy -/

/-- The tile's part of the result after the first `n` (batch, row) pairs, the new values, and the tile's semaphores. -/
def St (O : CellTallies nD τ sig (HIx 1)) (W : Waits sig (HIx 1)) (n : Nat) : sProp 𝕄 :=
  iprop(oPts d L (rows L 0 1024) (mergeUpTo n vv nn l nl) ∗ (nM.view.loc (thr d L) ↦[Finset.univ]{qn} nn)
    ∗ ownSems0 (thr d L) ∗ OW d L O W)

omit [FloatOps F] in
theorem st_elim {O : CellTallies nD τ sig (HIx 1)} {W : Waits sig (HIx 1)} (n : Nat) :
    (St d L vv nn l nl qn O W n : sProp 𝕄)
      ⊢ iprop(oPts d L (rows L 0 1024) (mergeUpTo n vv nn l nl) ∗ (nM.view.loc (thr d L) ↦[Finset.univ]{qn} nn)
        ∗ ownSems0 (thr d L) ∗ OW d L O W) := .rfl
omit [FloatOps F] in
theorem st_intro {O : CellTallies nD τ sig (HIx 1)} {W : Waits sig (HIx 1)} (n : Nat) :
    iprop(oPts d L (rows L 0 1024) (mergeUpTo n vv nn l nl) ∗ (nM.view.loc (thr d L) ↦[Finset.univ]{qn} nn)
        ∗ ownSems0 (thr d L) ∗ OW d L O W)
      ⊢ (St d L vv nn l nl qn O W n : sProp 𝕄) := .rfl

omit [FloatOps F] in
/-- A semaphore of the tile's, and the rest of them to put it back to. -/
theorem sem_take {s : DmaSem sig} (hs : (SemLoc.dma s : SemLoc sig).isScoped .scVector = true) :
    (ownSems0 (thr d L) : sProp 𝕄) ⊢ iprop(semVal (thr d L, .dma s) 0 ∗ (semVal (thr d L, .dma s) 0 -∗ ownSems0 (thr d L))) := by
  unfold ownSems0
  have hm : ((thr d L, .dma s) : GSem nD τ sig) ∈ ownCells (thr d L) := mem_ownCells.mpr ⟨rfl, hs⟩
  refine (Entails.of_eq (SparseCore.bigSep_erase' hm (Φ := fun g : GSem nD τ sig => (semVal g 0 : sProp 𝕄)))).trans ?_
  iintro ⟨H, Hr⟩
  isplitl [H]; · iexact H
  iintro H
  iapply (Entails.of_eq (SparseCore.bigSep_erase' hm (Φ := fun g : GSem nD τ sig => (semVal g 0 : sProp 𝕄))).symm)
  isplitl [H] <;> iassumption

local notation "WP" => wp frame (wpE (defs₀ (F := F)) 𝒱₀ (thr d L) none) Set.univ

variable {α : Type} {Q : α → sProp (MT nD τ sig (HIx 1) (Elt F) ℕ UU ℕ)}

abbrev NR : ℕ := (rowM ![0, 0, 0, 0] (by decide)).view.dmaCredit
theorem NR_pos : 0 < NR := View.dmaCredit_pos _ (by decide)

/-- Row `q` of batch `b`: after it the tile's part of the result has one pair more. -/
theorem site {O : CellTallies nD τ sig (HIx 1)} {W : Waits sig (HIx 1)} (hO : ∀ g, O g none = 0) {b q : Nat} (hb : b < 8) (hq : q < 8)
    {c : BitVec 1} {lw nlw : BitVec 32} {noff roff : Fin 4 → Nat} {hn : NewIn noff} {hr : c = 1#1 → RowIn roff} {s : DmaSem sig}
    (hs : (SemLoc.dma s : SemLoc sig).isScoped .scVector = true)
    (hlw : lw = l (ix1 ⟨b, hb⟩)) (hnlw : nlw = nl (ix1 ⟨b, hb⟩))
    (hc : c = siteCond L (BitVec.ofNat 32 b) (BitVec.ofNat 32 q) lw nlw)
    (hnoff : noff = ![b, q, 0, 0]) (hroff : roff = ![b, (Scalar.addi lw (BitVec.ofNat 32 q)).toNat, 0, 0])
    {k : Prog (TpuEff nD τ sig (Elt F) Λ₀ (thr d L).2) α} :
    iprop(levAts (K (F := F)).L (K (F := F)).lev ∗ St d L vv nn l nl qn O W (8 * b + q))
      ⊢ iprop((St d L vv nn l nl qn O W (8 * b + q + 1) -∗ WP k Q)
        -∗ WP (dite (c = 1#1)
            (fun h => .op (.enqueueDma (newM noff hn) (.here (rowM roff (hr h))) (.dma s) ((View.wordExact_bits rfl).reshape _ _) ((View.wordExact_bits rfl).reshape _ _) ⟨Or.inl rfl, trivial⟩) fun _ =>
              .op (.waitDma2 s (newM noff hn) (rowM roff (hr h)) ((View.wordExact_bits rfl).reshape _ _) ((View.wordExact_bits rfl).reshape _ _)) fun _ => k)
            fun _ => k) Q) := by
  subst hc hnoff hroff hlw hnlw
  by_cases h : siteCond L (BitVec.ofNat 32 b) (BitVec.ofNat 32 q) (l (ix1 ⟨b, hb⟩)) (nl (ix1 ⟨b, hb⟩)) = 1#1
  · rw [dif_pos h]
    obtain ⟨hL, hN, hlo, hhi⟩ := (siteCond_iff L hb hq _ _).mp h
    have hsub : (rowM ![b, (Scalar.addi (l (ix1 ⟨b, hb⟩)) (BitVec.ofNat 32 q)).toNat, 0, 0] (hr h)).view.set ⊆ rows L 0 1024 := by
      intro i hi
      obtain ⟨e0, e1⟩ := (mem_row _ i).mp hi
      have e1 : (i 1).val = (l (ix1 ⟨b, hb⟩) + BitVec.ofNat 32 q).toNat := e1
      rw [mem_rows]; omega
    iintro ⟨#Hlv, HSt⟩ Hk
    ihave HSt := (st_elim d L vv nn l nl qn _) $$ HSt
    icases HSt with ⟨Ho, Hn, Hsems, HO⟩
    ihave Hsems := (sem_take d L hs) $$ Hsems
    icases Hsems with ⟨Hsem, Hback⟩
    ihave Hn := (pointsTo_split_subset (Finset.subset_univ (newM ![b, q, 0, 0] hn).view.set)).1 $$ Hn
    icases Hn with ⟨Hn, Hrest⟩
    iapply (wp_dmaLocal (EC (F := F)) 𝒱₀ (thr d L) none (src := newM ![b, q, 0, 0] hn)
      (dst := rowM ![b, (Scalar.addi (l (ix1 ⟨b, hb⟩)) (BitVec.ofNat 32 q)).toNat, 0, 0] (hr h)) (q := qn) (fs := nn)
      (Sd := rows L 0 1024) (fd := mergeUpTo (8 * b + q) vv nn l nl) none NR rfl NR_pos hsub) $$ [Ho Hn Hsem]
    · isplitl [Hn]; · iexact Hn
      isplitl [Ho]; · iexact Ho
      iexact Hsem
    iintro Hf
    ihave HO := (OW_elim d L) $$ HO
    icases HO with ⟨%W', %hW', HO⟩
    iapply (wp_waitLocalO (EC (F := F)) 𝒱₀ (thr d L) none (srcw := newM ![b, q, 0, 0] hn)
      (dstw := rowM ![b, (Scalar.addi (l (ix1 ⟨b, hb⟩)) (BitVec.ofNat 32 q)).toNat, 0, 0] (hr h)) none (N := NR) rfl) $$ [Hf HO]
    · isplitl [Hf]; · iexact Hf
      isplitl [HO]; · iexact HO
      iapply ((K (F := F)).mayWait_none (SemLoc.dma s) hO); iexact Hlv
    iintro ⟨⟨Ho, Hn⟩, Hsem, HO⟩
    iapply Hk
    iapply (st_intro d L vv nn l nl qn _)
    isplitl [Ho]
    · iapply (Entails.of_eq (pointsTo_congr (fun i _ => write_row vv nn l nl hb hq hN (hr h) hn i))); iexact Ho
    isplitl [Hn Hrest]
    · iapply (pointsTo_split_subset (Finset.subset_univ (newM ![b, q, 0, 0] hn).view.set)).2
      isplitl [Hn] <;> iassumption
    isplitl [Hsem Hback]
    · iapply Hback; iexact Hsem
    iapply (OW_insert d L hW' _); iexact HO
  · rw [dif_neg h]
    iintro ⟨#Hlv, HSt⟩ Hk
    iapply Hk
    ihave HSt := (st_elim d L vv nn l nl qn _) $$ HSt
    icases HSt with ⟨Ho, Hn, Hsems, HO⟩
    iapply (st_intro d L vv nn l nl qn _)
    isplitl [Ho]
    · iapply (Entails.of_eq (pointsTo_congr (fun i hi => keep_row L vv nn l nl hb hq h i hi))); iexact Ho
    isplitl [Hn]; · iexact Hn
    isplitl [Hsems] <;> iassumption

end Cert.Proof.KV

end
-- ==== Proof.Tail.lean ====
/-
  The rows of a tile, in the kernel's order: each part of the printed body takes the slab from one count of
  written rows to a later one.
-/
module

public import proofs.«01_k».proof.Proof.Site

@[expose] public section

noncomputable section

namespace Cert.Proof.KV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers

open Idealize.ShloMosaic.ValueIdx

variable {F : FTy → Type} [FloatOps F]

local notation "𝕄" => MT nD τ sig (HIx 1) (Elt F) ℕ UU ℕ

variable (d : Dev nD) (L : grid0.Coords) (vv : S8x4096x8x128.Idx → Elt F .f32) (nn : S8x8x8x128.Idx → Elt F .f32)
  (l nl : S8.Idx → BitVec 32) (qn : PosShare TreeShare) (O : CellTallies nD τ sig (HIx 1)) (W : Waits sig (HIx 1))

local notation "WP" => wp frame (wpE (defs₀ (F := F)) 𝒱₀ (thr d L) none) Set.univ

/-- The slab with the first `n` rows considered, and the evidence that waits may be made. -/
def Row (n : Nat) : sProp 𝕄 := iprop(levAts (K (F := F)).L (K (F := F)).lev ∗ St d L vv nn l nl qn O W n)

theorem row_intro {n : Nat} : iprop(levAts (K (F := F)).L (K (F := F)).lev ∗ St d L vv nn l nl qn O W n) ⊢ Row d L vv nn l nl qn O W n := .rfl

theorem row_elim {n : Nat} : Row d L vv nn l nl qn O W n ⊢ iprop(levAts (K (F := F)).L (K (F := F)).lev ∗ St d L vv nn l nl qn O W n) := .rfl

section
variable {α : Type} {Q : α → sProp (MT nD τ sig (HIx 1) (Elt F) ℕ UU ℕ)}
variable {O W}

/-- `site`, with the row and the batch as numbers below eight. -/
theorem row (hO : ∀ g, O g none = 0) (b q : Fin 8)
    {c : BitVec 1} {lw nlw : BitVec 32} {noff roff : Fin 4 → Nat} {hn : NewIn noff} {hr : c = 1#1 → RowIn roff} {s : DmaSem sig}
    (hlw : lw = l (ix1 b)) (hnlw : nlw = nl (ix1 b))
    (hs : (SemLoc.dma s : SemLoc sig).isScoped .scVector = true)
    (hc : c = siteCond L (BitVec.ofNat 32 b.val) (BitVec.ofNat 32 q.val) lw nlw)
    (hnoff : noff = ![b.val, q.val, 0, 0]) (hroff : roff = ![b.val, (Scalar.addi lw (BitVec.ofNat 32 q.val)).toNat, 0, 0])
    {k : Prog (TpuEff nD τ sig (Elt F) Λ₀ (thr d L).2) α} :
    Row d L vv nn l nl qn O W (8 * b.val + q.val)
      ⊢ iprop((Row d L vv nn l nl qn O W (8 * b.val + q.val + 1) -∗ WP k Q)
        -∗ WP (dite (c = 1#1)
            (fun h => .op (.enqueueDma (newM noff hn) (.here (rowM roff (hr h))) (.dma s) ((View.wordExact_bits rfl).reshape _ _) ((View.wordExact_bits rfl).reshape _ _) ⟨Or.inl rfl, trivial⟩)
              fun _ => .op (.waitDma2 s (newM noff hn) (rowM roff (hr h)) ((View.wordExact_bits rfl).reshape _ _) ((View.wordExact_bits rfl).reshape _ _)) fun _ => k)
            fun _ => k) Q) := by
  iintro HR Hk
  ihave HR := (row_elim d L vv nn l nl qn O W) $$ HR
  icases HR with ⟨#Hlv, HSt⟩
  iapply (site d L vv nn l nl qn hO b.isLt q.isLt hs hlw hnlw hc hnoff hroff) $$ [HSt]
  · isplitr; · iexact Hlv
    iexact HSt
  iintro HSt
  iapply Hk
  iapply (row_intro d L vv nn l nl qn O W)
  isplitr; · iexact Hlv
  iexact HSt

end

/-- One program after another, with what the first returns known to the second. -/
theorem wp_seq {α β : Type} {φ : α → Prop} {A B : sProp 𝕄} {Q : β → sProp 𝕄}
    {p : Prog (TpuEff nD τ sig (Elt F) Λ₀ (thr d L).2) α} {k : α → Prog (TpuEff nD τ sig (Elt F) Λ₀ (thr d L).2) β}
    (hp : A ⊢ WP p fun r => iprop(⌜φ r⌝ ∗ B)) (hk : ∀ r, φ r → (B ⊢ WP (k r) Q)) : A ⊢ WP (p >>= k) Q := by
  rw [wp_bind]
  iintro HA
  iapply (wp_wand frame (wpE (defs₀ (F := F)) 𝒱₀ (thr d L) none) Set.univ) $$ [HA]
  · iapply hp; iexact HA
  iintro %r ⟨%hr, HB⟩
  iapply (hk r hr); iexact HB

/-- One program after another, with nothing to know of what the first returns. -/
theorem wp_seq' {α β : Type} {A B : sProp 𝕄} {Q : β → sProp 𝕄}
    {p : Prog (TpuEff nD τ sig (Elt F) Λ₀ (thr d L).2) α} {k : α → Prog (TpuEff nD τ sig (Elt F) Λ₀ (thr d L).2) β}
    (hp : A ⊢ WP p fun _ => B) (hk : ∀ r, B ⊢ WP (k r) Q) : A ⊢ WP (p >>= k) Q := by
  rw [wp_bind]
  iintro HA
  iapply (wp_wand frame (wpE (defs₀ (F := F)) 𝒱₀ (thr d L) none) Set.univ) $$ [HA]
  · iapply hp; iexact HA
  iintro %r HB
  iapply (hk r); iexact HB

/-- The first eight of sixteen words hold a table. -/
def Tab (v : IVec S16 32) (x : S8.Idx → BitVec 32) : Prop := ∀ b : Fin 8, v (ix1 ⟨b.val, by omega⟩) = x (ix1 b)

/-- A slice of one word, read. -/
theorem tab_word {v : IVec S16 32} {x : S8.Idx → BitVec 32} (h : Tab v x) (b : Fin 8) (hs : S16.Slices ![b.val] S1) (hp : ∀ a, (![0] : Fin 1 → Nat) a < S1.size a) :
    extractAt ![0] (extractStridedSlice S1 ![b.val] v hs) hp = x (ix1 b) := by
  rw [← h b]
  refine congrArg v (funext fun a => ?_)
  obtain rfl : a = 0 := Subsingleton.elim _ _
  exact Fin.ext (Nat.add_zero _)

/-- Every row considered for one batch is a row of the cache. -/
theorem rows_in (b : Fin 8) (w w' : BitVec 32) (q : Fin 8) (h : siteCond L (BitVec.ofNat 32 b.val) (BitVec.ofNat 32 q.val) w w' = 1#1) :
    RowIn ![b.val, (Scalar.addi w (BitVec.ofNat 32 q.val)).toNat, 0, 0] := site_in b.isLt q.isLt h

variable {L l nl O W}

theorem part8 (hO : ∀ g, O g none = 0) (v18 v29 w w' : BitVec 32) (hw : w = l (ix1 0)) (hn : w' = nl (ix1 0)) (h : k0_chk1 L w w') (e0 : BitVec 32) (e1 : BitVec 1) :
    Row d L vv nn l nl qn O W 1 ⊢ WP (k0_part8 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 w w' h e0 e1) fun _ => Row d L vv nn l nl qn O W 4 := by
  rw [k0_part8_eq_skeleton]; unfold k0_part8_skel
  simp only [Prog.lift, Prog.bind_op, Prog.bind_ret, Prog.pure_eq_ret]
  iintro HR
  iapply (row d L vv nn l nl qn hO 0 1 hw hn rfl rfl rfl rfl) $$ HR; iintro HR
  iapply (row d L vv nn l nl qn hO 0 2 hw hn rfl rfl rfl rfl) $$ HR; iintro HR
  iapply (row d L vv nn l nl qn hO 0 3 hw hn rfl rfl rfl rfl) $$ HR; iintro HR
  rw [wp_ret]; imodintro
  iexact HR

theorem part9 (hO : ∀ g, O g none = 0) (v18 v29 w w' : BitVec 32) (v86 v88 : IVec S16 32) (hl : Tab v86 l) (hnl : Tab v88 nl) (hw : w = l (ix1 0)) (hn : w' = nl (ix1 0)) (h : k0_chk1 L w w')  :
    Row d L vv nn l nl qn O W 4 ⊢ WP (k0_part9 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 v86 v88 w w' h ) fun r => iprop(⌜r.1 = l (ix1 1) ∧ r.2.1 = nl (ix1 1)⌝ ∗ Row d L vv nn l nl qn O W 8) := by
  rw [k0_part9_eq_skeleton]; unfold k0_part9_skel
  simp only [Prog.lift, Prog.bind_op, Prog.bind_ret, Prog.pure_eq_ret]
  iintro HR
  iapply (row d L vv nn l nl qn hO 0 4 hw hn rfl rfl rfl rfl) $$ HR; iintro HR
  iapply (row d L vv nn l nl qn hO 0 5 hw hn rfl rfl rfl rfl) $$ HR; iintro HR
  iapply (row d L vv nn l nl qn hO 0 6 hw hn rfl rfl rfl rfl) $$ HR; iintro HR
  iapply (row d L vv nn l nl qn hO 0 7 hw hn rfl rfl rfl rfl) $$ HR; iintro HR
  have hw := tab_word hl 1 slices_S16_o1_S1 inpos_S1_p0; have hn := tab_word hnl 1 slices_S16_o1_S1 inpos_S1_p0
  have c := rows_in L 1 (extractAt ![0] (k0_pay5 v86) inpos_S1_p0) (extractAt ![0] (k0_pay6 v88) inpos_S1_p0)
  rw [wp_assume_of _ _ _ _ (show k0_chk2 L (extractAt ![0] (k0_pay5 v86) inpos_S1_p0) (extractAt ![0] (k0_pay6 v88) inpos_S1_p0) from ⟨c 0, c 1, c 2, c 3, c 4, c 5, c 6, c 7⟩)]
  rw [wp_ret]; imodintro
  isplitr
  · ipureintro; exact ⟨hw, hn⟩
  iexact HR

theorem part10 (hO : ∀ g, O g none = 0) (v18 v29 w w' : BitVec 32) (hw : w = l (ix1 1)) (hn : w' = nl (ix1 1)) (h : k0_chk2 L w w') (e0 : BitVec 32) (e1 : BitVec 32) :
    Row d L vv nn l nl qn O W 8 ⊢ WP (k0_part10 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 w w' h e0 e1) fun _ => Row d L vv nn l nl qn O W 11 := by
  rw [k0_part10_eq_skeleton]; unfold k0_part10_skel
  simp only [Prog.lift, Prog.bind_op, Prog.bind_ret, Prog.pure_eq_ret]
  iintro HR
  iapply (row d L vv nn l nl qn hO 1 0 hw hn rfl rfl rfl rfl) $$ HR; iintro HR
  iapply (row d L vv nn l nl qn hO 1 1 hw hn rfl rfl rfl rfl) $$ HR; iintro HR
  iapply (row d L vv nn l nl qn hO 1 2 hw hn rfl rfl rfl rfl) $$ HR; iintro HR
  rw [wp_ret]; imodintro
  iexact HR

theorem part11 (hO : ∀ g, O g none = 0) (v18 v29 w w' : BitVec 32) (hw : w = l (ix1 1)) (hn : w' = nl (ix1 1)) (h : k0_chk2 L w w') (e0 : BitVec 1) (e1 : BitVec 1) :
    Row d L vv nn l nl qn O W 11 ⊢ WP (k0_part11 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 w w' h e0 e1) fun _ => Row d L vv nn l nl qn O W 15 := by
  rw [k0_part11_eq_skeleton]; unfold k0_part11_skel
  simp only [Prog.lift, Prog.bind_op, Prog.bind_ret, Prog.pure_eq_ret]
  iintro HR
  iapply (row d L vv nn l nl qn hO 1 3 hw hn rfl rfl rfl rfl) $$ HR; iintro HR
  iapply (row d L vv nn l nl qn hO 1 4 hw hn rfl rfl rfl rfl) $$ HR; iintro HR
  iapply (row d L vv nn l nl qn hO 1 5 hw hn rfl rfl rfl rfl) $$ HR; iintro HR
  iapply (row d L vv nn l nl qn hO 1 6 hw hn rfl rfl rfl rfl) $$ HR; iintro HR
  rw [wp_ret]; imodintro
  iexact HR

theorem part12 (hO : ∀ g, O g none = 0) (v18 v29 w w' : BitVec 32) (v86 v88 : IVec S16 32) (hl : Tab v86 l) (hnl : Tab v88 nl) (hw : w = l (ix1 1)) (hn : w' = nl (ix1 1)) (h : k0_chk2 L w w') (e0 : BitVec 32) (e1 : BitVec 1) :
    Row d L vv nn l nl qn O W 15 ⊢ WP (k0_part12 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 v86 v88 w w' h e0 e1) fun r => iprop(⌜r.1 = l (ix1 2) ∧ r.2.1 = nl (ix1 2)⌝ ∗ Row d L vv nn l nl qn O W 18) := by
  rw [k0_part12_eq_skeleton]; unfold k0_part12_skel
  simp only [Prog.lift, Prog.bind_op, Prog.bind_ret, Prog.pure_eq_ret]
  iintro HR
  iapply (row d L vv nn l nl qn hO 1 7 hw hn rfl rfl rfl rfl) $$ HR; iintro HR
  have hw := tab_word hl 2 slices_S16_o2_S1 inpos_S1_p0; have hn := tab_word hnl 2 slices_S16_o2_S1 inpos_S1_p0
  have c := rows_in L 2 (extractAt ![0] (k0_pay7 v86) inpos_S1_p0) (extractAt ![0] (k0_pay8 v88) inpos_S1_p0)
  rw [wp_assume_of _ _ _ _ (show k0_chk3 L (extractAt ![0] (k0_pay7 v86) inpos_S1_p0) (extractAt ![0] (k0_pay8 v88) inpos_S1_p0) from ⟨c 0, c 1, c 2, c 3, c 4, c 5, c 6, c 7⟩)]
  iapply (row d L vv nn l nl qn hO 2 0 hw hn rfl rfl rfl rfl) $$ HR; iintro HR
  iapply (row d L vv nn l nl qn hO 2 1 hw hn rfl rfl rfl rfl) $$ HR; iintro HR
  rw [wp_ret]; imodintro
  isplitr
  · ipureintro; exact ⟨hw, hn⟩
  iexact HR

theorem part13 (hO : ∀ g, O g none = 0) (v18 v29 w w' : BitVec 32) (hw : w = l (ix1 2)) (hn : w' = nl (ix1 2)) (h : k0_chk3 L w w') (e0 : BitVec 32) (e1 : BitVec 1) (e2 : BitVec 1) :
    Row d L vv nn l nl qn O W 18 ⊢ WP (k0_part13 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 w w' h e0 e1 e2) fun _ => Row d L vv nn l nl qn O W 22 := by
  rw [k0_part13_eq_skeleton]; unfold k0_part13_skel
  simp only [Prog.lift, Prog.bind_op, Prog.bind_ret, Prog.pure_eq_ret]
  iintro HR
  iapply (row d L vv nn l nl qn hO 2 2 hw hn rfl rfl rfl rfl) $$ HR; iintro HR
  iapply (row d L vv nn l nl qn hO 2 3 hw hn rfl rfl rfl rfl) $$ HR; iintro HR
  iapply (row d L vv nn l nl qn hO 2 4 hw hn rfl rfl rfl rfl) $$ HR; iintro HR
  iapply (row d L vv nn l nl qn hO 2 5 hw hn rfl rfl rfl rfl) $$ HR; iintro HR
  rw [wp_ret]; imodintro
  iexact HR

theorem part14 (hO : ∀ g, O g none = 0) (v18 v29 w w' : BitVec 32) (v86 v88 : IVec S16 32) (hl : Tab v86 l) (hnl : Tab v88 nl) (hw : w = l (ix1 2)) (hn : w' = nl (ix1 2)) (h : k0_chk3 L w w')  :
    Row d L vv nn l nl qn O W 22 ⊢ WP (k0_part14 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 v86 v88 w w' h ) fun r => iprop(⌜r.1 = l (ix1 3) ∧ r.2.1 = nl (ix1 3)⌝ ∗ Row d L vv nn l nl qn O W 25) := by
  rw [k0_part14_eq_skeleton]; unfold k0_part14_skel
  simp only [Prog.lift, Prog.bind_op, Prog.bind_ret, Prog.pure_eq_ret]
  iintro HR
  iapply (row d L vv nn l nl qn hO 2 6 hw hn rfl rfl rfl rfl) $$ HR; iintro HR
  iapply (row d L vv nn l nl qn hO 2 7 hw hn rfl rfl rfl rfl) $$ HR; iintro HR
  have hw := tab_word hl 3 slices_S16_o3_S1 inpos_S1_p0; have hn := tab_word hnl 3 slices_S16_o3_S1 inpos_S1_p0
  have c := rows_in L 3 (extractAt ![0] (k0_pay9 v86) inpos_S1_p0) (extractAt ![0] (k0_pay10 v88) inpos_S1_p0)
  rw [wp_assume_of _ _ _ _ (show k0_chk4 L (extractAt ![0] (k0_pay9 v86) inpos_S1_p0) (extractAt ![0] (k0_pay10 v88) inpos_S1_p0) from ⟨c 0, c 1, c 2, c 3, c 4, c 5, c 6, c 7⟩)]
  iapply (row d L vv nn l nl qn hO 3 0 hw hn rfl rfl rfl rfl) $$ HR; iintro HR
  rw [wp_ret]; imodintro
  isplitr
  · ipureintro; exact ⟨hw, hn⟩
  iexact HR

theorem part15 (hO : ∀ g, O g none = 0) (v18 v29 w w' : BitVec 32) (hw : w = l (ix1 3)) (hn : w' = nl (ix1 3)) (h : k0_chk4 L w w') (e0 : BitVec 32) (e1 : BitVec 1) :
    Row d L vv nn l nl qn O W 25 ⊢ WP (k0_part15 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 w w' h e0 e1) fun _ => Row d L vv nn l nl qn O W 28 := by
  rw [k0_part15_eq_skeleton]; unfold k0_part15_skel
  simp only [Prog.lift, Prog.bind_op, Prog.bind_ret, Prog.pure_eq_ret]
  iintro HR
  iapply (row d L vv nn l nl qn hO 3 1 hw hn rfl rfl rfl rfl) $$ HR; iintro HR
  iapply (row d L vv nn l nl qn hO 3 2 hw hn rfl rfl rfl rfl) $$ HR; iintro HR
  iapply (row d L vv nn l nl qn hO 3 3 hw hn rfl rfl rfl rfl) $$ HR; iintro HR
  rw [wp_ret]; imodintro
  iexact HR

theorem part16 (hO : ∀ g, O g none = 0) (v18 v29 w w' : BitVec 32) (v86 v88 : IVec S16 32) (hl : Tab v86 l) (hnl : Tab v88 nl) (hw : w = l (ix1 3)) (hn : w' = nl (ix1 3)) (h : k0_chk4 L w w') (e0 : BitVec 1) :
    Row d L vv nn l nl qn O W 28 ⊢ WP (k0_part16 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 v86 v88 w w' h e0) fun r => iprop(⌜r.1 = l (ix1 4) ∧ r.2.1 = nl (ix1 4)⌝ ∗ Row d L vv nn l nl qn O W 32) := by
  rw [k0_part16_eq_skeleton]; unfold k0_part16_skel
  simp only [Prog.lift, Prog.bind_op, Prog.bind_ret, Prog.pure_eq_ret]
  iintro HR
  iapply (row d L vv nn l nl qn hO 3 4 hw hn rfl rfl rfl rfl) $$ HR; iintro HR
  iapply (row d L vv nn l nl qn hO 3 5 hw hn rfl rfl rfl rfl) $$ HR; iintro HR
  iapply (row d L vv nn l nl qn hO 3 6 hw hn rfl rfl rfl rfl) $$ HR; iintro HR
  iapply (row d L vv nn l nl qn hO 3 7 hw hn rfl rfl rfl rfl) $$ HR; iintro HR
  have hw := tab_word hl 4 slices_S16_o4_S1 inpos_S1_p0; have hn := tab_word hnl 4 slices_S16_o4_S1 inpos_S1_p0
  have c := rows_in L 4 (extractAt ![0] (k0_pay11 v86) inpos_S1_p0) (extractAt ![0] (k0_pay12 v88) inpos_S1_p0)
  rw [wp_assume_of _ _ _ _ (show k0_chk5 L (extractAt ![0] (k0_pay11 v86) inpos_S1_p0) (extractAt ![0] (k0_pay12 v88) inpos_S1_p0) from ⟨c 0, c 1, c 2, c 3, c 4, c 5, c 6, c 7⟩)]
  rw [wp_ret]; imodintro
  isplitr
  · ipureintro; exact ⟨hw, hn⟩
  iexact HR

theorem part17 (hO : ∀ g, O g none = 0) (v18 v29 w w' : BitVec 32) (hw : w = l (ix1 4)) (hn : w' = nl (ix1 4)) (h : k0_chk5 L w w')  :
    Row d L vv nn l nl qn O W 32 ⊢ WP (k0_part17 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 w w' h ) fun _ => Row d L vv nn l nl qn O W 35 := by
  rw [k0_part17_eq_skeleton]; unfold k0_part17_skel
  simp only [Prog.lift, Prog.bind_op, Prog.bind_ret, Prog.pure_eq_ret]
  iintro HR
  iapply (row d L vv nn l nl qn hO 4 0 hw hn rfl rfl rfl rfl) $$ HR; iintro HR
  iapply (row d L vv nn l nl qn hO 4 1 hw hn rfl rfl rfl rfl) $$ HR; iintro HR
  iapply (row d L vv nn l nl qn hO 4 2 hw hn rfl rfl rfl rfl) $$ HR; iintro HR
  rw [wp_ret]; imodintro
  iexact HR

theorem part18 (hO : ∀ g, O g none = 0) (v18 v29 w w' : BitVec 32) (hw : w = l (ix1 4)) (hn : w' = nl (ix1 4)) (h : k0_chk5 L w w') (e0 : BitVec 32) (e1 : BitVec 1) :
    Row d L vv nn l nl qn O W 35 ⊢ WP (k0_part18 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 w w' h e0 e1) fun _ => Row d L vv nn l nl qn O W 39 := by
  rw [k0_part18_eq_skeleton]; unfold k0_part18_skel
  simp only [Prog.lift, Prog.bind_op, Prog.bind_ret, Prog.pure_eq_ret]
  iintro HR
  iapply (row d L vv nn l nl qn hO 4 3 hw hn rfl rfl rfl rfl) $$ HR; iintro HR
  iapply (row d L vv nn l nl qn hO 4 4 hw hn rfl rfl rfl rfl) $$ HR; iintro HR
  iapply (row d L vv nn l nl qn hO 4 5 hw hn rfl rfl rfl rfl) $$ HR; iintro HR
  iapply (row d L vv nn l nl qn hO 4 6 hw hn rfl rfl rfl rfl) $$ HR; iintro HR
  rw [wp_ret]; imodintro
  iexact HR

theorem part19 (hO : ∀ g, O g none = 0) (v18 v29 w w' : BitVec 32) (v86 v88 : IVec S16 32) (hl : Tab v86 l) (hnl : Tab v88 nl) (hw : w = l (ix1 4)) (hn : w' = nl (ix1 4)) (h : k0_chk5 L w w') (e0 : BitVec 32) :
    Row d L vv nn l nl qn O W 39 ⊢ WP (k0_part19 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 v86 v88 w w' h e0) fun r => iprop(⌜r.1 = l (ix1 5) ∧ r.2.1 = nl (ix1 5)⌝ ∗ Row d L vv nn l nl qn O W 42) := by
  rw [k0_part19_eq_skeleton]; unfold k0_part19_skel
  simp only [Prog.lift, Prog.bind_op, Prog.bind_ret, Prog.pure_eq_ret]
  iintro HR
  iapply (row d L vv nn l nl qn hO 4 7 hw hn rfl rfl rfl rfl) $$ HR; iintro HR
  have hw := tab_word hl 5 slices_S16_o5_S1 inpos_S1_p0; have hn := tab_word hnl 5 slices_S16_o5_S1 inpos_S1_p0
  have c := rows_in L 5 (extractAt ![0] (k0_pay13 v86) inpos_S1_p0) (extractAt ![0] (k0_pay14 v88) inpos_S1_p0)
  rw [wp_assume_of _ _ _ _ (show k0_chk6 L (extractAt ![0] (k0_pay13 v86) inpos_S1_p0) (extractAt ![0] (k0_pay14 v88) inpos_S1_p0) from ⟨c 0, c 1, c 2, c 3, c 4, c 5, c 6, c 7⟩)]
  iapply (row d L vv nn l nl qn hO 5 0 hw hn rfl rfl rfl rfl) $$ HR; iintro HR
  iapply (row d L vv nn l nl qn hO 5 1 hw hn rfl rfl rfl rfl) $$ HR; iintro HR
  rw [wp_ret]; imodintro
  isplitr
  · ipureintro; exact ⟨hw, hn⟩
  iexact HR

theorem part20 (hO : ∀ g, O g none = 0) (v18 v29 w w' : BitVec 32) (hw : w = l (ix1 5)) (hn : w' = nl (ix1 5)) (h : k0_chk6 L w w') (e0 : BitVec 32) (e1 : BitVec 1) (e2 : BitVec 32) :
    Row d L vv nn l nl qn O W 42 ⊢ WP (k0_part20 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 w w' h e0 e1 e2) fun _ => Row d L vv nn l nl qn O W 45 := by
  rw [k0_part20_eq_skeleton]; unfold k0_part20_skel
  simp only [Prog.lift, Prog.bind_op, Prog.bind_ret, Prog.pure_eq_ret]
  iintro HR
  iapply (row d L vv nn l nl qn hO 5 2 hw hn rfl rfl rfl rfl) $$ HR; iintro HR
  iapply (row d L vv nn l nl qn hO 5 3 hw hn rfl rfl rfl rfl) $$ HR; iintro HR
  iapply (row d L vv nn l nl qn hO 5 4 hw hn rfl rfl rfl rfl) $$ HR; iintro HR
  rw [wp_ret]; imodintro
  iexact HR

theorem part21 (hO : ∀ g, O g none = 0) (v18 v29 w w' : BitVec 32) (v86 v88 : IVec S16 32) (hl : Tab v86 l) (hnl : Tab v88 nl) (hw : w = l (ix1 5)) (hn : w' = nl (ix1 5)) (h : k0_chk6 L w w') (e0 : BitVec 32) :
    Row d L vv nn l nl qn O W 45 ⊢ WP (k0_part21 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 v86 v88 w w' h e0) fun r => iprop(⌜r.1 = l (ix1 6) ∧ r.2.1 = nl (ix1 6)⌝ ∗ Row d L vv nn l nl qn O W 49) := by
  rw [k0_part21_eq_skeleton]; unfold k0_part21_skel
  simp only [Prog.lift, Prog.bind_op, Prog.bind_ret, Prog.pure_eq_ret]
  iintro HR
  iapply (row d L vv nn l nl qn hO 5 5 hw hn rfl rfl rfl rfl) $$ HR; iintro HR
  iapply (row d L vv nn l nl qn hO 5 6 hw hn rfl rfl rfl rfl) $$ HR; iintro HR
  iapply (row d L vv nn l nl qn hO 5 7 hw hn rfl rfl rfl rfl) $$ HR; iintro HR
  have hw := tab_word hl 6 slices_S16_o6_S1 inpos_S1_p0; have hn := tab_word hnl 6 slices_S16_o6_S1 inpos_S1_p0
  have c := rows_in L 6 (extractAt ![0] (k0_pay15 v86) inpos_S1_p0) (extractAt ![0] (k0_pay16 v88) inpos_S1_p0)
  rw [wp_assume_of _ _ _ _ (show k0_chk7 L (extractAt ![0] (k0_pay15 v86) inpos_S1_p0) (extractAt ![0] (k0_pay16 v88) inpos_S1_p0) from ⟨c 0, c 1, c 2, c 3, c 4, c 5, c 6, c 7⟩)]
  iapply (row d L vv nn l nl qn hO 6 0 hw hn rfl rfl rfl rfl) $$ HR; iintro HR
  rw [wp_ret]; imodintro
  isplitr
  · ipureintro; exact ⟨hw, hn⟩
  iexact HR

theorem part22 (hO : ∀ g, O g none = 0) (v18 v29 w w' : BitVec 32) (hw : w = l (ix1 6)) (hn : w' = nl (ix1 6)) (h : k0_chk7 L w w') (e0 : BitVec 32) :
    Row d L vv nn l nl qn O W 49 ⊢ WP (k0_part22 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 w w' h e0) fun _ => Row d L vv nn l nl qn O W 52 := by
  rw [k0_part22_eq_skeleton]; unfold k0_part22_skel
  simp only [Prog.lift, Prog.bind_op, Prog.bind_ret, Prog.pure_eq_ret]
  iintro HR
  iapply (row d L vv nn l nl qn hO 6 1 hw hn rfl rfl rfl rfl) $$ HR; iintro HR
  iapply (row d L vv nn l nl qn hO 6 2 hw hn rfl rfl rfl rfl) $$ HR; iintro HR
  iapply (row d L vv nn l nl qn hO 6 3 hw hn rfl rfl rfl rfl) $$ HR; iintro HR
  rw [wp_ret]; imodintro
  iexact HR

theorem part23 (hO : ∀ g, O g none = 0) (v18 v29 w w' : BitVec 32) (v86 : IVec S16 32) (hl : Tab v86 l) (hw : w = l (ix1 6)) (hn : w' = nl (ix1 6)) (h : k0_chk7 L w w') (e0 : BitVec 32) (e1 : BitVec 1) (e2 : BitVec 32) :
    Row d L vv nn l nl qn O W 52 ⊢ WP (k0_part23 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 v86 w w' h e0 e1 e2) fun r => iprop(⌜r = l (ix1 7)⌝ ∗ Row d L vv nn l nl qn O W 56) := by
  rw [k0_part23_eq_skeleton]; unfold k0_part23_skel
  simp only [Prog.lift, Prog.bind_op, Prog.bind_ret, Prog.pure_eq_ret]
  iintro HR
  iapply (row d L vv nn l nl qn hO 6 4 hw hn rfl rfl rfl rfl) $$ HR; iintro HR
  iapply (row d L vv nn l nl qn hO 6 5 hw hn rfl rfl rfl rfl) $$ HR; iintro HR
  iapply (row d L vv nn l nl qn hO 6 6 hw hn rfl rfl rfl rfl) $$ HR; iintro HR
  iapply (row d L vv nn l nl qn hO 6 7 hw hn rfl rfl rfl rfl) $$ HR; iintro HR
  have hw := tab_word hl 7 slices_S16_o7_S1 inpos_S1_p0
  rw [wp_ret]; imodintro
  isplitr
  · ipureintro; exact hw
  iexact HR

theorem part24 (hO : ∀ g, O g none = 0) (v18 v29 w : BitVec 32) (v88 : IVec S16 32) (hnl : Tab v88 nl) (hw : w = l (ix1 7)) :
    Row d L vv nn l nl qn O W 56 ⊢ WP (k0_part24 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 v88 w) fun r => iprop(⌜r.1 = nl (ix1 7)⌝ ∗ Row d L vv nn l nl qn O W 59) := by
  rw [k0_part24_eq_skeleton]; unfold k0_part24_skel
  simp only [Prog.lift, Prog.bind_op, Prog.bind_ret, Prog.pure_eq_ret]
  iintro HR
  have hn := tab_word hnl 7 slices_S16_o7_S1 inpos_S1_p0
  have c := rows_in L 7 w (extractAt ![0] (k0_pay18 v88) inpos_S1_p0)
  rw [wp_assume_of _ _ _ _ (show k0_chk8 L w (extractAt ![0] (k0_pay18 v88) inpos_S1_p0) from ⟨c 0, c 1, c 2, c 3, c 4, c 5, c 6, c 7⟩)]
  iapply (row d L vv nn l nl qn hO 7 0 hw hn rfl rfl rfl rfl) $$ HR; iintro HR
  iapply (row d L vv nn l nl qn hO 7 1 hw hn rfl rfl rfl rfl) $$ HR; iintro HR
  iapply (row d L vv nn l nl qn hO 7 2 hw hn rfl rfl rfl rfl) $$ HR; iintro HR
  rw [wp_ret]; imodintro
  isplitr
  · ipureintro; exact hn
  iexact HR

theorem part25 (hO : ∀ g, O g none = 0) (v18 v29 w w' : BitVec 32) (hw : w = l (ix1 7)) (hn : w' = nl (ix1 7)) (h : k0_chk8 L w w') (e0 : BitVec 32) (e1 : BitVec 1) (e2 : BitVec 1) :
    Row d L vv nn l nl qn O W 59 ⊢ WP (k0_part25 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29 w w' h e0 e1 e2) fun _ => Row d L vv nn l nl qn O W 62 := by
  rw [k0_part25_eq_skeleton]; unfold k0_part25_skel
  simp only [Prog.lift, Prog.bind_op, Prog.bind_ret, Prog.pure_eq_ret]
  iintro HR
  iapply (row d L vv nn l nl qn hO 7 3 hw hn rfl rfl rfl rfl) $$ HR; iintro HR
  iapply (row d L vv nn l nl qn hO 7 4 hw hn rfl rfl rfl rfl) $$ HR; iintro HR
  iapply (row d L vv nn l nl qn hO 7 5 hw hn rfl rfl rfl rfl) $$ HR; iintro HR
  rw [wp_ret]; imodintro
  iexact HR

end Cert.Proof.KV

end
-- ==== Proof.Open.lean ====
/-
  A tile's own memory taken apart and put back: the four slots of its ring, the shares of the cache they read,
  and their semaphores; and the copy of a table of lengths into its memory.
-/
module

public import proofs.«01_k».proof.Proof.Tail

@[expose] public section

noncomputable section

namespace Cert.Proof.KV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers

open Idealize.ShloMosaic.ValueIdx

variable {F : FTy → Type} [FloatOps F]

local notation "𝕄" => MT nD τ sig (HIx 1) (Elt F) ℕ UU ℕ

variable (d : Dev nD) (L : grid0.Coords) (vv : S8x4096x8x128.Idx → Elt F .f32) (qv : PosShare TreeShare)

local notation "WP" => wp frame (wpE (defs₀ (F := F)) 𝒱₀ (thr d L) none) Set.univ

/-! ## The four slots -/

theorem mem_slot {n : Nat} (h : SlotIn ![n, 0, 0, 0]) (i : S4x16x8x128.Idx) : i ∈ (slotM ![n, 0, 0, 0] h).view.set ↔ (i 0).val = n := by
  rw [show (slotM ![n, 0, 0, 0] h).view.set = (Rect.unit (s := S4x16x8x128) ![n, 0, 0, 0] S1x16x8x128.size h).set from
    (View.set_reshape _ _).trans (View.set_slice_whole _ _)]
  have h1 : (i 1).val < 16 := (i 1).isLt
  have h2 : (i 2).val < 8 := (i 2).isLt
  have h3 : (i 3).val < 128 := (i 3).isLt
  refine mem_unit4.trans ?_
  show (n ≤ (i 0).val ∧ (i 0).val < n + 1) ∧ (0 ≤ (i 1).val ∧ (i 1).val < 0 + 16)
    ∧ (0 ≤ (i 2).val ∧ (i 2).val < 0 + 8) ∧ (0 ≤ (i 3).val ∧ (i 3).val < 0 + 128) ↔ _
  omega

/-- The ring from slot `n` on. -/
def above (n : Nat) : Finset S4x16x8x128.Idx := Finset.univ.filter fun i => n ≤ (i 0).val

abbrev ringPts (I : Finset S4x16x8x128.Idx) (g : S4x16x8x128.Idx → Elt F .f32) : sProp 𝕄 := ringM.view.loc (thr d L) ↦[I]{fullShare} g

omit [FloatOps F] in
/-- One slot of the ring, and how it is put back. -/
theorem slot_take (n : Nat) (h : SlotIn ![n, 0, 0, 0]) :
    (iprop(∃ g, ringPts d L (above n) g) : sProp 𝕄)
      ⊢ iprop((∃ g, slotPts d L ![n, 0, 0, 0] h g) ∗ (∃ g, ringPts d L (above (n + 1)) g)
          ∗ (iprop((∃ g, slotPts d L ![n, 0, 0, 0] h g) ∗ ∃ g, ringPts d L (above (n + 1)) g) -∗ ∃ g, ringPts d L (above n) g)) := by
  have hsub : (slotM ![n, 0, 0, 0] h).view.set ⊆ above n := by
    intro i hi; exact Finset.mem_filter.mpr ⟨Finset.mem_univ _, ((mem_slot h i).mp hi).ge⟩
  have hrest : above n \ (slotM ![n, 0, 0, 0] h).view.set = above (n + 1) := by
    ext i; unfold above
    rw [Finset.mem_sdiff, Finset.mem_filter, Finset.mem_filter, mem_slot h]
    constructor
    · rintro ⟨⟨-, h1⟩, h2⟩; exact ⟨Finset.mem_univ _, by omega⟩
    · rintro ⟨-, h1⟩; exact ⟨⟨Finset.mem_univ _, by omega⟩, by omega⟩
  iintro ⟨%g, H⟩
  ihave H := (pointsTo_split_subset hsub).1 $$ H
  icases H with ⟨H1, H2⟩
  isplitl [H1]; · iexists g; iexact H1
  isplitl [H2]
  · iexists g
    iapply (Entails.of_eq (congrArg (fun I => ringPts d L I g) hrest)); iexact H2
  iintro ⟨⟨%g1, H1⟩, ⟨%g2, H2⟩⟩
  iexists _
  iapply (pointsTo_join_subset hsub)
  isplitl [H1]; · iexact H1
  iapply (Entails.of_eq (congrArg (fun I => ringPts d L I g2) hrest.symm)); iexact H2

omit [FloatOps F] in
theorem above_zero : above 0 = Finset.univ := by
  ext i; unfold above; rw [Finset.mem_filter]; exact ⟨fun h => h.1, fun h => ⟨h, Nat.zero_le _⟩⟩

/-- The share of the cache slot `s` reads at. -/
abbrev qs (s : Fin 4) : PosShare TreeShare := shareTok qv 4 s

/-- Slot `s` idle. -/
abbrev FreeS (qs : Fin 4 → PosShare TreeShare) (s : Fin 4) : sProp 𝕄 := Free d L vv (qs s) (so s) (slot_in s) (si s) (sq s)

omit [FloatOps F] in
theorem free_intro {q : PosShare TreeShare} (s : Fin 4) :
    iprop((∃ g, slotPts d L (so s) (slot_in s) g) ∗ semVal (thr d L, .dma (si s)) 0 ∗ semVal (thr d L, .dma (sq s)) 0 ∗ vPts d L vv q Finset.univ)
      ⊢ (Free d L vv q (so s) (slot_in s) (si s) (sq s) : sProp 𝕄) := .rfl

omit [FloatOps F] in
/-- The four shares of the cache. -/
theorem v_take : (vPts d L vv qv Finset.univ : sProp 𝕄)
    ⊢ iprop((vPts d L vv (qs qv 0) Finset.univ ∗ vPts d L vv (qs qv 1) Finset.univ ∗ vPts d L vv (qs qv 2) Finset.univ ∗ vPts d L vv (qs qv 3) Finset.univ)
        ∗ (iprop(vPts d L vv (qs qv 0) Finset.univ ∗ vPts d L vv (qs qv 1) Finset.univ ∗ vPts d L vv (qs qv 2) Finset.univ ∗ vPts d L vv (qs qv 3) Finset.univ)
            -∗ vPts d L vv qv Finset.univ)) := by
  have four (Φ : Fin 4 → sProp 𝕄) : BI.bigSep Finset.univ Φ = iprop(Φ 0 ∗ Φ 1 ∗ Φ 2 ∗ Φ 3) := by
    rw [show (Finset.univ : Finset (Fin 4)) = {0, 1, 2, 3} from by decide, BI.bigSep_insert (by decide), BI.bigSep_insert (by decide),
      BI.bigSep_insert (by decide), BI.bigSep_singleton]
    rfl
  refine (pointsTo_toks qv 4).1.trans ?_
  rw [four]
  iintro ⟨Hd, H⟩
  isplitl [H]; · iexact H
  iintro H
  iapply (pointsTo_toks qv 4).2
  rw [four]
  isplitl [Hd]; · iexact Hd
  iexact H

/-! ## The slots' semaphores -/

abbrev semAt (s : DmaSem sig) : GSem nD τ sig := (thr d L, .dma s)

theorem semAt_ne {s s' : DmaSem sig} (h : s ≠ s') : semAt d L s ≠ semAt d L s' := fun e => h (SemLoc.dma.inj (Prod.mk.inj e).2)

/-- The tile's semaphores without those of the slots before slot `n`. -/
def semsFrom (n : Nat) : Finset (GSem nD τ sig) :=
  (ownCells (thr d L)).filter fun g => ∀ j : Fin 4, j.val < n → g ≠ semAt d L (si j) ∧ g ≠ semAt d L (sq j)

omit [FloatOps F] in
theorem si_inj : ∀ s t : Fin 4, si s = si t → s = t := by decide
theorem sq_inj : ∀ s t : Fin 4, sq s = sq t → s = t := by decide
theorem si_sq : ∀ s t : Fin 4, si s ≠ sq t := by decide
theorem slot_scoped : ∀ s : Fin 4, (SemLoc.dma (si s) : SemLoc sig).isScoped .scVector = true ∧ (SemLoc.dma (sq s) : SemLoc sig).isScoped .scVector = true := by decide

theorem si_mem (s : Fin 4) : semAt d L (si s) ∈ semsFrom d L s.val := by
  refine Finset.mem_filter.mpr ⟨mem_ownCells.mpr ⟨rfl, (slot_scoped s).1⟩, fun j hj => ⟨semAt_ne d L fun e => ?_, semAt_ne d L (si_sq s j)⟩⟩
  have := si_inj _ _ e; subst this; omega

theorem sq_mem (s : Fin 4) : semAt d L (sq s) ∈ (semsFrom d L s.val).erase (semAt d L (si s)) := by
  refine Finset.mem_erase.mpr ⟨semAt_ne d L (si_sq s s).symm, Finset.mem_filter.mpr ⟨mem_ownCells.mpr ⟨rfl, (slot_scoped s).2⟩, fun j hj =>
    ⟨semAt_ne d L (si_sq j s).symm, semAt_ne d L fun e => ?_⟩⟩⟩
  have := sq_inj _ _ e; subst this; omega

theorem semsFrom_succ (s : Fin 4) : ((semsFrom d L s.val).erase (semAt d L (si s))).erase (semAt d L (sq s)) = semsFrom d L (s.val + 1) := by
  ext g; unfold semsFrom
  rw [Finset.mem_erase, Finset.mem_erase, Finset.mem_filter, Finset.mem_filter]
  constructor
  · rintro ⟨h1, h2, h3, h4⟩
    refine ⟨h3, fun j hj => ?_⟩
    by_cases h : j = s
    · subst h; exact ⟨h2, h1⟩
    · exact h4 j (by have : j.val ≠ s.val := fun e => h (Fin.ext e); omega)
  · rintro ⟨h3, h4⟩
    exact ⟨(h4 s (Nat.lt_succ_self _)).2, (h4 s (Nat.lt_succ_self _)).1, h3, fun j hj => h4 j (Nat.lt_succ_of_lt hj)⟩

theorem semsFrom_zero : semsFrom d L 0 = ownCells (thr d L) := Finset.filter_true_of_mem fun _ _ _ h => absurd h (Nat.not_lt_zero _)

/-- The ring and the semaphores that the slots from slot `n` on leave. -/
def Rest (n : Nat) : sProp 𝕄 := iprop((∃ g, ringPts d L (above n) g) ∗ BI.bigSep (semsFrom d L n) fun g => semVal g 0)

omit [FloatOps F] in
theorem sems_at (s : Fin 4) : (BI.bigSep (semsFrom d L s.val) fun g => (semVal g 0 : sProp 𝕄))
    = iprop(semVal (semAt d L (si s)) 0 ∗ semVal (semAt d L (sq s)) 0 ∗ BI.bigSep (semsFrom d L (s.val + 1)) fun g => semVal g 0) := by
  rw [← semsFrom_succ d L s]
  exact (SparseCore.bigSep_erase' (si_mem d L s) (Φ := fun g : GSem nD τ sig => (semVal g 0 : sProp 𝕄))).trans
    (congrArg (fun X => iprop(semVal (semAt d L (si s)) 0 ∗ X)) (SparseCore.bigSep_erase' (sq_mem d L s) (Φ := fun g : GSem nD τ sig => (semVal g 0 : sProp 𝕄))))

omit [FloatOps F] in
/-- One slot with its semaphores and a share of the cache is idle; and how it is put back. -/
theorem rest_take (s : Fin 4) (q : PosShare TreeShare) {n n' : Nat} (hn : s.val = n) (hn' : s.val + 1 = n') :
    iprop(Rest d L n ∗ vPts d L vv q Finset.univ)
      ⊢ (iprop(Free d L vv q (so s) (slot_in s) (si s) (sq s) ∗ Rest d L n'
          ∗ (iprop(Free d L vv q (so s) (slot_in s) (si s) (sq s) ∗ Rest d L n') -∗ Rest d L n ∗ vPts d L vv q Finset.univ)) : sProp 𝕄) := by
  subst hn hn'
  unfold Rest
  rw [sems_at d L s]
  unfold Free
  iintro ⟨⟨Hr, H1, H2, H3⟩, Hv⟩
  ihave Hr := (slot_take d L s.val (slot_in s)) $$ Hr
  icases Hr with ⟨Hs, Hr, Hback⟩
  isplitl [Hs H1 H2 Hv]
  · isplitl [Hs]; · iexact Hs
    isplitl [H1]; · iexact H1
    isplitl [H2] <;> iassumption
  isplitl [Hr H3]
  · isplitl [Hr] <;> iassumption
  iintro ⟨⟨Hs, H1, H2, Hv⟩, Hr, H3⟩
  isplitl [Hback Hs Hr H1 H2 H3]
  · isplitl [Hback Hs Hr]
    · iapply Hback
      isplitl [Hs] <;> iassumption
    isplitl [H1]; · iexact H1
    isplitl [H2] <;> iassumption
  iexact Hv

/-- The four slots idle. -/
abbrev Idle (qs : Fin 4 → PosShare TreeShare) : sProp 𝕄 := iprop(FreeS d L vv qs 0 ∗ FreeS d L vv qs 1 ∗ FreeS d L vv qs 2 ∗ FreeS d L vv qs 3)

/-- The tile's ring, its share of the cache and its semaphores. -/
abbrev Kept : sProp 𝕄 := iprop((∃ g, ringPts d L Finset.univ g) ∗ vPts d L vv qv Finset.univ ∗ ownSems0 (thr d L))

omit [FloatOps F] in
theorem rest_zero : (Rest d L 0 : sProp 𝕄) = iprop((∃ g, ringPts d L Finset.univ g) ∗ ownSems0 (thr d L)) := by
  unfold Rest ownSems0; rw [above_zero, semsFrom_zero]

omit [FloatOps F] in
theorem ring_open : (Kept d L vv qv : sProp 𝕄) ⊢ iprop(Idle d L vv (qs qv) ∗ (Idle d L vv (qs qv) -∗ Kept d L vv qv)) := by
  iintro ⟨Hr, Hv, Hs⟩
  ihave Hv := (v_take d L vv qv) $$ Hv
  icases Hv with ⟨⟨V0, V1, V2, V3⟩, Vb⟩
  ihave HR := (Entails.of_eq (rest_zero d L).symm) $$ [Hr Hs]
  · isplitl [Hr] <;> iassumption
  ihave H0 := (rest_take d L vv 0 (qs qv 0) (n := 0) (n' := 1) rfl rfl) $$ [HR V0]
  · isplitl [HR] <;> iassumption
  icases H0 with ⟨F0, HR, B0⟩
  ihave H1 := (rest_take d L vv 1 (qs qv 1) (n := 1) (n' := 2) rfl rfl) $$ [HR V1]
  · isplitl [HR] <;> iassumption
  icases H1 with ⟨F1, HR, B1⟩
  ihave H2 := (rest_take d L vv 2 (qs qv 2) (n := 2) (n' := 3) rfl rfl) $$ [HR V2]
  · isplitl [HR] <;> iassumption
  icases H2 with ⟨F2, HR, B2⟩
  ihave H3 := (rest_take d L vv 3 (qs qv 3) (n := 3) (n' := 4) rfl rfl) $$ [HR V3]
  · isplitl [HR] <;> iassumption
  icases H3 with ⟨F3, HR, B3⟩
  isplitl [F0 F1 F2 F3]
  · isplitl [F0]; · iexact F0
    isplitl [F1]; · iexact F1
    isplitl [F2] <;> iassumption
  iintro ⟨F0, F1, F2, F3⟩
  ihave H3 := B3 $$ [F3 HR]
  · isplitl [F3] <;> iassumption
  icases H3 with ⟨HR, V3⟩
  ihave H2 := B2 $$ [F2 HR]
  · isplitl [F2] <;> iassumption
  icases H2 with ⟨HR, V2⟩
  ihave H1 := B1 $$ [F1 HR]
  · isplitl [F1] <;> iassumption
  icases H1 with ⟨HR, V1⟩
  ihave H0 := B0 $$ [F0 HR]
  · isplitl [F0] <;> iassumption
  icases H0 with ⟨HR, V0⟩
  ihave HR := (Entails.of_eq (rest_zero d L)) $$ HR
  icases HR with ⟨Hr, Hs⟩
  isplitl [Hr]; · iexact Hr
  isplitl [Vb V0 V1 V2 V3]
  · iapply Vb
    isplitl [V0]; · iexact V0
    isplitl [V1]; · iexact V1
    isplitl [V2] <;> iassumption
  iexact Hs

/-! ## A table of lengths -/

variable {α : Type} {Q : α → sProp (MT nD τ sig (HIx 1) (Elt F) ℕ UU ℕ)} {k : PUnit.{1} → Prog (TpuEff nD τ sig (Elt F) Λ₀ (thr d L).2) α}

omit [FloatOps F] in
/-- What a table's copy leaves in the first eight of the sixteen words. -/
theorem tab_read (s : Memref sig .scVector .vmem S16 .i32) (h : ∀ a, (![0] : Fin 1 → Nat) a + S8.size a ≤ S16.size a) (h')
    (f : Buf (Elt F) (s.view.loc (thr d L))) (x : S8.Idx → Elt F .i32) (b : Fin 8) :
    s.view.read (Elt F) ((s.slice (Rect.unit (s := S16) ![0] S8.size h) h').view.write (Elt F) f x Finset.univ) (ix1 ⟨b.val, by omega⟩) = x (ix1 b) := by
  have e : (ix1 ⟨b.val, by omega⟩ : S16.Idx) = (Rect.unit (s := S16) ![0] S8.size h).emb (ix1 b) := by
    refine funext fun a => Fin.ext ?_
    obtain rfl : a = 0 := Subsingleton.elim _ _
    show b.val = 0 + 1 * b.val
    omega
  rw [e]
  exact View.read_write_of_mem (v := (s.slice (Rect.unit (s := S16) ![0] S8.size h) h').view) f x (x := ix1 b) (Finset.mem_univ _)

theorem tab_copy {O : CellTallies nD τ sig (HIx 1)} {W : Waits sig (HIx 1)} (hO : ∀ g, O g none = 0) (q : PosShare TreeShare)
    (a : Memref sig .scVector .hbm S8 .i32) (s : Memref sig .scVector .vmem S16 .i32) (sm : DmaSem sig)
    (hs : (SemLoc.dma sm : SemLoc sig).isScoped .scVector = true) (x : Buf (Elt F) (a.view.loc (thr d L)))
    {h : ∀ a, (![0] : Fin 1 → Nat) a + S8.size a ≤ S16.size a} {h' W1 W2 W3 W4 Ty} :
    iprop(levAts (K (F := F)).L (K (F := F)).lev ∗ (a.view.loc (thr d L) ↦[a.view.set]{q} x) ∗ (∃ f, s.view.loc (thr d L) ↦[Finset.univ]{fullShare} f)
        ∗ ownSems0 (thr d L) ∗ OW d L O W)
      ⊢ iprop((iprop((a.view.loc (thr d L) ↦[a.view.set]{q} x)
              ∗ (∃ f, ⌜∀ b : Fin 8, s.view.read (Elt F) f (ix1 ⟨b.val, by omega⟩) = a.view.read (Elt F) x (ix1 b)⌝ ∗ s.view.loc (thr d L) ↦[Finset.univ]{fullShare} f)
              ∗ ownSems0 (thr d L) ∗ OW d L O W) -∗ WP (k ⟨⟩) Q)
          -∗ WP (.op (.enqueueDma a (.here (s.slice (Rect.unit (s := S16) ![0] S8.size h) h')) (.dma sm) W1 W2 Ty) fun _ =>
              .op (.waitDma2 sm a (s.slice (Rect.unit (s := S16) ![0] S8.size h) h') W3 W4) k) Q) := by
  iintro ⟨#Hlv, Ha, ⟨%f, Hs⟩, Hsems, HO⟩ Hk
  ihave Hsems := (sem_take d L hs) $$ Hsems
  icases Hsems with ⟨Hsem, Hback⟩
  iapply (wp_dmaLocal (EC (F := F)) 𝒱₀ (thr d L) none (src := a) (dst := s.slice (Rect.unit (s := S16) ![0] S8.size h) h') (q := q) (fs := x)
    (Sd := Finset.univ) (fd := f) none (s.slice (Rect.unit (s := S16) ![0] S8.size h) h').view.dmaCredit rfl (View.dmaCredit_pos _ (show 0 < S8.numel by decide)) (Finset.subset_univ _)) $$ [Ha Hs Hsem]
  · isplitl [Ha]; · iexact Ha
    isplitl [Hs] <;> iassumption
  iintro Hf
  ihave HO := (OW_elim d L) $$ HO
  icases HO with ⟨%W', %hW', HO⟩
  iapply (wp_waitLocalO (EC (F := F)) 𝒱₀ (thr d L) none (srcw := a) (dstw := s.slice (Rect.unit (s := S16) ![0] S8.size h) h') none
    (N := (s.slice (Rect.unit (s := S16) ![0] S8.size h) h').view.dmaCredit) rfl) $$ [Hf HO]
  · isplitl [Hf]; · iexact Hf
    isplitl [HO]; · iexact HO
    iapply ((K (F := F)).mayWait_none (SemLoc.dma sm) hO); iexact Hlv
  iintro ⟨⟨Hs, Ha⟩, Hsem, HO⟩
  iapply Hk
  isplitl [Ha]; · iexact Ha
  isplitl [Hs]
  · iexists _; isplitr; · ipureintro; exact fun b => tab_read d L s h h' f _ b
    iexact Hs
  isplitl [Hsem Hback]
  · iapply Hback; iexact Hsem
  iapply (OW_insert d L hW' _); iexact HO

end Cert.Proof.KV

end
-- ==== Proof.Tile.lean ====
/-
  One tile's whole task: the tables are copied in, the cache's values go through the ring to the result, and the new
  rows are copied over them.
-/
module

public import proofs.«01_k».proof.Proof.Open

@[expose] public section

noncomputable section

namespace Cert.Proof.KV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers

open Idealize.ShloMosaic.ValueIdx

variable {F : FTy → Type} [FloatOps F]

local notation "𝕄" => MT nD τ sig (HIx 1) (Elt F) ℕ UU ℕ

variable (d : Dev nD) (L : grid0.Coords) (vv : S8x4096x8x128.Idx → Elt F .f32) (nn : S8x8x8x128.Idx → Elt F .f32)
  (l nl : S8.Idx → BitVec 32) (qv qn ql qm : PosShare TreeShare) (O : CellTallies nD τ sig (HIx 1)) (W : Waits sig (HIx 1))

local notation "WP" => wp frame (wpE (defs₀ (F := F)) 𝒱₀ (thr d L) none) Set.univ

/-- A table read at a share; the sixteen words its copy goes to. -/
abbrev lPts (q : PosShare TreeShare) : sProp 𝕄 := lM.view.loc (thr d L) ↦[Finset.univ]{q} l
abbrev mPts (q : PosShare TreeShare) : sProp 𝕄 := nlM.view.loc (thr d L) ↦[Finset.univ]{q} nl
abbrev nPts (q : PosShare TreeShare) : sProp 𝕄 := nM.view.loc (thr d L) ↦[Finset.univ]{q} nn
abbrev lsPts (f : S16.Idx → BitVec 32) : sProp 𝕄 := lS.view.loc (thr d L) ↦[Finset.univ]{fullShare} f
abbrev msPts (f : S16.Idx → BitVec 32) : sProp 𝕄 := nlS.view.loc (thr d L) ↦[Finset.univ]{fullShare} f

variable {O W}

theorem part4 (hO : ∀ g, O g none = 0) :
    iprop(levAts (K (F := F)).L (K (F := F)).lev ∗ lPts d L l ql ∗ (∃ f, lsPts d L f) ∗ ownSems0 (thr d L) ∗ OW d L O W)
      ⊢ WP (k0_part4 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65) fun r =>
        iprop(⌜r = ⟨b0W L, p0W L⟩⌝ ∗ lPts d L l ql ∗ (∃ f, ⌜Tab f l⌝ ∗ lsPts d L f) ∗ ownSems0 (thr d L) ∗ OW d L O W) := by
  rw [k0_part4_eq_skeleton]; unfold k0_part4_skel
  simp only [Prog.lift, Prog.bind_op, Prog.bind_ret, Prog.pure_eq_ret]
  have hset : (lM.view.set : Finset S8.Idx) = Finset.univ := View.set_whole _
  iintro ⟨#Hlv, Hl, Hs, Hsems, HO⟩
  iapply (tab_copy d L hO ql lM lS cc0_scoped0.sem rfl l) $$ [Hl Hs Hsems HO]
  · isplitr; · iexact Hlv
    isplitl [Hl]
    · iapply (Entails.of_eq (congrArg (fun I : Finset S8.Idx => (lM.view.loc (thr d L) ↦[I]{ql} l : sProp 𝕄)) hset.symm)); iexact Hl
    isplitl [Hs]; · iexact Hs
    isplitl [Hsems] <;> iassumption
  iintro ⟨Hl, ⟨%f, %hf, Hs⟩, Hsems, HO⟩
  rw [wp_ret]; imodintro
  isplitr; · ipureintro; rfl
  isplitl [Hl]
  · iapply (Entails.of_eq (congrArg (fun I : Finset S8.Idx => (lM.view.loc (thr d L) ↦[I]{ql} l : sProp 𝕄)) hset)); iexact Hl
  isplitl [Hs]
  · iexists f; isplitr; · ipureintro; exact hf
    iexact Hs
  isplitl [Hsems] <;> iassumption

theorem inv_zero (qq : Fin 4 → PosShare TreeShare) :
    iprop(levAts (K (F := F)).L (K (F := F)).lev ∗ RdS d L vv qq 0 0 ∗ RdS d L vv qq 1 1 ∗ FreeS d L vv qq 2 ∗ FreeS d L vv qq 3
        ∗ Done d L vv 0 ∗ Todo d L 0 ∗ OW d L O W) ⊢ Inv d L vv qq O W 0 := .rfl

theorem inv_end (qq : Fin 4 → PosShare TreeShare) :
    Inv d L vv qq O W 16 ⊢ iprop(levAts (K (F := F)).L (K (F := F)).lev ∗ WrS d L vv qq 0 60 ∗ WrS d L vv qq 1 61 ∗ WrS d L vv qq 2 62 ∗ WrS d L vv qq 3 63
        ∗ Done d L vv 60 ∗ Todo d L 64 ∗ OW d L O W) := .rfl

omit [FloatOps F] in
theorem todo_all (f : S8x4096x8x128.Idx → Elt F .f32) : (oPts d L (rows L 0 1024) f : sProp 𝕄) ⊢ iprop(Done d L vv 0 ∗ Todo d L 0) := by
  unfold Done Todo
  have h : rows L 0 (16 * 0) = ∅ := by
    ext i; rw [mem_rows]; constructor
    · intro h; omega
    · intro h; exact absurd h (Finset.notMem_empty _)
  iintro H
  isplitr
  · iapply (Entails.of_eq (congrArg (fun I => oPts d L I vv) h.symm))
    iapply (Entails.of_eq pointsTo_empty.symm)
    iempintro
  · iexists f; iexact H

omit [FloatOps F] in
theorem start0 : k0_off1 L 0#32 = chunkOff L 0 := off_eq L (w := 0#32) rfl (by decide)
omit [FloatOps F] in
theorem start1 : k0_off1 L 16#32 = chunkOff L 1 := off_eq L (w := 1#32) rfl (by decide)

set_option maxHeartbeats 2000000 in
theorem part5 (hO : ∀ g, O g none = 0) (v29 : BitVec 32) :
    iprop(levAts (K (F := F)).L (K (F := F)).lev ∗ mPts d L nl qm ∗ (∃ f, msPts d L f) ∗ Kept d L vv qv ∗ (∃ f, oPts d L (rows L 0 1024) f) ∗ OW d L O W)
      ⊢ WP (k0_part5 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v29) fun _ =>
        iprop(mPts d L nl qm ∗ (∃ f, ⌜Tab f nl⌝ ∗ msPts d L f) ∗ Inv d L vv (qs qv) O W 16 ∗ (Idle d L vv (qs qv) -∗ Kept d L vv qv)) := by
  rw [k0_part5_eq_skeleton]; unfold k0_part5_skel
  simp only [Prog.lift, Prog.bind_op, Prog.bind_ret, Prog.pure_eq_ret]
  have hset : (nlM.view.set : Finset S8.Idx) = Finset.univ := View.set_whole _
  iintro ⟨#Hlv, Hl, Hs, ⟨Hr, Hv, Hsems⟩, ⟨%fo, Ho⟩, HO⟩
  iapply (tab_copy d L hO qm nlM nlS cc0_scoped1.sem rfl nl) $$ [Hl Hs Hsems HO]
  · isplitr; · iexact Hlv
    isplitl [Hl]
    · iapply (Entails.of_eq (congrArg (fun I : Finset S8.Idx => (nlM.view.loc (thr d L) ↦[I]{qm} nl : sProp 𝕄)) hset.symm)); iexact Hl
    isplitl [Hs]; · iexact Hs
    isplitl [Hsems] <;> iassumption
  iintro ⟨Hl, ⟨%f, %hf, Hs⟩, Hsems, HO⟩
  ihave Hk := (ring_open d L vv qv) $$ [Hr Hv Hsems]
  · isplitl [Hr]; · iexact Hr
    isplitl [Hv] <;> iassumption
  icases Hk with ⟨⟨F0, F1, F2, F3⟩, Hback⟩
  ihave F0 := (free_elim d L vv (qs qv 0) (so 0) (slot_in 0) (si 0) (sq 0)) $$ F0
  icases F0 with ⟨Hs0, Hsi0, Hsq0, Hv0⟩
  iapply (in_start d L vv (qs qv 0) (so 0) (slot_in 0) (si 0) (c := 0) (by decide) (start0 L)) $$ [Hv0 Hs0 Hsi0]
  · isplitl [Hv0]; · iexact Hv0
    isplitl [Hs0] <;> iassumption
  iintro Hin0
  ihave F1 := (free_elim d L vv (qs qv 1) (so 1) (slot_in 1) (si 1) (sq 1)) $$ F1
  icases F1 with ⟨Hs1, Hsi1, Hsq1, Hv1⟩
  iapply (in_start d L vv (qs qv 1) (so 1) (slot_in 1) (si 1) (c := 1) (by decide) (start1 L)) $$ [Hv1 Hs1 Hsi1]
  · isplitl [Hv1]; · iexact Hv1
    isplitl [Hs1] <;> iassumption
  iintro Hin1
  ihave Ho := (todo_all d L vv fo) $$ Ho
  icases Ho with ⟨Hd, Ht⟩
  iapply (Scf.wp_for_bind frame (wpE (defs₀ (F := F)) 𝒱₀ (thr d L) none) Set.univ _ _ _ k0_t1_ok _ _
    (fun t _ => Inv d L vv (qs qv) O W t) (fun t u => trip d L vv (qs qv) hO v29 t u)) $$ [Hin0 Hsq0 Hin1 Hsq1 F2 F3 Hd Ht HO]
  · iapply (inv_zero d L vv (qs qv))
    isplitr; · iexact Hlv
    isplitl [Hin0 Hsq0]
    · iapply (rd_intro d L vv (qs qv 0) (so 0) (slot_in 0) (si 0) (sq 0) 0); isplitl [Hin0] <;> iassumption
    isplitl [Hin1 Hsq1]
    · iapply (rd_intro d L vv (qs qv 1) (so 1) (slot_in 1) (si 1) (sq 1) 1); isplitl [Hin1] <;> iassumption
    isplitl [F2]; · iexact F2
    isplitl [F3]; · iexact F3
    isplitl [Hd]; · iexact Hd
    isplitl [Ht] <;> iassumption
  iintro %u Hinv
  rw [wp_ret]; imodintro
  isplitl [Hl]
  · iapply (Entails.of_eq (congrArg (fun I : Finset S8.Idx => (nlM.view.loc (thr d L) ↦[I]{qm} nl : sProp 𝕄)) hset)); iexact Hl
  isplitl [Hs]
  · iexists f; isplitr; · ipureintro; exact hf
    iexact Hs
  isplitl [Hinv]
  · iapply (Entails.of_eq (congrArg (fun t => Inv d L vv (qs qv) O W t) trips_eq)); iexact Hinv
  iexact Hback

omit [FloatOps F] in
/-- The last chunk of a slot arrives in the result: the slot is idle. -/
theorem wr_done {qq : Fin 4 → PosShare TreeShare} (s : Fin 4) (c : Nat) :
    iprop((oPts d L (rows L (16 * c) (16 * c + 16)) vv ∗ (∃ g, slotPts d L (so s) (slot_in s) g) ∗ semVal (thr d L, .dma (sq s)) 0)
        ∗ (semVal (thr d L, .dma (si s)) 0 ∗ vPts d L vv (qq s) Finset.univ) ∗ Done d L vv c)
      ⊢ (iprop(FreeS d L vv qq s ∗ Done d L vv (c + 1)) : sProp 𝕄) := by
  iintro ⟨⟨Ho, Hs, Hsq⟩, ⟨Hsi, Hv⟩, Hd⟩
  isplitl [Hs Hsq Hsi Hv]
  · iapply (free_intro d L vv s)
    isplitl [Hs]; · iexact Hs
    isplitl [Hsi]; · iexact Hsi
    isplitl [Hsq] <;> iassumption
  iapply (done_join d L vv c)
  isplitl [Hd] <;> iassumption

variable {α : Type} {Q : α → sProp (MT nD τ sig (HIx 1) (Elt F) ℕ UU ℕ)} {k : PUnit.{1} → Prog (TpuEff nD τ sig (Elt F) Λ₀ (thr d L).2) α}

theorem drain (hO : ∀ g, O g none = 0) {qq : Fin 4 → PosShare TreeShare} (s : Fin 4) (c : Nat) {off : Fin 4 → Nat} {h W1 W2} :
    iprop(levAts (K (F := F)).L (K (F := F)).lev ∗ WrS d L vv qq s c ∗ Done d L vv c ∗ OW d L O W)
      ⊢ iprop((iprop(FreeS d L vv qq s ∗ Done d L vv (c + 1) ∗ OW d L O W) -∗ WP (k ⟨⟩) Q)
          -∗ WP (.op (.waitDma2 (sq s) (slotM (so s) (slot_in s)) (chunkM oM off h) W1 W2) k) Q) := by
  iintro ⟨#Hlv, Hw, Hd, HO⟩ Hk
  ihave Hw := (wr_elim d L vv (qq s) (so s) (slot_in s) (si s) (sq s) c) $$ Hw
  icases Hw with ⟨Hf, Hsi, Hv⟩
  iapply (out_wait d L vv (so s) (slot_in s) (sq s) hO (c := c)) $$ [Hf HO]
  · isplitr; · iexact Hlv
    isplitl [Hf] <;> iassumption
  iintro ⟨Ho, Hs, Hsq, HO⟩
  iapply Hk
  ihave H := (wr_done d L vv (qq := qq) s c) $$ [Ho Hs Hsq Hsi Hv Hd]
  · isplitl [Ho Hs Hsq]
    · isplitl [Ho]; · iexact Ho
      isplitl [Hs] <;> iassumption
    isplitl [Hsi Hv]
    · isplitl [Hsi] <;> iassumption
    iexact Hd
  icases H with ⟨Hfree, Hd⟩
  isplitl [Hfree]; · iexact Hfree
  isplitl [Hd] <;> iassumption

theorem part6 (hO : ∀ g, O g none = 0) (v29 : BitVec 32) :
    Inv d L vv (qs qv) O W 16
      ⊢ WP (k0_part6 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v29) fun _ =>
        iprop(levAts (K (F := F)).L (K (F := F)).lev ∗ FreeS d L vv (qs qv) 0 ∗ FreeS d L vv (qs qv) 1 ∗ WrS d L vv (qs qv) 2 62 ∗ WrS d L vv (qs qv) 3 63
          ∗ Done d L vv 62 ∗ OW d L O W) := by
  rw [k0_part6_eq_skeleton]; unfold k0_part6_skel
  simp only [Prog.lift, Prog.bind_op, Prog.bind_ret, Prog.pure_eq_ret]
  refine (inv_end d L vv (qs qv)).trans ?_
  iintro ⟨#Hlv, H0, H1, H2, H3, Hd, -, HO⟩
  iapply (drain d L vv hO (qq := qs qv) 0 60) $$ [H0 Hd HO]
  · isplitr; · iexact Hlv
    isplitl [H0]; · iexact H0
    isplitl [Hd] <;> iassumption
  iintro ⟨H0, Hd, HO⟩
  iapply (drain d L vv hO (qq := qs qv) 1 61) $$ [H1 Hd HO]
  · isplitr; · iexact Hlv
    isplitl [H1]; · iexact H1
    isplitl [Hd] <;> iassumption
  iintro ⟨H1, Hd, HO⟩
  rw [wp_ret]; imodintro
  isplitr; · iexact Hlv
  isplitl [H0]; · iexact H0
  isplitl [H1]; · iexact H1
  isplitl [H2]; · iexact H2
  isplitl [H3]; · iexact H3
  isplitl [Hd] <;> iassumption

end Cert.Proof.KV

end
-- ==== Proof.Task.lean ====
/-
  One tile's whole task: the four parts that fill the slab, then the rows.
-/
module

public import proofs.«01_k».proof.Proof.Tile

@[expose] public section

noncomputable section

namespace Cert.Proof.KV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers

open Idealize.ShloMosaic.ValueIdx

variable {F : FTy → Type} [FloatOps F]

local notation "𝕄" => MT nD τ sig (HIx 1) (Elt F) ℕ UU ℕ

variable (d : Dev nD) (L : grid0.Coords) (vv : S8x4096x8x128.Idx → Elt F .f32) (nn : S8x8x8x128.Idx → Elt F .f32)
  (l nl : S8.Idx → BitVec 32) (qv qn ql qm : PosShare TreeShare) {O : CellTallies nD τ sig (HIx 1)} {W : Waits sig (HIx 1)}

local notation "WP" => wp frame (wpE (defs₀ (F := F)) 𝒱₀ (thr d L) none) Set.univ

omit [FloatOps F] in
theorem all_idx (j : (Rect.unit (s := S16) ![0] S16.size inb_S16_S16_0).toLoadRect.shape.Idx) :
    (Rect.unit (s := S16) ![0] S16.size inb_S16_S16_0).toLoadRect.idx j = j := by
  funext a; apply Fin.ext
  rw [LoadRect.idx_apply, Subsingleton.elim a 0]
  show 0 + 1 * (j 0).val = (j 0).val
  omega

omit [FloatOps F] in
theorem cast_same {α : Type} (x : S16.Idx → α) (h : S16.ShapeCasts S16) (j : S16.Idx) : shapeCast S16 x h j = x j :=
  congrArg x (Shape.reshapeEquiv_self h j)

omit [FloatOps F] in
/-- The sixteen words as they are loaded hold the table their memory holds. -/
theorem tab_load1 {f : S16.Idx → BitVec 32} (hf : Tab f l) :
    Tab (k0_pay1 (F := F) (lS.view.readAt (Elt F) (Rect.unit (s := S16) ![0] S16.size inb_S16_S16_0).toLoadRect f)) l := by
  intro b
  unfold k0_pay1
  refine (cast_same _ _ _).trans ?_
  rw [View.readAt_apply, all_idx]
  exact hf b

omit [FloatOps F] in
theorem tab_load2 {f : S16.Idx → BitVec 32} (hf : Tab f nl) :
    Tab (k0_pay2 (F := F) (nlS.view.readAt (Elt F) (Rect.unit (s := S16) ![0] S16.size inb_S16_S16_0).toLoadRect f)) nl := by
  intro b
  unfold k0_pay2
  refine (cast_same _ _ _).trans ?_
  rw [View.readAt_apply, all_idx]
  exact hf b

omit [FloatOps F] in
theorem done_rows : (Done d L vv 64 : sProp 𝕄) = oPts d L (rows L 0 1024) (mergeUpTo 0 vv nn l nl) := by
  rw [mergeUpTo_zero]; rfl

/-- What a tile holds when its ring is done with. -/
abbrev After : sProp 𝕄 := iprop(((∃ g, ringPts d L Finset.univ g) ∗ vPts d L vv qv Finset.univ) ∗ (∃ f, lsPts d L f) ∗ ∃ f, msPts d L f)

set_option maxHeartbeats 2000000 in
theorem part7 (hO : ∀ g, O g none = 0) (v18 v29 : BitVec 32) :
    iprop((levAts (K (F := F)).L (K (F := F)).lev ∗ FreeS d L vv (qs qv) 0 ∗ FreeS d L vv (qs qv) 1 ∗ WrS d L vv (qs qv) 2 62 ∗ WrS d L vv (qs qv) 3 63
          ∗ Done d L vv 62 ∗ OW d L O W) ∗ (Idle d L vv (qs qv) -∗ Kept d L vv qv) ∗ nPts d L nn qn
        ∗ (∃ f, ⌜Tab f l⌝ ∗ lsPts d L f) ∗ (∃ f, ⌜Tab f nl⌝ ∗ msPts d L f))
      ⊢ WP (k0_part7 (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65 v18 v29) fun r =>
        iprop(⌜Tab r.1 l ∧ Tab r.2.1 nl ∧ r.2.2.1 = l (ix1 0) ∧ r.2.2.2.1 = nl (ix1 0)⌝ ∗ Row d L vv nn l nl qn O W 1 ∗ After d L vv qv) := by
  rw [k0_part7_eq_skeleton]; unfold k0_part7_skel
  simp only [Prog.lift, Prog.bind_op, Prog.bind_ret, Prog.pure_eq_ret]
  iintro ⟨⟨#Hlv, H0, H1, H2, H3, Hd, HO⟩, Hback, Hn, ⟨%f, %hf, Hl⟩, ⟨%f', %hf', Hm⟩⟩
  iapply (drain d L vv hO (qq := qs qv) 2 62) $$ [H2 Hd HO]
  · isplitr; · iexact Hlv
    isplitl [H2]; · iexact H2
    isplitl [Hd] <;> iassumption
  iintro ⟨H2, Hd, HO⟩
  iapply (drain d L vv hO (qq := qs qv) 3 63) $$ [H3 Hd HO]
  · isplitr; · iexact Hlv
    isplitl [H3]; · iexact H3
    isplitl [Hd] <;> iassumption
  iintro ⟨H3, Hd, HO⟩
  ihave Hk := Hback $$ [H0 H1 H2 H3]
  · isplitl [H0]; · iexact H0
    isplitl [H1]; · iexact H1
    isplitl [H2] <;> iassumption
  icases Hk with ⟨Hr, Hv, Hsems⟩
  ihave Ho := (Entails.of_eq (done_rows d L vv nn l nl)) $$ Hd
  iapply (wp_load 𝒱₀ (thr d L) none Set.univ (m := lS) (S := Finset.univ) (Finset.subset_univ _)) $$ Hl; iintro Hl
  iapply (wp_load 𝒱₀ (thr d L) none Set.univ (m := nlS) (S := Finset.univ) (Finset.subset_univ _)) $$ Hm; iintro Hm
  have hl := tab_load1 (F := F) l hf
  have hnl := tab_load2 (F := F) nl hf'
  have hw := tab_word hl 0 slices_S16_o0_S1 inpos_S1_p0
  have hn := tab_word hnl 0 slices_S16_o0_S1 inpos_S1_p0
  have c := rows_in L 0 (extractAt ![0] (k0_pay3 (lS.view.readAt (Elt F) (Rect.unit (s := S16) ![0] S16.size inb_S16_S16_0).toLoadRect f)) inpos_S1_p0)
    (extractAt ![0] (k0_pay4 (nlS.view.readAt (Elt F) (Rect.unit (s := S16) ![0] S16.size inb_S16_S16_0).toLoadRect f')) inpos_S1_p0)
  rw [wp_assume_of _ _ _ _ (show k0_chk1 L _ _ from ⟨c 0, c 1, c 2, c 3, c 4, c 5, c 6, c 7⟩)]
  ihave HR := (row_intro d L vv nn l nl qn O W (n := 0)) $$ [Ho Hn Hsems HO]
  · isplitr; · iexact Hlv
    iapply (st_intro d L vv nn l nl qn 0)
    isplitl [Ho]; · iexact Ho
    isplitl [Hn]; · iexact Hn
    isplitl [Hsems] <;> iassumption
  iapply (row d L vv nn l nl qn hO 0 0 hw hn rfl rfl rfl rfl) $$ HR; iintro HR
  rw [wp_ret]; imodintro
  isplitr; · ipureintro; exact ⟨hl, hnl, hw, hn⟩
  isplitl [HR]; · iexact HR
  isplitl [Hr Hv]
  · isplitl [Hr] <;> iassumption
  isplitl [Hl]
  · iexists f; iexact Hl
  · iexists f'; iexact Hm

/-- The tile's program. -/
def tileProg := cc0__sc_v_body (F := F) L vM (Memref.isWhole_whole _) nM (Memref.isWhole_whole _) lM (Memref.isWhole_whole _) nlM (Memref.isWhole_whole _) oM (Memref.isWhole_whole _) ringM (Memref.isWhole_whole _) lS (Memref.isWhole_whole _) nlS (Memref.isWhole_whole _) cc0_scratch3 cc0_scratch4 cc0_scratch5 cc0_scratch6 cc0_scratch7 cc0_scratch8 cc0_scratch9 cc0_scratch10 cc0_scoped0 cc0_scoped1 cc0_scoped2 cc0_scoped3 cc0_scoped4 cc0_scoped5 cc0_scoped6 cc0_scoped7 cc0_scoped8 cc0_scoped9 cc0_scoped10 cc0_scoped11 cc0_scoped12 cc0_scoped13 cc0_scoped14 cc0_scoped15 cc0_scoped16 cc0_scoped17 cc0_scoped18 cc0_scoped19 cc0_scoped20 cc0_scoped21 cc0_scoped22 cc0_scoped23 cc0_scoped24 cc0_scoped25 cc0_scoped26 cc0_scoped27 cc0_scoped28 cc0_scoped29 cc0_scoped30 cc0_scoped31 cc0_scoped32 cc0_scoped33 cc0_scoped34 cc0_scoped35 cc0_scoped36 cc0_scoped37 cc0_scoped38 cc0_scoped39 cc0_scoped40 cc0_scoped41 cc0_scoped42 cc0_scoped43 cc0_scoped44 cc0_scoped45 cc0_scoped46 cc0_scoped47 cc0_scoped48 cc0_scoped49 cc0_scoped50 cc0_scoped51 cc0_scoped52 cc0_scoped53 cc0_scoped54 cc0_scoped55 cc0_scoped56 cc0_scoped57 cc0_scoped58 cc0_scoped59 cc0_scoped60 cc0_scoped61 cc0_scoped62 cc0_scoped63 cc0_scoped64 cc0_scoped65

set_option maxHeartbeats 20000000 in
/-- From the tables, the cache's values and new values and a slab of the result, the slab merged. -/
theorem task (hO : ∀ g, O g none = 0) :
    iprop(levAts (K (F := F)).L (K (F := F)).lev ∗ lPts d L l ql ∗ mPts d L nl qm ∗ nPts d L nn qn ∗ (∃ f, oPts d L (rows L 0 1024) f)
        ∗ Kept d L vv qv ∗ (∃ f, lsPts d L f) ∗ (∃ f, msPts d L f) ∗ OW d L O W)
      ⊢ WP (tileProg (F := F) L) fun _ =>
        iprop(lPts d L l ql ∗ mPts d L nl qm ∗ nPts d L nn qn ∗ oPts d L (rows L 0 1024) (merge vv nn l nl)
          ∗ Kept d L vv qv ∗ (∃ f, lsPts d L f) ∗ (∃ f, msPts d L f) ∗ OW d L O W) := by
  unfold tileProg
  rw [cc0__sc_v_body_eq_skeleton]; unfold cc0__sc_v_body_skel
  simp only [Prog.lift, Prog.bind_op, Prog.bind_ret, Prog.pure_eq_ret]
  iintro ⟨#Hlv, Hl, Hm, Hn, Ho, ⟨Hr, Hv, Hsems⟩, Hls, Hms, HO⟩
  rw [wp_bind]
  iapply (wp_wand frame (wpE (defs₀ (F := F)) 𝒱₀ (thr d L) none) Set.univ) $$ [Hl Hls Hsems HO]
  · iapply (part4 d L l ql hO)
    isplitr; · iexact Hlv
    isplitl [Hl]; · iexact Hl
    isplitl [Hls]; · iexact Hls
    isplitl [Hsems] <;> iassumption
  iintro %r ⟨%hr, Hl, Hls, Hsems, HO⟩
  subst hr
  rw [wp_bind]
  iapply (wp_wand frame (wpE (defs₀ (F := F)) 𝒱₀ (thr d L) none) Set.univ) $$ [Hm Hms Hr Hv Hsems Ho HO]
  · iapply (part5 d L vv nl qv qm hO (p0W L))
    isplitr; · iexact Hlv
    isplitl [Hm]; · iexact Hm
    isplitl [Hms]; · iexact Hms
    isplitl [Hr Hv Hsems]
    · isplitl [Hr]; · iexact Hr
      isplitl [Hv] <;> iassumption
    isplitl [Ho] <;> iassumption
  iintro %_ ⟨Hm, Hms, Hinv, Hback⟩
  rw [wp_bind]
  iapply (wp_wand frame (wpE (defs₀ (F := F)) 𝒱₀ (thr d L) none) Set.univ) $$ [Hinv]
  · iapply (part6 d L vv qv hO (p0W L)); iexact Hinv
  iintro %_ Hdr
  rw [wp_bind]
  iapply (wp_wand frame (wpE (defs₀ (F := F)) 𝒱₀ (thr d L) none) Set.univ) $$ [Hdr Hback Hn Hls Hms]
  · iapply (part7 d L vv nn l nl qv qn hO (b0W L) (p0W L))
    isplitl [Hdr]; · iexact Hdr
    isplitl [Hback]; · iexact Hback
    isplitl [Hn]; · iexact Hn
    isplitl [Hls] <;> iassumption
  iintro %r ⟨%hr, HR, ⟨Hr, Hv⟩, Hls, Hms⟩
  obtain ⟨v86, v88, w0, w0', h0, e1, e2⟩ := r
  obtain ⟨hl, hnl, hw, hw'⟩ := hr
  rw [wp_bind]
  iapply (wp_wand frame (wpE (defs₀ (F := F)) 𝒱₀ (thr d L) none) Set.univ) $$ [HR]
  · iapply (part8 d vv nn qn hO (b0W L) (p0W L) w0 w0' hw hw' h0 e1 e2); iexact HR
  iintro %r HR
  rw [wp_bind]
  iapply (wp_wand frame (wpE (defs₀ (F := F)) 𝒱₀ (thr d L) none) Set.univ) $$ [HR]
  · iapply (part9 d vv nn qn hO (b0W L) (p0W L) w0 w0' v86 v88 hl hnl hw hw' h0); iexact HR
  iintro %r ⟨%hr, HR⟩
  obtain ⟨w1, w1', h1, e3, e4⟩ := r
  obtain ⟨hx1, hy1⟩ := hr
  rw [wp_bind]
  iapply (wp_wand frame (wpE (defs₀ (F := F)) 𝒱₀ (thr d L) none) Set.univ) $$ [HR]
  · iapply (part10 d vv nn qn hO (b0W L) (p0W L) w1 w1' hx1 hy1 h1 e3 e4); iexact HR
  iintro %r HR
  obtain ⟨e5, e6⟩ := r
  rw [wp_bind]
  iapply (wp_wand frame (wpE (defs₀ (F := F)) 𝒱₀ (thr d L) none) Set.univ) $$ [HR]
  · iapply (part11 d vv nn qn hO (b0W L) (p0W L) w1 w1' hx1 hy1 h1 e5 e6); iexact HR
  iintro %r HR
  obtain ⟨e7, e8⟩ := r
  rw [wp_bind]
  iapply (wp_wand frame (wpE (defs₀ (F := F)) 𝒱₀ (thr d L) none) Set.univ) $$ [HR]
  · iapply (part12 d vv nn qn hO (b0W L) (p0W L) w1 w1' v86 v88 hl hnl hx1 hy1 h1 e7 e8); iexact HR
  iintro %r ⟨%hr, HR⟩
  obtain ⟨w2, w2', h2, e9, e10, e11⟩ := r
  obtain ⟨hx2, hy2⟩ := hr
  rw [wp_bind]
  iapply (wp_wand frame (wpE (defs₀ (F := F)) 𝒱₀ (thr d L) none) Set.univ) $$ [HR]
  · iapply (part13 d vv nn qn hO (b0W L) (p0W L) w2 w2' hx2 hy2 h2 e9 e10 e11); iexact HR
  iintro %r HR
  rw [wp_bind]
  iapply (wp_wand frame (wpE (defs₀ (F := F)) 𝒱₀ (thr d L) none) Set.univ) $$ [HR]
  · iapply (part14 d vv nn qn hO (b0W L) (p0W L) w2 w2' v86 v88 hl hnl hx2 hy2 h2); iexact HR
  iintro %r ⟨%hr, HR⟩
  obtain ⟨w3, w3', h3, e12, e13⟩ := r
  obtain ⟨hx3, hy3⟩ := hr
  rw [wp_bind]
  iapply (wp_wand frame (wpE (defs₀ (F := F)) 𝒱₀ (thr d L) none) Set.univ) $$ [HR]
  · iapply (part15 d vv nn qn hO (b0W L) (p0W L) w3 w3' hx3 hy3 h3 e12 e13); iexact HR
  iintro %r HR
  rw [wp_bind]
  iapply (wp_wand frame (wpE (defs₀ (F := F)) 𝒱₀ (thr d L) none) Set.univ) $$ [HR]
  · iapply (part16 d vv nn qn hO (b0W L) (p0W L) w3 w3' v86 v88 hl hnl hx3 hy3 h3 r); iexact HR
  iintro %r ⟨%hr, HR⟩
  obtain ⟨w4, w4', h4⟩ := r
  obtain ⟨hx4, hy4⟩ := hr
  rw [wp_bind]
  iapply (wp_wand frame (wpE (defs₀ (F := F)) 𝒱₀ (thr d L) none) Set.univ) $$ [HR]
  · iapply (part17 d vv nn qn hO (b0W L) (p0W L) w4 w4' hx4 hy4 h4); iexact HR
  iintro %r HR
  obtain ⟨e14, e15⟩ := r
  rw [wp_bind]
  iapply (wp_wand frame (wpE (defs₀ (F := F)) 𝒱₀ (thr d L) none) Set.univ) $$ [HR]
  · iapply (part18 d vv nn qn hO (b0W L) (p0W L) w4 w4' hx4 hy4 h4 e14 e15); iexact HR
  iintro %r HR
  rw [wp_bind]
  iapply (wp_wand frame (wpE (defs₀ (F := F)) 𝒱₀ (thr d L) none) Set.univ) $$ [HR]
  · iapply (part19 d vv nn qn hO (b0W L) (p0W L) w4 w4' v86 v88 hl hnl hx4 hy4 h4 r); iexact HR
  iintro %r ⟨%hr, HR⟩
  obtain ⟨w5, w5', h5, e16, e17, e18⟩ := r
  obtain ⟨hx5, hy5⟩ := hr
  rw [wp_bind]
  iapply (wp_wand frame (wpE (defs₀ (F := F)) 𝒱₀ (thr d L) none) Set.univ) $$ [HR]
  · iapply (part20 d vv nn qn hO (b0W L) (p0W L) w5 w5' hx5 hy5 h5 e16 e17 e18); iexact HR
  iintro %r HR
  rw [wp_bind]
  iapply (wp_wand frame (wpE (defs₀ (F := F)) 𝒱₀ (thr d L) none) Set.univ) $$ [HR]
  · iapply (part21 d vv nn qn hO (b0W L) (p0W L) w5 w5' v86 v88 hl hnl hx5 hy5 h5 r); iexact HR
  iintro %r ⟨%hr, HR⟩
  obtain ⟨w6, w6', h6, e19⟩ := r
  obtain ⟨hx6, hy6⟩ := hr
  rw [wp_bind]
  iapply (wp_wand frame (wpE (defs₀ (F := F)) 𝒱₀ (thr d L) none) Set.univ) $$ [HR]
  · iapply (part22 d vv nn qn hO (b0W L) (p0W L) w6 w6' hx6 hy6 h6 e19); iexact HR
  iintro %r HR
  obtain ⟨e20, e21, e22⟩ := r
  rw [wp_bind]
  iapply (wp_wand frame (wpE (defs₀ (F := F)) 𝒱₀ (thr d L) none) Set.univ) $$ [HR]
  · iapply (part23 d vv nn qn hO (b0W L) (p0W L) w6 w6' v86 hl hx6 hy6 h6 e20 e21 e22); iexact HR
  iintro %w7 ⟨%hx7, HR⟩
  rw [wp_bind]
  iapply (wp_wand frame (wpE (defs₀ (F := F)) 𝒱₀ (thr d L) none) Set.univ) $$ [HR]
  · iapply (part24 d vv nn qn hO (b0W L) (p0W L) w7 v88 hnl hx7); iexact HR
  iintro %r ⟨%hy7, HR⟩
  obtain ⟨w7', h7, e23, e24, e25⟩ := r
  rw [wp_bind]
  iapply (wp_wand frame (wpE (defs₀ (F := F)) 𝒱₀ (thr d L) none) Set.univ) $$ [HR]
  · iapply (part25 d vv nn qn hO (b0W L) (p0W L) w7 w7' hx7 hy7 h7 e23 e24 e25); iexact HR
  iintro %r HR
  obtain ⟨e26, e27⟩ := r
  iapply (row d L vv nn l nl qn hO 7 6 hx7 hy7 rfl rfl rfl rfl) $$ HR; iintro HR
  iapply (row d L vv nn l nl qn hO 7 7 hx7 hy7 rfl rfl rfl rfl) $$ HR; iintro HR
  rw [wp_ret]; imodintro
  ihave HR := (row_elim d L vv nn l nl qn O W) $$ HR
  icases HR with ⟨-, HR⟩
  ihave HR := (st_elim d L vv nn l nl qn _) $$ HR
  icases HR with ⟨Ho, Hn, Hsems, HO⟩
  isplitl [Hl]; · iexact Hl
  isplitl [Hm]; · iexact Hm
  isplitl [Hn]; · iexact Hn
  isplitl [Ho]; · iexact Ho
  isplitl [Hr Hv Hsems]
  · isplitl [Hr]; · iexact Hr
    isplitl [Hv] <;> iassumption
  isplitl [Hls]; · iexact Hls
  isplitl [Hms] <;> iassumption

end Cert.Proof.KV

end
-- ==== Proof.Launch.lean ====
/-
  The SparseCore call as the launch sees it: what each tile is handed and gives back, and that its task does so.

  The four arrays the tiles read are dealt to the 32 tiles as 32 shares; the result is dealt as the 32 slabs that cover it.
-/
module

public import proofs.«01_k».proof.Proof.Task

@[expose] public section

noncomputable section

namespace Cert.Proof.KV

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Transfers

open Idealize.ShloMosaic.ValueIdx

variable {F : FTy → Type} [FloatOps F]

local notation "𝕄" => MT nD τ sig (HIx 1) (Elt F) ℕ UU ℕ

/-! ## The arrays -/

abbrev vLoc (d : Dev nD) : Loc nD τ sig := (SparseCore.T d).loc main_arg1
abbrev nLoc (d : Dev nD) : Loc nD τ sig := (SparseCore.T d).loc main_arg4
abbrev lLoc (d : Dev nD) : Loc nD τ sig := (SparseCore.T d).loc main_v1
abbrev mLoc (d : Dev nD) : Loc nD τ sig := (SparseCore.T d).loc main_v3
abbrev oLoc (d : Dev nD) : Loc nD τ sig := (SparseCore.T d).loc main_v4

/-- The read share of tile `L`. -/
abbrev tok (L : grid0.Coords) : PosShare TreeShare := shareTok fullShare 32 ⟨wid L, wid_lt L⟩

section Parts
variable (vv : S8x4096x8x128.Idx → Elt F .f32) (nn : S8x8x8x128.Idx → Elt F .f32) (l nl : S8.Idx → BitVec 32)
  (d : Dev nD) (L : grid0.Coords)

/-- What tile `L` reads. -/
def reads : sProp 𝕄 :=
  iprop((vLoc d ↦[Finset.univ]{tok L} vv) ∗ (nLoc d ↦[Finset.univ]{tok L} nn) ∗ (lLoc d ↦[Finset.univ]{tok L} l) ∗ (mLoc d ↦[Finset.univ]{tok L} nl))
/-- What tile `L` is handed, and what it gives back. -/
def goP : sProp 𝕄 := iprop(reads vv nn l nl d L ∗ ∃ f, oLoc d ↦[rows L 0 1024]{fullShare} f)
def tdP : sProp 𝕄 := iprop(reads vv nn l nl d L ∗ oLoc d ↦[rows L 0 1024]{fullShare} merge vv nn l nl)

instance reads_storable : BI.Storable (upEmb : UEmb _ 𝕄) (reads vv nn l nl d L) := by unfold reads; infer_instance
instance goP_storable : BI.Storable (upEmb : UEmb _ 𝕄) (goP vv nn l nl d L) := by unfold goP; infer_instance
instance tdP_storable : BI.Storable (upEmb : UEmb _ 𝕄) (tdP vv nn l nl d L) := by unfold tdP; infer_instance

theorem goP_elim : (goP vv nn l nl d L : sProp 𝕄) ⊢
    iprop((vPts d L vv (tok L) Finset.univ ∗ nPts d L nn (tok L) ∗ lPts d L l (tok L) ∗ mPts d L nl (tok L)) ∗ ∃ f, oPts d L (rows L 0 1024) f) := .rfl
theorem tdP_intro :
    iprop((vPts d L vv (tok L) Finset.univ ∗ nPts d L nn (tok L) ∗ lPts d L l (tok L) ∗ mPts d L nl (tok L)) ∗ oPts d L (rows L 0 1024) (merge vv nn l nl))
      ⊢ (tdP vv nn l nl d L : sProp 𝕄) := .rfl

/-- A tile's own buffers but the three it works in. -/
def otherBufs : sProp 𝕄 :=
  bigSep ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2))
    fun b => iprop(∃ f, ((d, b) : Loc nD τ sig) ↦{fullShare} f)

theorem ownBufs_split :
    (ownBufs (thr d L) : sProp 𝕄)
      = iprop((∃ f, ringPts d L Finset.univ f) ∗ (∃ f, lsPts d L f) ∗ (∃ f, msPts d L f) ∗ otherBufs d L) := by
  have own (b : Ref sig .scVector) (h : ((Proc.scVector (cV L) (jV L)).devRef b).owner = .proc (.scVector (cV L) (jV L))) :
      (Proc.scVector (cV L) (jV L)).devRef b ∈ ownRefs (τ := τ) (.scVector (cV L) (jV L)) :=
    SparseCore.Cfg.mem_ownRefs_of_owner (p := Proc.scVector (cV L) (jV L)) h
  have ne {a b : Ref sig .scVector} (h : a ≠ b) : (Proc.scVector (cV L) (jV L)).devRef a ≠ (Proc.scVector (cV L) (jV L)).devRef b :=
    fun e => h (Proc.devRef_injective _ e)
  unfold ownBufs otherBufs
  refine (SparseCore.bigSep_erase' (own cc0_scratch0 rfl)).trans ?_
  rw [SparseCore.bigSep_erase' (Finset.mem_erase.mpr ⟨ne (by decide), own cc0_scratch1 rfl⟩),
    SparseCore.bigSep_erase' (Finset.mem_erase.mpr ⟨ne (by decide), Finset.mem_erase.mpr ⟨ne (by decide), own cc0_scratch2 rfl⟩⟩)]
  rfl

theorem OW_intro {O : CellTallies nD τ sig (HIx 1)} {W : Waits sig (HIx 1)} : (owes (thr d L) O W : sProp 𝕄) ⊢ OW d L O W := by
  unfold OW
  iintro H
  iexists W; isplitr
  · ipureintro; exact fun p hp => Or.inl hp
  iexact H

/-- The tile's task as the launch asks for it. -/
theorem tile_body (O : CellTallies nD τ sig (HIx 1)) (W : Waits sig (HIx 1)) (hO : ∀ g, O g none = 0) :
    iprop(levAts (K (F := F)).L (K (F := F)).lev ∗ emp ∗ goP vv nn l nl d L ∗ scopedBufs (thr d L) ∗ scopedSems0 (thr d L) ∗ owes (thr d L) O W)
      ⊢ wp frame (wpE (defs₀ (F := F)) 𝒱₀ (thr d L) none) Set.univ (tileProg (F := F) L) fun _ =>
        iprop(tdP vv nn l nl d L ∗ scopedBufs (thr d L) ∗ scopedSems0 (thr d L) ∗ ∃ W', ⌜∀ p ∈ W', p ∈ W ∨ p.2 = none⌝ ∗ owes (thr d L) O W') := by
  rw [(K (F := F)).scopedBufs_V facts d (cV L) (jV L), SparseCore.Cfg.scopedSems0_V (Val := Elt F) d (cV L) (jV L), ownBufs_split]
  iintro ⟨#Hlv, -, Hgo, ⟨Hr, Hls, Hms, Hbufs⟩, Hsems, HO⟩
  ihave Hgo := (goP_elim vv nn l nl d L) $$ Hgo
  icases Hgo with ⟨⟨Hv, Hn, Hl, Hm⟩, Ho⟩
  ihave HO := (OW_intro d L) $$ HO
  iapply (wp_wand frame (wpE (defs₀ (F := F)) 𝒱₀ (thr d L) none) Set.univ) $$ [Hv Hn Hl Hm Ho Hr Hls Hms Hsems HO]
  · iapply (task d L vv nn l nl (tok L) (tok L) (tok L) (tok L) hO)
    isplitr; · iexact Hlv
    isplitl [Hl]; · iexact Hl
    isplitl [Hm]; · iexact Hm
    isplitl [Hn]; · iexact Hn
    isplitl [Ho]; · iexact Ho
    isplitl [Hr Hv Hsems]
    · isplitl [Hr]; · iexact Hr
      isplitl [Hv] <;> iassumption
    isplitl [Hls]; · iexact Hls
    isplitl [Hms] <;> iassumption
  iintro %_ ⟨Hl, Hm, Hn, Ho, ⟨Hr, Hv, Hsems⟩, Hls, Hms, HO⟩
  isplitl [Hl Hm Hn Ho Hv]
  · iapply (tdP_intro vv nn l nl d L)
    isplitr [Ho]
    · isplitl [Hv]; · iexact Hv
      isplitl [Hn]; · iexact Hn
      isplitl [Hl] <;> iassumption
    iexact Ho
  isplitl [Hr Hls Hms Hbufs]
  · isplitl [Hr]; · iexact Hr
    isplitl [Hls]; · iexact Hls
    isplitl [Hms] <;> iassumption
  isplitl [Hsems]; · iexact Hsems
  iapply (OW_elim d L); iexact HO

end Parts

/-! ## The call's payloads and obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 () = SparseCore.onTile hcore0 hsub0 (fun c s => tileProg (F := F) (coordsV c s)) ⟨⟩ c s := rfl

variable (m : (ℓ : Loc nD τ sig) → Buf (Elt F) ℓ)

/-- The cache's values, the new values, and the two tables, as the launch memory holds them. -/
abbrev valsAt (d : Dev nD) : S8x4096x8x128.Idx → Elt F .f32 := m (vLoc d)
abbrev newAt (d : Dev nD) : S8x8x8x128.Idx → Elt F .f32 := m (nLoc d)
abbrev lenAt (d : Dev nD) : S8.Idx → BitVec 32 := m ((SparseCore.T d).loc main_arg2)
abbrev nlenAt (d : Dev nD) : S8.Idx → BitVec 32 := m ((SparseCore.T d).loc main_arg5)

abbrev goAt (d : Dev nD) (c : Fin (grid0.bound 0)) (i : Fin (grid0.bound 1)) : sProp 𝕄 :=
  goP (valsAt m d) (newAt m d) (lenAt m d) (nlenAt m d) d (coordsV c i)
abbrev tdAt (d : Dev nD) (c : Fin (grid0.bound 0)) (i : Fin (grid0.bound 1)) : sProp 𝕄 :=
  tdP (valsAt m d) (newAt m d) (lenAt m d) (nlenAt m d) d (coordsV c i)

def P : (K (F := F)).Pay (nD := nD) (Val := Elt F) (Name := ℕ) (U := UU) where
  st := fun q d c => match q with | 0 => bigSep Finset.univ fun i : Fin 16 => goAt m d c i
  dn := fun q d c => match q with | 0 => bigSep Finset.univ fun i : Fin 16 => tdAt m d c i
  go := fun q d c i => match q with | 0 => goAt m d c i
  td := fun q d c i => match q with | 0 => tdAt m d c i
  x := fun _ _ => iprop(emp)

instance P_storable : (P (F := F) m).IsStorable where
  st q d c := match q with
    | 0 => haveI : ∀ i : Fin 16, BI.Storable (upEmb : UEmb _ 𝕄) (goAt m d c i) := fun i => goP_storable _ _ _ _ d _
      BI.Storable.bigSep (upEmb : UEmb _ 𝕄) Finset.univ fun i : Fin 16 => (goAt m d c i : sProp 𝕄)
  dn q d c := match q with
    | 0 => haveI : ∀ i : Fin 16, BI.Storable (upEmb : UEmb _ 𝕄) (tdAt m d c i) := fun i => tdP_storable _ _ _ _ d _
      BI.Storable.bigSep (upEmb : UEmb _ 𝕄) Finset.univ fun i : Fin 16 => (tdAt m d c i : sProp 𝕄)
  go q d c i := match q with | 0 => (inferInstance : BI.Storable (upEmb : UEmb _ 𝕄) (goAt m d c i))
  td q d c i := match q with | 0 => (inferInstance : BI.Storable (upEmb : UEmb _ 𝕄) (tdAt m d c i))

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body (valsAt m d) (newAt m d) (lenAt m d) (nlenAt m d) d (coordsV ⟨_, hc.1⟩ ⟨_, hc.2⟩) O W hO).trans (wp_mono frame _ _ fun _ => obl_post)

theorem vecSplit : (K (F := F)).VecSplit' (P m) 0 := by
  intro d c
  show (bigSep Finset.univ fun i : Fin 16 => goAt m d c i) ⊢ |={Set.univ}=> iprop((bigSep Finset.univ fun i : Fin 16 => goAt m d c i)
    ∗ ((bigSep Finset.univ fun i : Fin 16 => tdAt m d c i) -∗ bigSep Finset.univ fun i : Fin 16 => tdAt m d c i))
  iintro H; imodintro
  isplitl [H]; · iexact H
  iintro H; iexact H

/-! ## The arrays dealt to the tiles -/

/-- The tiles by number. -/
theorem wid_bij : Function.Bijective fun p : Fin 2 × Fin 16 => (⟨wid (coordsV p.1 p.2), wid_lt _⟩ : Fin 32) := by decide +kernel

omit [FloatOps F] in
theorem bigSep_tiles (Φ : Fin 32 → sProp 𝕄) :
    bigSep Finset.univ Φ = bigSep Finset.univ fun p : Fin 2 × Fin 16 => Φ ⟨wid (coordsV p.1 p.2), wid_lt _⟩ :=
  bigSep_univ_equiv (Equiv.ofBijective _ wid_bij) Φ

omit [FloatOps F] in
/-- A whole array as the tiles' shares of it and what is left. -/
theorem deal {ℓ : Loc nD τ sig} (f : Buf (Elt F) ℓ) :
    (ℓ ↦{fullShare} f : sProp 𝕄) ⊣⊢ iprop((ℓ ↦[Finset.univ]{shareDrop fullShare 32} f)
      ∗ bigSep Finset.univ fun p : Fin 2 × Fin 16 => ℓ ↦[Finset.univ]{tok (coordsV p.1 p.2)} f) := by
  rw [← bigSep_tiles fun i => (ℓ ↦[Finset.univ]{shareTok fullShare 32 i} f : sProp 𝕄)]
  exact pointsTo_toks fullShare 32

theorem slabs_disjoint : ∀ p ∈ (Finset.univ : Finset (Fin 2 × Fin 16)), ∀ p' ∈ (Finset.univ : Finset (Fin 2 × Fin 16)), p ≠ p' →
    Disjoint (rows (coordsV p.1 p.2) 0 1024) (rows (coordsV p'.1 p'.2) 0 1024) := by
  intro p _ p' _ h
  refine Finset.disjoint_left.mpr fun i h1 h2 => h (wid_bij.1 (Fin.ext ?_))
  have h1 := mem_rows.mp h1; have h2 := mem_rows.mp h2
  have := wid_lt (coordsV p.1 p.2); have := wid_lt (coordsV p'.1 p'.2)
  unfold b0 p0 at h1 h2
  show wid (coordsV p.1 p.2) = wid (coordsV p'.1 p'.2)
  omega

theorem slabs_cover : (Finset.univ : Finset (Fin 2 × Fin 16)).biUnion (fun p => rows (coordsV p.1 p.2) 0 1024) = Finset.univ := by
  refine Finset.eq_univ_iff_forall.mpr fun i => Finset.mem_biUnion.mpr ?_
  have h0 : (i 0).val < 8 := (i 0).isLt
  have h1 : (i 1).val < 4096 := (i 1).isLt
  obtain ⟨p, hp⟩ := wid_bij.2 ⟨4 * (i 0).val + (i 1).val / 1024, by omega⟩
  have hw : wid (coordsV p.1 p.2) = 4 * (i 0).val + (i 1).val / 1024 := Fin.ext_iff.mp hp
  refine ⟨p, Finset.mem_univ p, mem_rows.mpr ?_⟩
  unfold b0 p0; rw [hw]; omega

omit [FloatOps F] in
theorem slabs (d : Dev nD) (f : Buf (Elt F) (oLoc d)) :
    (oLoc d ↦{fullShare} f : sProp 𝕄) = bigSep Finset.univ fun p : Fin 2 × Fin 16 => oLoc d ↦[rows (coordsV p.1 p.2) 0 1024]{fullShare} f := by
  refine (congrArg (fun I : Finset S8x4096x8x128.Idx => (oLoc d ↦[I]{fullShare} f : sProp 𝕄)) slabs_cover.symm).trans ?_
  exact pointsTo_biUnion Finset.univ (ℓ := oLoc d) (fun p : Fin 2 × Fin 16 => rows (coordsV p.1 p.2) 0 1024) slabs_disjoint

section Call
variable (vv : S8x4096x8x128.Idx → Elt F .f32) (nn : S8x8x8x128.Idx → Elt F .f32) (l nl : S8.Idx → BitVec 32) (d : Dev nD)

/-- What the tiles leave of the arrays they read. -/
def kept : sProp 𝕄 := iprop((vLoc d ↦[Finset.univ]{shareDrop fullShare 32} vv) ∗ (nLoc d ↦[Finset.univ]{shareDrop fullShare 32} nn)
  ∗ (lLoc d ↦[Finset.univ]{shareDrop fullShare 32} l) ∗ (mLoc d ↦[Finset.univ]{shareDrop fullShare 32} nl))

omit [FloatOps F] in
theorem reads_deal : iprop((vLoc d ↦{fullShare} vv) ∗ (nLoc d ↦{fullShare} nn) ∗ (lLoc d ↦{fullShare} l) ∗ (mLoc d ↦{fullShare} nl))
    ⊣⊢ (iprop(kept vv nn l nl d ∗ bigSep Finset.univ fun p : Fin 2 × Fin 16 => reads vv nn l nl d (coordsV p.1 p.2)) : sProp 𝕄) := by
  unfold reads kept
  rw [bigSep_sep', bigSep_sep', bigSep_sep']
  constructor
  · iintro ⟨Hv, Hn, Hl, Hm⟩
    ihave Hv := (deal vv).1 $$ Hv; icases Hv with ⟨Hv, Tv⟩
    ihave Hn := (deal nn).1 $$ Hn; icases Hn with ⟨Hn, Tn⟩
    ihave Hl := (deal l).1 $$ Hl; icases Hl with ⟨Hl, Tl⟩
    ihave Hm := (deal nl).1 $$ Hm; icases Hm with ⟨Hm, Tm⟩
    isplitr [Tv Tn Tl Tm]
    · isplitl [Hv]; · iexact Hv
      isplitl [Hn]; · iexact Hn
      isplitl [Hl] <;> iassumption
    isplitl [Tv]; · iexact Tv
    isplitl [Tn]; · iexact Tn
    isplitl [Tl] <;> iassumption
  · iintro ⟨⟨Hv, Hn, Hl, Hm⟩, Tv, Tn, Tl, Tm⟩
    isplitl [Hv Tv]
    · iapply (deal vv).2; isplitl [Hv] <;> iassumption
    isplitl [Hn Tn]
    · iapply (deal nn).2; isplitl [Hn] <;> iassumption
    isplitl [Hl Tl]
    · iapply (deal l).2; isplitl [Hl] <;> iassumption
    iapply (deal nl).2; isplitl [Hm] <;> iassumption

omit [FloatOps F] in
theorem out_ex (f : Buf (Elt F) (oLoc d)) : (oLoc d ↦{fullShare} f : sProp 𝕄)
    ⊢ bigSep Finset.univ fun p : Fin 2 × Fin 16 => iprop(∃ f, oLoc d ↦[rows (coordsV p.1 p.2) 0 1024]{fullShare} f) := by
  rw [slabs]
  exact bigSep_mono fun p _ => exists_intro (Φ := fun f => (oLoc d ↦[rows (coordsV p.1 p.2) 0 1024]{fullShare} f : sProp 𝕄)) f

omit [FloatOps F] in
/-- The arrays before the call are what the tiles are handed and what is kept; -/
theorem call_in (f : Buf (Elt F) (oLoc d)) :
    iprop(((vLoc d ↦{fullShare} vv) ∗ (nLoc d ↦{fullShare} nn) ∗ (lLoc d ↦{fullShare} l) ∗ (mLoc d ↦{fullShare} nl)) ∗ oLoc d ↦{fullShare} f)
      ⊢ (iprop((bigSep Finset.univ fun c : Fin 2 => bigSep Finset.univ fun i : Fin 16 => goP vv nn l nl d (coordsV c i)) ∗ kept vv nn l nl d) : sProp 𝕄) := by
  rw [← bigSep_univ_prod fun p : Fin 2 × Fin 16 => (goP vv nn l nl d (coordsV p.1 p.2) : sProp 𝕄)]
  unfold goP
  rw [bigSep_sep']
  iintro ⟨Hr, Ho⟩
  ihave Hr := (reads_deal vv nn l nl d).1 $$ Hr
  icases Hr with ⟨Hk, Hr⟩
  isplitr [Hk]
  · isplitl [Hr]; · iexact Hr
    iapply (out_ex d f); iexact Ho
  iexact Hk

omit [FloatOps F] in
/-- what the tiles give back and what was kept are the arrays after it, the result merged. -/
theorem call_out :
    (iprop((bigSep Finset.univ fun c : Fin 2 => bigSep Finset.univ fun i : Fin 16 => tdP vv nn l nl d (coordsV c i)) ∗ kept vv nn l nl d) : sProp 𝕄)
      ⊢ iprop(((vLoc d ↦{fullShare} vv) ∗ (nLoc d ↦{fullShare} nn) ∗ (lLoc d ↦{fullShare} l) ∗ (mLoc d ↦{fullShare} nl)) ∗ oLoc d ↦{fullShare} merge vv nn l nl) := by
  rw [← bigSep_univ_prod fun p : Fin 2 × Fin 16 => (tdP vv nn l nl d (coordsV p.1 p.2) : sProp 𝕄)]
  unfold tdP
  rw [bigSep_sep', slabs d (merge vv nn l nl)]
  iintro ⟨⟨Hr, Ho⟩, Hk⟩
  isplitr [Ho]
  · iapply (reads_deal vv nn l nl d).2
    isplitl [Hk] <;> iassumption
  iexact Ho

end Call

end Cert.Proof.KV

end
-- ==== Proof.Block.lean ====
/-
  One grid point of the TensorCore kernel: a block of 1024 positions of one batch is copied, and the new rows that
  fall inside the block are written over it. `blockUpTo n` is the block after the first `n` new rows of the batch.
-/
module

public import proofs.«01_k».proof.Proof.Site

@[expose] public section

noncomputable section

namespace Cert.Proof.KV

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

open Idealize.ShloMosaic.ValueIdx

variable {F : FTy → Type} [FloatOps F]

local notation "𝕄" => MT nD τ sig (HIx 1) (Elt F) ℕ UU ℕ

/-! ## The block as a function -/

/-- The block `X` of the positions from `p`, after the first `n` new rows `Y` of the batch. -/
def blockUpTo {α : Type} (n : Nat) (X : S1x1024x8x128.Idx → α) (Y : S1x8x8x128.Idx → α) (l nl : BitVec 32) (p : Nat) :
    S1x1024x8x128.Idx → α := fun i =>
  if rowOf l (p + (i 1).val) < n ∧ (rowOf l (p + (i 1).val) : Int) < nl.toInt then
    Y (ix4 (n0 := 1) (n1 := 8) (n2 := 8) (n3 := 128) 0 (Fin.ofNat 8 (rowOf l (p + (i 1).val))) (i 2) (i 3))
  else X i

theorem blockUpTo_zero {α : Type} (X : S1x1024x8x128.Idx → α) (Y : S1x8x8x128.Idx → α) (l nl : BitVec 32) (p : Nat) :
    blockUpTo 0 X Y l nl p = X := by
  funext i
  unfold blockUpTo
  rw [if_neg fun h => Nat.not_lt_zero _ h.1]

theorem blockUpTo_succ_of_ne {α : Type} (X : S1x1024x8x128.Idx → α) (Y : S1x8x8x128.Idx → α) {l nl : BitVec 32} {p q : Nat}
    (hp : p ≤ 3072) (hq : q < 8) (i : S1x1024x8x128.Idx)
    (h : ¬ ((q : Int) < nl.toInt ∧ (l + BitVec.ofNat 32 q).toNat = p + (i 1).val)) :
    blockUpTo (q + 1) X Y l nl p i = blockUpTo q X Y l nl p i := by
  have hi : (i 1).val < 1024 := (i 1).isLt
  have key : (rowOf l (p + (i 1).val) < q + 1 ∧ (rowOf l (p + (i 1).val) : Int) < nl.toInt)
      ↔ (rowOf l (p + (i 1).val) < q ∧ (rowOf l (p + (i 1).val) : Int) < nl.toInt) := by
    constructor
    · rintro ⟨h1, h2⟩
      refine ⟨?_, h2⟩
      by_contra h3
      have hr : rowOf l (p + (i 1).val) = q := by omega
      rw [hr] at h2
      exact h ⟨h2, (rowOf_eq_iff (by omega) hq).mp hr⟩
    · rintro ⟨h1, h2⟩; exact ⟨by omega, h2⟩
  unfold blockUpTo
  simp only [key]

theorem blockUpTo_succ_of_eq {α : Type} (X : S1x1024x8x128.Idx → α) (Y : S1x8x8x128.Idx → α) {l nl : BitVec 32} {p : Nat}
    {q : Fin 8} (hp : p ≤ 3072) (i : S1x1024x8x128.Idx) (hn : (q.val : Int) < nl.toInt)
    (h : (l + BitVec.ofNat 32 q.val).toNat = p + (i 1).val) :
    blockUpTo (q.val + 1) X Y l nl p i = Y (ix4 (n0 := 1) (n2 := 8) (n3 := 128) 0 q (i 2) (i 3)) := by
  have hi : (i 1).val < 1024 := (i 1).isLt
  have hr : rowOf l (p + (i 1).val) = q.val := (rowOf_eq_iff (by omega) q.isLt).mpr h
  unfold blockUpTo
  rw [if_pos ⟨by omega, by rw [hr]; exact hn⟩, hr]
  congr 2
  exact Fin.ext (Nat.mod_eq_of_lt q.isLt)

/-! ## When a row is in the block -/

/-- The block's first position, as a number and as the word the kernel computes. -/
def bp (i : grid1.Coords) : Nat := (i 1).val * 1024
def bpW (i : grid1.Coords) : BitVec 32 := Scalar.muli (BitVec.ofNat 32 (i 1).val) 1024#32

theorem bp_le (i : grid1.Coords) : bp i ≤ 3072 := by
  have : (i 1).val < 4 := (i 1).isLt
  unfold bp; omega
theorem bpW_toNat (i : grid1.Coords) : (bpW i).toNat = bp i := by
  have : (i 1).val < 4 := (i 1).isLt
  show (BitVec.ofNat 32 (i 1).val * 1024#32).toNat = _
  rw [BitVec.toNat_mul, BitVec.toNat_ofNat, BitVec.toNat_ofNat]; unfold bp; omega

/-- The kernel's test for row `q`. -/
def blkCond (i : grid1.Coords) (q l nl : BitVec 32) : BitVec 1 :=
  Scalar.cmpi .ne (Scalar.extui (Scalar.andi (Scalar.andi (Scalar.cmpi .sgt nl q)
    (Scalar.cmpi .sge (Scalar.addi l q) (bpW i))) (Scalar.cmpi .slt (Scalar.addi l q) (Scalar.addi (bpW i) 1024#32)))) (0#32 : BitVec 32)

theorem blkCond_iff (i : grid1.Coords) {q : Nat} (hq : q < 8) (l nl : BitVec 32) :
    blkCond i (BitVec.ofNat 32 q) l nl = 1#1 ↔
      (q : Int) < nl.toInt ∧ bp i ≤ (l + BitVec.ofNat 32 q).toNat ∧ (l + BitVec.ofNat 32 q).toNat < bp i + 1024 := by
  have h1 := bp_le i
  have e1 : (BitVec.ofNat 32 q).toInt = q := by
    rw [BitVec.toInt_eq_toNat_cond, BitVec.toNat_ofNat]; split <;> omega
  have e2 : (bpW i).toInt = bp i := by
    rw [BitVec.toInt_eq_toNat_cond, bpW_toNat]; split <;> omega
  have e3 : (bpW i + 1024#32).toInt = bp i + 1024 := by
    rw [BitVec.toInt_eq_toNat_cond, BitVec.toNat_add, bpW_toNat, BitVec.toNat_ofNat]; split <;> omega
  have a2 : Scalar.cmpi .sgt nl (BitVec.ofNat 32 q) = 1#1 ↔ (q : Int) < nl.toInt := by
    refine (ofBool_iff _).trans ?_
    show BitVec.slt _ _ = true ↔ _
    rw [BitVec.slt_iff_toInt_lt, e1]
  have a3 : Scalar.cmpi .sge (Scalar.addi l (BitVec.ofNat 32 q)) (bpW i) = 1#1 ↔ (bp i : Int) ≤ (l + BitVec.ofNat 32 q).toInt := by
    refine (ofBool_iff _).trans ?_
    show BitVec.sle _ _ = true ↔ _
    rw [BitVec.sle_iff_toInt_le, e2]; exact Iff.rfl
  have a4 : Scalar.cmpi .slt (Scalar.addi l (BitVec.ofNat 32 q)) (Scalar.addi (bpW i) 1024#32) = 1#1
      ↔ (l + BitVec.ofNat 32 q).toInt < bp i + 1024 := by
    refine (ofBool_iff _).trans ?_
    show BitVec.slt _ (bpW i + 1024#32) = true ↔ _
    rw [BitVec.slt_iff_toInt_lt, e3]; exact Iff.rfl
  unfold blkCond
  rw [ne_extui_iff, andi_iff, andi_iff, a2, a3, a4, BitVec.toInt_eq_toNat_cond (l + _)]
  have := (l + BitVec.ofNat 32 q).isLt
  split <;> omega

/-- Where the kernel puts row `q` in the block. -/
def blkOff (i : grid1.Coords) (q l : BitVec 32) : Fin 4 → Nat := ![0, (Scalar.subi (Scalar.addi l q) (bpW i)).toNat, 0, 0]

theorem blkOff_val {i : grid1.Coords} {q : Nat} (hq : q < 8) {l nl : BitVec 32} (h : blkCond i (BitVec.ofNat 32 q) l nl = 1#1) :
    (Scalar.subi (Scalar.addi l (BitVec.ofNat 32 q)) (bpW i)).toNat + bp i = (l + BitVec.ofNat 32 q).toNat := by
  obtain ⟨-, h1, h2⟩ := (blkCond_iff i hq l nl).mp h
  have := bp_le i
  show (l + BitVec.ofNat 32 q - bpW i).toNat + _ = _
  rw [BitVec.toNat_sub, bpW_toNat]
  have := (l + BitVec.ofNat 32 q).isLt
  omega

abbrev BlkIn (off : Fin 4 → Nat) : Prop := ∀ a, off a + S1x1x8x128.size a ≤ S1x1024x8x128.size a
abbrev NewBlkIn (off : Fin 4 → Nat) : Prop := ∀ a, off a + S1x1x8x128.size a ≤ S1x8x8x128.size a

theorem blk_in {i : grid1.Coords} (q : Fin 8) {l nl : BitVec 32} (h : blkCond i (BitVec.ofNat 32 q.val) l nl = 1#1) :
    BlkIn (blkOff i (BitVec.ofNat 32 q.val) l) := by
  obtain ⟨-, h1, h2⟩ := (blkCond_iff i q.isLt l nl).mp h
  have := blkOff_val q.isLt h
  intro x; fin_cases x
  · show 0 + 1 ≤ 1; omega
  · show (Scalar.subi (Scalar.addi l (BitVec.ofNat 32 q.val)) (bpW i)).toNat + 1 ≤ 1024; omega
  · show 0 + 8 ≤ 8; omega
  · show 0 + 128 ≤ 128; omega

/-! ## Loads and stores of an owned memref -/

variable (d : Dev nD)

local notation "WP" => wp frame (wpE (defs₀ (F := F)) 𝒱₀ (SparseCore.T d) none) Set.univ

section
variable {α : Type} {Q : α → sProp (MT nD τ sig (HIx 1) (Elt F) ℕ UU ℕ)} {cs : CoreSpace} {s : Shape} {e : EltTy}

theorem wp_load_owns {m : Memref sig (SparseCore.T d : Thread nD τ).2.kind cs s e} {X : s.Idx → Elt F e} {r : LoadRect s} {hl : m.view.LoadsAt r}
    {k : (r.shape.Idx → Elt F e) → Prog (TpuEff nD τ sig (Elt F) Λ₀ (SparseCore.T d : Thread nD τ).2) α} :
    (owns (SparseCore.T d) m fullShare X : sProp 𝕄)
      ⊢ iprop((owns (SparseCore.T d) m fullShare X -∗ WP (k fun x => X (r.idx x)) Q) -∗ WP (.op (.load m r hl) k) Q) := by
  unfold owns
  iintro ⟨%f, %hf, H⟩ Hk
  subst hf
  iapply (wp_load 𝒱₀ (SparseCore.T d) none Set.univ (m := m) (r := r) (hl := hl) (Finset.map_subset_map.mpr (Finset.subset_univ _))) $$ [H]
  · iexact H
  iintro H
  iapply Hk
  iexists f
  isplitr; · ipureintro; rfl
  iexact H

theorem wp_store_owns {m : Memref sig (SparseCore.T d : Thread nD τ).2.kind cs s e} {X : s.Idx → Elt F e} {r : Rect s} {w : r.shape.Idx → Elt F e}
    {hx : (m.access r).Stores Finset.univ} {hm : Finset.univ = Finset.univ ∨ ∀ a, r.stride a = 1} (X' : s.Idx → Elt F e)
    (h : ∀ x, X' (r.emb x) = w x) (h' : ∀ y, y ∉ r.set → X' y = X y)
    {k : PUnit → Prog (TpuEff nD τ sig (Elt F) Λ₀ (SparseCore.T d : Thread nD τ).2) α} :
    (owns (SparseCore.T d) m fullShare X : sProp 𝕄)
      ⊢ iprop((owns (SparseCore.T d) m fullShare X' -∗ WP (k ⟨⟩) Q) -∗ WP (.op (.store m r w Finset.univ hx hm) k) Q) := by
  unfold owns
  iintro ⟨%f, %hf, H⟩ Hk
  subst hf
  have hS : (m.access r).setOn Finset.univ ⊆ m.view.set := by rw [View.setOn_univ]; exact m.view.set_slice_subset r
  iapply (wp_store 𝒱₀ (SparseCore.T d) none Set.univ (m := m) (r := r) (w := w) (hx := hx) (hm := hm) (S := m.view.set) (f := f) hS) $$ [H]
  · iexact H
  iintro H
  iapply Hk
  iexists ((m.access r).write (Elt F) f w Finset.univ)
  isplitr
  · ipureintro
    funext y
    by_cases hy : y ∈ r.set
    · obtain ⟨x, rfl⟩ := r.exists_idx_of_mem hy
      exact (View.read_slice_write_emb r f w (Finset.mem_univ x)).trans (h x).symm
    · rw [h' y hy]
      exact View.read_slice_write_of_not_mem r f w Finset.univ (by rw [Rect.map_emb_univ]; exact hy)
  iexact H

/-- A load from a scalar memory of one word. -/
theorem wp_smem_owns {m : Memref sig (SparseCore.T d : Thread nD τ).2.kind .smem s e} {X : s.Idx → Elt F e} {r : Rect s}
    {hw : (m.access r).Loads} {x : r.shape.Idx} {k : Elt F e → Prog (TpuEff nD τ sig (Elt F) Λ₀ (SparseCore.T d : Thread nD τ).2) α} :
    (owns (SparseCore.T d) m fullShare X : sProp 𝕄)
      ⊢ iprop((owns (SparseCore.T d) m fullShare X -∗ WP (k (X (r.emb x))) Q) -∗ WP (smemLoadElt m r hw x k) Q) := by
  unfold owns
  iintro ⟨%f, %hf, H⟩ Hk
  subst hf
  iapply (wp_smemLoadElt 𝒱₀ (SparseCore.T d) none Set.univ (m := m) (r := r) (hw := hw) (x := x) (m.view.set_slice_subset r)) $$ [H]
  · iexact H
  iintro H
  iapply Hk
  iexists f
  isplitr; · ipureintro; rfl
  iexact H

end

/-! ## One row of the block -/

/-- The new rows of the batch, and the block after the first `n` of them. -/
def Blk (m5 : Memref sig .tc .vmem S1x8x8x128 .f32) (m6 : Memref sig .tc .vmem S1x1024x8x128 .f32)
    (X : S1x1024x8x128.Idx → Elt F .f32) (Y : S1x8x8x128.Idx → Elt F .f32) (l nl : BitVec 32) (p n : Nat) : sProp 𝕄 :=
  iprop(owns (SparseCore.T d) m5 fullShare Y ∗ owns (SparseCore.T d) m6 fullShare (blockUpTo n X Y l nl p))

section
variable {α : Type} {Q : α → sProp (MT nD τ sig (HIx 1) (Elt F) ℕ UU ℕ)}
variable {m5 : Memref sig .tc .vmem S1x8x8x128 .f32} {m6 : Memref sig .tc .vmem S1x1024x8x128 .f32}
    {X : S1x1024x8x128.Idx → Elt F .f32} {Y : S1x8x8x128.Idx → Elt F .f32}

omit [FloatOps F] in
theorem blk_elim {l nl : BitVec 32} {p n : Nat} : (Blk d m5 m6 X Y l nl p n : sProp 𝕄)
    ⊢ iprop(owns (SparseCore.T d) m5 fullShare Y ∗ owns (SparseCore.T d) m6 fullShare (blockUpTo n X Y l nl p)) := .rfl
omit [FloatOps F] in
theorem blk_intro {l nl : BitVec 32} {p n : Nat} :
    iprop(owns (SparseCore.T d) m5 fullShare Y ∗ owns (SparseCore.T d) m6 fullShare (blockUpTo n X Y l nl p))
      ⊢ (Blk d m5 m6 X Y l nl p n : sProp 𝕄) := .rfl

omit [FloatOps F] in
/-- Before the first row the block is the copy. -/
theorem blk_start {l nl : BitVec 32} {p : Nat} :
    iprop(owns (SparseCore.T d) m5 fullShare Y ∗ owns (SparseCore.T d) m6 fullShare X)
      ⊢ (Blk d m5 m6 X Y l nl p 0 : sProp 𝕄) := by
  unfold Blk; rw [blockUpTo_zero]

/-- Row `q` of the batch: after it the block has one row more. -/
theorem blkRow (i : grid1.Coords) (q : Fin 8) {n : Nat} (en : n = q.val) {l nl : BitVec 32} {c : BitVec 1} {noff off : Fin 4 → Nat} {hn : NewBlkIn noff} {hr : c = 1#1 → BlkIn off}
    (hc : c = blkCond i (BitVec.ofNat 32 q.val) l nl) (hnoff : noff = ![0, q.val, 0, 0]) (hoff : off = blkOff i (BitVec.ofNat 32 q.val) l)
    {pay : Vec F S1x1x8x128 .f32 → FVec F S1x1x8x128 .f32} (hpay : ∀ v, pay v = v)
    {h5 : m5.view.LoadsAt (Rect.unit (s := S1x8x8x128) noff S1x1x8x128.size hn).toLoadRect}
    {h6 : ∀ h, m6.view.LoadsAt (Rect.unit (s := S1x1024x8x128) off S1x1x8x128.size (hr h)).toLoadRect}
    {h6' : ∀ h, (m6.access (Rect.unit (s := S1x1024x8x128) off S1x1x8x128.size (hr h))).Stores Finset.univ}
    {hm : ∀ h, Finset.univ = Finset.univ ∨ ∀ a, (Rect.unit (s := S1x1024x8x128) off S1x1x8x128.size (hr h)).stride a = 1}
    {k : Prog (TpuEff nD τ sig (Elt F) Λ₀ .tc) α} :
    Blk d m5 m6 X Y l nl (bp i) n
      ⊢ iprop((Blk d m5 m6 X Y l nl (bp i) (n + 1) -∗ WP k Q)
        -∗ WP (dite (c = 1#1)
            (fun h => .op (.load m5 (Rect.unit (s := S1x8x8x128) noff S1x1x8x128.size hn).toLoadRect h5) fun v =>
              .op (.load m6 (Rect.unit (s := S1x1024x8x128) off S1x1x8x128.size (hr h)).toLoadRect (h6 h)) fun _ =>
              .op (.store m6 (Rect.unit (s := S1x1024x8x128) off S1x1x8x128.size (hr h)) (pay v) Finset.univ (h6' h) (hm h)) fun _ => k)
            fun _ => k) Q) := by
  subst en hc hnoff hoff
  have hp := bp_le i
  by_cases h : blkCond i (BitVec.ofNat 32 q.val) l nl = 1#1
  · rw [dif_pos h]
    obtain ⟨hN, hlo, hhi⟩ := (blkCond_iff i q.isLt _ _).mp h
    have hv := blkOff_val q.isLt h
    have hin : ∀ x : S1x1x8x128.Idx, blockUpTo (q.val + 1) X Y l nl (bp i)
          ((Rect.unit (s := S1x1024x8x128) (blkOff i (BitVec.ofNat 32 q.val) l) S1x1x8x128.size (hr h)).emb x)
        = pay (fun x => Y ((Rect.unit (s := S1x8x8x128) ![0, q.val, 0, 0] S1x1x8x128.size hn).toLoadRect.idx x)) x := by
      intro x
      have x1 : (x 1).val < 1 := (x 1).isLt
      have x0 : (x 0).val < 1 := (x 0).isLt
      rw [hpay]
      refine (blockUpTo_succ_of_eq X Y hp _ hN ?_).trans ?_
      · show _ = bp i + ((Scalar.subi (Scalar.addi l (BitVec.ofNat 32 q.val)) (bpW i)).toNat + 1 * (x 1).val)
        omega
      · refine congrArg Y (funext fun a => Fin.ext ?_)
        fin_cases a
        · show 0 = 0 + 1 * (x 0).val; omega
        · show q.val = q.val + 1 * (x 1).val; omega
        · rfl
        · rfl
    have hout : ∀ y, y ∉ (Rect.unit (s := S1x1024x8x128) (blkOff i (BitVec.ofNat 32 q.val) l) S1x1x8x128.size (hr h)).set →
        blockUpTo (q.val + 1) X Y l nl (bp i) y = blockUpTo q.val X Y l nl (bp i) y := by
      intro y hy
      have h0 : (y 0).val < 1 := (y 0).isLt
      have h2 : (y 2).val < 8 := (y 2).isLt
      have h3 : (y 3).val < 128 := (y 3).isLt
      refine blockUpTo_succ_of_ne X Y hp q.isLt y ?_
      rintro ⟨-, e⟩
      refine hy (mem_unit4.mpr ?_)
      show (0 ≤ (y 0).val ∧ (y 0).val < 0 + 1)
        ∧ ((Scalar.subi (Scalar.addi l (BitVec.ofNat 32 q.val)) (bpW i)).toNat ≤ (y 1).val
          ∧ (y 1).val < (Scalar.subi (Scalar.addi l (BitVec.ofNat 32 q.val)) (bpW i)).toNat + 1)
        ∧ (0 ≤ (y 2).val ∧ (y 2).val < 0 + 8) ∧ (0 ≤ (y 3).val ∧ (y 3).val < 0 + 128)
      omega
    iintro HB Hk
    ihave HB := (blk_elim d) $$ HB
    icases HB with ⟨H5, H6⟩
    iapply (wp_load_owns d) $$ H5; iintro H5
    iapply (wp_load_owns d) $$ H6; iintro H6
    iapply (wp_store_owns d (blockUpTo (q.val + 1) X Y l nl (bp i)) hin hout) $$ H6; iintro H6
    iapply Hk
    iapply (blk_intro d)
    isplitl [H5] <;> iassumption
  · rw [dif_neg h]
    iintro HB Hk
    iapply Hk
    ihave HB := (blk_elim d) $$ HB
    icases HB with ⟨H5, H6⟩
    iapply (blk_intro d)
    isplitl [H5]; · iexact H5
    have e : blockUpTo (q.val + 1) X Y l nl (bp i) = blockUpTo q.val X Y l nl (bp i) := by
      funext y
      have h1 : (y 1).val < 1024 := (y 1).isLt
      refine blockUpTo_succ_of_ne X Y hp q.isLt y ?_
      rintro ⟨e1, e2⟩
      exact h ((blkCond_iff i q.isLt _ _).mpr ⟨e1, by omega, by omega⟩)
    rw [e]
    iexact H6

end

end Cert.Proof.KV

end
-- ==== Proof.Body.lean ====
/-
  The TensorCore kernel's body at one grid point: the block is copied, the batch's eight rows are considered in order,
  and at the batch's first block the batch's new length is stored.
-/
module

public import proofs.«01_k».proof.Proof.Block

@[expose] public section

noncomputable section

namespace Cert.Proof.KV

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

open Idealize.ShloMosaic.ValueIdx

variable {F : FTy → Type} [FloatOps F]

local notation "𝕄" => MT nD τ sig (HIx 1) (Elt F) ℕ UU ℕ

variable (d : Dev nD)

local notation "WP" => wp frame (wpE (defs₀ (F := F)) 𝒱₀ (SparseCore.T d) none) Set.univ

/-! ## Words of the tables -/

theorem off1_val (i : grid1.Coords) : k1_off1 i 0 = (i 0).val := by
  have : (i 0).val < 8 := (i 0).isLt
  show (BitVec.ofNat 32 (i 0).val).toNat = _
  rw [BitVec.toNat_ofNat]; omega

/-- The batch of a grid point. -/
def bat (i : grid1.Coords) : Fin 8 := i 0

theorem word_emb (i : grid1.Coords) (h : ∀ a, k1_off1 i a + S1.size a ≤ S8.size a) (x : S1.Idx) :
    (Rect.unit (s := S8) (k1_off1 i) S1.size h).emb x = ValueIdx.ix1 (bat i) := by
  have x0 : (x 0).val < 1 := (x 0).isLt
  funext a
  obtain rfl : a = 0 := Subsingleton.elim _ _
  refine Fin.ext ?_
  show k1_off1 i 0 + 1 * (x 0).val = (i 0).val
  rw [off1_val]; omega

/-- A word of a scalar memory is loaded. -/
theorem wp_word {β : Type} {Q : β → sProp 𝕄} {m : Memref sig .tc .smem S8 .i32} {x : S8.Idx → Elt F .i32} {i : grid1.Coords}
    {h : ∀ a, k1_off1 i a + S1.size a ≤ S8.size a} {h1 : (Rect.unit (s := S8) (k1_off1 i) S1.size h).shape.numel = 1} {hp}
    {k : Elt F .i32 → Prog (TpuEff nD τ sig (Elt F) Λ₀ .tc) β} :
    (owns (SparseCore.T d) m fullShare x : sProp 𝕄)
      ⊢ iprop((owns (SparseCore.T d) m fullShare x -∗ WP (k (x (ValueIdx.ix1 (bat i)))) Q)
        -∗ WP (smemLoad m (Rect.unit (s := S8) (k1_off1 i) S1.size h) h1 hp >>= k) Q) := by
  have e := wp_smem_owns (F := F) d (Q := Q) (m := m) (X := x) (r := Rect.unit (s := S8) (k1_off1 i) S1.size h)
    (hw := View.loads_smem_one hp h1) (x := Shape.Idx.first (h1.symm ▸ Nat.one_pos)) (k := k)
  rw [word_emb] at e
  exact e

theorem casts_back (v : Vec F S1x1x8x128 .f32) (h : S1x1x8x128.ShapeCasts S1x8x128) (h' : S1x8x128.ShapeCasts S1x1x8x128) :
    shapeCast S1x1x8x128 (shapeCast S1x8x128 v h) h' = v := by
  funext x
  unfold shapeCast
  rw [Shape.reshapeEquiv_reshapeEquiv, Shape.reshapeEquiv_self]

/-! ## The parts of the body -/

section
variable (i : grid1.Coords) {a2 a3 a7 : Memref sig .tc .smem S8 .i32} {a4 a6 : Memref sig .tc .vmem S1x1024x8x128 .f32}
  {a5 : Memref sig .tc .vmem S1x8x8x128 .f32} {h2 : a2.IsWhole} {h3 : a3.IsWhole} {h4 : a4.IsWhole} {h5 : a5.IsWhole} {h6 : a6.IsWhole} {h7 : a7.IsWhole}
  (tl tn W : S8.Idx → Elt F .i32) (X Z : S1x1024x8x128.Idx → Elt F .f32) (Y : S1x8x8x128.Idx → Elt F .f32)

theorem chk1 (l nl : BitVec 32) : k1_chk1 i l nl := by
  have c := fun q : Fin 8 => blk_in (i := i) q (l := l) (nl := nl)
  exact ⟨c 0, c 1, c 2, c 3, c 4, c 5, c 6, c 7⟩

/-- The batch's length and its number of new rows. -/
abbrev lw : BitVec 32 := tl (ValueIdx.ix1 (bat i))

theorem all_emb (y : S1x1024x8x128.Idx) : (Rect.unit (s := S1x1024x8x128) ![0, 0, 0, 0] S1x1024x8x128.size inb_S1x1024x8x128_S1x1024x8x128_0_0_0_0).emb y = y := by
  funext a
  refine Fin.ext ?_
  fin_cases a
  · show 0 + 1 * (y 0).val = (y 0).val; omega
  · show 0 + 1 * (y 1).val = (y 1).val; omega
  · show 0 + 1 * (y 2).val = (y 2).val; omega
  · show 0 + 1 * (y 3).val = (y 3).val; omega

theorem body_part1 :
    iprop(owns (SparseCore.T d) a2 fullShare tl ∗ owns (SparseCore.T d) a3 fullShare tn ∗ owns (SparseCore.T d) a4 fullShare X
        ∗ owns (SparseCore.T d) a5 fullShare Y ∗ owns (SparseCore.T d) a6 fullShare Z)
      ⊢ WP (k1_part1 (F := F) i a2 h2 a3 h3 a4 h4 a5 h5 a6 h6 a7 h7) fun r =>
        iprop(⌜r.2.2.2.1 = lw (F := F) i tl ∧ r.2.2.2.2.1 = lw (F := F) i tn⌝ ∗ owns (SparseCore.T d) a2 fullShare tl ∗ owns (SparseCore.T d) a3 fullShare tn
          ∗ owns (SparseCore.T d) a4 fullShare X ∗ Blk d a5 a6 X Y (lw (F := F) i tl) (lw (F := F) i tn) (bp i) 2) := by
  rw [k1_part1_eq_skeleton]; unfold k1_part1_skel
  simp only [Prog.lift, Prog.bind_op, Prog.bind_ret, Prog.pure_eq_ret]
  iintro ⟨H2, H3, H4, H5, H6⟩
  iapply (wp_word d) $$ H2; iintro H2
  iapply (wp_word d) $$ H3; iintro H3
  rw [wp_assume_of _ _ _ _ (chk1 i (lw (F := F) i tl) (lw (F := F) i tn))]
  iapply (wp_load_owns d) $$ H4; iintro H4
  iapply (wp_load_owns d) $$ H6; iintro H6
  iapply (wp_store_owns d (X := Z) X (fun x => rfl) (fun y hy => absurd (Finset.mem_map.mpr ⟨y, Finset.mem_univ y, all_emb y⟩) (by rw [Rect.map_emb_univ]; exact hy))) $$ H6; iintro H6
  ihave HB := (blk_start d (l := lw (F := F) i tl) (nl := lw (F := F) i tn) (p := bp i)) $$ [H5 H6]
  · isplitl [H5] <;> iassumption
  iapply (blkRow d i 0 (n := 0) rfl rfl rfl rfl (fun v => casts_back v _ _)) $$ HB; iintro HB
  iapply (blkRow d i 1 (n := 1) rfl rfl rfl rfl (fun v => casts_back v _ _)) $$ HB; iintro HB
  rw [wp_ret]; imodintro
  isplitr; · ipureintro; exact ⟨rfl, rfl⟩
  isplitl [H2]; · iexact H2
  isplitl [H3]; · iexact H3
  isplitl [H4]; · iexact H4
  iexact HB

theorem body_part2 {v0 v2 v4 v25 v32 c : BitVec 32} (h : k1_chk1 i v2 v4) :
    Blk d a5 a6 X Y v2 v4 (bp i) 2
      ⊢ WP (k1_part2 (F := F) i a2 h2 a3 h3 a4 h4 a5 h5 a6 h6 a7 h7 v0 v2 v4 h v25 v32 c) fun _ => Blk d a5 a6 X Y v2 v4 (bp i) 7 := by
  rw [k1_part2_eq_skeleton]; unfold k1_part2_skel
  simp only [Prog.lift, Prog.bind_op, Prog.bind_ret, Prog.pure_eq_ret]
  iintro HB
  iapply (blkRow d i 2 (n := 2) rfl rfl rfl rfl (fun v => casts_back v _ _)) $$ HB; iintro HB
  iapply (blkRow d i 3 (n := 3) rfl rfl rfl rfl (fun v => casts_back v _ _)) $$ HB; iintro HB
  iapply (blkRow d i 4 (n := 4) rfl rfl rfl rfl (fun v => casts_back v _ _)) $$ HB; iintro HB
  iapply (blkRow d i 5 (n := 5) rfl rfl rfl rfl (fun v => casts_back v _ _)) $$ HB; iintro HB
  iapply (blkRow d i 6 (n := 6) rfl rfl rfl rfl (fun v => casts_back v _ _)) $$ HB; iintro HB
  rw [wp_ret]; imodintro
  iexact HB

/-- The new lengths as they stand after the body: at a batch's first block the batch's is stored. -/
def lenAfter (i : grid1.Coords) (tl tn W : S8.Idx → BitVec 32) : S8.Idx → BitVec 32 := fun j =>
  if (i 1).val = 0 ∧ (j 0).val = (i 0).val then tl j + tn j else W j

theorem cond9_iff : ∀ i : grid1.Coords, k1_cond9 i = 1#1 ↔ (i 1).val = 0 := by decide +kernel

theorem lenAfter_in (i : grid1.Coords) (tl tn W : S8.Idx → BitVec 32) (h0 : k1_cond9 i = 1#1)
    (h : ∀ a, k1_off1 i a + S1.size a ≤ S8.size a) (x : S1.Idx) :
    lenAfter i tl tn W ((Rect.unit (s := S8) (k1_off1 i) S1.size h).emb x) = Scalar.addi (tl (ValueIdx.ix1 (bat i))) (tn (ValueIdx.ix1 (bat i))) := by
  rw [word_emb]
  unfold lenAfter
  rw [if_pos ⟨(cond9_iff i).mp h0, rfl⟩]
  rfl

theorem lenAfter_out (i : grid1.Coords) (tl tn W : S8.Idx → BitVec 32)
    (h : ∀ a, k1_off1 i a + S1.size a ≤ S8.size a) (y : S8.Idx) (hy : y ∉ (Rect.unit (s := S8) (k1_off1 i) S1.size h).set) :
    lenAfter i tl tn W y = W y := by
  unfold lenAfter
  refine if_neg ?_
  rintro ⟨-, e⟩
  refine hy (Rect.mem_set_unit.mpr (fun a => ?_))
  obtain rfl : a = 0 := Subsingleton.elim _ _
  show k1_off1 i 0 ≤ (y 0).val ∧ (y 0).val < k1_off1 i 0 + 1
  rw [off1_val]; omega

theorem lenAfter_keep (i : grid1.Coords) (tl tn W : S8.Idx → BitVec 32) (h0 : ¬ k1_cond9 i = 1#1) : lenAfter i tl tn W = W := by
  funext j
  unfold lenAfter
  exact if_neg fun h => h0 ((cond9_iff i).mpr h.1)

/-- The body: what it leaves in each of the buffers it is handed. -/
theorem body :
    iprop((owns (SparseCore.T d) a2 fullShare tl : sProp 𝕄) ∗ owns (SparseCore.T d) a3 fullShare tn ∗ owns (SparseCore.T d) a4 fullShare X
        ∗ owns (SparseCore.T d) a5 fullShare Y ∗ owns (SparseCore.T d) a6 fullShare Z ∗ owns (SparseCore.T d) a7 fullShare W)
      ⊢ WP (cc1__tc_k_body (F := F) i a2 h2 a3 h3 a4 h4 a5 h5 a6 h6 a7 h7) fun _ =>
        iprop(owns (SparseCore.T d) a2 fullShare tl ∗ owns (SparseCore.T d) a3 fullShare tn ∗ owns (SparseCore.T d) a4 fullShare X
          ∗ owns (SparseCore.T d) a5 fullShare Y
          ∗ owns (SparseCore.T d) a6 fullShare (blockUpTo 8 X Y (lw (F := F) i tl) (lw (F := F) i tn) (bp i))
          ∗ owns (SparseCore.T d) a7 fullShare (lenAfter i tl tn W)) := by
  rw [cc1__tc_k_body_eq_skeleton]; unfold cc1__tc_k_body_skel
  rw [wp_bind]
  iintro ⟨H2, H3, H4, H5, H6, H7⟩
  iapply (wp_wand frame (wpE (defs₀ (F := F)) 𝒱₀ (SparseCore.T d) none) Set.univ) $$ [H2 H3 H4 H5 H6]
  · iapply (body_part1 d i tl tn X Z Y (h2 := h2) (h3 := h3) (h4 := h4) (h5 := h5) (h6 := h6) (h7 := h7))
    isplitl [H2]; · iexact H2
    isplitl [H3]; · iexact H3
    isplitl [H4]; · iexact H4
    isplitl [H5]; · iexact H5
    iexact H6
  iintro %r ⟨%hr, H2, H3, H4, HB⟩
  obtain ⟨b0, b1, v0, v2, v4, hw, v25, v32, c⟩ := r
  obtain ⟨rfl, rfl⟩ := hr
  rw [wp_bind]
  iapply (wp_wand frame (wpE (defs₀ (F := F)) 𝒱₀ (SparseCore.T d) none) Set.univ) $$ [HB]
  · iapply (body_part2 d i X Y (h2 := h2) (h3 := h3) (h4 := h4) (h5 := h5) (h6 := h6) (h7 := h7) hw); iexact HB
  iintro %r HB
  simp only [Prog.lift, Prog.bind_op, Prog.bind_ret, Prog.pure_eq_ret]
  iapply (blkRow d i 7 (n := 7) rfl rfl rfl rfl (fun v => casts_back v _ _)) $$ HB; iintro HB
  ihave HB := (blk_elim d) $$ HB
  icases HB with ⟨H5, H6⟩
  by_cases h0 : k1_cond9 i = 1#1
  · rw [dif_pos h0]
    iapply (wp_word d) $$ H7; iintro H7
    iapply (wp_store_owns d (X := W) (lenAfter i tl tn W) (lenAfter_in i tl tn W h0 _) (lenAfter_out i tl tn W _)) $$ H7; iintro H7
    rw [wp_ret]; imodintro
    isplitl [H2]; · iexact H2
    isplitl [H3]; · iexact H3
    isplitl [H4]; · iexact H4
    isplitl [H5]; · iexact H5
    isplitl [H6]; · iexact H6
    iexact H7
  · rw [dif_neg h0, wp_ret, lenAfter_keep i tl tn W h0]; imodintro
    isplitl [H2]; · iexact H2
    isplitl [H3]; · iexact H3
    isplitl [H4]; · iexact H4
    isplitl [H5]; · iexact H5
    isplitl [H6]; · iexact H6
    iexact H7

end

end Cert.Proof.KV

end
-- ==== Proof.Keys.lean ====
/-
  The keys' pipeline: what each grid point may leave in each window's buffer, and what the arrays hold at the end.

  Point `(b, j)` works on the positions `[1024 j, 1024 (j + 1))` of batch `b`. The two inputs' buffers stay as fetched, the
  output's is left at the block of the merged cache, and the lengths' buffer, which stays on the core through the run, has
  the new length of every batch up to `b`.
-/
module

public import proofs.«01_k».proof.Proof.Body
public import Idealize.ShloMosaic.Lib.Pipeline.ArrRel
public import Idealize.ShloMosaic.Lib.Pipeline.FrameBody

@[expose] public section

noncomputable section

namespace Cert.Proof.KV

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (RDat Dat Window)

variable {F : FTy → Type} [FloatOps F]

local notation "𝕄" => MT nD τ sig (HIx 1) (Elt F) ℕ UU ℕ

/-! ## A block's place in the cache -/

/-- Where element `j` of point `i`'s block sits in the cache. -/
def place (i : grid1.Coords) (j : S1x1024x8x128.Idx) : S8x4096x8x128.Idx :=
  ix4 (n0 := 8) (n1 := 4096) (n2 := 8) (n3 := 128) (bat i) ⟨bp i + (j 1).val, by
    have := bp_le i; have : (j 1).val < 1024 := (j 1).isLt; omega⟩ (j 2) (j 3)

/-- Where element `j` of a batch's new rows sits among all of them. -/
def newPlace (i : grid1.Coords) (j : S1x8x8x128.Idx) : S8x8x8x128.Idx :=
  ix4 (n0 := 8) (n1 := 8) (n2 := 8) (n3 := 128) (bat i) (j 1) (j 2) (j 3)

theorem block_merge {α : Type} (x : S8x4096x8x128.Idx → α) (y : S8x8x8x128.Idx → α) (l nl : S8.Idx → BitVec 32) (i : grid1.Coords) :
    blockUpTo 8 (fun j => x (place i j)) (fun j => y (newPlace i j)) (l (ValueIdx.ix1 (bat i))) (nl (ValueIdx.ix1 (bat i))) (bp i)
      = fun j => merge x y l nl (place i j) := by
  funext j
  have hb : (bat i).val < 8 := (bat i).isLt
  unfold blockUpTo merge mergeUpTo
  refine if_congr ?_ rfl rfl
  show _ ↔ Takes 64 (l (ValueIdx.ix1 (bat i))) (nl (ValueIdx.ix1 (bat i))) (bat i).val (bp i + (j 1).val)
  unfold Takes
  constructor
  · rintro ⟨h1, h2⟩; exact ⟨h1, h2, by omega⟩
  · rintro ⟨h1, h2, -⟩; exact ⟨h1, h2⟩

theorem bat_val (t : Fin grid1.N) : (bat (grid1.coords t)).val = t.val / 4 := by
  have h := grid1.coords_val t 0 (S := 4) (B := 8) (by decide) rfl
  have h2 : t.val < 32 := lt_of_lt_of_eq t.isLt N_1
  exact h.trans (by omega)

theorem bp_val (t : Fin grid1.N) : bp (grid1.coords t) = t.val % 4 * 1024 := by
  have h := grid1.coords_val t 1 (S := 1) (B := 4) (by decide) rfl
  unfold bp
  rw [h, Nat.div_one]

/-- The blocks cover the cache. -/
theorem exists_place (i : S8x4096x8x128.Idx) : ∃ (t : Fin grid1.N) (j : S1x1024x8x128.Idx), place (grid1.coords t) j = i := by
  have i0 : (i 0).val < 8 := (i 0).isLt
  have i1 : (i 1).val < 4096 := (i 1).isLt
  refine ⟨⟨4 * (i 0).val + (i 1).val / 1024, lt_of_lt_of_eq (b := 32) (by omega) N_1.symm⟩,
    ix4 (n0 := 1) (n1 := 1024) (n2 := 8) (n3 := 128) 0 ⟨(i 1).val % 1024, by omega⟩ (i 2) (i 3), ?_⟩
  funext a
  refine Fin.ext ?_
  fin_cases a
  · refine (bat_val _).trans ?_
    show (4 * (i 0).val + (i 1).val / 1024) / 4 = (i 0).val
    omega
  · refine (congrArg (· + (i 1).val % 1024) (bp_val _)).trans ?_
    show (4 * (i 0).val + (i 1).val / 1024) % 4 * 1024 + (i 1).val % 1024 = (i 1).val
    omega
  · rfl
  · rfl

/-! ## The proof data -/

section
variable (tb : (pcfg1 (F := F)).Adm) (A0 A2 : S8x4096x8x128.Idx → Elt F .f32) (A1 : S8x8x8x128.Idx → Elt F .f32) (A3 : S8.Idx → BitVec 32)
  (d : Dev nD)

/-- The two tables' contents. -/
abbrev tl : S8.Idx → BitVec 32 := tb.1 0
abbrev tn : S8.Idx → BitVec 32 := tb.1 1

/-- The pairs the core may have waited at. -/
def waited : Set (SemLoc sig × HIx 1) := {p | (K (F := F)).lev (SparseCore.T d, p.1) p.2 ≤ 8}

def keysData : RDat τ (Elt F) (HIx 1) ℕ UU ℕ (cfg1 tb) d where
  A w := match w with
    | 0 => A0
    | 1 => A1
    | 2 => A2
    | 3 => A3
  after w t Y X := match w with
    | 0 => X = Y
    | 1 => X = Y
    | 2 => ∀ j : S1x1024x8x128.Idx, X j = merge A0 A1 (tl tb) (tn tb) (place (grid1.coords t) j)
    | 3 => ∀ j : S8.Idx, (j 0).val ≤ t.val / 4 → X j = tl tb j + tn tb j
  Φ _ := Pipeline.prefHeld pre1 d (fun _ => fullShare) tb.1
  q _ := fullShare
  owed _ := 0
  recorded _ := waited (F := F) d

/-! ## The windows at a point -/

theorem index0 (t : Fin grid1.N) : cc1_transform_0 (grid1.coords t) = ![(bat (grid1.coords t)).val, (grid1.coords t 1).val, 0, 0] := by
  have h0 : (grid1.coords t 0).val < 8 := (grid1.coords t 0).isLt
  have h1 : (grid1.coords t 1).val < 4 := (grid1.coords t 1).isLt
  unfold cc1_transform_0 bat
  simp only [BitVec.toNat_ofNat]
  rw [Nat.mod_eq_of_lt (by omega), Nat.mod_eq_of_lt (by omega)]

theorem index2 (t : Fin grid1.N) : cc1_transform_2 (grid1.coords t) = ![(bat (grid1.coords t)).val, (grid1.coords t 1).val, 0, 0] := index0 t

theorem index1 (t : Fin grid1.N) : cc1_transform_1 (grid1.coords t) = ![(bat (grid1.coords t)).val, 0, 0, 0] := by
  have h0 : (grid1.coords t 0).val < 8 := (grid1.coords t 0).isLt
  unfold cc1_transform_1 bat
  simp only [BitVec.toNat_ofNat]
  rw [Nat.mod_eq_of_lt (by omega)]

theorem emb_keys (t : Fin grid1.N) (j : S1x1024x8x128.Idx) : (((cfg1 tb).win 0).rect t).emb j = place (grid1.coords t) j := by
  funext a
  refine Fin.ext ?_
  have h := ((cfg1 tb).win 0).rect_emb_val t j a
  refine h.trans ?_
  have e : ((cfg1 tb).win 0).index t = ![(bat (grid1.coords t)).val, (grid1.coords t 1).val, 0, 0] := index0 t
  rw [e]
  have j0 : (j 0).val < 1 := (j 0).isLt
  fin_cases a
  · show (bat (grid1.coords t)).val * 1 + (j 0).val = (bat (grid1.coords t)).val; omega
  · show (grid1.coords t 1).val * 1024 + (j 1).val = bp (grid1.coords t) + (j 1).val; rfl
  · show 0 * 8 + (j 2).val = (j 2).val; omega
  · show 0 * 128 + (j 3).val = (j 3).val; omega

theorem emb_out (t : Fin grid1.N) (j : S1x1024x8x128.Idx) : (((cfg1 tb).win 2).rect t).emb j = place (grid1.coords t) j := emb_keys tb t j

theorem emb_new (t : Fin grid1.N) (j : S1x8x8x128.Idx) : (((cfg1 tb).win 1).rect t).emb j = newPlace (grid1.coords t) j := by
  funext a
  refine Fin.ext ?_
  have h := ((cfg1 tb).win 1).rect_emb_val t j a
  refine h.trans ?_
  have e : ((cfg1 tb).win 1).index t = ![(bat (grid1.coords t)).val, 0, 0, 0] := index1 t
  rw [e]
  have j0 : (j 0).val < 1 := (j 0).isLt
  fin_cases a
  · show (bat (grid1.coords t)).val * 1 + (j 0).val = (bat (grid1.coords t)).val; omega
  · show 0 * 8 + (j 1).val = (j 1).val; omega
  · show 0 * 8 + (j 2).val = (j 2).val; omega
  · show 0 * 128 + (j 3).val = (j 3).val; omega

theorem emb_len (t : Fin grid1.N) (j : S8.Idx) : (((cfg1 tb).win 3).rect t).emb j = j := by
  funext a
  refine Fin.ext ?_
  have h := ((cfg1 tb).win 3).rect_emb_val t j a
  refine h.trans ?_
  fin_cases a
  show 0 * 8 + (j 0).val = (j 0).val
  omega

theorem flush_out (t : Fin grid1.N) : ((cfg1 tb).win 2).flush t = true := by
  have hs : ∀ i i' : grid1.Coords, cc1_transform_2 i = cc1_transform_2 i' → i 1 = i' 1 := fun i i' h => by
    have h := congrFun h 1
    have h1 : (i 1).val < 4 := (i 1).isLt
    have h1' : (i' 1).val < 4 := (i' 1).isLt
    change (BitVec.ofNat 32 (i 1).val).toNat = (BitVec.ofNat 32 (i' 1).val).toNat at h
    rw [BitVec.toNat_ofNat, BitVec.toNat_ofNat] at h
    exact Fin.ext (by omega)
  have := ((cfg1 tb).win 2).flush_reads rfl (1 : Fin grid1.rank) (show 1 < grid1.bound 1 by decide)
    (show grid1.fixedAfter reads1_2 1 = true by decide) hs (P := 1) (m := 0) (show grid1.stride 1 = 1 by decide) rfl t
  exact this.mpr (Nat.mod_one _)

theorem flush_len (t : Fin grid1.N) : ((cfg1 tb).win 3).flush t = true ↔ t.val % 32 = 31 :=
  ((cfg1 tb).win 3).flush_const rfl (fun _ _ => rfl) N_1 rfl t

/-! ## What the body finds -/

theorem finds_keys (t : Fin grid1.N) (Y : S1x1024x8x128.Idx → Elt F .f32) (h : RDat.Finds (keysData tb A0 A2 A1 A3 d) 0 t Y) : Y = fun j => A0 (place (grid1.coords t) j) := by
  obtain ⟨e, rfl⟩ := RDat.finds_in_eq_fetched (keysData tb A0 A2 A1 A3 d) 0 rfl (fun _ _ _ => rfl) (fun _ _ _ h => h) t Y h
  funext j
  exact congrArg A0 (emb_keys tb t j)

theorem finds_new (t : Fin grid1.N) (Y : S1x8x8x128.Idx → Elt F .f32) (h : RDat.Finds (keysData tb A0 A2 A1 A3 d) 1 t Y) : Y = fun j => A1 (newPlace (grid1.coords t) j) := by
  obtain ⟨e, rfl⟩ := RDat.finds_in_eq_fetched (keysData tb A0 A2 A1 A3 d) 1 rfl (fun _ _ _ => rfl) (fun _ _ _ h => h) t Y h
  funext j
  exact congrArg A1 (emb_new tb t j)

theorem finds_len (t : Fin grid1.N) (Y : S8.Idx → BitVec 32) (h : RDat.Finds (keysData tb A0 A2 A1 A3 d) 3 t Y) (ht : t.val ≠ 0) :
    ∀ j : S8.Idx, (j 0).val ≤ (t.val - 1) / 4 → Y j = tl tb j + tn tb j := by
  have h2 : t.val < 32 := lt_of_lt_of_eq t.isLt N_1
  rcases (RDat.finds_of_pos (keysData tb A0 A2 A1 A3 d) (w := 3) (t := t) rfl ht Y).mp h with h' | ⟨Y', -, hY⟩
  · have h' := (flush_len tb _).mp h'
    dsimp only at h'; omega
  · exact hY

/-- The body's lengths after point `t`. -/
theorem len_step (t : Fin grid1.N) (Y : S8.Idx → BitVec 32) (h : RDat.Finds (keysData tb A0 A2 A1 A3 d) 3 t Y) :
    ∀ j : S8.Idx, (j 0).val ≤ t.val / 4 → lenAfter (grid1.coords t) (tl tb) (tn tb) Y j = tl tb j + tn tb j := by
  intro j hj
  have hb := bat_val t
  have hp := bp_val t
  unfold bat at hb; unfold bp at hp
  unfold lenAfter
  by_cases hc : (grid1.coords t 1).val = 0 ∧ (j 0).val = (grid1.coords t 0).val
  · rw [if_pos hc]
  · rw [if_neg hc]
    by_cases ht : t.val = 0
    · omega
    exact finds_len tb A0 A2 A1 A3 d t Y h ht j (by omega)

/-! ## What the arrays hold at the end -/

theorem final_out [∀ e, Nonempty (Elt F e)] (G : S8x4096x8x128.Idx → Elt F .f32) (h : RDat.ArrAt (keysData tb A0 A2 A1 A3 d) 2 (cfg1 tb).N G) :
    G = merge A0 A1 (tl tb) (tn tb) := by
  obtain ⟨X, hX, hA⟩ := h.exists_exact
  have e := hA (Function.update (fun _ _ _ => Classical.arbitrary _) 2 X) fun u _ _ => by rw [Function.update_self]
  refine e.trans (Dat.arrAt_eq_of_emb _ 2 _ (fun t hf y => ?_) fun i => ?_)
  · obtain ⟨Y, -, hY⟩ := hX t t.isLt hf
    have h1 : ((keysData tb A0 A2 A1 A3 d).withAfter (Function.update (fun _ _ _ => Classical.arbitrary _) 2 X)).after 2 t = X t := by
      rw [RDat.withAfter_after, Function.update_self]
    refine (congrFun h1 y).trans ?_
    refine (hY y).trans ?_
    exact congrArg (merge A0 A1 (tl tb) (tn tb)) (emb_out tb t y).symm
  · obtain ⟨t, j, h⟩ := exists_place i
    exact ⟨t, flush_out tb t, Finset.mem_map.mpr ⟨j, Finset.mem_univ _, (emb_out tb t j).trans h⟩⟩

theorem final_len [∀ e, Nonempty (Elt F e)] (G : S8.Idx → BitVec 32) (h : RDat.ArrAt (keysData tb A0 A2 A1 A3 d) 3 (cfg1 tb).N G) :
    G = fun j => tl tb j + tn tb j := by
  have t31 : 31 < grid1.N := lt_of_lt_of_eq (b := 32) (by omega) N_1.symm
  obtain ⟨X, hX, hA⟩ := h.exists_exact
  have e := hA (Function.update (fun _ _ _ => Classical.arbitrary _) 3 X) fun u _ _ => by rw [Function.update_self]
  refine e.trans (Dat.arrAt_eq_of_emb _ 3 _ (fun t hf y => ?_) fun i => ?_)
  · obtain ⟨Y, -, hY⟩ := hX t t.isLt hf
    have h1 : ((keysData tb A0 A2 A1 A3 d).withAfter (Function.update (fun _ _ _ => Classical.arbitrary _) 3 X)).after 3 t = X t := by
      rw [RDat.withAfter_after, Function.update_self]
    have h2 := (flush_len tb t).mp hf
    have h3 : t.val < 32 := lt_of_lt_of_eq t.isLt N_1
    have y0 : ∀ y : S8.Idx, (y 0).val ≤ t.val / 4 := fun y => by
      have : (y 0).val < 8 := (y 0).isLt
      omega
    refine (congrFun h1 y).trans ?_
    refine (hY y (y0 y)).trans ?_
    exact congrArg (fun j => tl tb j + tn tb j) (emb_len tb t y).symm
  · exact ⟨⟨31, t31⟩, (flush_len tb _).mpr rfl, Finset.mem_map.mpr ⟨i, Finset.mem_univ _, emb_len tb _ i⟩⟩

end

end Cert.Proof.KV

end
-- ==== Proof.KeysRegion.lean ====
/-
  The keys' pipeline as the program enters it: the body at every point, and the whole call from the arrays it is given.
-/
module

public import proofs.«01_k».proof.Proof.Keys

@[expose] public section

noncomputable section

namespace Cert.Proof.KV

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx
open Idealize.ShloMosaic.Pipeline (RDat Dat Window)

variable {F : FTy → Type} [FloatOps F]

local notation "𝕄" => MT nD τ sig (HIx 1) (Elt F) ℕ UU ℕ

section
variable (tb : (pcfg1 (F := F)).Adm) (A0 A2 : S8x4096x8x128.Idx → Elt F .f32) (A1 : S8x8x8x128.Idx → Elt F .f32) (A3 : S8.Idx → BitVec 32)
  (d : Dev nD)

omit [FloatOps F] in
/-- The two tables, held. -/
theorem tables_eq (u : pre1.Contents (Elt F)) : (Pipeline.prefHeld pre1 d (fun _ => fullShare) u : sProp 𝕄)
    = iprop(owns (SparseCore.T d) (Memref.whole main_arg2) fullShare (u 0) ∗ owns (SparseCore.T d) (Memref.whole main_arg5) fullShare (u 1)) := by
  unfold Pipeline.prefHeld
  refine (bigSep_univ_eq_bigSepL [(0 : Fin 2), (1 : Fin 2)] (by decide) (by decide) _).trans ?_
  exact congrArg₂ _ (owns_whole (SparseCore.T d) main_arg2 fullShare (u 0)).symm (owns_whole (SparseCore.T d) main_arg5 fullShare (u 1)).symm

theorem out_step (t : Fin grid1.N) (X : S1x1024x8x128.Idx → Elt F .f32) (Y : S1x8x8x128.Idx → Elt F .f32)
    (hX : X = fun j => A0 (place (grid1.coords t) j)) (hY : Y = fun j => A1 (newPlace (grid1.coords t) j)) (j : S1x1024x8x128.Idx) :
    blockUpTo 8 X Y (lw (F := F) (grid1.coords t) (tl tb)) (lw (F := F) (grid1.coords t) (tn tb)) (bp (grid1.coords t)) j
      = merge A0 A1 (tl tb) (tn tb) (place (grid1.coords t) j) := by
  subst hX hY
  exact congrFun (block_merge A0 A1 (tl tb) (tn tb) (grid1.coords t)) j

theorem keys_body : RDat.BodyObligation (keysData tb A0 A2 A1 A3 d) (defs₀ (F := F)) 𝒱₀ none Set.univ := by
  intro t Y hY
  have e0 := finds_keys tb A0 A2 A1 A3 d t (Y 0) (hY 0)
  have e1 := finds_new tb A0 A2 A1 A3 d t (Y 1) (hY 1)
  have e3 := len_step tb A0 A2 A1 A3 d t (Y 3) (hY 3)
  rw [bigSep_W1, bigSep_W1]
  rw [show (keysData tb A0 A2 A1 A3 d).Φ t.castSucc = Pipeline.prefHeld pre1 d (fun _ => fullShare) tb.1 from rfl,
    show (keysData tb A0 A2 A1 A3 d).Φ t.succ = Pipeline.prefHeld pre1 d (fun _ => fullShare) tb.1 from rfl, tables_eq,
    show (keysData tb A0 A2 A1 A3 d).owesAt none t.succ = (keysData tb A0 A2 A1 A3 d).owesAt none t.castSucc from rfl]
  iintro ⟨⟨H2, H3⟩, HO, H4, H5, H6, H7⟩
  iapply (wp_wand frame (wpE (defs₀ (F := F)) 𝒱₀ (SparseCore.T d) none) Set.univ) $$ [H2 H3 H4 H5 H6 H7]
  · iapply (body d (grid1.coords t) (tl tb) (tn tb) (Y 3) (Y 0) (Y 2) (Y 1))
    isplitl [H2]; · iexact H2
    isplitl [H3]; · iexact H3
    isplitl [H4]; · iexact H4
    isplitl [H5]; · iexact H5
    isplitl [H6]; · iexact H6
    iexact H7
  iintro %r ⟨H2, H3, H4, H5, H6, H7⟩
  isplitl [H2 H3]
  · isplitl [H2] <;> iassumption
  isplitl [HO]; · iexact HO
  isplitl [H4]
  · iexists (Y 0); isplitr; swap; (· iexact H4); ipureintro; rfl
  isplitl [H5]
  · iexists (Y 1); isplitr; swap; (· iexact H5); ipureintro; rfl
  isplitl [H6]
  · iexists _; isplitr; swap; (· iexact H6); ipureintro
    exact out_step tb A0 A1 t (Y 0) (Y 1) e0 e1
  iexists _; isplitr; swap; (· iexact H7); ipureintro
  exact e3

/-! ## The arrays -/

abbrev kLoc (d : Dev nD) : Loc nD τ sig := (SparseCore.T d).loc main_arg0
abbrev nkLoc (d : Dev nD) : Loc nD τ sig := (SparseCore.T d).loc main_arg3
abbrev okLoc (d : Dev nD) : Loc nD τ sig := (SparseCore.T d).loc main_v5_0
abbrev olLoc (d : Dev nD) : Loc nD τ sig := (SparseCore.T d).loc main_v5_1
abbrev tlLoc (d : Dev nD) : Loc nD τ sig := (SparseCore.T d).loc main_arg2
abbrev tnLoc (d : Dev nD) : Loc nD τ sig := (SparseCore.T d).loc main_arg5

end

omit [FloatOps F] in
theorem tables_pt (d : Dev nD) (u : pre1.Contents (Elt F)) : (Pipeline.prefHeld pre1 d (fun _ => fullShare) u : sProp 𝕄)
    = iprop((tlLoc d ↦{fullShare} u 0) ∗ (tnLoc d ↦{fullShare} u 1)) := by
  refine (tables_eq d u).trans ?_
  exact congrArg₂ _ (owns_whole (SparseCore.T d) main_arg2 fullShare (u 0)) (owns_whole (SparseCore.T d) main_arg5 fullShare (u 1))

section
variable (tb : (pcfg1 (F := F)).Adm) (A0 A2 : Dev nD → S8x4096x8x128.Idx → Elt F .f32) (A1 : Dev nD → S8x8x8x128.Idx → Elt F .f32)
  (A3 : Dev nD → S8.Idx → BitVec 32)

abbrev adm (tb : (pcfg1 (F := F)).Adm) : (p : Fin 1) → (pcfgs (F := F) p).Adm := fun _ => tb

/-- The proof data of the program's one pipeline. -/
def datas : (p : Fin 1) → (c : Dev nD) → RDat τ (Elt F) (HIx 1) ℕ UU ℕ (Pipeline.pin (pcfgs (F := F)) (adm tb) p) c :=
  fun _ c => keysData tb (A0 c) (A2 c) (A1 c) (A3 c) c

theorem arrays_intro (d : Dev nD) :
    iprop((kLoc d ↦{fullShare} A0 d) ∗ (nkLoc d ↦{fullShare} A1 d) ∗ (okLoc d ↦{fullShare} A2 d) ∗ (olLoc d ↦{fullShare} A3 d : sProp 𝕄))
      ⊢ (datas tb A0 A2 A1 A3 0 d).arrays (datas tb A0 A2 A1 A3 0 d).A := by
  rw [Pipeline.RDat.arrays_eq (pcfgs (F := F)) (adm tb) (datas tb A0 A2 A1 A3) (p := 0) d arr_whole1
    ((datas tb A0 A2 A1 A3 0 d).share_full fun _ => rfl) (datas tb A0 A2 A1 A3 0 d).A]
  rw [bigSep_W1]
  exact .rfl

theorem arrays_elim [∀ e, Nonempty (Elt F e)] (d : Dev nD) :
    (datas tb A0 A2 A1 A3 0 d).arraysAt (cfg1 tb).N ⊢
      iprop((kLoc d ↦{fullShare} A0 d) ∗ (nkLoc d ↦{fullShare} A1 d) ∗ (okLoc d ↦{fullShare} merge (A0 d) (A1 d) (tl tb) (tn tb))
        ∗ (olLoc d ↦{fullShare} (fun j => tl tb j + tn tb j) : sProp 𝕄)) := by
  rw [Pipeline.RDat.arraysAt_eq (pcfgs (F := F)) (adm tb) (datas tb A0 A2 A1 A3) (p := 0) d arr_whole1
    ((datas tb A0 A2 A1 A3 0 d).share_full fun _ => rfl) (cfg1 tb).N]
  rw [bigSep_W1]
  iintro ⟨⟨%f0, %h0, H0⟩, ⟨%f1, %h1, H1⟩, ⟨%f2, %h2, H2⟩, ⟨%f3, %h3, H3⟩⟩
  rw [RDat.ArrAt_in _ 0 rfl] at h0
  rw [RDat.ArrAt_in _ 1 rfl] at h1
  have h2 := final_out tb (A0 d) (A2 d) (A1 d) (A3 d) d f2 h2
  have h3 := final_len tb (A0 d) (A2 d) (A1 d) (A3 d) d f3 h3
  subst h0
  subst h1
  subst h2
  subst h3
  isplitl [H0]; · iexact H0
  isplitl [H1]; · iexact H1
  isplitl [H2]; · iexact H2
  iexact H3

/-- What the call is entered with: the arrays, the two tables, and nothing owed, whatever was waited on being below. -/
def keysPre (c : Dev nD) : sProp 𝕄 :=
  iprop((kLoc c ↦{fullShare} A0 c) ∗ (nkLoc c ↦{fullShare} A1 c) ∗ (okLoc c ↦{fullShare} A2 c) ∗ (olLoc c ↦{fullShare} A3 c)
    ∗ (tlLoc c ↦{fullShare} tl tb) ∗ (tnLoc c ↦{fullShare} tn tb)
    ∗ ∃ W, ⌜(K (F := F)).WBelow (SparseCore.T c) W 8⌝ ∗ owes (SparseCore.T c) (0 : CellTallies nD τ sig (HIx 1)) W)

/-- What it leaves: the keys merged and the lengths added. -/
def keysPost (c : Dev nD) : sProp 𝕄 :=
  iprop((kLoc c ↦{fullShare} A0 c) ∗ (nkLoc c ↦{fullShare} A1 c) ∗ (okLoc c ↦{fullShare} merge (A0 c) (A1 c) (tl tb) (tn tb))
    ∗ (olLoc c ↦{fullShare} (fun j => tl tb j + tn tb j))
    ∗ (tlLoc c ↦{fullShare} tl tb) ∗ (tnLoc c ↦{fullShare} tn tb)
    ∗ ∃ W, ⌜(K (F := F)).WBelow (SparseCore.T c) W 8⌝ ∗ owes (SparseCore.T c) (0 : CellTallies nD τ sig (HIx 1)) W)

theorem owes_in (c : Dev nD) :
    iprop(∃ W, ⌜(K (F := F)).WBelow (SparseCore.T c) W 8⌝ ∗ owes (SparseCore.T c) (0 : CellTallies nD τ sig (HIx 1)) W : sProp 𝕄)
      ⊢ (datas tb A0 A2 A1 A3 0 c).owesAt none 0 := by
  unfold Pipeline.RDat.owesAt Pipeline.owesWithin
  iintro ⟨%W, %hW, HO⟩
  iexists W
  isplitr; · ipureintro; exact fun p hp => Or.inl (hW p hp)
  iexact HO

theorem owes_out (c : Dev nD) :
    (datas tb A0 A2 A1 A3 0 c).owesAt none (Fin.last (cfg1 tb).N)
      ⊢ iprop(∃ W, ⌜(K (F := F)).WBelow (SparseCore.T c) W 8⌝ ∗ owes (SparseCore.T c) (0 : CellTallies nD τ sig (HIx 1)) W : sProp 𝕄) := by
  unfold Pipeline.RDat.owesAt Pipeline.owesWithin
  iintro ⟨%W, %hW, HO⟩
  iexists W
  isplitr
  · ipureintro
    intro p hp
    rcases hW hp with h | ⟨w, s, rfl⟩
    · exact h
    · exact Nat.zero_le _
  iexact HO

theorem held_out (c : Dev nD) : (Pipeline.prefHeld pre1 c (fun _ => fullShare) tb.1 : sProp 𝕄)
    ⊢ iprop(Pipeline.prefHeld pre1 c (fun _ => fullShare) tb.1 ∗ BI.emp ∗ Pipeline.scopedRest spec1 c) := by
  rw [scopedRest1_eq c]
  iintro H
  isplitl [H]; · iexact H
  isplitr <;> iempintro

set_option backward.isDefEq.respectTransparency.types false in
/-- The keys' call over those two states. -/
def keysReg [∀ e, Nonempty (Elt F e)] :
    Pipeline.RDat.RegionSeg (pcfgs (F := F)) (adm tb) (datas tb A0 A2 A1 A3) none defs₀ 𝒱₀ (K (F := F)).L (K (F := F)).lev 0 where
  win := (launch1 (F := F)).win.to₀
  block_pos := (launch1 (F := F)).block_pos
  stage_whole := (launch1 (F := F)).stage_whole
  K := PEmpty
  osem k := k.elim
  ho := Pipeline.OwnSemFacts.none _
  hbody c := keys_body tb (A0 c) (A2 c) (A1 c) (A3 c) c
  hwaits := Pipeline.RDat.hwaits_of_owed_zero _ _ _ _ _ _ 0 fun _ _ => rfl
  pre := keysPre tb A0 A2 A1 A3
  post := keysPost tb A0 A1
  X _ := BI.emp
  Y c := Pipeline.prefHeld pre1 c (fun _ => fullShare) tb.1
  Z _ := BI.emp
  hentry c := by
    rw [Pipeline.ownSems0_none]
    rw [show (Pipeline.prefHeld ((pcfgs (F := F)) 0).pre c (fun _ => fullShare) ((adm tb) 0).1 : sProp 𝕄)
      = Pipeline.prefHeld pre1 c (fun _ => fullShare) tb.1 from rfl, tables_pt c tb.1]
    unfold keysPre
    iintro ⟨⟨H0, H1, H2, H3, H4, H5, HO⟩, -, -⟩
    imodintro
    isplitl [H0 H1 H2 H3]
    · iapply (arrays_intro tb A0 A2 A1 A3 c)
      isplitl [H0]; · iexact H0
      isplitl [H1]; · iexact H1
      isplitl [H2]; · iexact H2
      iexact H3
    isplitl [H4 H5]
    · isplitl [H4]
      · iexact H4
      iexact H5
    isplitl [HO]
    · iapply (owes_in tb A0 A2 A1 A3 c); iexact HO
    isplitr <;> iempintro
  hin c := by
    rw [show (datas tb A0 A2 A1 A3 0 c).Φ 0 = Pipeline.prefHeld pre1 c (fun _ => fullShare) tb.1 from rfl]
    iintro ⟨-, H, -⟩; iexact H
  hout c := by
    rw [Pipeline.ownSems0_none]
    exact held_out tb c
  hexit c := by
    rw [tables_pt c tb.1]
    unfold keysPost
    iintro ⟨Ha, HO, ⟨H4, H5⟩, -⟩
    ihave Ha := (arrays_elim tb A0 A2 A1 A3 c) $$ Ha
    icases Ha with ⟨H0, H1, H2, H3⟩
    imodintro
    isplitl [H0]; · iexact H0
    isplitl [H1]; · iexact H1
    isplitl [H2]; · iexact H2
    isplitl [H3]; · iexact H3
    isplitl [H4]; · iexact H4
    isplitl [H5]; · iexact H5
    iapply (owes_out tb A0 A2 A1 A3 c); iexact HO

end

end Cert.Proof.KV

end
-- ==== Proof.Main.lean ====
/-
  The whole program: the host's two additions, the SparseCores' call, the keys' call, and what the arrays hold at the end.
-/
module

public import proofs.«01_k».proof.Proof.Launch
public import proofs.«01_k».proof.Proof.KeysRegion

@[expose] public section

noncomputable section

namespace Cert.Proof.KV

open Cert.KernelIdeal Cert.KernelIdeal.Gen
open Idealize.ShloMosaic
open Idealize.ShloMosaic.SparseCore (S V T)
open Idealize.ShloMosaic.SparseCore.Cfg (HIx Pay)
open Idealize.ShloMosaic.StableHlo (held)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The keys' call -/

abbrev keysAt (d : Dev nD) : S8x4096x8x128.Idx → Elt F .f32 := m (kLoc d)
abbrev newKeysAt (d : Dev nD) : S8x8x8x128.Idx → Elt F .f32 := m (nkLoc d)

/-- The two tables as the launch memory holds them. -/
def tbl : (pcfg1 (F := F)).Adm :=
  ⟨fun k => match k with | 0 => m (tlLoc 0) | 1 => m (tnLoc 0), trivial⟩

theorem tl_tbl (d : Dev nD) : tl (tbl m) = lenAt m d := by
  obtain rfl : d = 0 := Subsingleton.elim _ _
  rfl
theorem tn_tbl (d : Dev nD) : tn (tbl m) = nlenAt m d := by
  obtain rfl : d = 0 := Subsingleton.elim _ _
  rfl

/-- The launch's part for the pipeline on a device. -/
def ghostAt (d : Dev nD) : sProp 𝕄 :=
  iprop(Pipeline.cellsGhost (Pipeline.pin (pcfgs (F := F)) (adm (tbl m))) EP 0 d ∗ Pipeline.toksInit (Pipeline.pin (pcfgs (F := F)) (adm (tbl m))) EP 0 d)

abbrev preAt (d : Dev nD) : sProp 𝕄 := keysPre (tbl m) (fun d => m (kLoc d)) (fun d => m (okLoc d)) (fun d => m (nkLoc d)) (fun d => m (olLoc d)) d
abbrev postAt (d : Dev nD) : sProp 𝕄 := keysPost (tbl m) (fun d => m (kLoc d)) (fun d => m (nkLoc d)) d

abbrev regAt [∀ e, Nonempty (Elt F e)] := keysReg (tbl m) (fun d => m (kLoc d)) (fun d => m (okLoc d)) (fun d => m (nkLoc d)) (fun d => m (olLoc d))

set_option backward.isDefEq.respectTransparency.types false in
theorem keys_region [∀ e, Nonempty (Elt F e)] (d : Dev nD) (Φ : PUnit → sProp 𝕄) :
    iprop((iprop(boundary (SparseCore.T d) ∗ postAt m d) -∗ wp frame (wpE (D (F := F)) 𝒱 (SparseCore.T d) none) Set.univ (.ret ⟨⟩) Φ)
        ∗ boundary (SparseCore.T d) ∗ preAt m d ∗ levAts (K (F := F)).L (K (F := F)).lev
        ∗ Pipeline.cellsGhost (Pipeline.pin (pcfgs (F := F)) (adm (tbl m))) EP 0 d ∗ Pipeline.toksInit (Pipeline.pin (pcfgs (F := F)) (adm (tbl m))) EP 0 d)
      ⊢ wp frame (wpE (D (F := F)) 𝒱 (SparseCore.T d) none) Set.univ (.op (.customCall (Pipeline.entry 0) ()) fun r => .ret r) Φ :=
  Pipeline.RDat.RegionSeg.wp (pcfgs (F := F)) (adm (tbl m))
    (datas (tbl m) (fun d => m (kLoc d)) (fun d => m (okLoc d)) (fun d => m (nkLoc d)) (fun d => m (olLoc d))) none
    (cellOf_inj (adm (tbl m))) EP (defs₀ (F := F)) 𝒱₀ (K (F := F)).L (K (F := F)).lev
    (regAt m) d none (fun _ h => nomatch h) (fun r => .ret r) Φ

/-- The keys' call among the certificate's own labels, and as the program spells it. -/
abbrev keysProg : Prog (TpuEff nD τ sig (Elt F) (ΛP (F := F)) .tc) PUnit := .op (.customCall (Pipeline.entry 0) ()) fun r => .ret r

theorem keys_prog : (Prog.lift (.customCall (SparseCore.inner (Pipeline.entry 0)) ()) : Prog (TpuEff nD τ sig (Elt F) (SparseCore.Sig (ΛP (F := F)) 1) .tc) PUnit)
    = SparseCore.liftProg (keysProg (F := F)) := rfl

theorem keys_enter [∀ e, Nonempty (Elt F e)] (d : Dev nD) :
    iprop(boundary (SparseCore.T d) ∗ preAt m d ∗ levAts (K (F := F)).L (K (F := F)).lev ∗ ghostAt m d)
      ⊢ wp frame (wpE (D (F := F)) 𝒱 (SparseCore.T d) none) Set.univ (keysProg (F := F)) fun _ => iprop(boundary (SparseCore.T d) ∗ postAt m d) := by
  unfold ghostAt
  iintro ⟨Hb, Hpre, Hl, Hg, Ht⟩
  iapply (keys_region m d fun _ => iprop(boundary (SparseCore.T d) ∗ postAt m d))
  isplitr [Hb Hpre Hl Hg Ht]
  · iintro H
    rw [wp_ret]; imodintro; iexact H
  isplitl [Hb]; · iexact Hb
  isplitl [Hpre]; · iexact Hpre
  isplitl [Hl]; · iexact Hl
  isplitl [Hg]; · iexact Hg
  iexact Ht

theorem keys_call [∀ e, Nonempty (Elt F e)] (d : Dev nD) :
    iprop(boundary (SparseCore.T d) ∗ preAt m d ∗ levAts (K (F := F)).L (K (F := F)).lev ∗ ghostAt m d)
      ⊢ wp frame (wpE ((K (F := F)).defs (D (F := F))) 𝒱 (SparseCore.T d) none) Set.univ
          (Prog.lift (.customCall (SparseCore.inner (Pipeline.entry 0)) ()) : Prog (TpuEff nD τ sig (Elt F) (SparseCore.Sig (ΛP (F := F)) 1) .tc) PUnit)
          fun _ => iprop(boundary (SparseCore.T d) ∗ postAt m d) := by
  rw [keys_prog]
  exact (keys_enter m d).trans ((K (F := F)).wp_liftProg (D (F := F)) 𝒱 (SparseCore.T d) Set.univ none keysProg _)

/-! ## The host's operations -/

/-- The six operations before the calls: zero added to each table. -/
def hostOps : List (HloOp τ sig (Elt F)) :=
  [StableHlo.nullary main_c (constantI S_ 32 0#32),
   StableHlo.unary main_c main_v0 (broadcastInDim S8 ![] bcast_S_S8 : (⟨S_, .i32⟩ : BufTy).Contents (Elt F) → (⟨S8, .i32⟩ : BufTy).Contents (Elt F)),
   StableHlo.binary main_arg2 main_v0 main_v1 (addi : (⟨S8, .i32⟩ : BufTy).Contents (Elt F) → (⟨S8, .i32⟩ : BufTy).Contents (Elt F) → (⟨S8, .i32⟩ : BufTy).Contents (Elt F)),
   StableHlo.nullary main_c_0 (constantI S_ 32 0#32),
   StableHlo.unary main_c_0 main_v2 (broadcastInDim S8 ![] bcast_S_S8 : (⟨S_, .i32⟩ : BufTy).Contents (Elt F) → (⟨S8, .i32⟩ : BufTy).Contents (Elt F)),
   StableHlo.binary main_arg5 main_v2 main_v3 (addi : (⟨S8, .i32⟩ : BufTy).Contents (Elt F) → (⟨S8, .i32⟩ : BufTy).Contents (Elt F) → (⟨S8, .i32⟩ : BufTy).Contents (Elt F))]

theorem main_eq (d : Dev nD) : main (F := F) d = StableHlo.seq hostOps >>= fun _ =>
    (sc (F := F)).run d 0 >>= fun _ => Prog.lift (.customCall (SparseCore.inner (Pipeline.entry 0)) ()) >>= fun _ => pure ⟨⟩ := by
  simp only [main, hostOps, StableHlo.seq, bind_assoc, pure_bind]

/-- The arrays in HBM. -/
def arrs : Finset (DevRef τ sig) :=
  {Proc.devRef .tc main_arg0, Proc.devRef .tc main_arg1, Proc.devRef .tc main_arg2, Proc.devRef .tc main_arg3, Proc.devRef .tc main_arg4,
   Proc.devRef .tc main_arg5, Proc.devRef .tc main_v1, Proc.devRef .tc main_v3, Proc.devRef .tc main_v4, Proc.devRef .tc main_v5_0,
   Proc.devRef .tc main_v5_1, Proc.devRef .tc main_c, Proc.devRef .tc main_v0, Proc.devRef .tc main_c_0, Proc.devRef .tc main_v2}

theorem host_bufs : ∀ op ∈ hostOps (F := F), op.bufs ⊆ arrs := by
  simp only [hostOps, List.forall_mem_cons]
  refine ⟨?_, ?_, ?_, ?_, ?_, ?_, fun _ h => absurd h List.not_mem_nil⟩
  · show ({Proc.devRef .tc main_c} : Finset (DevRef τ sig)) ⊆ arrs; decide
  · show ({Proc.devRef .tc main_c, Proc.devRef .tc main_v0} : Finset (DevRef τ sig)) ⊆ arrs; decide
  · show ({Proc.devRef .tc main_arg2, Proc.devRef .tc main_v0, Proc.devRef .tc main_v1} : Finset (DevRef τ sig)) ⊆ arrs; decide
  · show ({Proc.devRef .tc main_c_0} : Finset (DevRef τ sig)) ⊆ arrs; decide
  · show ({Proc.devRef .tc main_c_0, Proc.devRef .tc main_v2} : Finset (DevRef τ sig)) ⊆ arrs; decide
  · show ({Proc.devRef .tc main_arg5, Proc.devRef .tc main_v2, Proc.devRef .tc main_v3} : Finset (DevRef τ sig)) ⊆ arrs; decide

theorem host_fresh : ∀ op ∈ hostOps (F := F), op.fresh = ∅ := by
  simp only [hostOps, List.forall_mem_cons]
  exact ⟨rfl, rfl, rfl, rfl, rfl, rfl, fun _ h => absurd h List.not_mem_nil⟩

def V0 (d : Dev nD) : Valuation τ sig (Elt F) := fun b => m (d, b)

omit [FloatOps F] in
theorem unscopedBufs_held (d : Dev nD) :
    (unscopedBufs d (fun b => m ((SparseCore.T d).loc b)) : sProp 𝕄) = held (SparseCore.T d) arrs (V0 m d) := by
  unfold unscopedBufs held
  rw [show arrs = (Finset.univ.filter fun b : Ref sig .tc => ¬ b.isScoped).map ⟨Proc.devRef (τ := τ) .tc, Proc.devRef_injective _⟩ by decide, bigSep_map]
  rfl

omit [FloatOps F] in
theorem held_arrs (d : Dev nD) (W : Valuation τ sig (Elt F)) : (held (SparseCore.T d) arrs W : sProp 𝕄) ⊢
    iprop((kLoc d ↦{fullShare} W (Proc.devRef .tc main_arg0)) ∗ (vLoc d ↦{fullShare} W (Proc.devRef .tc main_arg1)) ∗ (tlLoc d ↦{fullShare} W (Proc.devRef .tc main_arg2))
      ∗ (nkLoc d ↦{fullShare} W (Proc.devRef .tc main_arg3)) ∗ (nLoc d ↦{fullShare} W (Proc.devRef .tc main_arg4)) ∗ (tnLoc d ↦{fullShare} W (Proc.devRef .tc main_arg5))
      ∗ (lLoc d ↦{fullShare} W (Proc.devRef .tc main_v1)) ∗ (mLoc d ↦{fullShare} W (Proc.devRef .tc main_v3)) ∗ (oLoc d ↦{fullShare} W (Proc.devRef .tc main_v4))
      ∗ (okLoc d ↦{fullShare} W (Proc.devRef .tc main_v5_0)) ∗ (olLoc d ↦{fullShare} W (Proc.devRef .tc main_v5_1))) := by
  unfold held arrs
  iterate 11 rw [SparseCore.bigSep_insert' (by decide)]
  iintro ⟨H0, H1, H2, H3, H4, H5, H6, H7, H8, H9, H10, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

abbrev V6 (d : Dev nD) : Valuation τ sig (Elt F) := StableHlo.after hostOps (V0 m d)

theorem V6_kept (d : Dev nD) (r : Ref sig .tc)
    (h : r ≠ main_c ∧ r ≠ main_v0 ∧ r ≠ main_v1 ∧ r ≠ main_c_0 ∧ r ≠ main_v2 ∧ r ≠ main_v3) :
    V6 m d (Proc.devRef .tc r) = m ((SparseCore.T d).loc r) := by
  obtain ⟨h0, h1, h2, h3, h4, h5⟩ := h
  unfold V6 hostOps
  simp only [StableHlo.after_cons, StableHlo.after_nil, StableHlo.nullary_result_ne' _ _ _ h0, StableHlo.unary_result_ne' _ _ _ _ h1,
    StableHlo.binary_result_ne' _ _ _ _ _ h2, StableHlo.nullary_result_ne' _ _ _ h3, StableHlo.unary_result_ne' _ _ _ _ h4,
    StableHlo.binary_result_ne' _ _ _ _ _ h5]
  rfl

theorem addi_zero (l : S8.Idx → BitVec 32) :
    (addi l (broadcastInDim S8 ![] bcast_S_S8 (constantI S_ 32 0#32)) : S8.Idx → BitVec 32) = l := by
  funext j
  show l j + 0#32 = l j
  exact BitVec.add_zero _

theorem V6_len (d : Dev nD) : V6 m d (Proc.devRef .tc main_v1) = lenAt m d := by
  unfold V6 hostOps
  simp (disch := decide) only [StableHlo.after_cons, StableHlo.after_nil, StableHlo.nullary_result', StableHlo.unary_result', StableHlo.binary_result',
    StableHlo.nullary_result_ne', StableHlo.unary_result_ne', StableHlo.binary_result_ne']
  exact addi_zero _

theorem V6_newLen (d : Dev nD) : V6 m d (Proc.devRef .tc main_v3) = nlenAt m d := by
  unfold V6 hostOps
  simp (disch := decide) only [StableHlo.after_cons, StableHlo.after_nil, StableHlo.nullary_result', StableHlo.unary_result', StableHlo.binary_result',
    StableHlo.nullary_result_ne', StableHlo.unary_result_ne', StableHlo.binary_result_ne']
  exact addi_zero _

/-- The arrays after the host's operations. -/
theorem held_after (d : Dev nD) : (held (SparseCore.T d) arrs (V6 m d) : sProp 𝕄) ⊢
    iprop((kLoc d ↦{fullShare} m (kLoc d)) ∗ (vLoc d ↦{fullShare} valsAt m d) ∗ (tlLoc d ↦{fullShare} lenAt m d)
      ∗ (nkLoc d ↦{fullShare} m (nkLoc d)) ∗ (nLoc d ↦{fullShare} newAt m d) ∗ (tnLoc d ↦{fullShare} nlenAt m d)
      ∗ (lLoc d ↦{fullShare} lenAt m d) ∗ (mLoc d ↦{fullShare} nlenAt m d) ∗ (oLoc d ↦{fullShare} m (oLoc d))
      ∗ (okLoc d ↦{fullShare} m (okLoc d)) ∗ (olLoc d ↦{fullShare} m (olLoc d))) := by
  refine (held_arrs d (V6 m d)).trans (Entails.of_eq ?_)
  rw [V6_len, V6_newLen]
  iterate 9 rw [V6_kept m d _ (by decide)]

/-! ## The main program -/

/-- The TensorCore's state after the call: nothing owed, and the rest. -/
theorem tcSt_one (d : Dev nD) : ∃ R : sProp 𝕄, (K (F := F)).tcSt EH d 1 =
    iprop((∃ W, ⌜(K (F := F)).WBelow (SparseCore.T d) W 8⌝ ∗ owes (SparseCore.T d) (0 : CellTallies nD τ sig (HIx 1)) W) ∗ R) := by
  unfold SparseCore.Cfg.tcSt
  rw [(K (F := F)).Otc_end d (le_refl 1)]
  exact ⟨_, rfl⟩

/-- What the program leaves in the arrays. -/
def FIN (d : Dev nD) : sProp 𝕄 :=
  iprop((kLoc d ↦{fullShare} m (kLoc d)) ∗ (vLoc d ↦{fullShare} valsAt m d) ∗ (tlLoc d ↦{fullShare} lenAt m d)
    ∗ (nkLoc d ↦{fullShare} m (nkLoc d)) ∗ (nLoc d ↦{fullShare} newAt m d) ∗ (tnLoc d ↦{fullShare} nlenAt m d)
    ∗ (okLoc d ↦{fullShare} merge (keysAt m d) (newKeysAt m d) (lenAt m d) (nlenAt m d))
    ∗ (oLoc d ↦{fullShare} merge (valsAt m d) (newAt m d) (lenAt m d) (nlenAt m d))
    ∗ (olLoc d ↦{fullShare} fun j => lenAt m d j + nlenAt m d j))

theorem st0_eq (d : Dev nD) : (bigSep Finset.univ fun c : Fin ((K (F := F)).nCore 0) => (P m).st 0 d c)
    = bigSep Finset.univ fun c : Fin 2 => bigSep Finset.univ fun i : Fin 16 => goAt m d c i := rfl
theorem dn0_eq (d : Dev nD) : (bigSep Finset.univ fun c : Fin ((K (F := F)).nCore 0) => (P m).dn 0 d c)
    = bigSep Finset.univ fun c : Fin 2 => bigSep Finset.univ fun i : Fin 16 => tdAt m d c i := rfl

theorem pre_intro (d : Dev nD) :
    iprop((kLoc d ↦{fullShare} m (kLoc d)) ∗ (nkLoc d ↦{fullShare} m (nkLoc d)) ∗ (okLoc d ↦{fullShare} m (okLoc d)) ∗ (olLoc d ↦{fullShare} m (olLoc d))
      ∗ (tlLoc d ↦{fullShare} lenAt m d) ∗ (tnLoc d ↦{fullShare} nlenAt m d)
      ∗ ∃ W, ⌜(K (F := F)).WBelow (SparseCore.T d) W 8⌝ ∗ owes (SparseCore.T d) (0 : CellTallies nD τ sig (HIx 1)) W) ⊢ (preAt m d : sProp 𝕄) := by
  unfold preAt keysPre
  rw [tl_tbl m d, tn_tbl m d]

theorem post_elim (d : Dev nD) : (postAt m d : sProp 𝕄) ⊢
    iprop((kLoc d ↦{fullShare} m (kLoc d)) ∗ (nkLoc d ↦{fullShare} m (nkLoc d))
      ∗ (okLoc d ↦{fullShare} merge (keysAt m d) (newKeysAt m d) (lenAt m d) (nlenAt m d)) ∗ (olLoc d ↦{fullShare} fun j => lenAt m d j + nlenAt m d j)
      ∗ (tlLoc d ↦{fullShare} lenAt m d) ∗ (tnLoc d ↦{fullShare} nlenAt m d)
      ∗ ∃ W, ⌜(K (F := F)).WBelow (SparseCore.T d) W 8⌝ ∗ owes (SparseCore.T d) (0 : CellTallies nD τ sig (HIx 1)) W) := by
  unfold postAt keysPost
  rw [tl_tbl m d, tn_tbl m d]

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ ghostAt m d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_one (F := F) d
  have hR' : (K (F := F)).tcSt EH d ((0 : Fin 1).val + 1) = _ := hR
  unfold SparseCore.Cfg.tcRes SparseCore.Cfg.tcEnd
  rw [unscopedBufs_held, main_eq]
  iintro ⟨#Hctx, Hst, ⟨Hb, Hheld, Hts, -⟩, Hg⟩
  iapply (StableHlo.wp_seq 𝒱 none Set.univ d arrs _ hostOps host_bufs host_fresh (V0 m d)) $$ [Hb Hheld]
  · isplitl [Hb]; · iexact Hb
    iexact Hheld
  iintro ⟨Hb, Hheld⟩
  ihave Hh := (held_after m d) $$ Hheld
  icases Hh with ⟨Hk, Hv, Htl, Hnk, Hn, Htn, Hl, Hm, Ho, Hok, Hol⟩
  rw [wp_bind]
  ihave Hin := (call_in (valsAt m d) (newAt m d) (lenAt m d) (nlenAt m d) d (m (oLoc d))) $$ [Hv Hn Hl Hm Ho]
  · isplitr [Ho]
    · isplitl [Hv]; · iexact Hv
      isplitl [Hn]; · iexact Hn
      isplitl [Hl] <;> iassumption
    iexact Ho
  icases Hin with ⟨Hgo, Hkept⟩
  iapply ((K (F := F)).wp_run (D (F := F)) 𝒱 (EH := EH) (P := P m) κ d 0)
  isplitr; · iexact Hctx
  isplitl [Hst]; · iexact Hst
  isplitl [Hgo]
  · rw [st0_eq]; iexact Hgo
  iintro ⟨Hst, Hdn⟩
  ihave Hdn := (Entails.of_eq (dn0_eq m d)) $$ Hdn
  ihave Hout := (call_out (valsAt m d) (newAt m d) (lenAt m d) (nlenAt m d) d) $$ [Hdn Hkept]
  · isplitl [Hdn] <;> iassumption
  icases Hout with ⟨⟨Hv, Hn, -, -⟩, Ho⟩
  ihave Hst := (Entails.of_eq hR') $$ Hst
  icases Hst with ⟨HO, HR⟩
  rw [wp_bind]
  iapply (wp_wand frame (wpE ((K (F := F)).defs (D (F := F))) 𝒱 (SparseCore.T d) none) Set.univ) $$ [Hb Hk Hnk Hok Hol Htl Htn HO Hg]
  · iapply (keys_call m d)
    isplitl [Hb]; · iexact Hb
    isplitl [Hk Hnk Hok Hol Htl Htn HO]
    · iapply (pre_intro m d)
      isplitl [Hk]; · iexact Hk
      isplitl [Hnk]; · iexact Hnk
      isplitl [Hok]; · iexact Hok
      isplitl [Hol]; · iexact Hol
      isplitl [Htl]; · iexact Htl
      isplitl [Htn] <;> iassumption
    isplitr
    · iapply (SparseCore.Cfg.ctx_levAts κ); iexact Hctx
    iexact Hg
  iintro %_ ⟨Hb, Hpost⟩
  ihave Hp := (post_elim m d) $$ Hpost
  icases Hp with ⟨Hk, Hnk, Hok, Hol, Htl, Htn, HO⟩
  rw [show (pure ⟨⟩ : Prog (TpuEff nD τ sig (Elt F) (SparseCore.Sig (ΛP (F := F)) 1) .tc) PUnit) = .ret ⟨⟩ from rfl, wp_ret]
  imodintro
  isplitl [HO HR]
  · iapply (Entails.of_eq hR.symm)
    isplitl [HO] <;> iassumption
  isplitr [Hb Hts]
  · unfold FIN
    isplitl [Hk]; · iexact Hk
    isplitl [Hv]; · iexact Hv
    isplitl [Htl]; · iexact Htl
    isplitl [Hnk]; · iexact Hnk
    isplitl [Hn]; · iexact Hn
    isplitl [Htn]; · iexact Htn
    isplitl [Hok]; · iexact Hok
    isplitl [Ho]; · iexact Ho
    iexact Hol
  isplitl [Hb] <;> iassumption

end Cert.Proof.KV

end
-- ==== Proof.Same.lean ====
/-
  The printed kernel and its idealization are one text under two names: their tables of bodies and their
  threads are equal, so a run of the one is a run of the other.
-/
module

public import proofs.«01_k».proof.Proof.Setup
public import proofs.«01_k».proof.Proof.Gen.Kernel

@[expose] public section

noncomputable section

namespace Cert.Proof.KV

open Idealize.ShloMosaic

variable {F : FTy → Type} [FloatOps F]

set_option maxHeartbeats 1000000 in
/-- The two tables of kernel bodies are one, label by label. -/
theorem defs₀_same : Cert.Kernel.defs₀ (F := F) = Cert.KernelIdeal.defs₀ (F := F) := by
  funext p ℓ a
  rcases p with _ | _ | ⟨c, s⟩
  · revert a
    refine Fin.cases ?_ (fun ℓ => Fin.cases ?_ (fun ℓ => ℓ.elim0) ℓ) ℓ <;> intro a
    · exact rfl
    · rcases a with ⟨t, s⟩
      exact rfl
  · exact rfl
  · revert a
    refine Fin.cases ?_ (fun ℓ => Fin.cases ?_ (fun ℓ => ℓ.elim0) ℓ) ℓ <;> intro a
    · exact rfl
    · exact rfl

/-- With the calls of the launch in place, still one. -/
theorem defs_same : Cert.Kernel.defs (F := F) = Cert.KernelIdeal.defs (F := F) := by
  unfold Cert.Kernel.defs Cert.KernelIdeal.defs
  rw [defs₀_same]
  exact rfl

set_option maxHeartbeats 1000000 in
/-- The threads of the two launches are one. -/
theorem threads_same : Cert.Kernel.threads (F := F) = Cert.KernelIdeal.threads (F := F) := (rfl)

end Cert.Proof.KV

end
-- ==== Proof.Run.lean ====
/-
  The run of the whole program: it ends, the arguments are as they were, the three results are what they should be, and
  every semaphore is back at zero.
-/
module

public import proofs.«01_k».proof.Proof.Main
public import proofs.«01_k».proof.Proof.Same
public import proofs.«01_k».proof.Proof.Gen.Pre_in_range

@[expose] public section

noncomputable section

namespace Cert.Proof.KV

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

/-- The pipeline's part of it. -/
def uP : UP := initOf (Pipeline.cells (Pipeline.pin (pcfgs (F := F)) (adm (tbl m))) (cellOf_inj (adm (tbl m))))
  (Pipeline.launchToks (Pipeline.pin (pcfgs (F := F)) (adm (tbl m))) (cellOf_inj (adm (tbl m))))
def u₀ : UU := (initOf (K (F := F)).hsCells (K (F := F)).hsToks, (uP m, 1))

omit [FloatOps F] in
theorem ownU_parts (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op ((b, 1) : UP × Counters))))

omit [FloatOps F] in
theorem one_pipe (Φ : Fin 1 → Dev nD → sProp 𝕄) :
    (bigSep Finset.univ fun c : Dev nD => bigSep Finset.univ fun p : Fin 1 => Φ p c) = bigSep Finset.univ fun c : Dev nD => Φ 0 c :=
  bigSep_congr fun _ _ => bigSep_univ_of_subsingleton (0 : Fin 1)

theorem ghosts_intro : (BI.own (EP (uP m)) : sProp 𝕄) ⊢ iprop(|==> bigSep Finset.univ (ghostAt m)) := by
  unfold uP
  iintro H
  imod (Pipeline.fund_ghost (Pipeline.pin (pcfgs (F := F)) (adm (tbl m))) EP (cellOf_inj (adm (tbl m)))) $$ H with ⟨Hg, Ht⟩
  imodintro
  unfold ghostAt
  rw [bigSep_sep']
  ihave Hg := (Entails.of_eq (one_pipe fun p c => Pipeline.cellsGhost (Pipeline.pin (pcfgs (F := F)) (adm (tbl m))) EP p c)) $$ Hg
  ihave Ht := (Entails.of_eq (one_pipe fun p c => Pipeline.toksInit (Pipeline.pin (pcfgs (F := F)) (adm (tbl m))) EP p c)) $$ Ht
  isplitl [Hg] <;> iassumption

theorem pay_x : (bigSep Finset.univ fun thr : Thread nD τ => bigSep Finset.univ fun q : Fin 1 => (P m).x q thr) = (iprop(emp) : sProp 𝕄) := by
  unfold P; dsimp only
  exact (bigSep_congr fun _ _ => bigSep_emp_const _).trans (bigSep_emp_const _)

theorem hu₀ : (ownU (u₀ m) : sProp 𝕄)
    ⊢ |={Set.univ}=> iprop(BI.own (EH (initOf (K (F := F)).hsCells (K (F := F)).hsToks)) ∗ (bigSep Finset.univ (ghostAt m))
        ∗ bigSep Finset.univ fun thr : Thread nD τ => bigSep Finset.univ fun q : Fin 1 => (P m).x q thr) := by
  rw [pay_x]
  unfold u₀
  iintro Hu
  ihave H := (ownU_parts _ _) $$ Hu
  icases H with ⟨HH, HP⟩
  imod (ghosts_intro m) $$ HP with Hg
  imodintro
  isplitl [HH]; · iexact HH
  isplitl [Hg]; · iexact Hg
  iempintro

/-! ## What the memory holds at the end -/

def fq (d : Dev nD) (s' : Phys nD τ sig (Elt F)) : Prop :=
  (s'.mem.mem (kLoc d) = m (kLoc d) ∧ s'.mem.mem (vLoc d) = m (vLoc d) ∧ s'.mem.mem (tlLoc d) = m (tlLoc d)
    ∧ s'.mem.mem (nkLoc d) = m (nkLoc d) ∧ s'.mem.mem (nLoc d) = m (nLoc d) ∧ s'.mem.mem (tnLoc d) = m (tnLoc d))
  ∧ s'.mem.mem (okLoc d) = merge (keysAt m d) (newKeysAt m d) (lenAt m d) (nlenAt m d)
  ∧ s'.mem.mem (oLoc d) = merge (valsAt m d) (newAt m d) (lenAt m d) (nlenAt m d)
  ∧ s'.mem.mem (olLoc d) = fun j => lenAt m d j + nlenAt m d j

omit [FloatOps F] in
/-- An array held whole reads what it is held at. -/
theorem read_whole {s' : Phys nD τ sig (Elt F)} {ℓ : Loc nD τ sig} {f : Buf (Elt F) ℓ} :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7, H8⟩, HSI⟩
  ihave H := read_whole $$ [HSI H0]
  · isplitl [HSI] <;> iassumption
  icases H with ⟨%h0, HSI⟩
  ihave H := read_whole $$ [HSI H1]
  · isplitl [HSI] <;> iassumption
  icases H with ⟨%h1, HSI⟩
  ihave H := read_whole $$ [HSI H2]
  · isplitl [HSI] <;> iassumption
  icases H with ⟨%h2, HSI⟩
  ihave H := read_whole $$ [HSI H3]
  · isplitl [HSI] <;> iassumption
  icases H with ⟨%h3, HSI⟩
  ihave H := read_whole $$ [HSI H4]
  · isplitl [HSI] <;> iassumption
  icases H with ⟨%h4, HSI⟩
  ihave H := read_whole $$ [HSI H5]
  · isplitl [HSI] <;> iassumption
  icases H with ⟨%h5, HSI⟩
  ihave H := read_whole $$ [HSI H6]
  · isplitl [HSI] <;> iassumption
  icases H with ⟨%h6, HSI⟩
  ihave H := read_whole $$ [HSI H7]
  · isplitl [HSI] <;> iassumption
  icases H with ⟨%h7, HSI⟩
  ihave H := read_whole $$ [HSI H8]
  · isplitl [HSI] <;> iassumption
  icases H with ⟨%h8, -⟩
  ipureintro; exact ⟨⟨h0, h1, h2, h3, h4, h5⟩, h6, h7, h8⟩

/-! ## The run -/

def QC : PUnit × MemSt nD τ sig (Elt F) → Prop := fun r =>
  (∀ d : Dev nD, (r.2.mem (kLoc d) = m (kLoc d) ∧ r.2.mem (vLoc d) = m (vLoc d) ∧ r.2.mem (tlLoc d) = m (tlLoc d)
      ∧ r.2.mem (nkLoc d) = m (nkLoc d) ∧ r.2.mem (nLoc d) = m (nLoc d) ∧ r.2.mem (tnLoc d) = m (tnLoc d))
    ∧ r.2.mem (okLoc d) = merge (keysAt m d) (newKeysAt m d) (lenAt m d) (nlenAt m d)
    ∧ r.2.mem (oLoc d) = merge (valsAt m d) (newAt m d) (lenAt m d) (nlenAt m d)
    ∧ r.2.mem (olLoc d) = fun j => lenAt m d j + nlenAt m d j)
  ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (ghostAt m) (FIN m) (u₀ m) (sep_elim_left.trans (hu₀ m)) (hmain m ρ) (fq m) (hfin m) (QC m) (fun _ h hz => ⟨h, hz⟩)

/-! ## The frames -/

theorem frame_kernelIdeal : Cert.quiescent_KernelIdeal := fun m ρ _ =>
  (θ_run Cert.KernelIdeal.defs _ _).mono (fun _ h => ⟨fun c => (h.1 c).1, h.2⟩) (run_main m ρ)

theorem frame_kernelIdeal_pre : Cert.quiescent_KernelIdeal_pre_in_range := fun m ρ _ =>
  (θ_run Cert.KernelIdeal.defs _ _).mono (fun _ h => ⟨fun c => (h.1 c).1, h.2⟩) (run_main m ρ)

theorem frame_kernel : Cert.quiescent_Kernel := by
  intro m ρ _
  rw [defs_same, threads_same]
  exact (θ_run Cert.KernelIdeal.defs _ _).mono (fun _ h => ⟨fun c => (h.1 c).1, h.2⟩) (run_main (F := Bits) m ρ)

end Cert.Proof.KV

end
-- ==== Proof.RefOps.lean ====
/-
  The reference's operations: those before its branch, the read of the branch's word, either arm's, and the one after.
-/
module

public import proofs.«01_k».proof.Proof.Gen.ReferenceIdeal
public import Idealize.ShloMosaic.Lib.StableHlo.Run
public import Idealize.ShloMosaic.Lib.StableHlo.RunClose
public import Idealize.ShloMosaic.Lib.HostLoop.Rules

@[expose] public section

noncomputable section

namespace Cert.Proof.KVRef

open Cert.ReferenceIdeal Cert.ReferenceIdeal.Gen
open Idealize.ShloMosaic

variable {F : FTy → Type} [FloatOps F]

/-- An array of the shape `S` and the element type `e`. -/
abbrev Arr (F : FTy → Type) (S : Shape) (e : EltTy) : Type := (⟨S, e⟩ : BufTy).Contents (Elt F)

local notation "C" => Arr F

/-- Two index arrays side by side: over the grid of batches and positions, one before the other; for the gather of the new
    rows; and for the gather and the scatter at the lengths. -/
def pairGrid (a b : C S1x8x4096 .i32) : C S2x8x4096 .i32 :=
  concatenate S2x8x4096 0 [⟨S1x8x4096, a⟩, ⟨S1x8x4096, b⟩] concatenates_S1x8x4096_S1x8x4096_S2x8x4096_d0
def pairRows (a b : C S8x4096x1 .i32) : C S8x4096x2 .i32 :=
  concatenate S8x4096x2 2 [⟨S8x4096x1, a⟩, ⟨S8x4096x1, b⟩] concatenates_S8x4096x1_S8x4096x1_S8x4096x2_d2
def pairLens (a b : C S8x1 .i32) : C S8x2 .i32 :=
  concatenate S8x2 1 [⟨S8x1, a⟩, ⟨S8x1, b⟩] concatenates_S8x1_S8x1_S8x2_d1

/-- Before the branch: is every new length at most one? -/
def preOps : List (HloOp τ sig (Elt F)) :=
  [ StableHlo.nullary main_c (constantI S_ 32 1#32),
    StableHlo.unary main_c main_v0 (broadcastInDim S8 ![] bcast_S_S8 : (C S_ .i32) → (C S8 .i32)),
    StableHlo.binary main_arg5 main_v0 main_v1 (cmpi .sle : (C S8 .i32) → (C S8 .i32) → (C S8 .i1)),
    StableHlo.nullary main_c_0 (constantI S_ 1 1#1),
    StableHlo.binary main_v1 main_c_0 main_v2 ((fun x v => Host.reduce IntOp.andi x v reducesTo_S8_S_d0 h_S_) : (C S8 .i1) → (C S_ .i1) → (C S_ .i1)) ]

/-- The read of the branch's word. -/
def rdOp : HloOp τ sig (Elt F) :=
  StableHlo.unary main_v2 main_v3 ((extui 32 · natLt_1_32) : (C S_ .i1) → (C S_ .i32))

/-- The arm of the general case: every row is gathered from its place among the new rows, and taken where it is one of them. -/
def arm0 : List (HloOp τ sig (Elt F)) :=
  [ StableHlo.nullary main_case0b0_v6 (iotaInDim S8 32 0),
    StableHlo.unary main_case0b0_v6 main_case0b0_v7 (broadcastInDim S8x4096 ![0] bcast_S8_S8x4096_0 : (C S8 .i32) → (C S8x4096 .i32)),
    StableHlo.nullary main_case0b0_v8 (iotaInDim S4096 32 0),
    StableHlo.unary main_case0b0_v8 main_case0b0_v9 (broadcastInDim S8x4096 ![1] bcast_S4096_S8x4096_1 : (C S4096 .i32) → (C S8x4096 .i32)),
    StableHlo.unary main_case0b0_v7 main_case0b0_v10 (broadcastInDim S1x8x4096 ![1, 2] bcast_S8x4096_S1x8x4096_1_2 : (C S8x4096 .i32) → (C S1x8x4096 .i32)),
    StableHlo.unary main_case0b0_v9 main_case0b0_v11 (broadcastInDim S1x8x4096 ![1, 2] bcast_S8x4096_S1x8x4096_1_2 : (C S8x4096 .i32) → (C S1x8x4096 .i32)),
    StableHlo.binary main_case0b0_v10 main_case0b0_v11 main_case0b0_v12 (pairGrid : (C S1x8x4096 .i32) → (C S1x8x4096 .i32) → (C S2x8x4096 .i32)),
    StableHlo.unary main_case0b0_v12 main_case0b0_v13 ((extractStridedSlice S1x8x4096 ![0, 0, 0] · slices_S2x8x4096_S1x8x4096_0_0_0) : (C S2x8x4096 .i32) → (C S1x8x4096 .i32)),
    StableHlo.reshape main_case0b0_v13 main_case0b0_v14 (rfl : (.i32 : EltTy) = .i32) shapeCasts_S1x8x4096_S8x4096,
    StableHlo.unary main_case0b0_v12 main_case0b0_v15 ((extractStridedSlice S1x8x4096 ![1, 0, 0] · slices_S2x8x4096_S1x8x4096_1_0_0) : (C S2x8x4096 .i32) → (C S1x8x4096 .i32)),
    StableHlo.reshape main_case0b0_v15 main_case0b0_v16 (rfl : (.i32 : EltTy) = .i32) shapeCasts_S1x8x4096_S8x4096,
    StableHlo.unary main_arg2 main_case0b0_v17 (broadcastInDim S8x1 ![0] bcast_S8_S8x1_0 : (C S8 .i32) → (C S8x1 .i32)),
    StableHlo.unary main_arg5 main_case0b0_v18 (broadcastInDim S8x1 ![0] bcast_S8_S8x1_0 : (C S8 .i32) → (C S8x1 .i32)),
    StableHlo.unary main_case0b0_v17 main_case0b0_v19 (broadcastInDim S8x4096 ![0, 1] bcast_S8x1_S8x4096_0_1 : (C S8x1 .i32) → (C S8x4096 .i32)),
    StableHlo.binary main_case0b0_v16 main_case0b0_v19 main_case0b0_v20 (cmpi .sge : (C S8x4096 .i32) → (C S8x4096 .i32) → (C S8x4096 .i1)),
    StableHlo.binary main_case0b0_v17 main_case0b0_v18 main_case0b0_v21 (addi : (C S8x1 .i32) → (C S8x1 .i32) → (C S8x1 .i32)),
    StableHlo.unary main_case0b0_v21 main_case0b0_v22 (broadcastInDim S8x4096 ![0, 1] bcast_S8x1_S8x4096_0_1 : (C S8x1 .i32) → (C S8x4096 .i32)),
    StableHlo.binary main_case0b0_v16 main_case0b0_v22 main_case0b0_v23 (cmpi .slt : (C S8x4096 .i32) → (C S8x4096 .i32) → (C S8x4096 .i1)),
    StableHlo.binary main_case0b0_v20 main_case0b0_v23 main_case0b0_v24 (andi : (C S8x4096 .i1) → (C S8x4096 .i1) → (C S8x4096 .i1)),
    StableHlo.unary main_case0b0_v17 main_case0b0_v25 (broadcastInDim S8x4096 ![0, 1] bcast_S8x1_S8x4096_0_1 : (C S8x1 .i32) → (C S8x4096 .i32)),
    StableHlo.binary main_case0b0_v16 main_case0b0_v25 main_case0b0_v26 (subi : (C S8x4096 .i32) → (C S8x4096 .i32) → (C S8x4096 .i32)),
    StableHlo.nullary main_case0b0_c_1 (constantI S_ 32 0#32),
    StableHlo.nullary main_case0b0_c_2 (constantI S_ 32 7#32),
    StableHlo.unary main_case0b0_c_1 main_case0b0_call0_v0 (id : (C S_ .i32) → (C S_ .i32)),
    StableHlo.unary main_case0b0_call0_v0 main_case0b0_call0_v1 (broadcastInDim S8x4096 ![] bcast_S_S8x4096 : (C S_ .i32) → (C S8x4096 .i32)),
    StableHlo.binary main_case0b0_call0_v1 main_case0b0_v26 main_case0b0_call0_v2 (maxsi : (C S8x4096 .i32) → (C S8x4096 .i32) → (C S8x4096 .i32)),
    StableHlo.unary main_case0b0_c_2 main_case0b0_call0_v3 (id : (C S_ .i32) → (C S_ .i32)),
    StableHlo.unary main_case0b0_call0_v3 main_case0b0_call0_v4 (broadcastInDim S8x4096 ![] bcast_S_S8x4096 : (C S_ .i32) → (C S8x4096 .i32)),
    StableHlo.binary main_case0b0_call0_v4 main_case0b0_call0_v2 main_case0b0_v27 (minsi : (C S8x4096 .i32) → (C S8x4096 .i32) → (C S8x4096 .i32)),
    StableHlo.nullary main_case0b0_c_3 (constantI S_ 32 0#32),
    StableHlo.unary main_case0b0_c_3 main_case0b0_v28 (broadcastInDim S8x4096 ![] bcast_S_S8x4096 : (C S_ .i32) → (C S8x4096 .i32)),
    StableHlo.binary main_case0b0_v14 main_case0b0_v28 main_case0b0_v29 (cmpi .slt : (C S8x4096 .i32) → (C S8x4096 .i32) → (C S8x4096 .i1)),
    StableHlo.nullary main_case0b0_c_4 (constantI S_ 32 8#32),
    StableHlo.unary main_case0b0_c_4 main_case0b0_v30 (broadcastInDim S8x4096 ![] bcast_S_S8x4096 : (C S_ .i32) → (C S8x4096 .i32)),
    StableHlo.binary main_case0b0_v14 main_case0b0_v30 main_case0b0_v31 (addi : (C S8x4096 .i32) → (C S8x4096 .i32) → (C S8x4096 .i32)),
    StableHlo.ternary main_case0b0_v29 main_case0b0_v31 main_case0b0_v14 main_case0b0_v32 (select : (C S8x4096 .i1) → (C S8x4096 .i32) → (C S8x4096 .i32) → (C S8x4096 .i32)),
    StableHlo.nullary main_case0b0_c_5 (constantI S_ 32 0#32),
    StableHlo.unary main_case0b0_c_5 main_case0b0_v33 (broadcastInDim S8x4096 ![] bcast_S_S8x4096 : (C S_ .i32) → (C S8x4096 .i32)),
    StableHlo.binary main_case0b0_v27 main_case0b0_v33 main_case0b0_v34 (cmpi .slt : (C S8x4096 .i32) → (C S8x4096 .i32) → (C S8x4096 .i1)),
    StableHlo.nullary main_case0b0_c_6 (constantI S_ 32 8#32),
    StableHlo.unary main_case0b0_c_6 main_case0b0_v35 (broadcastInDim S8x4096 ![] bcast_S_S8x4096 : (C S_ .i32) → (C S8x4096 .i32)),
    StableHlo.binary main_case0b0_v27 main_case0b0_v35 main_case0b0_v36 (addi : (C S8x4096 .i32) → (C S8x4096 .i32) → (C S8x4096 .i32)),
    StableHlo.ternary main_case0b0_v34 main_case0b0_v36 main_case0b0_v27 main_case0b0_v37 (select : (C S8x4096 .i1) → (C S8x4096 .i32) → (C S8x4096 .i32) → (C S8x4096 .i32)),
    StableHlo.unary main_case0b0_v32 main_case0b0_v38 (broadcastInDim S8x4096x1 ![0, 1] bcast_S8x4096_S8x4096x1_0_1 : (C S8x4096 .i32) → (C S8x4096x1 .i32)),
    StableHlo.unary main_case0b0_v37 main_case0b0_v39 (broadcastInDim S8x4096x1 ![0, 1] bcast_S8x4096_S8x4096x1_0_1 : (C S8x4096 .i32) → (C S8x4096x1 .i32)),
    StableHlo.binary main_case0b0_v38 main_case0b0_v39 main_case0b0_v40 (pairRows : (C S8x4096x1 .i32) → (C S8x4096x1 .i32) → (C S8x4096x2 .i32)),
    StableHlo.binary main_arg3 main_case0b0_v40 main_case0b0_v41 ((fun x i => Host.gather gather_S8x8x8x128_S8x4096x2_S8x4096x8x128_23_01_n_n_01_2_118128 x i) : (C S8x8x8x128 .f32) → (C S8x4096x2 .i32) → (C S8x4096x8x128 .f32)),
    StableHlo.nullary main_case0b0_c_7 (constantI S_ 32 0#32),
    StableHlo.unary main_case0b0_c_7 main_case0b0_v42 (broadcastInDim S8x4096 ![] bcast_S_S8x4096 : (C S_ .i32) → (C S8x4096 .i32)),
    StableHlo.binary main_case0b0_v14 main_case0b0_v42 main_case0b0_v43 (cmpi .slt : (C S8x4096 .i32) → (C S8x4096 .i32) → (C S8x4096 .i1)),
    StableHlo.nullary main_case0b0_c_8 (constantI S_ 32 8#32),
    StableHlo.unary main_case0b0_c_8 main_case0b0_v44 (broadcastInDim S8x4096 ![] bcast_S_S8x4096 : (C S_ .i32) → (C S8x4096 .i32)),
    StableHlo.binary main_case0b0_v14 main_case0b0_v44 main_case0b0_v45 (addi : (C S8x4096 .i32) → (C S8x4096 .i32) → (C S8x4096 .i32)),
    StableHlo.ternary main_case0b0_v43 main_case0b0_v45 main_case0b0_v14 main_case0b0_v46 (select : (C S8x4096 .i1) → (C S8x4096 .i32) → (C S8x4096 .i32) → (C S8x4096 .i32)),
    StableHlo.nullary main_case0b0_c_9 (constantI S_ 32 0#32),
    StableHlo.unary main_case0b0_c_9 main_case0b0_v47 (broadcastInDim S8x4096 ![] bcast_S_S8x4096 : (C S_ .i32) → (C S8x4096 .i32)),
    StableHlo.binary main_case0b0_v27 main_case0b0_v47 main_case0b0_v48 (cmpi .slt : (C S8x4096 .i32) → (C S8x4096 .i32) → (C S8x4096 .i1)),
    StableHlo.nullary main_case0b0_c_10 (constantI S_ 32 8#32),
    StableHlo.unary main_case0b0_c_10 main_case0b0_v49 (broadcastInDim S8x4096 ![] bcast_S_S8x4096 : (C S_ .i32) → (C S8x4096 .i32)),
    StableHlo.binary main_case0b0_v27 main_case0b0_v49 main_case0b0_v50 (addi : (C S8x4096 .i32) → (C S8x4096 .i32) → (C S8x4096 .i32)),
    StableHlo.ternary main_case0b0_v48 main_case0b0_v50 main_case0b0_v27 main_case0b0_v51 (select : (C S8x4096 .i1) → (C S8x4096 .i32) → (C S8x4096 .i32) → (C S8x4096 .i32)),
    StableHlo.unary main_case0b0_v46 main_case0b0_v52 (broadcastInDim S8x4096x1 ![0, 1] bcast_S8x4096_S8x4096x1_0_1 : (C S8x4096 .i32) → (C S8x4096x1 .i32)),
    StableHlo.unary main_case0b0_v51 main_case0b0_v53 (broadcastInDim S8x4096x1 ![0, 1] bcast_S8x4096_S8x4096x1_0_1 : (C S8x4096 .i32) → (C S8x4096x1 .i32)),
    StableHlo.binary main_case0b0_v52 main_case0b0_v53 main_case0b0_v54 (pairRows : (C S8x4096x1 .i32) → (C S8x4096x1 .i32) → (C S8x4096x2 .i32)),
    StableHlo.binary main_arg4 main_case0b0_v54 main_case0b0_v55 ((fun x i => Host.gather gather_S8x8x8x128_S8x4096x2_S8x4096x8x128_23_01_n_n_01_2_118128 x i) : (C S8x8x8x128 .f32) → (C S8x4096x2 .i32) → (C S8x4096x8x128 .f32)),
    StableHlo.unary main_case0b0_v24 main_case0b0_v56 (broadcastInDim S8x4096x1x1 ![0, 1] bcast_S8x4096_S8x4096x1x1_0_1 : (C S8x4096 .i1) → (C S8x4096x1x1 .i1)),
    StableHlo.unary main_case0b0_v56 main_case0b0_call1_v0 (broadcastInDim S8x4096x8x128 ![0, 1, 2, 3] bcast_S8x4096x1x1_S8x4096x8x128_0_1_2_3 : (C S8x4096x1x1 .i1) → (C S8x4096x8x128 .i1)),
    StableHlo.ternary main_case0b0_call1_v0 main_case0b0_v41 main_arg0 main_case0b0_v57 (select : (C S8x4096x8x128 .i1) → (C S8x4096x8x128 .f32) → (C S8x4096x8x128 .f32) → (C S8x4096x8x128 .f32)),
    StableHlo.unary main_case0b0_v56 main_case0b0_call2_v0 (broadcastInDim S8x4096x8x128 ![0, 1, 2, 3] bcast_S8x4096x1x1_S8x4096x8x128_0_1_2_3 : (C S8x4096x1x1 .i1) → (C S8x4096x8x128 .i1)),
    StableHlo.ternary main_case0b0_call2_v0 main_case0b0_v55 main_arg1 main_case0b0_v58 (select : (C S8x4096x8x128 .i1) → (C S8x4096x8x128 .f32) → (C S8x4096x8x128 .f32) → (C S8x4096x8x128 .f32)),
    StableHlo.unary main_case0b0_v57 main_v4_0 id,
    StableHlo.unary main_case0b0_v58 main_v4_1 id ]

/-- The arm of the case of at most one new row a sequence: that row is scattered into its place. -/
def arm1 : List (HloOp τ sig (Elt F)) :=
  [ StableHlo.nullary main_case0b1_v6 (iotaInDim S8 32 0),
    StableHlo.unary main_arg3 main_case0b1_v7 ((extractStridedSlice S8x1x8x128 ![0, 0, 0, 0] · slices_S8x8x8x128_S8x1x8x128_0_0_0_0) : (C S8x8x8x128 .f32) → (C S8x1x8x128 .f32)),
    StableHlo.reshape main_case0b1_v7 main_case0b1_v8 (rfl : (.f32 : EltTy) = .f32) shapeCasts_S8x1x8x128_S8x8x128,
    StableHlo.unary main_arg4 main_case0b1_v9 ((extractStridedSlice S8x1x8x128 ![0, 0, 0, 0] · slices_S8x8x8x128_S8x1x8x128_0_0_0_0) : (C S8x8x8x128 .f32) → (C S8x1x8x128 .f32)),
    StableHlo.reshape main_case0b1_v9 main_case0b1_v10 (rfl : (.f32 : EltTy) = .f32) shapeCasts_S8x1x8x128_S8x8x128,
    StableHlo.nullary main_case0b1_c_1 (constantI S_ 32 1#32),
    StableHlo.unary main_case0b1_c_1 main_case0b1_v11 (broadcastInDim S8 ![] bcast_S_S8 : (C S_ .i32) → (C S8 .i32)),
    StableHlo.binary main_arg5 main_case0b1_v11 main_case0b1_v12 (cmpi .eq : (C S8 .i32) → (C S8 .i32) → (C S8 .i1)),
    StableHlo.unary main_case0b1_v12 main_case0b1_v13 (broadcastInDim S8x1x1 ![0] bcast_S8_S8x1x1_0 : (C S8 .i1) → (C S8x1x1 .i1)),
    StableHlo.nullary main_case0b1_c_2 (constantI S_ 32 0#32),
    StableHlo.unary main_case0b1_c_2 main_case0b1_v14 (broadcastInDim S8 ![] bcast_S_S8 : (C S_ .i32) → (C S8 .i32)),
    StableHlo.binary main_case0b1_v6 main_case0b1_v14 main_case0b1_v15 (cmpi .slt : (C S8 .i32) → (C S8 .i32) → (C S8 .i1)),
    StableHlo.nullary main_case0b1_c_3 (constantI S_ 32 8#32),
    StableHlo.unary main_case0b1_c_3 main_case0b1_v16 (broadcastInDim S8 ![] bcast_S_S8 : (C S_ .i32) → (C S8 .i32)),
    StableHlo.binary main_case0b1_v6 main_case0b1_v16 main_case0b1_v17 (addi : (C S8 .i32) → (C S8 .i32) → (C S8 .i32)),
    StableHlo.ternary main_case0b1_v15 main_case0b1_v17 main_case0b1_v6 main_case0b1_v18 (select : (C S8 .i1) → (C S8 .i32) → (C S8 .i32) → (C S8 .i32)),
    StableHlo.nullary main_case0b1_c_4 (constantI S_ 32 0#32),
    StableHlo.unary main_case0b1_c_4 main_case0b1_v19 (broadcastInDim S8 ![] bcast_S_S8 : (C S_ .i32) → (C S8 .i32)),
    StableHlo.binary main_arg2 main_case0b1_v19 main_case0b1_v20 (cmpi .slt : (C S8 .i32) → (C S8 .i32) → (C S8 .i1)),
    StableHlo.nullary main_case0b1_c_5 (constantI S_ 32 4096#32),
    StableHlo.unary main_case0b1_c_5 main_case0b1_v21 (broadcastInDim S8 ![] bcast_S_S8 : (C S_ .i32) → (C S8 .i32)),
    StableHlo.binary main_arg2 main_case0b1_v21 main_case0b1_v22 (addi : (C S8 .i32) → (C S8 .i32) → (C S8 .i32)),
    StableHlo.ternary main_case0b1_v20 main_case0b1_v22 main_arg2 main_case0b1_v23 (select : (C S8 .i1) → (C S8 .i32) → (C S8 .i32) → (C S8 .i32)),
    StableHlo.unary main_case0b1_v18 main_case0b1_v24 (broadcastInDim S8x1 ![0] bcast_S8_S8x1_0 : (C S8 .i32) → (C S8x1 .i32)),
    StableHlo.unary main_case0b1_v23 main_case0b1_v25 (broadcastInDim S8x1 ![0] bcast_S8_S8x1_0 : (C S8 .i32) → (C S8x1 .i32)),
    StableHlo.binary main_case0b1_v24 main_case0b1_v25 main_case0b1_v26 (pairLens : (C S8x1 .i32) → (C S8x1 .i32) → (C S8x2 .i32)),
    StableHlo.binary main_arg0 main_case0b1_v26 main_case0b1_v27 ((fun x i => Host.gather gather_S8x4096x8x128_S8x2_S8x8x128_12_01_n_n_01_1_118128 x i) : (C S8x4096x8x128 .f32) → (C S8x2 .i32) → (C S8x8x128 .f32)),
    StableHlo.nullary main_case0b1_c_6 (constantI S_ 32 0#32),
    StableHlo.unary main_case0b1_c_6 main_case0b1_v28 (broadcastInDim S8 ![] bcast_S_S8 : (C S_ .i32) → (C S8 .i32)),
    StableHlo.binary main_case0b1_v6 main_case0b1_v28 main_case0b1_v29 (cmpi .slt : (C S8 .i32) → (C S8 .i32) → (C S8 .i1)),
    StableHlo.nullary main_case0b1_c_7 (constantI S_ 32 8#32),
    StableHlo.unary main_case0b1_c_7 main_case0b1_v30 (broadcastInDim S8 ![] bcast_S_S8 : (C S_ .i32) → (C S8 .i32)),
    StableHlo.binary main_case0b1_v6 main_case0b1_v30 main_case0b1_v31 (addi : (C S8 .i32) → (C S8 .i32) → (C S8 .i32)),
    StableHlo.ternary main_case0b1_v29 main_case0b1_v31 main_case0b1_v6 main_case0b1_v32 (select : (C S8 .i1) → (C S8 .i32) → (C S8 .i32) → (C S8 .i32)),
    StableHlo.nullary main_case0b1_c_8 (constantI S_ 32 0#32),
    StableHlo.unary main_case0b1_c_8 main_case0b1_v33 (broadcastInDim S8 ![] bcast_S_S8 : (C S_ .i32) → (C S8 .i32)),
    StableHlo.binary main_arg2 main_case0b1_v33 main_case0b1_v34 (cmpi .slt : (C S8 .i32) → (C S8 .i32) → (C S8 .i1)),
    StableHlo.nullary main_case0b1_c_9 (constantI S_ 32 4096#32),
    StableHlo.unary main_case0b1_c_9 main_case0b1_v35 (broadcastInDim S8 ![] bcast_S_S8 : (C S_ .i32) → (C S8 .i32)),
    StableHlo.binary main_arg2 main_case0b1_v35 main_case0b1_v36 (addi : (C S8 .i32) → (C S8 .i32) → (C S8 .i32)),
    StableHlo.ternary main_case0b1_v34 main_case0b1_v36 main_arg2 main_case0b1_v37 (select : (C S8 .i1) → (C S8 .i32) → (C S8 .i32) → (C S8 .i32)),
    StableHlo.unary main_case0b1_v32 main_case0b1_v38 (broadcastInDim S8x1 ![0] bcast_S8_S8x1_0 : (C S8 .i32) → (C S8x1 .i32)),
    StableHlo.unary main_case0b1_v37 main_case0b1_v39 (broadcastInDim S8x1 ![0] bcast_S8_S8x1_0 : (C S8 .i32) → (C S8x1 .i32)),
    StableHlo.binary main_case0b1_v38 main_case0b1_v39 main_case0b1_v40 (pairLens : (C S8x1 .i32) → (C S8x1 .i32) → (C S8x2 .i32)),
    StableHlo.binary main_arg1 main_case0b1_v40 main_case0b1_v41 ((fun x i => Host.gather gather_S8x4096x8x128_S8x2_S8x8x128_12_01_n_n_01_1_118128 x i) : (C S8x4096x8x128 .f32) → (C S8x2 .i32) → (C S8x8x128 .f32)),
    StableHlo.unary main_case0b1_v13 main_case0b1_call3_v0 (broadcastInDim S8x8x128 ![0, 1, 2] bcast_S8x1x1_S8x8x128_0_1_2 : (C S8x1x1 .i1) → (C S8x8x128 .i1)),
    StableHlo.ternary main_case0b1_call3_v0 main_case0b1_v8 main_case0b1_v27 main_case0b1_v42 (select : (C S8x8x128 .i1) → (C S8x8x128 .f32) → (C S8x8x128 .f32) → (C S8x8x128 .f32)),
    StableHlo.unary main_case0b1_v13 main_case0b1_call4_v0 (broadcastInDim S8x8x128 ![0, 1, 2] bcast_S8x1x1_S8x8x128_0_1_2 : (C S8x1x1 .i1) → (C S8x8x128 .i1)),
    StableHlo.ternary main_case0b1_call4_v0 main_case0b1_v10 main_case0b1_v41 main_case0b1_v43 (select : (C S8x8x128 .i1) → (C S8x8x128 .f32) → (C S8x8x128 .f32) → (C S8x8x128 .f32)),
    StableHlo.nullary main_case0b1_c_10 (constantI S_ 32 0#32),
    StableHlo.unary main_case0b1_c_10 main_case0b1_v44 (broadcastInDim S8 ![] bcast_S_S8 : (C S_ .i32) → (C S8 .i32)),
    StableHlo.binary main_case0b1_v6 main_case0b1_v44 main_case0b1_v45 (cmpi .slt : (C S8 .i32) → (C S8 .i32) → (C S8 .i1)),
    StableHlo.nullary main_case0b1_c_11 (constantI S_ 32 8#32),
    StableHlo.unary main_case0b1_c_11 main_case0b1_v46 (broadcastInDim S8 ![] bcast_S_S8 : (C S_ .i32) → (C S8 .i32)),
    StableHlo.binary main_case0b1_v6 main_case0b1_v46 main_case0b1_v47 (addi : (C S8 .i32) → (C S8 .i32) → (C S8 .i32)),
    StableHlo.ternary main_case0b1_v45 main_case0b1_v47 main_case0b1_v6 main_case0b1_v48 (select : (C S8 .i1) → (C S8 .i32) → (C S8 .i32) → (C S8 .i32)),
    StableHlo.nullary main_case0b1_c_12 (constantI S_ 32 0#32),
    StableHlo.unary main_case0b1_c_12 main_case0b1_v49 (broadcastInDim S8 ![] bcast_S_S8 : (C S_ .i32) → (C S8 .i32)),
    StableHlo.binary main_arg2 main_case0b1_v49 main_case0b1_v50 (cmpi .slt : (C S8 .i32) → (C S8 .i32) → (C S8 .i1)),
    StableHlo.nullary main_case0b1_c_13 (constantI S_ 32 4096#32),
    StableHlo.unary main_case0b1_c_13 main_case0b1_v51 (broadcastInDim S8 ![] bcast_S_S8 : (C S_ .i32) → (C S8 .i32)),
    StableHlo.binary main_arg2 main_case0b1_v51 main_case0b1_v52 (addi : (C S8 .i32) → (C S8 .i32) → (C S8 .i32)),
    StableHlo.ternary main_case0b1_v50 main_case0b1_v52 main_arg2 main_case0b1_v53 (select : (C S8 .i1) → (C S8 .i32) → (C S8 .i32) → (C S8 .i32)),
    StableHlo.unary main_case0b1_v48 main_case0b1_v54 (broadcastInDim S8x1 ![0] bcast_S8_S8x1_0 : (C S8 .i32) → (C S8x1 .i32)),
    StableHlo.unary main_case0b1_v53 main_case0b1_v55 (broadcastInDim S8x1 ![0] bcast_S8_S8x1_0 : (C S8 .i32) → (C S8x1 .i32)),
    StableHlo.binary main_case0b1_v54 main_case0b1_v55 main_case0b1_v56 (pairLens : (C S8x1 .i32) → (C S8x1 .i32) → (C S8x2 .i32)),
    StableHlo.ternary main_arg0 main_case0b1_v56 main_case0b1_v42 main_case0b1_v57 ((fun x i u => Host.scatter scatter_S8x4096x8x128_S8x2_S8x8x128_12_01_01_1 (fun _ b => b) x i u) : (C S8x4096x8x128 .f32) → (C S8x2 .i32) → (C S8x8x128 .f32) → (C S8x4096x8x128 .f32)),
    StableHlo.nullary main_case0b1_c_14 (constantI S_ 32 0#32),
    StableHlo.unary main_case0b1_c_14 main_case0b1_v58 (broadcastInDim S8 ![] bcast_S_S8 : (C S_ .i32) → (C S8 .i32)),
    StableHlo.binary main_case0b1_v6 main_case0b1_v58 main_case0b1_v59 (cmpi .slt : (C S8 .i32) → (C S8 .i32) → (C S8 .i1)),
    StableHlo.nullary main_case0b1_c_15 (constantI S_ 32 8#32),
    StableHlo.unary main_case0b1_c_15 main_case0b1_v60 (broadcastInDim S8 ![] bcast_S_S8 : (C S_ .i32) → (C S8 .i32)),
    StableHlo.binary main_case0b1_v6 main_case0b1_v60 main_case0b1_v61 (addi : (C S8 .i32) → (C S8 .i32) → (C S8 .i32)),
    StableHlo.ternary main_case0b1_v59 main_case0b1_v61 main_case0b1_v6 main_case0b1_v62 (select : (C S8 .i1) → (C S8 .i32) → (C S8 .i32) → (C S8 .i32)),
    StableHlo.nullary main_case0b1_c_16 (constantI S_ 32 0#32),
    StableHlo.unary main_case0b1_c_16 main_case0b1_v63 (broadcastInDim S8 ![] bcast_S_S8 : (C S_ .i32) → (C S8 .i32)),
    StableHlo.binary main_arg2 main_case0b1_v63 main_case0b1_v64 (cmpi .slt : (C S8 .i32) → (C S8 .i32) → (C S8 .i1)),
    StableHlo.nullary main_case0b1_c_17 (constantI S_ 32 4096#32),
    StableHlo.unary main_case0b1_c_17 main_case0b1_v65 (broadcastInDim S8 ![] bcast_S_S8 : (C S_ .i32) → (C S8 .i32)),
    StableHlo.binary main_arg2 main_case0b1_v65 main_case0b1_v66 (addi : (C S8 .i32) → (C S8 .i32) → (C S8 .i32)),
    StableHlo.ternary main_case0b1_v64 main_case0b1_v66 main_arg2 main_case0b1_v67 (select : (C S8 .i1) → (C S8 .i32) → (C S8 .i32) → (C S8 .i32)),
    StableHlo.unary main_case0b1_v62 main_case0b1_v68 (broadcastInDim S8x1 ![0] bcast_S8_S8x1_0 : (C S8 .i32) → (C S8x1 .i32)),
    StableHlo.unary main_case0b1_v67 main_case0b1_v69 (broadcastInDim S8x1 ![0] bcast_S8_S8x1_0 : (C S8 .i32) → (C S8x1 .i32)),
    StableHlo.binary main_case0b1_v68 main_case0b1_v69 main_case0b1_v70 (pairLens : (C S8x1 .i32) → (C S8x1 .i32) → (C S8x2 .i32)),
    StableHlo.ternary main_arg1 main_case0b1_v70 main_case0b1_v43 main_case0b1_v71 ((fun x i u => Host.scatter scatter_S8x4096x8x128_S8x2_S8x8x128_12_01_01_1 (fun _ b => b) x i u) : (C S8x4096x8x128 .f32) → (C S8x2 .i32) → (C S8x8x128 .f32) → (C S8x4096x8x128 .f32)),
    StableHlo.unary main_case0b1_v57 main_v4_0 id,
    StableHlo.unary main_case0b1_v71 main_v4_1 id ]

/-- The arm that the word names. -/
def armOps : Fin 2 → List (HloOp τ sig (Elt F))
  | 0 => arm0
  | 1 => arm1

/-- After the branch: the new lengths. -/
def postOps : List (HloOp τ sig (Elt F)) :=
  [ StableHlo.binary main_arg2 main_arg5 main_v5 (addi : (C S8 .i32) → (C S8 .i32) → (C S8 .i32)) ]

end Cert.Proof.KVRef
-- ==== Proof.RefRun.lean ====
/-
  The reference's run: it ends, every buffer is at what the operations leave there, those of the arm that the word names
  among them, and the arguments are as they were.
-/
module

public import proofs.«01_k».proof.Proof.RefOps
public import Idealize.ShloMosaic.Init
public import Idealize.ShloMosaic.Adequacy
public import Idealize.ShloMosaic.Lib.Pipeline.Regions

@[expose] public section

noncomputable section

namespace Cert.Proof.KVRef

open Cert.ReferenceIdeal Cert.ReferenceIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo (after held seq tcRefs launchContents)

variable {F : FTy → Type} [FloatOps F]

local notation "𝕄" => MT nD τ sig Unit (Elt F) ℕ (Option PUnit) Unit

/-! ## What the operations touch -/

/-- The operation works on the TensorCore's buffers and every cell it writes it writes whole. -/
def Plain (op : HloOp τ sig (Elt F)) : Prop := op.bufs ⊆ tcRefs τ sig ∧ op.fresh = ∅

/-- The arguments' buffers. -/
abbrev argRefs : List (Ref sig .tc) := [main_arg0, main_arg1, main_arg2, main_arg3, main_arg4, main_arg5]

/-- The operation writes none of the arguments. -/
def Spares (op : HloOp τ sig (Elt F)) : Prop := ∀ r ∈ argRefs, (r : DevRef τ sig) ∉ op.writes

theorem spares_of {op : HloOp τ sig (Elt F)} (y : Ref sig .tc) (hw : op.writes = {(y : DevRef τ sig)}) (hy : y ∉ argRefs) : Spares op := by
  intro r hr h
  rw [hw, Finset.mem_singleton] at h
  exact hy (Proc.devRef_injective _ h ▸ hr)

theorem plain_pre : (preOps (F := F)).Forall Plain := by
  repeat' first | exact trivial | refine ⟨⟨by simp, rfl⟩, ?_⟩ | exact ⟨by simp, rfl⟩
theorem plain_arm (b : Fin 2) : (armOps (F := F) b).Forall Plain := by
  fin_cases b <;> (repeat' first | exact trivial | refine ⟨⟨by simp, rfl⟩, ?_⟩ | exact ⟨by simp, rfl⟩)
theorem plain_post : (postOps (F := F)).Forall Plain := by
  repeat' first | exact trivial | refine ⟨⟨by simp, rfl⟩, ?_⟩ | exact ⟨by simp, rfl⟩

theorem spares_pre : (preOps (F := F)).Forall Spares := by
  repeat' first | exact trivial | refine ⟨spares_of _ rfl (by decide), ?_⟩ | exact spares_of _ rfl (by decide)
theorem spares_arm (b : Fin 2) : (armOps (F := F) b).Forall Spares := by
  fin_cases b <;> (repeat' first | exact trivial | refine ⟨spares_of _ rfl (by decide), ?_⟩ | exact spares_of _ rfl (by decide))
theorem spares_post : (postOps (F := F)).Forall Spares := by
  repeat' first | exact trivial | refine ⟨spares_of _ rfl (by decide), ?_⟩ | exact spares_of _ rfl (by decide)
theorem spares_rd : Spares (rdOp (F := F)) := spares_of _ rfl (by decide)

theorem after_spares {ops : List (HloOp τ sig (Elt F))} (h : ops.Forall Spares) (V : Valuation τ sig (Elt F)) {r : Ref sig .tc}
    (hr : r ∈ argRefs) : after ops V r = V r :=
  StableHlo.after_of_forall_not_mem ops V fun op ho => (List.forall_iff_forall_mem.1 h) op ho r hr

/-! ## What they leave -/

section Leave

variable (V : Valuation τ sig (Elt F))

/-- The buffers at the branch; the word; the arm; the buffers at the end. -/
def atBranch : Valuation τ sig (Elt F) := (rdOp (F := F)).result (after preOps V)
def word : BitVec 32 := atBranch V main_v3 HostLoop.idx0
def arm : Fin 2 := HostLoop.branch (word V) 1
def atEnd : Valuation τ sig (Elt F) := after postOps (after (armOps (arm V)) (atBranch V))

theorem atBranch_arg {r : Ref sig .tc} (hr : r ∈ argRefs) : atBranch V r = V r := by
  unfold atBranch
  rw [(rdOp (F := F)).result_of_not_mem _ (spares_rd r hr), after_spares spares_pre V hr]

theorem atEnd_arg {r : Ref sig .tc} (hr : r ∈ argRefs) : atEnd V r = V r := by
  unfold atEnd
  rw [after_spares spares_post _ hr, after_spares (spares_arm _) _ hr, atBranch_arg V hr]

end Leave

/-! ## The program is its operations -/

/-- The programs over the reference's buffers that the TensorCore runs. -/
abbrev Pg (F : FTy → Type) [FloatOps F] (α : Type) : Type 1 :=
  Prog (TpuEff nD τ sig (Elt F) (Pipeline.Sig Λ₀ (Fin 0) fun p => (pcfgs (F := F) p).Adm) .tc) α

/-- The arms as programs. -/
abbrev armProg : Fin 2 → Pg F PUnit
  | 0 => seq arm0
  | 1 => seq arm1
  | ⟨_ + 2, h⟩ => absurd h (Nat.not_lt.2 (Nat.le_add_left _ _))

theorem armProg_eq (b : Fin 2) : armProg (F := F) b = seq (armOps b) := by fin_cases b <;> rfl

theorem main_eq (d : Dev nD) : main (F := F) d
    = ((seq preOps : Pg F PUnit) >>= fun _ => (hlo rfl (rdOp (F := F)) (HostLoop.elt main_v3) : Pg F (BitVec 32))
        >>= fun v => HostLoop.case 2 v armProg >>= fun _ => seq postOps) := by
  chain_rfl

/-! ## The run -/

section Run

variable (m : (ℓ : Loc nD τ sig) → Buf (Elt F) ℓ) (ρ : Dev nD → PrngReg)

/-- What a core holds at the end: its buffers, at what the operations leave. -/
def Held (d : Dev nD) : sProp 𝕄 := held (d.tc : Thread nD τ) (tcRefs τ sig) (atEnd (launchContents m d))

theorem noScopedRef : (Finset.univ.filter fun b : Ref sig .tc => b.isScoped) = ∅ := by decide
theorem noScopedSem : (Finset.univ.filter fun sm : SemLoc sig => sm.isScoped .tc) = ∅ := by decide

theorem dealt (d : Dev nD) :
    (bigSep Finset.univ fun b : Ref sig .tc =>
        ((d.tc : Thread nD τ).loc b ↦{fullShare} (⟨m, fun _ => 0, ρ⟩ : MemSt nD τ sig (Elt F)).mem ((d.tc : Thread nD τ).loc b) : sProp 𝕄))
      = held (d.tc : Thread nD τ) (tcRefs τ sig) (launchContents m d) := by
  unfold held tcRefs; rw [bigSep_map]; rfl

theorem bufs_of {ops : List (HloOp τ sig (Elt F))} (h : ops.Forall Plain) : ∀ op ∈ ops, op.bufs ⊆ tcRefs τ sig :=
  fun op ho => ((List.forall_iff_forall_mem.1 h) op ho).1
theorem fresh_of {ops : List (HloOp τ sig (Elt F))} (h : ops.Forall Plain) : ∀ op ∈ ops, op.fresh = ∅ :=
  fun op ho => ((List.forall_iff_forall_mem.1 h) op ho).2

set_option backward.isDefEq.respectTransparency.types false in
/-- A core's run from what the launch deals it. -/
theorem core_run (d : Dev nD) :
    iprop((bigSep Finset.univ fun b : Ref sig .tc =>
            ((d.tc : Thread nD τ).loc b ↦{fullShare} (⟨m, fun _ => 0, ρ⟩ : MemSt nD τ sig (Elt F)).mem ((d.tc : Thread nD τ).loc b)))
        ∗ owes (d.tc : Thread nD τ) 0 ∅ ∗ prngReg d (ρ d) ∗ opIdle (d.tc : Thread nD τ))
      ⊢ wp frame (wpE defs Variants.none (d.tc : Thread nD τ) none) Set.univ (main (F := F) d)
          (fun _ => post (liftTc (Held m) BI.emp) (d.tc : Thread nD τ) : PUnit → sProp 𝕄) := by
  rw [dealt, main_eq]
  have hb : (opIdle (d.tc : Thread nD τ) : sProp 𝕄) ⊢ boundary (d.tc : Thread nD τ) :=
    boundary_of_opIdle (d.tc : Thread nD τ) (by rw [scopedRefs_tc, noScopedRef, Finset.map_empty])
      (by rw [show (d.tc : Thread nD τ) = (d, .tc) from rfl, scopedCells_tc, noScopedSem, Finset.map_empty])
  iintro ⟨Hh, HO, -, Hi⟩
  ihave Hb := hb $$ Hi
  iapply (StableHlo.wp_seq Variants.none none Set.univ d (tcRefs τ sig) _ preOps (bufs_of plain_pre) (fresh_of plain_pre) (launchContents m d)) $$ [Hb Hh]
  · isplitl [Hb]; · iexact Hb
    iexact Hh
  iintro ⟨Hb, Hh⟩
  rw [wp_bind]
  iapply (StableHlo.wp_hlo_within Variants.none (d.tc : Thread nD τ) none Set.univ (StableHlo.unary_bufs_sub ..)) $$ [Hb Hh]
  · isplitl [Hb]; · iexact Hb
    iexact Hh
  iintro ⟨Hb, Hh⟩
  rw [HostLoop.elt_apply, wp_ret]; imodintro
  rw [HostLoop.case_succ, armProg_eq]
  iapply (StableHlo.wp_seq Variants.none none Set.univ d (tcRefs τ sig) _ (armOps (arm (launchContents m d))) (bufs_of (plain_arm _)) (fresh_of (plain_arm _)) (atBranch (launchContents m d))) $$ [Hb Hh]
  · isplitl [Hb]; · iexact Hb
    iexact Hh
  iintro ⟨Hb, Hh⟩
  rw [← bind_pure (seq postOps)]
  iapply (StableHlo.wp_seq Variants.none none Set.univ d (tcRefs τ sig) _ postOps (bufs_of plain_post) (fresh_of plain_post) _) $$ [Hb Hh]
  · isplitl [Hb]; · iexact Hb
    iexact Hh
  iintro ⟨-, Hh⟩
  rw [wp_pure]; imodintro
  unfold post Held; simp only [liftTc_tc]
  isplitl [Hh]; · iexact Hh
  iexists ∅; iexact HO

theorem held_read (d : Dev nD) (s' : Phys nD τ sig (Elt F)) :
    iprop(Held m d ∗ SI s')
      ⊢ (⌜∀ b : Ref sig .tc, s'.mem.mem ((d.tc : Thread nD τ).loc b) = atEnd (launchContents m d) b⌝ : sProp 𝕄) := by
  unfold Held held
  iintro ⟨H, HSI⟩
  ihave %h := (SI_pointsTo_bufs_agree (qs := fun _ => fullShare) (tcRefs τ sig)) $$ [HSI H]
  · isplitl [HSI]; · iexact HSI
    iexact H
  ipureintro
  exact fun b => h _ (StableHlo.devRef_mem_tcRefs b)

/-- The reference ends with every buffer at what its operations leave, and every semaphore (it has none) at zero. -/
theorem run_ref : θ_run (defs (F := F)) (onTc (τ := τ) (main (F := F))) ⟨m, fun _ => 0, ρ⟩ fun r =>
    (∀ (d : Dev nD) (b : Ref sig .tc), r.2.mem ((d.tc : Thread nD τ).loc b) = atEnd (launchContents m d) b) ∧ r.2.sem = fun _ => 0 :=
  adequate_tpu defs _ _ _ (reflect_intro_silent_tc (Ix := Unit) (Name := ℕ) (U := Option PUnit) (Lvl := Unit)
    Variants.none (fun _ => le_rfl) none (Held m)
    (fun d mem => ∀ b : Ref sig .tc, mem.mem ((d.tc : Thread nD τ).loc b) = atEnd (launchContents m d) b)
    (core_run m ρ) (held_read m) (fun s' h => ⟨fun d => h d, funext fun g => by
      obtain ⟨_, s⟩ := g
      cases s with
      | reg s => exact s.elim0
      | dma s => exact s.elim0⟩))

end Run

end Cert.Proof.KVRef
-- ==== Proof.RefTerms.lean ====
/-
  What the reference's operations leave in its results, as terms over the arguments: the arm of the general case, the arm
  of at most one new row a sequence, and the new lengths.
-/
module

public import proofs.«01_k».proof.Proof.RefRun

@[expose] public section

noncomputable section

namespace Cert.Proof.KVRef

open Cert.ReferenceIdeal Cert.ReferenceIdeal.Gen
open Idealize.ShloMosaic
open Idealize.ShloMosaic.TcCoe Idealize.ShloMosaic.Tactic
open Idealize.ShloMosaic.StableHlo (after)

variable {F : FTy → Type} [FloatOps F]

local notation "C" => Arr F

/-! ## The general case -/

/-- The grid's two coordinates, one array on the other. -/
def grid : C S2x8x4096 .i32 :=
  pairGrid (F := F)
    (broadcastInDim S1x8x4096 ![1, 2] bcast_S8x4096_S1x8x4096_1_2 (broadcastInDim S8x4096 ![0] bcast_S8_S8x4096_0 (iotaInDim S8 32 0)))
    (broadcastInDim S1x8x4096 ![1, 2] bcast_S8x4096_S1x8x4096_1_2 (broadcastInDim S8x4096 ![1] bcast_S4096_S8x4096_1 (iotaInDim S4096 32 0)))

/-- Each place's batch, and each place's position. -/
def batchAt : C S8x4096 .i32 :=
  shapeCast S8x4096 (extractStridedSlice S1x8x4096 ![0, 0, 0] (grid (F := F)) slices_S2x8x4096_S1x8x4096_0_0_0) shapeCasts_S1x8x4096_S8x4096
def posAt : C S8x4096 .i32 :=
  shapeCast S8x4096 (extractStridedSlice S1x8x4096 ![1, 0, 0] (grid (F := F)) slices_S2x8x4096_S1x8x4096_1_0_0) shapeCasts_S1x8x4096_S8x4096

/-- One word everywhere on the grid. -/
def fill (n : BitVec 32) : C S8x4096 .i32 := broadcastInDim S8x4096 ![] bcast_S_S8x4096 (constantI S_ 32 n)

/-- An index of eight, counted from the end where it is negative. -/
def wrap (x : C S8x4096 .i32) : C S8x4096 .i32 :=
  select (cmpi .slt x (fill (F := F) 0#32) : C S8x4096 .i1) (addi x (fill (F := F) 8#32)) x

/-- The lengths, one column. -/
def col (l : C S8 .i32) : C S8x1 .i32 := broadcastInDim S8x1 ![0] bcast_S8_S8x1_0 l
/-- A column, along every position. -/
def along (l : C S8x1 .i32) : C S8x4096 .i32 := broadcastInDim S8x4096 ![0, 1] bcast_S8x1_S8x4096_0_1 l

/-- The place takes a new row. -/
def taken (l nl : C S8 .i32) : C S8x4096 .i1 :=
  andi (cmpi .sge (posAt (F := F)) (along (F := F) (col (F := F) l)) : C S8x4096 .i1)
    (cmpi .slt (posAt (F := F)) (along (F := F) (addi (col (F := F) l) (col (F := F) nl))) : C S8x4096 .i1)

/-- The number of the new row that a place would take, held between 0 and 7. -/
def rowAt (l : C S8 .i32) : C S8x4096 .i32 :=
  minsi (fill (F := F) 7#32) (maxsi (fill (F := F) 0#32) (subi (posAt (F := F)) (along (F := F) (col (F := F) l))))

/-- The places in the new rows that are gathered. -/
def rowsAt (l : C S8 .i32) : C S8x4096x2 .i32 :=
  pairRows (F := F) (broadcastInDim S8x4096x1 ![0, 1] bcast_S8x4096_S8x4096x1_0_1 (wrap (F := F) (batchAt (F := F))))
    (broadcastInDim S8x4096x1 ![0, 1] bcast_S8x4096_S8x4096x1_0_1 (wrap (F := F) (rowAt (F := F) l)))

/-- The cache after the general case's arm. -/
def general (x : C S8x4096x8x128 .f32) (y : C S8x8x8x128 .f32) (l nl : C S8 .i32) : C S8x4096x8x128 .f32 :=
  select (broadcastInDim S8x4096x8x128 ![0, 1, 2, 3] bcast_S8x4096x1x1_S8x4096x8x128_0_1_2_3
      (broadcastInDim S8x4096x1x1 ![0, 1] bcast_S8x4096_S8x4096x1x1_0_1 (taken (F := F) l nl)) : C S8x4096x8x128 .i1)
    (Host.gather gather_S8x8x8x128_S8x4096x2_S8x4096x8x128_23_01_n_n_01_2_118128 y (rowsAt (F := F) l)) x

/-! ## At most one new row a sequence -/

/-- One word for every sequence. -/
def fill8 (n : BitVec 32) : C S8 .i32 := broadcastInDim S8 ![] bcast_S_S8 (constantI S_ 32 n)

/-- An index of `n`, counted from the end where it is negative. -/
def wrap8 (n : BitVec 32) (x : C S8 .i32) : C S8 .i32 :=
  select (cmpi .slt x (fill8 (F := F) 0#32) : C S8 .i1) (addi x (fill8 (F := F) n)) x

/-- The place at each sequence's length. -/
def endAt (l : C S8 .i32) : C S8x2 .i32 :=
  pairLens (F := F) (col (F := F) (wrap8 (F := F) 8#32 (iotaInDim S8 32 0))) (col (F := F) (wrap8 (F := F) 4096#32 l))

/-- The row that goes there: the first new one, if there is one, or the one that is there. -/
def newRow (x : C S8x4096x8x128 .f32) (y : C S8x8x8x128 .f32) (l nl : C S8 .i32) : C S8x8x128 .f32 :=
  select (broadcastInDim S8x8x128 ![0, 1, 2] bcast_S8x1x1_S8x8x128_0_1_2
      (broadcastInDim S8x1x1 ![0] bcast_S8_S8x1x1_0 (cmpi .eq nl (fill8 (F := F) 1#32) : C S8 .i1)) : C S8x8x128 .i1)
    (shapeCast S8x8x128 (extractStridedSlice S8x1x8x128 ![0, 0, 0, 0] y slices_S8x8x8x128_S8x1x8x128_0_0_0_0) shapeCasts_S8x1x8x128_S8x8x128)
    (Host.gather gather_S8x4096x8x128_S8x2_S8x8x128_12_01_n_n_01_1_118128 x (endAt (F := F) l))

/-- The cache after this arm. -/
def single (x : C S8x4096x8x128 .f32) (y : C S8x8x8x128 .f32) (l nl : C S8 .i32) : C S8x4096x8x128 .f32 :=
  Host.scatter scatter_S8x4096x8x128_S8x2_S8x8x128_12_01_01_1 (fun _ b => b) x (endAt (F := F) l) (newRow (F := F) x y l nl)

/-- Every new length is at most one, as a bit. -/
def atMostOne (nl : C S8 .i32) : C S_ .i1 :=
  Host.reduce IntOp.andi (cmpi .sle nl (fill8 (F := F) 1#32) : C S8 .i1) (constantI S_ 1 1#1) reducesTo_S8_S_d0 h_S_

/-! ## What is left -/

section Leave

variable (V : Valuation τ sig (Elt F))

theorem arm0_keys : after arm0 V main_v4_0 = general (F := F) (V main_arg0) (V main_arg3) (V main_arg2) (V main_arg5) := by
  unfold arm0
  after_results_simp
  rfl

theorem arm0_vals : after arm0 V main_v4_1 = general (F := F) (V main_arg1) (V main_arg4) (V main_arg2) (V main_arg5) := by
  unfold arm0
  after_results_simp
  rfl

theorem arm1_keys : after arm1 V main_v4_0 = single (F := F) (V main_arg0) (V main_arg3) (V main_arg2) (V main_arg5) := by
  unfold arm1
  after_results_simp
  dsimp only [single, newRow, endAt, wrap8, fill8, col, id]
  rfl

theorem arm1_vals : after arm1 V main_v4_1 = single (F := F) (V main_arg1) (V main_arg4) (V main_arg2) (V main_arg5) := by
  unfold arm1
  after_results_simp
  dsimp only [single, newRow, endAt, wrap8, fill8, col, id]
  rfl

theorem word_eq : word V = (extui 32 (atMostOne (F := F) (V main_arg5)) natLt_1_32 : C S_ .i32) HostLoop.idx0 := by
  unfold word atBranch preOps rdOp
  after_results_simp
  rfl

theorem post_keys : after postOps V main_v4_0 = V main_v4_0 := by unfold postOps; after_results_simp
theorem post_vals : after postOps V main_v4_1 = V main_v4_1 := by unfold postOps; after_results_simp
theorem post_lens : after postOps V main_v5 = (addi (V main_arg2) (V main_arg5) : C S8 .i32) := by unfold postOps; after_results_simp

end Leave

end Cert.Proof.KVRef
-- ==== Proof.RefVal.lean ====
/-
  The reference's terms read at one place: each is the cache with the new rows taken.
-/
module

public import proofs.«01_k».proof.Proof.RefTerms
public import proofs.«01_k».proof.Proof.Vals
public import Idealize.ShloMosaic.Lib.ValueLayout
public import Idealize.ShloMosaic.Lib.ReduceAll
public import Idealize.ShloMosaic.Lib.Routing.OpsSet

@[expose] public section

noncomputable section

namespace Cert.Proof.KVRef

open Cert.ReferenceIdeal Cert.ReferenceIdeal.Gen
open Idealize.ShloMosaic Idealize.ShloMosaic.ValueIdx
open Idealize.ShloMosaic.TcCoe

variable {F : FTy → Type} [FloatOps F]

local notation "C" => Arr F

/-! ## The grid -/

theorem batchAt_apply (b : Fin 8) (p : Fin 4096) : batchAt (F := F) (ix2 b p) = BitVec.ofNat 32 b.val := by
  unfold batchAt
  rw [shapeCast_1ab_ab_apply, extractStridedSlice_apply _ _ _ _ (ix3 (0 : Fin 2) b p)
    (fun a => match a with | ⟨0, _⟩ => rfl | ⟨1, _⟩ => (Nat.zero_add _).symm | ⟨2, _⟩ => (Nat.zero_add _).symm)]
  unfold grid pairGrid
  refine (concatenate_pair_apply_left (s₁ := S1x8x4096) (s₂ := S1x8x4096) (t := S2x8x4096) 0 _ _ _ _ rfl (ix3 (0 : Fin 1) b p)
    (fun a => match a with | ⟨0, _⟩ => rfl | ⟨1, _⟩ => rfl | ⟨2, _⟩ => rfl)).trans ?_
  rfl

theorem posAt_apply (b : Fin 8) (p : Fin 4096) : posAt (F := F) (ix2 b p) = BitVec.ofNat 32 p.val := by
  unfold posAt
  rw [shapeCast_1ab_ab_apply, extractStridedSlice_apply _ _ _ _ (ix3 (1 : Fin 2) b p)
    (fun a => match a with | ⟨0, _⟩ => rfl | ⟨1, _⟩ => (Nat.zero_add _).symm | ⟨2, _⟩ => (Nat.zero_add _).symm)]
  unfold grid pairGrid
  refine (concatenate_pair_apply_right (s₁ := S1x8x4096) (s₂ := S1x8x4096) (t := S2x8x4096) 0 _ _ _ _ rfl rfl (ix3 (0 : Fin 1) b p)
    (fun a h => match a with | ⟨0, _⟩ => absurd rfl h | ⟨1, _⟩ => rfl | ⟨2, _⟩ => rfl) rfl).trans ?_
  rfl

theorem along_col (l : C S8 .i32) (b : Fin 8) (p : Fin 4096) : along (F := F) (col (F := F) l) (ix2 b p) = l (ix1 b) := by
  unfold along col
  rw [broadcastInDim_apply _ _ _ _ (ix2 b (0 : Fin 1)) (fun a => match a with | ⟨0, _⟩ => rfl | ⟨1, _⟩ => rfl),
    broadcastInDim_apply _ _ _ _ (ix1 b) (fun a => match a with | ⟨0, _⟩ => rfl)]

theorem along_sum (l nl : C S8 .i32) (b : Fin 8) (p : Fin 4096) :
    along (F := F) (addi (col (F := F) l) (col (F := F) nl)) (ix2 b p) = l (ix1 b) + nl (ix1 b) := by
  unfold along col
  rw [broadcastInDim_apply _ _ _ _ (ix2 b (0 : Fin 1)) (fun a => match a with | ⟨0, _⟩ => rfl | ⟨1, _⟩ => rfl)]
  show broadcastInDim _ _ _ _ _ + broadcastInDim _ _ _ _ _ = _
  rw [broadcastInDim_apply _ _ _ _ (ix1 b) (fun a => match a with | ⟨0, _⟩ => rfl),
    broadcastInDim_apply _ _ _ _ (ix1 b) (fun a => match a with | ⟨0, _⟩ => rfl)]

/-- A coordinate that is not negative is left as it is. -/
theorem wrap_apply (x : C S8x4096 .i32) (i : S8x4096.Idx) (h : 0 ≤ (x i).toInt) : wrap (F := F) x i = x i := by
  have hc : (BitVec.ofBool ((x i).slt 0#32)) = 0#1 := by
    rw [BitVec.slt_eq_decide, decide_eq_false (by simpa using h)]; rfl
  show (if BitVec.ofBool ((x i).slt 0#32) = 1#1 then _ else x i) = x i
  rw [hc]; exact if_neg (by decide)

theorem wrap8_apply (n : BitVec 32) (x : C S8 .i32) (i : S8.Idx) (h : 0 ≤ (x i).toInt) : wrap8 (F := F) n x i = x i := by
  have hc : (BitVec.ofBool ((x i).slt 0#32)) = 0#1 := by
    rw [BitVec.slt_eq_decide, decide_eq_false (by simpa using h)]; rfl
  show (if BitVec.ofBool ((x i).slt 0#32) = 1#1 then _ else x i) = x i
  rw [hc]; exact if_neg (by decide)

theorem toInt_small {n : Nat} (h : n < 4096) : (BitVec.ofNat 32 n).toInt = n := by
  rw [BitVec.toInt_ofNat']; simp [Int.bmod]; omega

/-- The place takes a new row: it is at or past the length, and before the new length. -/
theorem taken_apply (l nl : C S8 .i32) (b : Fin 8) (p : Fin 4096) :
    taken (F := F) l nl (ix2 b p) = 1#1 ↔ (l (ix1 b)).toInt ≤ p.val ∧ (p.val : Int) < (l (ix1 b) + nl (ix1 b)).toInt := by
  have hp := toInt_small p.isLt
  have e : taken (F := F) l nl (ix2 b p)
      = BitVec.ofBool ((along (F := F) (col (F := F) l) (ix2 b p)).sle (posAt (F := F) (ix2 b p)))
        &&& BitVec.ofBool ((posAt (F := F) (ix2 b p)).slt (along (F := F) (addi (col (F := F) l) (col (F := F) nl)) (ix2 b p))) := rfl
  rw [e, along_col, along_sum, posAt_apply, BitVec.sle_eq_decide, BitVec.slt_eq_decide, hp]
  generalize (l (ix1 b) + nl (ix1 b)).toInt = s
  generalize (l (ix1 b)).toInt = t
  by_cases h1 : t ≤ p.val <;> by_cases h2 : (p.val : Int) < s <;> simp [h1, h2]

theorem clamp_word : ∀ q : Fin 8, IntOp.minsi 7#32 (IntOp.maxsi 0#32 (BitVec.ofNat 32 q.val)) = BitVec.ofNat 32 q.val := by decide

/-- The number of the row a place past the length would take. -/
theorem rowAt_apply (l : C S8 .i32) (b : Fin 8) (p : Fin 4096) (q : Nat) (hq : q < 8)
    (h : BitVec.ofNat 32 p.val - l (ix1 b) = BitVec.ofNat 32 q) : rowAt (F := F) l (ix2 b p) = BitVec.ofNat 32 q := by
  have e : rowAt (F := F) l (ix2 b p)
      = IntOp.minsi 7#32 (IntOp.maxsi 0#32 (posAt (F := F) (ix2 b p) - along (F := F) (col (F := F) l) (ix2 b p))) := rfl
  rw [e, along_col, posAt_apply, h]
  exact clamp_word ⟨q, hq⟩

/-- A pair is taken exactly when its position is at or past the length and before the new length. -/
theorem takes_iff (l nl : BitVec 32) (b p : Nat) (hb : b < 8) (hp : p < 4096) (hl : 0 ≤ l.toInt) (hn : nl.toInt ≤ 8) :
    KV.Takes 64 l nl b p ↔ l.toInt ≤ p ∧ (p : Int) < (l + nl).toInt := by
  have h1 := BitVec.toInt_add l nl
  have h2 : l.toInt = l.toNat := by have := l.isLt; rw [BitVec.toInt_eq_toNat_cond] at hl ⊢; split at hl <;> simp_all; omega
  have h3 : -2147483648 ≤ nl.toInt := by have := BitVec.le_toInt nl; simpa using this
  have h4 : l.toInt < 2147483648 := by have := BitVec.toInt_lt (x := l); simpa using this
  have h5 := l.isLt
  unfold KV.Takes KV.rowOf
  simp only [BitVec.toNat_sub, BitVec.toNat_ofNat]
  rw [h1, h2]
  rw [h2] at h4
  by_cases hle : l.toNat ≤ p
  · have e : (2 ^ 32 - l.toNat + p % 2 ^ 32) % 2 ^ 32 = p - l.toNat := by omega
    have e2 : ((l.toNat : Int) + nl.toInt).bmod (2 ^ 32) = l.toNat + nl.toInt := by
      rw [Int.bmod_eq_of_le] <;> omega
    rw [e, e2]
    constructor
    · rintro ⟨h, h', h''⟩; omega
    · rintro ⟨h, h'⟩; omega
  · have e : (2 ^ 32 - l.toNat + p % 2 ^ 32) % 2 ^ 32 = 2 ^ 32 - l.toNat + p := by omega
    rw [e]
    constructor
    · rintro ⟨h, h', h''⟩; omega
    · rintro ⟨h, h'⟩; omega

/-! ## The places the rows are read from and go to -/

theorem rowsAt_zero (l : C S8 .i32) (b : Fin 8) (p : Fin 4096) : rowsAt (F := F) l (ix3 b p (0 : Fin 2)) = BitVec.ofNat 32 b.val := by
  unfold rowsAt pairRows
  refine (concatenate_pair_apply_left (s₁ := S8x4096x1) (s₂ := S8x4096x1) (t := S8x4096x2) 2 _ _ _ _ rfl (ix3 b p (0 : Fin 1))
    (fun a => match a with | ⟨0, _⟩ => rfl | ⟨1, _⟩ => rfl | ⟨2, _⟩ => rfl)).trans ?_
  rw [broadcastInDim_apply _ _ _ _ (ix2 b p) (fun a => match a with | ⟨0, _⟩ => rfl | ⟨1, _⟩ => rfl),
    wrap_apply, batchAt_apply]
  rw [batchAt_apply, toInt_small (by omega)]; omega

theorem rowsAt_one (l : C S8 .i32) (b : Fin 8) (p : Fin 4096) (q : Nat) (hq : q < 8)
    (h : BitVec.ofNat 32 p.val - l (ix1 b) = BitVec.ofNat 32 q) : rowsAt (F := F) l (ix3 b p (1 : Fin 2)) = BitVec.ofNat 32 q := by
  unfold rowsAt pairRows
  refine (concatenate_pair_apply_right (s₁ := S8x4096x1) (s₂ := S8x4096x1) (t := S8x4096x2) 2 _ _ _ _ rfl rfl (ix3 b p (0 : Fin 1))
    (fun a h => match a with | ⟨0, _⟩ => rfl | ⟨1, _⟩ => rfl | ⟨2, _⟩ => absurd rfl h) rfl).trans ?_
  rw [broadcastInDim_apply _ _ _ _ (ix2 b p) (fun a => match a with | ⟨0, _⟩ => rfl | ⟨1, _⟩ => rfl),
    wrap_apply, rowAt_apply l b p q hq h]
  rw [rowAt_apply l b p q hq h, toInt_small (by omega)]; omega

theorem endAt_zero (l : C S8 .i32) (b : Fin 8) : endAt (F := F) l (ix2 b (0 : Fin 2)) = BitVec.ofNat 32 b.val := by
  unfold endAt pairLens col
  refine (concatenate_pair_apply_left (s₁ := S8x1) (s₂ := S8x1) (t := S8x2) 1 _ _ _ _ rfl (ix2 b (0 : Fin 1))
    (fun a => match a with | ⟨0, _⟩ => rfl | ⟨1, _⟩ => rfl)).trans ?_
  rw [broadcastInDim_apply _ _ _ _ (ix1 b) (fun a => match a with | ⟨0, _⟩ => rfl)]
  have e : (iotaInDim S8 32 0 : C S8 .i32) (ix1 b) = BitVec.ofNat 32 b.val := rfl
  rw [wrap8_apply _ _ _ (by rw [e, toInt_small (by omega)]; omega), e]

theorem endAt_one (l : C S8 .i32) (b : Fin 8) (h : 0 ≤ (l (ix1 b)).toInt) : endAt (F := F) l (ix2 b (1 : Fin 2)) = l (ix1 b) := by
  unfold endAt pairLens col
  refine (concatenate_pair_apply_right (s₁ := S8x1) (s₂ := S8x1) (t := S8x2) 1 _ _ _ _ rfl rfl (ix2 b (0 : Fin 1))
    (fun a h => match a with | ⟨0, _⟩ => rfl | ⟨1, _⟩ => absurd rfl h) rfl).trans ?_
  rw [broadcastInDim_apply _ _ _ _ (ix1 b) (fun a => match a with | ⟨0, _⟩ => rfl), wrap8_apply _ _ _ h]

section GatherRows

local notation "dR" => gather_S8x8x8x128_S8x4096x2_S8x4096x8x128_23_01_n_n_01_2_118128

/-- A coordinate that a start word names: the word's own value, as it is in range. -/
theorem gatherRows_start (idx : C S8x4096x2 .i32) (b : Fin 8) (p : Fin 4096) (h : Fin 8) (d : Fin 128) (a : Fin 4) (c : Fin 2) (v : Fin 8)
    (hc : a.val = c.val) (hv : idx (ix3 b p c) = BitVec.ofNat 32 v.val) :
    GatherDims.start dR (ix4 b p h d) idx a + GatherDims.offCoord dR (ix4 b p h d) a = v.val := by
  obtain ⟨n, hn⟩ := a
  obtain rfl : n = c.val := hc
  have hmem : ∀ c : Fin 2, (⟨c.val, Nat.lt_of_lt_of_le c.isLt (by decide)⟩ : Fin 4) ∈ GatherDims.collapsedSliceDims dR ∧ (⟨c.val, Nat.lt_of_lt_of_le c.isLt (by decide)⟩ : Fin 4) ∈ GatherDims.startIndexMap dR
      ∧ (GatherDims.startIndexMap dR).idxOf (⟨c.val, Nat.lt_of_lt_of_le c.isLt (by decide)⟩ : Fin 4) = c.val ∧ S8x8x8x128.size (⟨c.val, Nat.lt_of_lt_of_le c.isLt (by decide)⟩ : Fin 4) = 8
      ∧ GatherDims.sliceSizes dR (⟨c.val, Nat.lt_of_lt_of_le c.isLt (by decide)⟩ : Fin 4) = 1 := by decide
  obtain ⟨h1, h2, h3, h4, h5⟩ := hmem c
  rw [GatherDims.offCoord_eq_zero _ _ _ (fun h => ((GatherDims.mem_sKept _ _).mp h).1 h1), Nat.add_zero]
  unfold GatherDims.start
  rw [dif_pos h2]
  have hs : GatherDims.siIdx dR (ix4 b p h d) ⟨(GatherDims.startIndexMap dR).idxOf (⟨c.val, by omega⟩ : Fin 4), List.idxOf_lt_length_iff.2 h2⟩
      = ix3 b p c := by
    funext e; refine Fin.ext ?_
    match e with
    | ⟨0, _⟩ => rfl
    | ⟨1, _⟩ => rfl
    | ⟨2, _⟩ => exact h3
  rw [hs, hv, toInt_small (by omega), h4, h5]
  omega

/-- The gather of rows: the row that the two start words name, of the two kept coordinates. -/
theorem gatherRows_apply (y : C S8x8x8x128 .f32) (idx : C S8x4096x2 .i32) (b : Fin 8) (p : Fin 4096) (h : Fin 8) (d : Fin 128) (b' q : Fin 8)
    (hb : idx (ix3 b p (0 : Fin 2)) = BitVec.ofNat 32 b'.val) (hq : idx (ix3 b p (1 : Fin 2)) = BitVec.ofNat 32 q.val) :
    Host.gather dR y idx (ix4 b p h d) = y (ix4 b' q h d) := by
  have hlast : (2 : Fin 4) ∉ GatherDims.startIndexMap dR ∧ (3 : Fin 4) ∉ GatherDims.startIndexMap dR := by decide
  unfold Host.gather
  congr 1
  funext a
  refine Fin.ext ?_
  show GatherDims.start dR (ix4 b p h d) idx a + GatherDims.batchCoord dR (ix4 b p h d) a + GatherDims.offCoord dR (ix4 b p h d) a = _
  rw [GatherDims.batchCoord_eq_zero _ _ _ List.not_mem_nil, Nat.add_zero]
  match a with
  | ⟨0, _⟩ => exact gatherRows_start idx b p h d 0 0 b' rfl hb
  | ⟨1, _⟩ => exact gatherRows_start idx b p h d 1 1 q rfl hq
  | ⟨2, _⟩ => exact (congrArg (· + GatherDims.offCoord dR (ix4 b p h d) 2) (dif_neg hlast.1)).trans (Nat.zero_add _)
  | ⟨3, _⟩ => exact (congrArg (· + GatherDims.offCoord dR (ix4 b p h d) 3) (dif_neg hlast.2)).trans (Nat.zero_add _)

end GatherRows

/-- The general case is the cache with the new rows. -/
theorem general_eq (x : C S8x4096x8x128 .f32) (y : C S8x8x8x128 .f32) (l nl : C S8 .i32)
    (hl : ∀ b : Fin 8, 0 ≤ (l (ix1 b)).toInt) (hn : ∀ b : Fin 8, (nl (ix1 b)).toInt ≤ 8) :
    general (F := F) x y l nl = KV.merge x y l nl := by
  funext i
  obtain ⟨b, p, h, d, rfl⟩ : ∃ (b : Fin 8) (p : Fin 4096) (h : Fin 8) (d : Fin 128), i = ix4 b p h d := ⟨_, _, _, _, eq_ix4 i⟩
  have ht := taken_apply (F := F) l nl b p
  have hm : broadcastInDim S8x4096x8x128 ![0, 1, 2, 3] bcast_S8x4096x1x1_S8x4096x8x128_0_1_2_3
      (broadcastInDim S8x4096x1x1 ![0, 1] bcast_S8x4096_S8x4096x1x1_0_1 (taken (F := F) l nl)) (ix4 b p h d)
      = taken (F := F) l nl (ix2 b p) := by
    rw [broadcastInDim_apply _ _ _ _ (ix4 b p (0 : Fin 1) (0 : Fin 1))
        (fun a => match a with | ⟨0, _⟩ => rfl | ⟨1, _⟩ => rfl | ⟨2, _⟩ => rfl | ⟨3, _⟩ => rfl),
      broadcastInDim_apply _ _ _ _ (ix2 b p) (fun a => match a with | ⟨0, _⟩ => rfl | ⟨1, _⟩ => rfl)]
  have e : general (F := F) x y l nl (ix4 b p h d) = if taken (F := F) l nl (ix2 b p) = 1#1 then
      Host.gather gather_S8x8x8x128_S8x4096x2_S8x4096x8x128_23_01_n_n_01_2_118128 y (rowsAt (F := F) l) (ix4 b p h d)
      else x (ix4 b p h d) := by
    rw [← hm]; rfl
  rw [e]
  have key := takes_iff (l (ix1 b)) (nl (ix1 b)) b.val p.val b.isLt p.isLt (hl b) (hn b)
  show _ = if KV.Takes 64 (l (ix1 b)) (nl (ix1 b)) b.val p.val then y (ix4 b (Fin.ofNat 8 (KV.rowOf (l (ix1 b)) p.val)) h d) else x (ix4 b p h d)
  by_cases hT : KV.Takes 64 (l (ix1 b)) (nl (ix1 b)) b.val p.val
  · rw [if_pos (ht.mpr (key.mp hT)), if_pos hT]
    refine gatherRows_apply y _ b p h d b (Fin.ofNat 8 _) (rowsAt_zero l _ _) ?_
    rw [Fin.val_ofNat, Nat.mod_eq_of_lt hT.1]
    exact rowsAt_one l _ _ _ hT.1 (by unfold KV.rowOf; rw [BitVec.ofNat_toNat, BitVec.setWidth_eq])
  · rw [if_neg (fun h' => hT (key.mpr (ht.mp h'))), if_neg hT]

/-! ## At most one new row -/

section GatherEnds

local notation "dE" => gather_S8x4096x8x128_S8x2_S8x8x128_12_01_n_n_01_1_118128

/-- The gather of one row a sequence: the row that the two start words name. -/
theorem gatherEnds_apply (x : C S8x4096x8x128 .f32) (idx : C S8x2 .i32) (b h : Fin 8) (d : Fin 128) (b' : Fin 8) (p : Fin 4096)
    (hb : idx (ix2 b (0 : Fin 2)) = BitVec.ofNat 32 b'.val) (hp : idx (ix2 b (1 : Fin 2)) = BitVec.ofNat 32 p.val) :
    Host.gather dE x idx (ix3 b h d) = x (ix4 b' p h d) := by
  have hin : ∀ c : Fin 2, GatherDims.siIdx dE (ix3 b h d) c = ix2 b c := fun c => by
    funext e; refine Fin.ext ?_
    match e with
    | ⟨0, _⟩ => rfl
    | ⟨1, _⟩ => rfl
  have h0 : GatherDims.start dE (ix3 b h d) idx (0 : Fin 4) = b'.val := by
    refine (dif_pos (by decide)).trans ((congrArg (fun w : BitVec 32 => min w.toInt.toNat 7) ((congrArg idx (hin 0)).trans hb)).trans ?_)
    show min (BitVec.ofNat 32 b'.val).toInt.toNat 7 = b'.val
    rw [toInt_small (by omega)]; omega
  have h1 : GatherDims.start dE (ix3 b h d) idx (1 : Fin 4) = p.val := by
    refine (dif_pos (by decide)).trans ((congrArg (fun w : BitVec 32 => min w.toInt.toNat 4095) ((congrArg idx (hin 1)).trans hp)).trans ?_)
    show min (BitVec.ofNat 32 p.val).toInt.toNat 4095 = p.val
    rw [toInt_small p.isLt]; omega
  have h2 : GatherDims.start dE (ix3 b h d) idx (2 : Fin 4) = 0 := dif_neg (by decide)
  have h3 : GatherDims.start dE (ix3 b h d) idx (3 : Fin 4) = 0 := dif_neg (by decide)
  unfold Host.gather
  congr 1
  funext a
  refine Fin.ext ?_
  show GatherDims.start dE (ix3 b h d) idx a + GatherDims.batchCoord dE (ix3 b h d) a + GatherDims.offCoord dE (ix3 b h d) a = _
  rw [GatherDims.batchCoord_eq_zero _ _ _ List.not_mem_nil, Nat.add_zero]
  match a with
  | ⟨0, _⟩ => exact (congrArg (· + GatherDims.offCoord dE (ix3 b h d) (0 : Fin 4)) h0).trans rfl
  | ⟨1, _⟩ => exact (congrArg (· + GatherDims.offCoord dE (ix3 b h d) (1 : Fin 4)) h1).trans rfl
  | ⟨2, _⟩ => exact (congrArg (· + GatherDims.offCoord dE (ix3 b h d) (2 : Fin 4)) h2).trans (Nat.zero_add _)
  | ⟨3, _⟩ => exact (congrArg (· + GatherDims.offCoord dE (ix3 b h d) (3 : Fin 4)) h3).trans (Nat.zero_add _)

end GatherEnds

section Scatter

local notation "dS" => scatter_S8x4096x8x128_S8x2_S8x8x128_12_01_01_1

/-- Where one element of an update lands. -/
theorem lands_iff (idx : C S8x2 .i32) (b' h' : Fin 8) (d' : Fin 128) (b : Fin 8) (p : Fin 4096) (h : Fin 8) (d : Fin 128)
    (hb : idx (ix2 b' (0 : Fin 2)) = BitVec.ofNat 32 b'.val) :
    ScatterDims.resultIdx? dS (ix3 b' h' d') idx = some (ix4 b p h d)
      ↔ b' = b ∧ (idx (ix2 b' (1 : Fin 2))).toInt = (p.val : Int) ∧ h' = h ∧ d' = d := by
  have hin : ∀ c : Fin 2, ScatterDims.siIdx dS (ix3 b' h' d') c = ix2 b' c := fun c => by
    funext e; refine Fin.ext ?_
    match e with
    | ⟨0, _⟩ => rfl
    | ⟨1, _⟩ => rfl
  have h0 : ScatterDims.start dS (ix3 b' h' d') idx (0 : Fin 4) + (ScatterDims.window dS (ix3 b' h' d') (0 : Fin 4) : Int) = b'.val := by
    have e : ScatterDims.start dS (ix3 b' h' d') idx (0 : Fin 4) = (b'.val : Int) :=
      (dif_pos (by decide)).trans (((congrArg (fun w : BitVec 32 => w.toInt) ((congrArg idx (hin 0)).trans hb))).trans (toInt_small (by omega)))
    rw [e]; exact Int.add_zero _
  have h1 : ScatterDims.start dS (ix3 b' h' d') idx (1 : Fin 4) + (ScatterDims.window dS (ix3 b' h' d') (1 : Fin 4) : Int)
      = (idx (ix2 b' (1 : Fin 2))).toInt := by
    have e : ScatterDims.start dS (ix3 b' h' d') idx (1 : Fin 4) = (idx (ix2 b' (1 : Fin 2))).toInt :=
      (dif_pos (by decide)).trans (congrArg (fun w : BitVec 32 => w.toInt) (congrArg idx (hin 1)))
    rw [e]; exact Int.add_zero _
  have h2 : ScatterDims.start dS (ix3 b' h' d') idx (2 : Fin 4) + (ScatterDims.window dS (ix3 b' h' d') (2 : Fin 4) : Int) = h'.val := by
    have e : ScatterDims.start dS (ix3 b' h' d') idx (2 : Fin 4) = 0 := dif_neg (by decide)
    rw [e]; exact Int.zero_add _
  have h3 : ScatterDims.start dS (ix3 b' h' d') idx (3 : Fin 4) + (ScatterDims.window dS (ix3 b' h' d') (3 : Fin 4) : Int) = d'.val := by
    have e : ScatterDims.start dS (ix3 b' h' d') idx (3 : Fin 4) = 0 := dif_neg (by decide)
    rw [e]; exact Int.zero_add _
  rw [Routing.resultIdx?_eq_some]
  constructor
  · intro hall
    have a0 : (b'.val : Int) = b.val := h0.symm.trans (hall (0 : Fin 4))
    have a2 : (h'.val : Int) = h.val := h2.symm.trans (hall (2 : Fin 4))
    have a3 : (d'.val : Int) = d.val := h3.symm.trans (hall (3 : Fin 4))
    exact ⟨Fin.ext (by omega), h1.symm.trans (hall (1 : Fin 4)), Fin.ext (by omega), Fin.ext (by omega)⟩
  · rintro ⟨rfl, e1, rfl, rfl⟩ a
    match a with
    | ⟨0, _⟩ => exact h0
    | ⟨1, _⟩ => exact h1.trans e1
    | ⟨2, _⟩ => exact h2
    | ⟨3, _⟩ => exact h3

end Scatter

/-- With at most one new row, a pair is taken exactly where the position is the length and there is one row. -/
theorem takes_single (l nl : BitVec 32) (b p : Nat) (hb : b < 8) (hp : p < 4096) (hn : nl.toInt ≤ 1) :
    KV.Takes 64 l nl b p ↔ l.toInt = p ∧ nl = 1#32 := by
  have hl : l.toInt = p ↔ l.toNat = p := by
    have := l.isLt
    rw [BitVec.toInt_eq_toNat_cond]; split <;> omega
  have h1 : nl = 1#32 ↔ nl.toInt = 1 := by
    rw [← BitVec.toInt_inj]; rfl
  have hlt := l.isLt
  rw [hl, h1]
  unfold KV.Takes KV.rowOf
  simp only [BitVec.toNat_sub, BitVec.toNat_ofNat]
  constructor
  · rintro ⟨h, h', h''⟩; omega
  · rintro ⟨h, h'⟩; omega

theorem bit_one : ∀ {t : Bool}, BitVec.ofBool t = 1#1 → t = true := by decide

theorem newRow_apply (x : C S8x4096x8x128 .f32) (y : C S8x8x8x128 .f32) (l nl : C S8 .i32) (b : Fin 8) (p : Fin 4096) (h : Fin 8) (d : Fin 128)
    (hp : (l (ix1 b)).toInt = p.val) :
    newRow (F := F) x y l nl (ix3 b h d) = if nl (ix1 b) = 1#32 then y (ix4 b (0 : Fin 8) h d) else x (ix4 b p h d) := by
  have hw : l (ix1 b) = BitVec.ofNat 32 p.val := by rw [← BitVec.toInt_inj, hp, toInt_small p.isLt]
  have hm : broadcastInDim S8x8x128 ![0, 1, 2] bcast_S8x1x1_S8x8x128_0_1_2
      (broadcastInDim S8x1x1 ![0] bcast_S8_S8x1x1_0 (cmpi .eq nl (fill8 (F := F) 1#32) : C S8 .i1)) (ix3 b h d)
      = BitVec.ofBool (nl (ix1 b) == 1#32) := by
    rw [broadcastInDim_apply _ _ _ _ (ix3 b (0 : Fin 1) (0 : Fin 1)) (fun a => match a with | ⟨0, _⟩ => rfl | ⟨1, _⟩ => rfl | ⟨2, _⟩ => rfl),
      broadcastInDim_apply _ _ _ _ (ix1 b) (fun a => match a with | ⟨0, _⟩ => rfl)]
    rfl
  have hy : shapeCast S8x8x128 (extractStridedSlice S8x1x8x128 ![0, 0, 0, 0] y slices_S8x8x8x128_S8x1x8x128_0_0_0_0)
      shapeCasts_S8x1x8x128_S8x8x128 (ix3 b h d) = y (ix4 b (0 : Fin 8) h d) := by
    rw [shapeCast_apply _ _ _ (ix4 b (0 : Fin 1) h d) (by
        rw [Shape.rowMajor_val_four, Shape.rowMajor_val_three]
        show ((b.val * 1 + 0) * 8 + h.val) * 128 + d.val = (b.val * 8 + h.val) * 128 + d.val
        omega),
      extractStridedSlice_apply _ _ _ _ (ix4 b (0 : Fin 8) h d)
        (fun a => match a with | ⟨0, _⟩ => (Nat.zero_add _).symm | ⟨1, _⟩ => rfl | ⟨2, _⟩ => (Nat.zero_add _).symm | ⟨3, _⟩ => (Nat.zero_add _).symm)]
  have hx : Host.gather gather_S8x4096x8x128_S8x2_S8x8x128_12_01_n_n_01_1_118128 x (endAt (F := F) l) (ix3 b h d) = x (ix4 b p h d) :=
    gatherEnds_apply x _ b h d b p (endAt_zero l b) ((endAt_one l b (by omega)).trans hw)
  rw [← hy, ← hx]
  by_cases hc : nl (ix1 b) = 1#32
  · rw [if_pos hc]; exact if_pos (hm.trans (by rw [hc]; rfl))
  · rw [if_neg hc]
    exact if_neg (fun e => hc (beq_iff_eq.mp (bit_one (hm.symm.trans e))))

/-- The case of at most one new row is the cache with the new rows. -/
theorem single_eq (x : C S8x4096x8x128 .f32) (y : C S8x8x8x128 .f32) (l nl : C S8 .i32)
    (hl : ∀ b : Fin 8, 0 ≤ (l (ix1 b)).toInt) (hn : ∀ b : Fin 8, (nl (ix1 b)).toInt ≤ 1) :
    single (F := F) x y l nl = KV.merge x y l nl := by
  funext i
  obtain ⟨b, p, h, d, rfl⟩ : ∃ (b : Fin 8) (p : Fin 4096) (h : Fin 8) (d : Fin 128), i = ix4 b p h d := ⟨_, _, _, _, eq_ix4 i⟩
  show _ = if KV.Takes 64 (l (ix1 b)) (nl (ix1 b)) b.val p.val then y (ix4 b (Fin.ofNat 8 (KV.rowOf (l (ix1 b)) p.val)) h d) else x (ix4 b p h d)
  have key := takes_single (l (ix1 b)) (nl (ix1 b)) b.val p.val b.isLt p.isLt (hn b)
  have lands : ∀ (b' h' : Fin 8) (d' : Fin 128), _ := fun b' h' d' => lands_iff (F := F) (endAt (F := F) l) b' h' d' b p h d (endAt_zero l b')
  unfold single
  by_cases hp : (l (ix1 b)).toInt = p.val
  · rw [Routing.scatter_set_hit _ x (endAt (F := F) l) _ _ (newRow (F := F) x y l nl (ix3 b h d))
      (fun k hk => by
        obtain ⟨b', h', d', rfl⟩ : ∃ (b' h' : Fin 8) (d' : Fin 128), k = ix3 b' h' d' := ⟨_, _, _, eq_ix3 k⟩
        obtain ⟨rfl, _, rfl, rfl⟩ := (lands b' h' d').mp hk
        rfl)
      (ix3 b h d) ((lands b h d).mpr ⟨rfl, (congrArg BitVec.toInt (endAt_one l b (hl b))).trans hp, rfl, rfl⟩)]
    rw [newRow_apply x y l nl b p h d hp]
    by_cases hc : nl (ix1 b) = 1#32
    · have hT := key.mpr ⟨hp, hc⟩
      rw [if_pos hc, if_pos hT]
      have hz : KV.rowOf (l (ix1 b)) p.val = 0 := by
        have h2 := hT.2.1
        have h3 := hn b
        omega
      rw [hz]; rfl
    · rw [if_neg hc, if_neg (fun hT => hc (key.mp hT).2)]
  · rw [Routing.scatter_set_miss _ x (endAt (F := F) l) _ _ (fun k hk => by
        obtain ⟨b', h', d', rfl⟩ : ∃ (b' h' : Fin 8) (d' : Fin 128), k = ix3 b' h' d' := ⟨_, _, _, eq_ix3 k⟩
        obtain ⟨rfl, e, _, _⟩ := (lands b' h' d').mp hk
        exact hp ((congrArg BitVec.toInt (endAt_one l b' (hl b'))).symm.trans e)),
      if_neg (fun hT => hp (key.mp hT).1)]

/-! ## Which case runs -/

variable (V : Valuation τ sig (Elt F))

theorem atMostOne_all (nl : C S8 .i32) (h : atMostOne (F := F) nl HostLoop.idx0 = 1#1) (b : Fin 8) : (nl (ix1 b)).toInt ≤ 1 := by
  have e := Host.reduce_andi_all _ _ _ _ _ h (ix1 b)
  have e' : BitVec.ofBool ((nl (ix1 b)).sle 1#32) = 1#1 := e
  have := bit_one e'
  rw [BitVec.sle_eq_decide, decide_eq_true_eq] at this
  exact this

/-- The second case runs only when every new length is at most one. -/
theorem arm_one (h : arm V = 1) (b : Fin 8) : ((V main_arg5 : C S8 .i32) (ix1 b)).toInt ≤ 1 := by
  refine atMostOne_all (F := F) (V main_arg5) ?_ b
  by_contra hne
  have hz : ∀ w : BitVec 1, w ≠ 1#1 → w = 0#1 := by decide
  have hw : word V = 0#32 := by
    rw [word_eq]
    show BitVec.setWidth 32 (atMostOne (F := F) (V main_arg5) HostLoop.idx0) = 0#32
    rw [hz _ hne]; rfl
  have : arm V = 0 := by unfold arm; rw [hw]; rfl
  rw [this] at h
  exact absurd h (by decide)

/-! ## The results -/

section Results

variable (hl : ∀ b : Fin 8, 0 ≤ ((V main_arg2 : C S8 .i32) (ix1 b)).toInt) (hn : ∀ b : Fin 8, ((V main_arg5 : C S8 .i32) (ix1 b)).toInt ≤ 8)

include hl hn in
theorem atEnd_keys : atEnd V main_v4_0 = KV.merge (V main_arg0) (V main_arg3) (V main_arg2) (V main_arg5) := by
  have e0 := atBranch_arg V (r := main_arg0) (by simp [argRefs])
  have e2 := atBranch_arg V (r := main_arg2) (by simp [argRefs])
  have e3 := atBranch_arg V (r := main_arg3) (by simp [argRefs])
  have e5 := atBranch_arg V (r := main_arg5) (by simp [argRefs])
  unfold atEnd
  rw [post_keys]
  rcases (by omega : arm V = 0 ∨ arm V = 1) with h | h
  · rw [h]; show StableHlo.after arm0 _ _ = _
    rw [arm0_keys, e0, e2, e3, e5]
    exact general_eq _ _ _ _ hl hn
  · have h1 := arm_one V h
    rw [h]; show StableHlo.after arm1 _ _ = _
    rw [arm1_keys, e0, e2, e3, e5]
    exact single_eq _ _ _ _ hl h1

include hl hn in
theorem atEnd_vals : atEnd V main_v4_1 = KV.merge (V main_arg1) (V main_arg4) (V main_arg2) (V main_arg5) := by
  have e1 := atBranch_arg V (r := main_arg1) (by simp [argRefs])
  have e2 := atBranch_arg V (r := main_arg2) (by simp [argRefs])
  have e4 := atBranch_arg V (r := main_arg4) (by simp [argRefs])
  have e5 := atBranch_arg V (r := main_arg5) (by simp [argRefs])
  unfold atEnd
  rw [post_vals]
  rcases (by omega : arm V = 0 ∨ arm V = 1) with h | h
  · rw [h]; show StableHlo.after arm0 _ _ = _
    rw [arm0_vals, e1, e2, e4, e5]
    exact general_eq _ _ _ _ hl hn
  · have h1 := arm_one V h
    rw [h]; show StableHlo.after arm1 _ _ = _
    rw [arm1_vals, e1, e2, e4, e5]
    exact single_eq _ _ _ _ hl h1

theorem atEnd_lens : atEnd V main_v5 = (addi (V main_arg2) (V main_arg5) : C S8 .i32) := by
  have e2 := KVRef.atBranch_arg V (r := main_arg2) (by simp [argRefs])
  have e5 := KVRef.atBranch_arg V (r := main_arg5) (by simp [argRefs])
  have k : ∀ W : Valuation τ sig (Elt F), (StableHlo.after (armOps (arm V)) W main_arg2 = W main_arg2)
      ∧ StableHlo.after (armOps (arm V)) W main_arg5 = W main_arg5 := fun W =>
    ⟨after_spares (spares_arm _) W (by simp [argRefs]), after_spares (spares_arm _) W (by simp [argRefs])⟩
  unfold atEnd
  rw [post_lens, (k _).1, (k _).2, e2, e5]

end Results

end Cert.Proof.KVRef
-- ==== Proof.Agree.lean ====
/-
  The reference's frames, and the value claim: from memories that agree on the arguments the two programs leave the same
  three arrays, which are the caches with the new rows and the sums of the lengths.
-/
module

public import proofs.«01_k».proof.Proof.Run
public import proofs.«01_k».proof.Proof.RefVal
public import proofs.«01_k».proof.Proof.Gen.Pre_in_range

@[expose] public section

noncomputable section

namespace Cert.Proof

open Idealize.ShloMosaic Idealize.ShloMosaic.ValueIdx Idealize.SL.Sem
open Idealize.ShloMosaic.TcCoe
open Idealize.ShloMosaic.StableHlo (launchContents)

/-! ## The reference's frames -/

section Frames

open Cert.ReferenceIdeal Cert.ReferenceIdeal.Gen
open Cert.Proof.KVRef

variable (m : (ℓ : Loc nD τ sig) → Buf (Elt Ideal) ℓ)

/-- An argument is at the end what it was at the start. -/
theorem arg_kept (d : Dev nD) {r : Ref sig .tc} (hr : r ∈ argRefs) :
    atEnd (launchContents m d) r = m ((d.tc : Thread nD τ).loc r) := atEnd_arg (F := Ideal) (launchContents m d) hr

theorem frame_reference : Cert.quiescent_ReferenceIdeal := fun m ρ _ =>
  (θ_run defs _ _).mono (fun _ h => ⟨fun c => ⟨(h.1 c _).trans (arg_kept m c (by simp [argRefs])), (h.1 c _).trans (arg_kept m c (by simp [argRefs])),
    (h.1 c _).trans (arg_kept m c (by simp [argRefs])), (h.1 c _).trans (arg_kept m c (by simp [argRefs])),
    (h.1 c _).trans (arg_kept m c (by simp [argRefs])), (h.1 c _).trans (arg_kept m c (by simp [argRefs]))⟩, h.2⟩) (run_ref m ρ)

theorem frame_reference_pre : Cert.quiescent_ReferenceIdeal_pre_in_range := fun m ρ _ => frame_reference m ρ trivial

end Frames

/-! ## The precondition, read -/

theorem in_range_read {x0 x1 : FVec Ideal Cert.Pre_in_range.S8x4096x8x128 .f32} {l nl : IVec Cert.Pre_in_range.S8 32}
    {x3 x4 : FVec Ideal Cert.Pre_in_range.S8x8x8x128 .f32}
    (h : Cert.Pre_in_range.fn (F := Ideal) x0 x1 l x3 x4 nl = fun _ => 1#1) :
    (∀ b : Fin 8, 0 ≤ (l (ix1 b)).toInt) ∧ ∀ b : Fin 8, (nl (ix1 b)).toInt ≤ 8 := by
  have h0 := congrFun h HostLoop.idx0
  have both := IntOp.andi_eq_one.1 h0
  constructor
  · intro b
    have e : BitVec.ofBool ((0#32).sle (l (ix1 b))) = 1#1 := Host.reduce_andi_all _ _ _ _ _ both.1 (ix1 b)
    have := KVRef.bit_one e
    rw [BitVec.sle_eq_decide, decide_eq_true_eq] at this
    exact this
  · intro b
    have e : BitVec.ofBool ((nl (ix1 b)).sle 8#32) = 1#1 := Host.reduce_andi_all _ _ _ _ _ both.2 (ix1 b)
    have := KVRef.bit_one e
    rw [BitVec.sle_eq_decide, decide_eq_true_eq] at this
    exact this

/-! ## The value claim -/

theorem same_values : Cert.algebraic_KernelIdeal_ReferenceIdeal_pre_in_range := by
  intro m ρ m' ρ' hpre hargs
  refine ⟨fun c => KV.merge (KV.keysAt m c) (KV.newKeysAt m c) (KV.lenAt m c) (KV.nlenAt m c),
    fun c => KV.merge (KV.valsAt m c) (KV.newAt m c) (KV.lenAt m c) (KV.nlenAt m c),
    fun c => fun j => KV.lenAt m c j + KV.nlenAt m c j, ?_, ?_⟩
  · exact (θ_run Cert.KernelIdeal.defs _ _).mono (fun _ h c => ⟨(h.1 c).2.1, (h.1 c).2.2.1, (h.1 c).2.2.2, (h.1 c).1⟩) (KV.run_main m ρ)
  · refine (θ_run Cert.ReferenceIdeal.defs _ _).mono (fun r h c => ?_) (KVRef.run_ref m' ρ')
    obtain ⟨hl, hn⟩ := in_range_read (hpre c)
    obtain ⟨a0, a1, a2, a3, a4, a5⟩ := hargs c
    have hl' : ∀ b : Fin 8, 0 ≤ ((launchContents m' c Cert.ReferenceIdeal.main_arg2 : KVRef.Arr Ideal _ _) (ix1 b)).toInt := fun b => by
      refine le_of_le_of_eq (hl b) ?_
      exact (congrArg BitVec.toInt (congrFun a2 (ix1 b))).symm
    have hn' : ∀ b : Fin 8, ((launchContents m' c Cert.ReferenceIdeal.main_arg5 : KVRef.Arr Ideal _ _) (ix1 b)).toInt ≤ 8 := fun b => by
      refine le_of_eq_of_le ?_ (hn b)
      exact congrArg BitVec.toInt (congrFun a5 (ix1 b))
    refine ⟨(h.1 c _).trans ((KVRef.atEnd_keys _ hl' hn').trans ?_), (h.1 c _).trans ((KVRef.atEnd_vals _ hl' hn').trans ?_),
      (h.1 c _).trans ((KVRef.atEnd_lens _).trans ?_), (h.1 c _).trans (arg_kept m' c (by simp [KVRef.argRefs])),
      (h.1 c _).trans (arg_kept m' c (by simp [KVRef.argRefs])), (h.1 c _).trans (arg_kept m' c (by simp [KVRef.argRefs])),
      (h.1 c _).trans (arg_kept m' c (by simp [KVRef.argRefs])), (h.1 c _).trans (arg_kept m' c (by simp [KVRef.argRefs])),
      (h.1 c _).trans (arg_kept m' c (by simp [KVRef.argRefs]))⟩
    · exact congr (congr (congr (congrArg KV.merge a0) a3) a2) a5
    · exact congr (congr (congr (congrArg KV.merge a1) a4) a2) a5
    · exact congr (congrArg (fun (x y : IVec Cert.Pre_in_range.S8 32) j => x j + y j) a2) a5

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.Pre_in_range
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  KV.frame_kernel, KV.frame_kernelIdeal, KV.frame_kernelIdeal_pre, frame_reference, frame_reference_pre, trivial, same_values⟩

end Cert.Proof

end
